-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_OutProjection (m : (ℓ : Loc Cert.OutProjection.nD Cert.OutProjection.τ Cert.OutProjection.sig) → Buf (Elt Bits) ℓ) : Prop :=
  True

def Pre_OutProjectionIdeal (m : (ℓ : Loc Cert.OutProjectionIdeal.nD Cert.OutProjectionIdeal.τ Cert.OutProjectionIdeal.sig) → Buf (Elt Ideal) ℓ) : Prop :=
  True

def Pre_OutProjectionReferenceIdeal (m : (ℓ : Loc Cert.OutProjectionReferenceIdeal.nD Cert.OutProjectionReferenceIdeal.τ Cert.OutProjectionReferenceIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextIdeal_finite_context_qk [hPre_finite_context_qk : Cert.Pre_finite_context_qk.Facts] (m : (ℓ : Loc Cert.ContextIdeal.nD Cert.ContextIdeal.τ Cert.ContextIdeal.sig) → Buf (Elt Ideal) ℓ) : Prop :=
  ∀ c : Dev Cert.ContextIdeal.nD,
    (Cert.Pre_finite_context_qk.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3))).1 = (fun _ => 1#1)
    ∧ (Cert.Pre_finite_context_qk.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3))).2 = (fun _ => 1#1)

def Pre_ContextReferenceIdeal (m : (ℓ : Loc Cert.ContextReferenceIdeal.nD Cert.ContextReferenceIdeal.τ Cert.ContextReferenceIdeal.sig) → Buf (Elt Ideal) ℓ) : Prop :=
  True

def Pre_ContextReferenceIdeal_finite_context_qk [hPre_finite_context_qk : Cert.Pre_finite_context_qk.Facts] (m : (ℓ : Loc Cert.ContextReferenceIdeal.nD Cert.ContextReferenceIdeal.τ Cert.ContextReferenceIdeal.sig) → Buf (Elt Ideal) ℓ) : Prop :=
  ∀ c : Dev Cert.ContextReferenceIdeal.nD,
    (Cert.Pre_finite_context_qk.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3))).1 = (fun _ => 1#1)
    ∧ (Cert.Pre_finite_context_qk.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3))).2 = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationIdeal_finite_modulation [hPre_finite_modulation : Cert.Pre_finite_modulation.Facts] (m : (ℓ : Loc Cert.ModulationIdeal.nD Cert.ModulationIdeal.τ Cert.ModulationIdeal.sig) → Buf (Elt Ideal) ℓ) : Prop :=
  ∀ c : Dev Cert.ModulationIdeal.nD,
    (Cert.Pre_finite_modulation.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))).1 = (fun _ => 1#1)
    ∧ (Cert.Pre_finite_modulation.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))).2.1 = (fun _ => 1#1)
    ∧ (Cert.Pre_finite_modulation.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))).2.2 = (fun _ => 1#1)

def Pre_ModulationReferenceIdeal (m : (ℓ : Loc Cert.ModulationReferenceIdeal.nD Cert.ModulationReferenceIdeal.τ Cert.ModulationReferenceIdeal.sig) → Buf (Elt Ideal) ℓ) : Prop :=
  True

def Pre_ModulationReferenceIdeal_finite_modulation [hPre_finite_modulation : Cert.Pre_finite_modulation.Facts] (m : (ℓ : Loc Cert.ModulationReferenceIdeal.nD Cert.ModulationReferenceIdeal.τ Cert.ModulationReferenceIdeal.sig) → Buf (Elt Ideal) ℓ) : Prop :=
  ∀ c : Dev Cert.ModulationReferenceIdeal.nD,
    (Cert.Pre_finite_modulation.fn (F := Ideal) (m ((c.tc : Thread Cert.ModulationReferenceIdeal.nD Cert.ModulationReferenceIdeal.τ).loc Cert.ModulationReferenceIdeal.main_arg0)) (m ((c.tc : Thread Cert.ModulationReferenceIdeal.nD Cert.ModulationReferenceIdeal.τ).loc Cert.ModulationReferenceIdeal.main_arg1)) (m ((c.tc : Thread Cert.ModulationReferenceIdeal.nD Cert.ModulationReferenceIdeal.τ).loc Cert.ModulationReferenceIdeal.main_arg2)) (m ((c.tc : Thread Cert.ModulationReferenceIdeal.nD Cert.ModulationReferenceIdeal.τ).loc Cert.ModulationReferenceIdeal.main_arg3))).1 = (fun _ => 1#1)
    ∧ (Cert.Pre_finite_modulation.fn (F := Ideal) (m ((c.tc : Thread Cert.ModulationReferenceIdeal.nD Cert.ModulationReferenceIdeal.τ).loc Cert.ModulationReferenceIdeal.main_arg0)) (m ((c.tc : Thread Cert.ModulationReferenceIdeal.nD Cert.ModulationReferenceIdeal.τ).loc Cert.ModulationReferenceIdeal.main_arg1)) (m ((c.tc : Thread Cert.ModulationReferenceIdeal.nD Cert.ModulationReferenceIdeal.τ).loc Cert.ModulationReferenceIdeal.main_arg2)) (m ((c.tc : Thread Cert.ModulationReferenceIdeal.nD Cert.ModulationReferenceIdeal.τ).loc Cert.ModulationReferenceIdeal.main_arg3))).2.1 = (fun _ => 1#1)
    ∧ (Cert.Pre_finite_modulation.fn (F := Ideal) (m ((c.tc : Thread Cert.ModulationReferenceIdeal.nD Cert.ModulationReferenceIdeal.τ).loc Cert.ModulationReferenceIdeal.main_arg0)) (m ((c.tc : Thread Cert.ModulationReferenceIdeal.nD Cert.ModulationReferenceIdeal.τ).loc Cert.ModulationReferenceIdeal.main_arg1)) (m ((c.tc : Thread Cert.ModulationReferenceIdeal.nD Cert.ModulationReferenceIdeal.τ).loc Cert.ModulationReferenceIdeal.main_arg2)) (m ((c.tc : Thread Cert.ModulationReferenceIdeal.nD Cert.ModulationReferenceIdeal.τ).loc Cert.ModulationReferenceIdeal.main_arg3))).2.2 = (fun _ => 1#1)

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierIdeal_finite_spectrum [hPre_finite_spectrum : Cert.Pre_finite_spectrum.Facts] (m : (ℓ : Loc Cert.FourierIdeal.nD Cert.FourierIdeal.τ Cert.FourierIdeal.sig) → Buf (Elt Ideal) ℓ) : Prop :=
  ∀ c : Dev Cert.FourierIdeal.nD,
    (Cert.Pre_finite_spectrum.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1))).1 = (fun _ => 1#1)
    ∧ (Cert.Pre_finite_spectrum.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1))).2 = (fun _ => 1#1)

def Pre_FourierReferenceIdeal (m : (ℓ : Loc Cert.FourierReferenceIdeal.nD Cert.FourierReferenceIdeal.τ Cert.FourierReferenceIdeal.sig) → Buf (Elt Ideal) ℓ) : Prop :=
  True

def Pre_FourierReferenceIdeal_finite_spectrum [hPre_finite_spectrum : Cert.Pre_finite_spectrum.Facts] (m : (ℓ : Loc Cert.FourierReferenceIdeal.nD Cert.FourierReferenceIdeal.τ Cert.FourierReferenceIdeal.sig) → Buf (Elt Ideal) ℓ) : Prop :=
  ∀ c : Dev Cert.FourierReferenceIdeal.nD,
    (Cert.Pre_finite_spectrum.fn (F := Ideal) (m ((c.tc : Thread Cert.FourierReferenceIdeal.nD Cert.FourierReferenceIdeal.τ).loc Cert.FourierReferenceIdeal.main_arg0)) (m ((c.tc : Thread Cert.FourierReferenceIdeal.nD Cert.FourierReferenceIdeal.τ).loc Cert.FourierReferenceIdeal.main_arg1))).1 = (fun _ => 1#1)
    ∧ (Cert.Pre_finite_spectrum.fn (F := Ideal) (m ((c.tc : Thread Cert.FourierReferenceIdeal.nD Cert.FourierReferenceIdeal.τ).loc Cert.FourierReferenceIdeal.main_arg0)) (m ((c.tc : Thread Cert.FourierReferenceIdeal.nD Cert.FourierReferenceIdeal.τ).loc Cert.FourierReferenceIdeal.main_arg1))).2 = (fun _ => 1#1)

def Pre_FourierContext (m : (ℓ : Loc Cert.FourierContext.nD Cert.FourierContext.τ Cert.FourierContext.sig) → Buf (Elt Bits) ℓ) : Prop :=
  True

def Pre_FourierContextIdeal (m : (ℓ : Loc Cert.FourierContextIdeal.nD Cert.FourierContextIdeal.τ Cert.FourierContextIdeal.sig) → Buf (Elt Ideal) ℓ) : Prop :=
  True

def Pre_FourierContextReferenceIdeal (m : (ℓ : Loc Cert.FourierContextReferenceIdeal.nD Cert.FourierContextReferenceIdeal.τ Cert.FourierContextReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3)
      ∧ r.2.mem ((c.tc : Thread Cert.FeedForward.nD Cert.FeedForward.τ).loc Cert.FeedForward.main_arg4) = m ((c.tc : Thread Cert.FeedForward.nD Cert.FeedForward.τ).loc Cert.FeedForward.main_arg4)
      ∧ r.2.mem ((c.tc : Thread Cert.FeedForward.nD Cert.FeedForward.τ).loc Cert.FeedForward.main_arg5) = m ((c.tc : Thread Cert.FeedForward.nD Cert.FeedForward.τ).loc Cert.FeedForward.main_arg5))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
      ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4)
      ∧ r.2.mem ((c.tc : Thread Cert.FeedForwardReferenceIdeal.nD Cert.FeedForwardReferenceIdeal.τ).loc Cert.FeedForwardReferenceIdeal.main_arg5) = m ((c.tc : Thread Cert.FeedForwardReferenceIdeal.nD Cert.FeedForwardReferenceIdeal.τ).loc Cert.FeedForwardReferenceIdeal.main_arg5))
      ∧ r.2.sem = fun _ => 0)

def quiescent_OutProjection [hOutProjection : Cert.OutProjection.Facts] : Prop :=
  ∀ (m : (ℓ : Loc Cert.OutProjection.nD Cert.OutProjection.τ Cert.OutProjection.sig) → Buf (Elt Bits) ℓ) (g : Dev Cert.OutProjection.nD → PrngReg), Pre_OutProjection m →
    θ_run (Cert.OutProjection.defs (F := Bits)) (onTc (τ := Cert.OutProjection.τ) (Cert.OutProjection.main (F := Bits))) ⟨m, fun _ => 0, g⟩ (fun r => (∀ c : Dev Cert.OutProjection.nD,
      r.2.mem ((c.tc : Thread Cert.OutProjection.nD Cert.OutProjection.τ).loc Cert.OutProjection.main_arg0) = m ((c.tc : Thread Cert.OutProjection.nD Cert.OutProjection.τ).loc Cert.OutProjection.main_arg0)
      ∧ r.2.mem ((c.tc : Thread Cert.OutProjection.nD Cert.OutProjection.τ).loc Cert.OutProjection.main_arg1) = m ((c.tc : Thread Cert.OutProjection.nD Cert.OutProjection.τ).loc Cert.OutProjection.main_arg1)
      ∧ r.2.mem ((c.tc : Thread Cert.OutProjection.nD Cert.OutProjection.τ).loc Cert.OutProjection.main_arg2) = m ((c.tc : Thread Cert.OutProjection.nD Cert.OutProjection.τ).loc Cert.OutProjection.main_arg2)
      ∧ r.2.mem ((c.tc : Thread Cert.OutProjection.nD Cert.OutProjection.τ).loc Cert.OutProjection.main_arg3) = m ((c.tc : Thread Cert.OutProjection.nD Cert.OutProjection.τ).loc Cert.OutProjection.main_arg3)
      ∧ r.2.mem ((c.tc : Thread Cert.OutProjection.nD Cert.OutProjection.τ).loc Cert.OutProjection.main_arg4) = m ((c.tc : Thread Cert.OutProjection.nD Cert.OutProjection.τ).loc Cert.OutProjection.main_arg4)
      ∧ r.2.mem ((c.tc : Thread Cert.OutProjection.nD Cert.OutProjection.τ).loc Cert.OutProjection.main_arg5) = m ((c.tc : Thread Cert.OutProjection.nD Cert.OutProjection.τ).loc Cert.OutProjection.main_arg5)
      ∧ r.2.mem ((c.tc : Thread Cert.OutProjection.nD Cert.OutProjection.τ).loc Cert.OutProjection.main_arg6) = m ((c.tc : Thread Cert.OutProjection.nD Cert.OutProjection.τ).loc Cert.OutProjection.main_arg6)
      ∧ r.2.mem ((c.tc : Thread Cert.OutProjection.nD Cert.OutProjection.τ).loc Cert.OutProjection.main_arg7) = m ((c.tc : Thread Cert.OutProjection.nD Cert.OutProjection.τ).loc Cert.OutProjection.main_arg7))
      ∧ r.2.sem = fun _ => 0)

def quiescent_OutProjectionIdeal [hOutProjectionIdeal : Cert.OutProjectionIdeal.Facts] : Prop :=
  ∀ (m : (ℓ : Loc Cert.OutProjectionIdeal.nD Cert.OutProjectionIdeal.τ Cert.OutProjectionIdeal.sig) → Buf (Elt Ideal) ℓ) (g : Dev Cert.OutProjectionIdeal.nD → PrngReg), Pre_OutProjectionIdeal m →
    θ_run (Cert.OutProjectionIdeal.defs (F := Ideal)) (onTc (τ := Cert.OutProjectionIdeal.τ) (Cert.OutProjectionIdeal.main (F := Ideal))) ⟨m, fun _ => 0, g⟩ (fun r => (∀ c : Dev Cert.OutProjectionIdeal.nD,
      r.2.mem ((c.tc : Thread Cert.OutProjectionIdeal.nD Cert.OutProjectionIdeal.τ).loc Cert.OutProjectionIdeal.main_arg0) = m ((c.tc : Thread Cert.OutProjectionIdeal.nD Cert.OutProjectionIdeal.τ).loc Cert.OutProjectionIdeal.main_arg0)
      ∧ r.2.mem ((c.tc : Thread Cert.OutProjectionIdeal.nD Cert.OutProjectionIdeal.τ).loc Cert.OutProjectionIdeal.main_arg1) = m ((c.tc : Thread Cert.OutProjectionIdeal.nD Cert.OutProjectionIdeal.τ).loc Cert.OutProjectionIdeal.main_arg1)
      ∧ r.2.mem ((c.tc : Thread Cert.OutProjectionIdeal.nD Cert.OutProjectionIdeal.τ).loc Cert.OutProjectionIdeal.main_arg2) = m ((c.tc : Thread Cert.OutProjectionIdeal.nD Cert.OutProjectionIdeal.τ).loc Cert.OutProjectionIdeal.main_arg2)
      ∧ r.2.mem ((c.tc : Thread Cert.OutProjectionIdeal.nD Cert.OutProjectionIdeal.τ).loc Cert.OutProjectionIdeal.main_arg3) = m ((c.tc : Thread Cert.OutProjectionIdeal.nD Cert.OutProjectionIdeal.τ).loc Cert.OutProjectionIdeal.main_arg3)
      ∧ r.2.mem ((c.tc : Thread Cert.OutProjectionIdeal.nD Cert.OutProjectionIdeal.τ).loc Cert.OutProjectionIdeal.main_arg4) = m ((c.tc : Thread Cert.OutProjectionIdeal.nD Cert.OutProjectionIdeal.τ).loc Cert.OutProjectionIdeal.main_arg4)
      ∧ r.2.mem ((c.tc : Thread Cert.OutProjectionIdeal.nD Cert.OutProjectionIdeal.τ).loc Cert.OutProjectionIdeal.main_arg5) = m ((c.tc : Thread Cert.OutProjectionIdeal.nD Cert.OutProjectionIdeal.τ).loc Cert.OutProjectionIdeal.main_arg5)
      ∧ r.2.mem ((c.tc : Thread Cert.OutProjectionIdeal.nD Cert.OutProjectionIdeal.τ).loc Cert.OutProjectionIdeal.main_arg6) = m ((c.tc : Thread Cert.OutProjectionIdeal.nD Cert.OutProjectionIdeal.τ).loc Cert.OutProjectionIdeal.main_arg6)
      ∧ r.2.mem ((c.tc : Thread Cert.OutProjectionIdeal.nD Cert.OutProjectionIdeal.τ).loc Cert.OutProjectionIdeal.main_arg7) = m ((c.tc : Thread Cert.OutProjectionIdeal.nD Cert.OutProjectionIdeal.τ).loc Cert.OutProjectionIdeal.main_arg7))
      ∧ r.2.sem = fun _ => 0)

def quiescent_OutProjectionReferenceIdeal [hOutProjectionReferenceIdeal : Cert.OutProjectionReferenceIdeal.Facts] : Prop :=
  ∀ (m : (ℓ : Loc Cert.OutProjectionReferenceIdeal.nD Cert.OutProjectionReferenceIdeal.τ Cert.OutProjectionReferenceIdeal.sig) → Buf (Elt Ideal) ℓ) (g : Dev Cert.OutProjectionReferenceIdeal.nD → PrngReg), Pre_OutProjectionReferenceIdeal m →
    θ_run (Cert.OutProjectionReferenceIdeal.defs (F := Ideal)) (onTc (τ := Cert.OutProjectionReferenceIdeal.τ) (Cert.OutProjectionReferenceIdeal.main (F := Ideal))) ⟨m, fun _ => 0, g⟩ (fun r => (∀ c : Dev Cert.OutProjectionReferenceIdeal.nD,
      r.2.mem ((c.tc : Thread Cert.OutProjectionReferenceIdeal.nD Cert.OutProjectionReferenceIdeal.τ).loc Cert.OutProjectionReferenceIdeal.main_arg0) = m ((c.tc : Thread Cert.OutProjectionReferenceIdeal.nD Cert.OutProjectionReferenceIdeal.τ).loc Cert.OutProjectionReferenceIdeal.main_arg0)
      ∧ r.2.mem ((c.tc : Thread Cert.OutProjectionReferenceIdeal.nD Cert.OutProjectionReferenceIdeal.τ).loc Cert.OutProjectionReferenceIdeal.main_arg1) = m ((c.tc : Thread Cert.OutProjectionReferenceIdeal.nD Cert.OutProjectionReferenceIdeal.τ).loc Cert.OutProjectionReferenceIdeal.main_arg1)
      ∧ r.2.mem ((c.tc : Thread Cert.OutProjectionReferenceIdeal.nD Cert.OutProjectionReferenceIdeal.τ).loc Cert.OutProjectionReferenceIdeal.main_arg2) = m ((c.tc : Thread Cert.OutProjectionReferenceIdeal.nD Cert.OutProjectionReferenceIdeal.τ).loc Cert.OutProjectionReferenceIdeal.main_arg2)
      ∧ r.2.mem ((c.tc : Thread Cert.OutProjectionReferenceIdeal.nD Cert.OutProjectionReferenceIdeal.τ).loc Cert.OutProjectionReferenceIdeal.main_arg3) = m ((c.tc : Thread Cert.OutProjectionReferenceIdeal.nD Cert.OutProjectionReferenceIdeal.τ).loc Cert.OutProjectionReferenceIdeal.main_arg3)
      ∧ r.2.mem ((c.tc : Thread Cert.OutProjectionReferenceIdeal.nD Cert.OutProjectionReferenceIdeal.τ).loc Cert.OutProjectionReferenceIdeal.main_arg4) = m ((c.tc : Thread Cert.OutProjectionReferenceIdeal.nD Cert.OutProjectionReferenceIdeal.τ).loc Cert.OutProjectionReferenceIdeal.main_arg4)
      ∧ r.2.mem ((c.tc : Thread Cert.OutProjectionReferenceIdeal.nD Cert.OutProjectionReferenceIdeal.τ).loc Cert.OutProjectionReferenceIdeal.main_arg5) = m ((c.tc : Thread Cert.OutProjectionReferenceIdeal.nD Cert.OutProjectionReferenceIdeal.τ).loc Cert.OutProjectionReferenceIdeal.main_arg5)
      ∧ r.2.mem ((c.tc : Thread Cert.OutProjectionReferenceIdeal.nD Cert.OutProjectionReferenceIdeal.τ).loc Cert.OutProjectionReferenceIdeal.main_arg6) = m ((c.tc : Thread Cert.OutProjectionReferenceIdeal.nD Cert.OutProjectionReferenceIdeal.τ).loc Cert.OutProjectionReferenceIdeal.main_arg6)
      ∧ r.2.mem ((c.tc : Thread Cert.OutProjectionReferenceIdeal.nD Cert.OutProjectionReferenceIdeal.τ).loc Cert.OutProjectionReferenceIdeal.main_arg7) = m ((c.tc : Thread Cert.OutProjectionReferenceIdeal.nD Cert.OutProjectionReferenceIdeal.τ).loc Cert.OutProjectionReferenceIdeal.main_arg7))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3))
      ∧ r.2.sem = fun _ => 0)

def quiescent_ContextIdeal_pre_finite_context_qk [hContextIdeal : Cert.ContextIdeal.Facts] [hPre_finite_context_qk : Cert.Pre_finite_context_qk.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal_finite_context_qk m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3))
      ∧ r.2.sem = fun _ => 0)

def quiescent_ContextReferenceIdeal [hContextReferenceIdeal : Cert.ContextReferenceIdeal.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3))
      ∧ r.2.sem = fun _ => 0)

def quiescent_ContextReferenceIdeal_pre_finite_context_qk [hContextReferenceIdeal : Cert.ContextReferenceIdeal.Facts] [hPre_finite_context_qk : Cert.Pre_finite_context_qk.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal_finite_context_qk m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationIdeal_pre_finite_modulation [hModulationIdeal : Cert.ModulationIdeal.Facts] [hPre_finite_modulation : Cert.Pre_finite_modulation.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal_finite_modulation m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def quiescent_ModulationReferenceIdeal_pre_finite_modulation [hModulationReferenceIdeal : Cert.ModulationReferenceIdeal.Facts] [hPre_finite_modulation : Cert.Pre_finite_modulation.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal_finite_modulation m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ r.2.sem = fun _ => 0)

def quiescent_FourierIdeal_pre_finite_spectrum [hFourierIdeal : Cert.FourierIdeal.Facts] [hPre_finite_spectrum : Cert.Pre_finite_spectrum.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal_finite_spectrum m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ r.2.sem = fun _ => 0)

def quiescent_FourierReferenceIdeal [hFourierReferenceIdeal : Cert.FourierReferenceIdeal.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0)
      ∧ r.2.mem ((c.tc : Thread Cert.FourierReferenceIdeal.nD Cert.FourierReferenceIdeal.τ).loc Cert.FourierReferenceIdeal.main_arg1) = m ((c.tc : Thread Cert.FourierReferenceIdeal.nD Cert.FourierReferenceIdeal.τ).loc Cert.FourierReferenceIdeal.main_arg1))
      ∧ r.2.sem = fun _ => 0)

def quiescent_FourierReferenceIdeal_pre_finite_spectrum [hFourierReferenceIdeal : Cert.FourierReferenceIdeal.Facts] [hPre_finite_spectrum : Cert.Pre_finite_spectrum.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal_finite_spectrum m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0)
      ∧ r.2.mem ((c.tc : Thread Cert.FourierReferenceIdeal.nD Cert.FourierReferenceIdeal.τ).loc Cert.FourierReferenceIdeal.main_arg1) = m ((c.tc : Thread Cert.FourierReferenceIdeal.nD Cert.FourierReferenceIdeal.τ).loc Cert.FourierReferenceIdeal.main_arg1))
      ∧ r.2.sem = fun _ => 0)

def quiescent_FourierContext [hFourierContext : Cert.FourierContext.Facts] : Prop :=
  ∀ (m : (ℓ : Loc Cert.FourierContext.nD Cert.FourierContext.τ Cert.FourierContext.sig) → Buf (Elt Bits) ℓ) (g : Dev Cert.FourierContext.nD → PrngReg), Pre_FourierContext m →
    θ_run (Cert.FourierContext.defs (F := Bits)) (onTc (τ := Cert.FourierContext.τ) (Cert.FourierContext.main (F := Bits))) ⟨m, fun _ => 0, g⟩ (fun r => (∀ c : Dev Cert.FourierContext.nD,
      r.2.mem ((c.tc : Thread Cert.FourierContext.nD Cert.FourierContext.τ).loc Cert.FourierContext.main_arg0) = m ((c.tc : Thread Cert.FourierContext.nD Cert.FourierContext.τ).loc Cert.FourierContext.main_arg0)
      ∧ r.2.mem ((c.tc : Thread Cert.FourierContext.nD Cert.FourierContext.τ).loc Cert.FourierContext.main_arg1) = m ((c.tc : Thread Cert.FourierContext.nD Cert.FourierContext.τ).loc Cert.FourierContext.main_arg1)
      ∧ r.2.mem ((c.tc : Thread Cert.FourierContext.nD Cert.FourierContext.τ).loc Cert.FourierContext.main_arg2) = m ((c.tc : Thread Cert.FourierContext.nD Cert.FourierContext.τ).loc Cert.FourierContext.main_arg2))
      ∧ r.2.sem = fun _ => 0)

def quiescent_FourierContextIdeal [hFourierContextIdeal : Cert.FourierContextIdeal.Facts] : Prop :=
  ∀ (m : (ℓ : Loc Cert.FourierContextIdeal.nD Cert.FourierContextIdeal.τ Cert.FourierContextIdeal.sig) → Buf (Elt Ideal) ℓ) (g : Dev Cert.FourierContextIdeal.nD → PrngReg), Pre_FourierContextIdeal m →
    θ_run (Cert.FourierContextIdeal.defs (F := Ideal)) (onTc (τ := Cert.FourierContextIdeal.τ) (Cert.FourierContextIdeal.main (F := Ideal))) ⟨m, fun _ => 0, g⟩ (fun r => (∀ c : Dev Cert.FourierContextIdeal.nD,
      r.2.mem ((c.tc : Thread Cert.FourierContextIdeal.nD Cert.FourierContextIdeal.τ).loc Cert.FourierContextIdeal.main_arg0) = m ((c.tc : Thread Cert.FourierContextIdeal.nD Cert.FourierContextIdeal.τ).loc Cert.FourierContextIdeal.main_arg0)
      ∧ r.2.mem ((c.tc : Thread Cert.FourierContextIdeal.nD Cert.FourierContextIdeal.τ).loc Cert.FourierContextIdeal.main_arg1) = m ((c.tc : Thread Cert.FourierContextIdeal.nD Cert.FourierContextIdeal.τ).loc Cert.FourierContextIdeal.main_arg1)
      ∧ r.2.mem ((c.tc : Thread Cert.FourierContextIdeal.nD Cert.FourierContextIdeal.τ).loc Cert.FourierContextIdeal.main_arg2) = m ((c.tc : Thread Cert.FourierContextIdeal.nD Cert.FourierContextIdeal.τ).loc Cert.FourierContextIdeal.main_arg2))
      ∧ r.2.sem = fun _ => 0)

def quiescent_FourierContextReferenceIdeal [hFourierContextReferenceIdeal : Cert.FourierContextReferenceIdeal.Facts] : Prop :=
  ∀ (m : (ℓ : Loc Cert.FourierContextReferenceIdeal.nD Cert.FourierContextReferenceIdeal.τ Cert.FourierContextReferenceIdeal.sig) → Buf (Elt Ideal) ℓ) (g : Dev Cert.FourierContextReferenceIdeal.nD → PrngReg), Pre_FourierContextReferenceIdeal m →
    θ_run (Cert.FourierContextReferenceIdeal.defs (F := Ideal)) (onTc (τ := Cert.FourierContextReferenceIdeal.τ) (Cert.FourierContextReferenceIdeal.main (F := Ideal))) ⟨m, fun _ => 0, g⟩ (fun r => (∀ c : Dev Cert.FourierContextReferenceIdeal.nD,
      r.2.mem ((c.tc : Thread Cert.FourierContextReferenceIdeal.nD Cert.FourierContextReferenceIdeal.τ).loc Cert.FourierContextReferenceIdeal.main_arg0) = m ((c.tc : Thread Cert.FourierContextReferenceIdeal.nD Cert.FourierContextReferenceIdeal.τ).loc Cert.FourierContextReferenceIdeal.main_arg0)
      ∧ r.2.mem ((c.tc : Thread Cert.FourierContextReferenceIdeal.nD Cert.FourierContextReferenceIdeal.τ).loc Cert.FourierContextReferenceIdeal.main_arg1) = m ((c.tc : Thread Cert.FourierContextReferenceIdeal.nD Cert.FourierContextReferenceIdeal.τ).loc Cert.FourierContextReferenceIdeal.main_arg1)
      ∧ r.2.mem ((c.tc : Thread Cert.FourierContextReferenceIdeal.nD Cert.FourierContextReferenceIdeal.τ).loc Cert.FourierContextReferenceIdeal.main_arg2) = m ((c.tc : Thread Cert.FourierContextReferenceIdeal.nD Cert.FourierContextReferenceIdeal.τ).loc Cert.FourierContextReferenceIdeal.main_arg2))
      ∧ r.2.sem = fun _ => 0)

def preserves_Kernel_KernelIdeal : Prop :=
  True

def algebraic_KernelIdeal_ReferenceIdeal_on_latent_rows_pre_finite_qk [hKernelIdeal : Cert.KernelIdeal.Facts] [hReferenceIdeal : Cert.ReferenceIdeal.Facts] [hPre_finite_qk : Cert.Pre_finite_qk.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![17408, 512]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v10_0) i = v0 c i)
          ∧ (∀ i : (⟨2, ![1024, 1024]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v10_1) i = v1 c i)
          ∧ (∀ i : (⟨2, ![1024, 4096]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v10_2) i = v2 c i)
          ∧ (∀ i : (⟨2, ![4096, 1024]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v10_3) i = v3 c i)
          ∧ (∀ i : (⟨2, ![1024, 1792]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.KernelIdeal.nD Cert.KernelIdeal.τ).loc Cert.KernelIdeal.main_v10_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![17408, 512]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v32) i = v0 c i)
          ∧ (∀ i : (⟨2, ![1024, 1024]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v35) i = v1 c i)
          ∧ (∀ i : (⟨2, ![1024, 4096]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v38) i = v2 c i)
          ∧ (∀ i : (⟨2, ![4096, 1024]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v41) i = v3 c i)
          ∧ (∀ i : (⟨2, ![1024, 1792]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.ReferenceIdeal.nD Cert.ReferenceIdeal.τ).loc Cert.ReferenceIdeal.main_v44) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_FeedForward_FeedForwardIdeal : Prop :=
  True

def algebraic_FeedForwardIdeal_FeedForwardReferenceIdeal [hFeedForwardIdeal : Cert.FeedForwardIdeal.Facts] [hFeedForwardReferenceIdeal : Cert.FeedForwardReferenceIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)
      ∧ m' ((c.tc : Thread Cert.FeedForwardReferenceIdeal.nD Cert.FeedForwardReferenceIdeal.τ).loc Cert.FeedForwardReferenceIdeal.main_arg4) = m ((c.tc : Thread Cert.FeedForwardIdeal.nD Cert.FeedForwardIdeal.τ).loc Cert.FeedForwardIdeal.main_arg4)
      ∧ m' ((c.tc : Thread Cert.FeedForwardReferenceIdeal.nD Cert.FeedForwardReferenceIdeal.τ).loc Cert.FeedForwardReferenceIdeal.main_arg5) = m ((c.tc : Thread Cert.FeedForwardIdeal.nD Cert.FeedForwardIdeal.τ).loc Cert.FeedForwardIdeal.main_arg5)) →
    ∃ (v0 : (c : Dev Cert.FeedForwardIdeal.nD) → Buf (Elt Ideal) ((c.tc : Thread Cert.FeedForwardIdeal.nD Cert.FeedForwardIdeal.τ).loc Cert.FeedForwardIdeal.main_v2)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v2) = v0 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
          ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v112) = v0 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3)
          ∧ r.2.mem ((c.tc : Thread Cert.FeedForwardReferenceIdeal.nD Cert.FeedForwardReferenceIdeal.τ).loc Cert.FeedForwardReferenceIdeal.main_arg4) = m' ((c.tc : Thread Cert.FeedForwardReferenceIdeal.nD Cert.FeedForwardReferenceIdeal.τ).loc Cert.FeedForwardReferenceIdeal.main_arg4)
          ∧ r.2.mem ((c.tc : Thread Cert.FeedForwardReferenceIdeal.nD Cert.FeedForwardReferenceIdeal.τ).loc Cert.FeedForwardReferenceIdeal.main_arg5) = m' ((c.tc : Thread Cert.FeedForwardReferenceIdeal.nD Cert.FeedForwardReferenceIdeal.τ).loc Cert.FeedForwardReferenceIdeal.main_arg5))

def preserves_OutProjection_OutProjectionIdeal : Prop :=
  True

def algebraic_OutProjectionIdeal_OutProjectionReferenceIdeal [hOutProjectionIdeal : Cert.OutProjectionIdeal.Facts] [hOutProjectionReferenceIdeal : Cert.OutProjectionReferenceIdeal.Facts] : Prop :=
  ∀ (m : (ℓ : Loc Cert.OutProjectionIdeal.nD Cert.OutProjectionIdeal.τ Cert.OutProjectionIdeal.sig) → Buf (Elt Ideal) ℓ) (g : Dev Cert.OutProjectionIdeal.nD → PrngReg)
    (m' : (ℓ : Loc Cert.OutProjectionReferenceIdeal.nD Cert.OutProjectionReferenceIdeal.τ Cert.OutProjectionReferenceIdeal.sig) → Buf (Elt Ideal) ℓ) (g' : Dev Cert.OutProjectionReferenceIdeal.nD → PrngReg), Pre_OutProjectionIdeal m →
    (∀ c : Dev Cert.OutProjectionIdeal.nD,
      m' ((c.tc : Thread Cert.OutProjectionReferenceIdeal.nD Cert.OutProjectionReferenceIdeal.τ).loc Cert.OutProjectionReferenceIdeal.main_arg0) = m ((c.tc : Thread Cert.OutProjectionIdeal.nD Cert.OutProjectionIdeal.τ).loc Cert.OutProjectionIdeal.main_arg0)
      ∧ m' ((c.tc : Thread Cert.OutProjectionReferenceIdeal.nD Cert.OutProjectionReferenceIdeal.τ).loc Cert.OutProjectionReferenceIdeal.main_arg1) = m ((c.tc : Thread Cert.OutProjectionIdeal.nD Cert.OutProjectionIdeal.τ).loc Cert.OutProjectionIdeal.main_arg1)
      ∧ m' ((c.tc : Thread Cert.OutProjectionReferenceIdeal.nD Cert.OutProjectionReferenceIdeal.τ).loc Cert.OutProjectionReferenceIdeal.main_arg2) = m ((c.tc : Thread Cert.OutProjectionIdeal.nD Cert.OutProjectionIdeal.τ).loc Cert.OutProjectionIdeal.main_arg2)
      ∧ m' ((c.tc : Thread Cert.OutProjectionReferenceIdeal.nD Cert.OutProjectionReferenceIdeal.τ).loc Cert.OutProjectionReferenceIdeal.main_arg3) = m ((c.tc : Thread Cert.OutProjectionIdeal.nD Cert.OutProjectionIdeal.τ).loc Cert.OutProjectionIdeal.main_arg3)
      ∧ m' ((c.tc : Thread Cert.OutProjectionReferenceIdeal.nD Cert.OutProjectionReferenceIdeal.τ).loc Cert.OutProjectionReferenceIdeal.main_arg4) = m ((c.tc : Thread Cert.OutProjectionIdeal.nD Cert.OutProjectionIdeal.τ).loc Cert.OutProjectionIdeal.main_arg4)
      ∧ m' ((c.tc : Thread Cert.OutProjectionReferenceIdeal.nD Cert.OutProjectionReferenceIdeal.τ).loc Cert.OutProjectionReferenceIdeal.main_arg5) = m ((c.tc : Thread Cert.OutProjectionIdeal.nD Cert.OutProjectionIdeal.τ).loc Cert.OutProjectionIdeal.main_arg5)
      ∧ m' ((c.tc : Thread Cert.OutProjectionReferenceIdeal.nD Cert.OutProjectionReferenceIdeal.τ).loc Cert.OutProjectionReferenceIdeal.main_arg6) = m ((c.tc : Thread Cert.OutProjectionIdeal.nD Cert.OutProjectionIdeal.τ).loc Cert.OutProjectionIdeal.main_arg6)
      ∧ m' ((c.tc : Thread Cert.OutProjectionReferenceIdeal.nD Cert.OutProjectionReferenceIdeal.τ).loc Cert.OutProjectionReferenceIdeal.main_arg7) = m ((c.tc : Thread Cert.OutProjectionIdeal.nD Cert.OutProjectionIdeal.τ).loc Cert.OutProjectionIdeal.main_arg7)) →
    ∃ (v0 : (c : Dev Cert.OutProjectionIdeal.nD) → Buf (Elt Ideal) ((c.tc : Thread Cert.OutProjectionIdeal.nD Cert.OutProjectionIdeal.τ).loc Cert.OutProjectionIdeal.main_v1)),
      θ_run (Cert.OutProjectionIdeal.defs (F := Ideal)) (onTc (τ := Cert.OutProjectionIdeal.τ) (Cert.OutProjectionIdeal.main (F := Ideal))) ⟨m, fun _ => 0, g⟩ (fun r => ∀ c : Dev Cert.OutProjectionIdeal.nD,
          r.2.mem ((c.tc : Thread Cert.OutProjectionIdeal.nD Cert.OutProjectionIdeal.τ).loc Cert.OutProjectionIdeal.main_v1) = v0 c
          ∧ r.2.mem ((c.tc : Thread Cert.OutProjectionIdeal.nD Cert.OutProjectionIdeal.τ).loc Cert.OutProjectionIdeal.main_arg0) = m ((c.tc : Thread Cert.OutProjectionIdeal.nD Cert.OutProjectionIdeal.τ).loc Cert.OutProjectionIdeal.main_arg0)
          ∧ r.2.mem ((c.tc : Thread Cert.OutProjectionIdeal.nD Cert.OutProjectionIdeal.τ).loc Cert.OutProjectionIdeal.main_arg1) = m ((c.tc : Thread Cert.OutProjectionIdeal.nD Cert.OutProjectionIdeal.τ).loc Cert.OutProjectionIdeal.main_arg1)
          ∧ r.2.mem ((c.tc : Thread Cert.OutProjectionIdeal.nD Cert.OutProjectionIdeal.τ).loc Cert.OutProjectionIdeal.main_arg2) = m ((c.tc : Thread Cert.OutProjectionIdeal.nD Cert.OutProjectionIdeal.τ).loc Cert.OutProjectionIdeal.main_arg2)
          ∧ r.2.mem ((c.tc : Thread Cert.OutProjectionIdeal.nD Cert.OutProjectionIdeal.τ).loc Cert.OutProjectionIdeal.main_arg3) = m ((c.tc : Thread Cert.OutProjectionIdeal.nD Cert.OutProjectionIdeal.τ).loc Cert.OutProjectionIdeal.main_arg3)
          ∧ r.2.mem ((c.tc : Thread Cert.OutProjectionIdeal.nD Cert.OutProjectionIdeal.τ).loc Cert.OutProjectionIdeal.main_arg4) = m ((c.tc : Thread Cert.OutProjectionIdeal.nD Cert.OutProjectionIdeal.τ).loc Cert.OutProjectionIdeal.main_arg4)
          ∧ r.2.mem ((c.tc : Thread Cert.OutProjectionIdeal.nD Cert.OutProjectionIdeal.τ).loc Cert.OutProjectionIdeal.main_arg5) = m ((c.tc : Thread Cert.OutProjectionIdeal.nD Cert.OutProjectionIdeal.τ).loc Cert.OutProjectionIdeal.main_arg5)
          ∧ r.2.mem ((c.tc : Thread Cert.OutProjectionIdeal.nD Cert.OutProjectionIdeal.τ).loc Cert.OutProjectionIdeal.main_arg6) = m ((c.tc : Thread Cert.OutProjectionIdeal.nD Cert.OutProjectionIdeal.τ).loc Cert.OutProjectionIdeal.main_arg6)
          ∧ r.2.mem ((c.tc : Thread Cert.OutProjectionIdeal.nD Cert.OutProjectionIdeal.τ).loc Cert.OutProjectionIdeal.main_arg7) = m ((c.tc : Thread Cert.OutProjectionIdeal.nD Cert.OutProjectionIdeal.τ).loc Cert.OutProjectionIdeal.main_arg7))
      ∧ θ_run (Cert.OutProjectionReferenceIdeal.defs (F := Ideal)) (onTc (τ := Cert.OutProjectionReferenceIdeal.τ) (Cert.OutProjectionReferenceIdeal.main (F := Ideal))) ⟨m', fun _ => 0, g'⟩ (fun r => ∀ c : Dev Cert.OutProjectionReferenceIdeal.nD,
          r.2.mem ((c.tc : Thread Cert.OutProjectionReferenceIdeal.nD Cert.OutProjectionReferenceIdeal.τ).loc Cert.OutProjectionReferenceIdeal.main_v111) = v0 c
          ∧ r.2.mem ((c.tc : Thread Cert.OutProjectionReferenceIdeal.nD Cert.OutProjectionReferenceIdeal.τ).loc Cert.OutProjectionReferenceIdeal.main_arg0) = m' ((c.tc : Thread Cert.OutProjectionReferenceIdeal.nD Cert.OutProjectionReferenceIdeal.τ).loc Cert.OutProjectionReferenceIdeal.main_arg0)
          ∧ r.2.mem ((c.tc : Thread Cert.OutProjectionReferenceIdeal.nD Cert.OutProjectionReferenceIdeal.τ).loc Cert.OutProjectionReferenceIdeal.main_arg1) = m' ((c.tc : Thread Cert.OutProjectionReferenceIdeal.nD Cert.OutProjectionReferenceIdeal.τ).loc Cert.OutProjectionReferenceIdeal.main_arg1)
          ∧ r.2.mem ((c.tc : Thread Cert.OutProjectionReferenceIdeal.nD Cert.OutProjectionReferenceIdeal.τ).loc Cert.OutProjectionReferenceIdeal.main_arg2) = m' ((c.tc : Thread Cert.OutProjectionReferenceIdeal.nD Cert.OutProjectionReferenceIdeal.τ).loc Cert.OutProjectionReferenceIdeal.main_arg2)
          ∧ r.2.mem ((c.tc : Thread Cert.OutProjectionReferenceIdeal.nD Cert.OutProjectionReferenceIdeal.τ).loc Cert.OutProjectionReferenceIdeal.main_arg3) = m' ((c.tc : Thread Cert.OutProjectionReferenceIdeal.nD Cert.OutProjectionReferenceIdeal.τ).loc Cert.OutProjectionReferenceIdeal.main_arg3)
          ∧ r.2.mem ((c.tc : Thread Cert.OutProjectionReferenceIdeal.nD Cert.OutProjectionReferenceIdeal.τ).loc Cert.OutProjectionReferenceIdeal.main_arg4) = m' ((c.tc : Thread Cert.OutProjectionReferenceIdeal.nD Cert.OutProjectionReferenceIdeal.τ).loc Cert.OutProjectionReferenceIdeal.main_arg4)
          ∧ r.2.mem ((c.tc : Thread Cert.OutProjectionReferenceIdeal.nD Cert.OutProjectionReferenceIdeal.τ).loc Cert.OutProjectionReferenceIdeal.main_arg5) = m' ((c.tc : Thread Cert.OutProjectionReferenceIdeal.nD Cert.OutProjectionReferenceIdeal.τ).loc Cert.OutProjectionReferenceIdeal.main_arg5)
          ∧ r.2.mem ((c.tc : Thread Cert.OutProjectionReferenceIdeal.nD Cert.OutProjectionReferenceIdeal.τ).loc Cert.OutProjectionReferenceIdeal.main_arg6) = m' ((c.tc : Thread Cert.OutProjectionReferenceIdeal.nD Cert.OutProjectionReferenceIdeal.τ).loc Cert.OutProjectionReferenceIdeal.main_arg6)
          ∧ r.2.mem ((c.tc : Thread Cert.OutProjectionReferenceIdeal.nD Cert.OutProjectionReferenceIdeal.τ).loc Cert.OutProjectionReferenceIdeal.main_arg7) = m' ((c.tc : Thread Cert.OutProjectionReferenceIdeal.nD Cert.OutProjectionReferenceIdeal.τ).loc Cert.OutProjectionReferenceIdeal.main_arg7))

def preserves_Context_ContextIdeal : Prop :=
  True

def algebraic_ContextIdeal_ContextReferenceIdeal_pre_finite_context_qk [hContextIdeal : Cert.ContextIdeal.Facts] [hContextReferenceIdeal : Cert.ContextReferenceIdeal.Facts] [hPre_finite_context_qk : Cert.Pre_finite_context_qk.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextReferenceIdeal.nD Cert.ContextReferenceIdeal.τ Cert.ContextReferenceIdeal.sig) → Buf (Elt Ideal) ℓ) (g' : Dev Cert.ContextReferenceIdeal.nD → PrngReg), Pre_ContextIdeal_finite_context_qk m →
    (∀ c : Dev Cert.ContextIdeal.nD,
      m' ((c.tc : Thread Cert.ContextReferenceIdeal.nD Cert.ContextReferenceIdeal.τ).loc Cert.ContextReferenceIdeal.main_arg0) = m ((c.tc : Thread Cert.ContextIdeal.nD Cert.ContextIdeal.τ).loc Cert.ContextIdeal.main_arg0)
      ∧ m' ((c.tc : Thread Cert.ContextReferenceIdeal.nD Cert.ContextReferenceIdeal.τ).loc Cert.ContextReferenceIdeal.main_arg1) = m ((c.tc : Thread Cert.ContextIdeal.nD Cert.ContextIdeal.τ).loc Cert.ContextIdeal.main_arg1)
      ∧ m' ((c.tc : Thread Cert.ContextReferenceIdeal.nD Cert.ContextReferenceIdeal.τ).loc Cert.ContextReferenceIdeal.main_arg2) = m ((c.tc : Thread Cert.ContextIdeal.nD Cert.ContextIdeal.τ).loc Cert.ContextIdeal.main_arg2)
      ∧ m' ((c.tc : Thread Cert.ContextReferenceIdeal.nD Cert.ContextReferenceIdeal.τ).loc Cert.ContextReferenceIdeal.main_arg3) = m ((c.tc : Thread Cert.ContextIdeal.nD Cert.ContextIdeal.τ).loc Cert.ContextIdeal.main_arg3)) →
    ∃ (v0 : (c : Dev Cert.ContextIdeal.nD) → Buf (Elt Ideal) ((c.tc : Thread Cert.ContextIdeal.nD Cert.ContextIdeal.τ).loc Cert.ContextIdeal.main_v10)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v10) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3))
      ∧ θ_run (Cert.ContextReferenceIdeal.defs (F := Ideal)) (onTc (τ := Cert.ContextReferenceIdeal.τ) (Cert.ContextReferenceIdeal.main (F := Ideal))) ⟨m', fun _ => 0, g'⟩ (fun r => ∀ c : Dev Cert.ContextReferenceIdeal.nD,
          r.2.mem ((c.tc : Thread Cert.ContextReferenceIdeal.nD Cert.ContextReferenceIdeal.τ).loc Cert.ContextReferenceIdeal.main_v26) = v0 c
          ∧ r.2.mem ((c.tc : Thread Cert.ContextReferenceIdeal.nD Cert.ContextReferenceIdeal.τ).loc Cert.ContextReferenceIdeal.main_arg0) = m' ((c.tc : Thread Cert.ContextReferenceIdeal.nD Cert.ContextReferenceIdeal.τ).loc Cert.ContextReferenceIdeal.main_arg0)
          ∧ r.2.mem ((c.tc : Thread Cert.ContextReferenceIdeal.nD Cert.ContextReferenceIdeal.τ).loc Cert.ContextReferenceIdeal.main_arg1) = m' ((c.tc : Thread Cert.ContextReferenceIdeal.nD Cert.ContextReferenceIdeal.τ).loc Cert.ContextReferenceIdeal.main_arg1)
          ∧ r.2.mem ((c.tc : Thread Cert.ContextReferenceIdeal.nD Cert.ContextReferenceIdeal.τ).loc Cert.ContextReferenceIdeal.main_arg2) = m' ((c.tc : Thread Cert.ContextReferenceIdeal.nD Cert.ContextReferenceIdeal.τ).loc Cert.ContextReferenceIdeal.main_arg2)
          ∧ r.2.mem ((c.tc : Thread Cert.ContextReferenceIdeal.nD Cert.ContextReferenceIdeal.τ).loc Cert.ContextReferenceIdeal.main_arg3) = m' ((c.tc : Thread Cert.ContextReferenceIdeal.nD Cert.ContextReferenceIdeal.τ).loc Cert.ContextReferenceIdeal.main_arg3))

def preserves_Modulation_ModulationIdeal : Prop :=
  True

def algebraic_ModulationIdeal_ModulationReferenceIdeal_on_modulation_rows_pre_finite_modulation [hModulationIdeal : Cert.ModulationIdeal.Facts] [hModulationReferenceIdeal : Cert.ModulationReferenceIdeal.Facts] [hPre_finite_modulation : Cert.Pre_finite_modulation.Facts] [hOn_modulation_rows : Cert.On_modulation_rows.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal_finite_modulation m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          (∀ i : (⟨3, ![4, 8, 6144]⟩ : Shape).Idx, (Cert.On_modulation_rows.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))) i = 1#1 → r.2.mem ((c.tc : Thread Cert.ModulationIdeal.nD Cert.ModulationIdeal.τ).loc Cert.ModulationIdeal.main_v4) i = v0 c i)
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          (∀ i : (⟨3, ![4, 8, 6144]⟩ : Shape).Idx, (Cert.On_modulation_rows.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))) i = 1#1 → r.2.mem ((c.tc : Thread Cert.ModulationReferenceIdeal.nD Cert.ModulationReferenceIdeal.τ).loc Cert.ModulationReferenceIdeal.main_v11) i = v0 c i)
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def preserves_Fourier_FourierIdeal : Prop :=
  True

def algebraic_FourierIdeal_FourierReferenceIdeal_on_fourier_latent_rows_pre_finite_spectrum [hFourierIdeal : Cert.FourierIdeal.Facts] [hFourierReferenceIdeal : Cert.FourierReferenceIdeal.Facts] [hPre_finite_spectrum : Cert.Pre_finite_spectrum.Facts] [hOn_fourier_latent_rows : Cert.On_fourier_latent_rows.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierReferenceIdeal.nD Cert.FourierReferenceIdeal.τ Cert.FourierReferenceIdeal.sig) → Buf (Elt Ideal) ℓ) (g' : Dev Cert.FourierReferenceIdeal.nD → PrngReg), Pre_FourierIdeal_finite_spectrum m →
    (∀ c : Dev Cert.FourierIdeal.nD,
      m' ((c.tc : Thread Cert.FourierReferenceIdeal.nD Cert.FourierReferenceIdeal.τ).loc Cert.FourierReferenceIdeal.main_arg0) = m ((c.tc : Thread Cert.FourierIdeal.nD Cert.FourierIdeal.τ).loc Cert.FourierIdeal.main_arg0)
      ∧ m' ((c.tc : Thread Cert.FourierReferenceIdeal.nD Cert.FourierReferenceIdeal.τ).loc Cert.FourierReferenceIdeal.main_arg1) = m ((c.tc : Thread Cert.FourierIdeal.nD Cert.FourierIdeal.τ).loc Cert.FourierIdeal.main_arg1)) →
    ∃ (v0 : (c : Dev Cert.FourierIdeal.nD) → Buf (Elt Ideal) ((c.tc : Thread Cert.FourierIdeal.nD Cert.FourierIdeal.τ).loc Cert.FourierIdeal.main_v78)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          (∀ i : (⟨4, ![272, 8, 8, 256]⟩ : Shape).Idx, (Cert.On_fourier_latent_rows.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1))) i = 1#1 → r.2.mem ((c.tc : Thread Cert.FourierIdeal.nD Cert.FourierIdeal.τ).loc Cert.FourierIdeal.main_v78) i = v0 c i)
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ θ_run (Cert.FourierReferenceIdeal.defs (F := Ideal)) (onTc (τ := Cert.FourierReferenceIdeal.τ) (Cert.FourierReferenceIdeal.main (F := Ideal))) ⟨m', fun _ => 0, g'⟩ (fun r => ∀ c : Dev Cert.FourierReferenceIdeal.nD,
          (∀ i : (⟨4, ![272, 8, 8, 256]⟩ : Shape).Idx, (Cert.On_fourier_latent_rows.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1))) i = 1#1 → r.2.mem ((c.tc : Thread Cert.FourierReferenceIdeal.nD Cert.FourierReferenceIdeal.τ).loc Cert.FourierReferenceIdeal.main_v32) i = v0 c i)
          ∧ r.2.mem ((c.tc : Thread Cert.FourierReferenceIdeal.nD Cert.FourierReferenceIdeal.τ).loc Cert.FourierReferenceIdeal.main_arg0) = m' ((c.tc : Thread Cert.FourierReferenceIdeal.nD Cert.FourierReferenceIdeal.τ).loc Cert.FourierReferenceIdeal.main_arg0)
          ∧ r.2.mem ((c.tc : Thread Cert.FourierReferenceIdeal.nD Cert.FourierReferenceIdeal.τ).loc Cert.FourierReferenceIdeal.main_arg1) = m' ((c.tc : Thread Cert.FourierReferenceIdeal.nD Cert.FourierReferenceIdeal.τ).loc Cert.FourierReferenceIdeal.main_arg1))

def preserves_FourierContext_FourierContextIdeal : Prop :=
  True

def algebraic_FourierContextIdeal_FourierContextReferenceIdeal [hFourierContextIdeal : Cert.FourierContextIdeal.Facts] [hFourierContextReferenceIdeal : Cert.FourierContextReferenceIdeal.Facts] : Prop :=
  ∀ (m : (ℓ : Loc Cert.FourierContextIdeal.nD Cert.FourierContextIdeal.τ Cert.FourierContextIdeal.sig) → Buf (Elt Ideal) ℓ) (g : Dev Cert.FourierContextIdeal.nD → PrngReg)
    (m' : (ℓ : Loc Cert.FourierContextReferenceIdeal.nD Cert.FourierContextReferenceIdeal.τ Cert.FourierContextReferenceIdeal.sig) → Buf (Elt Ideal) ℓ) (g' : Dev Cert.FourierContextReferenceIdeal.nD → PrngReg), Pre_FourierContextIdeal m →
    (∀ c : Dev Cert.FourierContextIdeal.nD,
      m' ((c.tc : Thread Cert.FourierContextReferenceIdeal.nD Cert.FourierContextReferenceIdeal.τ).loc Cert.FourierContextReferenceIdeal.main_arg0) = m ((c.tc : Thread Cert.FourierContextIdeal.nD Cert.FourierContextIdeal.τ).loc Cert.FourierContextIdeal.main_arg0)
      ∧ m' ((c.tc : Thread Cert.FourierContextReferenceIdeal.nD Cert.FourierContextReferenceIdeal.τ).loc Cert.FourierContextReferenceIdeal.main_arg1) = m ((c.tc : Thread Cert.FourierContextIdeal.nD Cert.FourierContextIdeal.τ).loc Cert.FourierContextIdeal.main_arg1)
      ∧ m' ((c.tc : Thread Cert.FourierContextReferenceIdeal.nD Cert.FourierContextReferenceIdeal.τ).loc Cert.FourierContextReferenceIdeal.main_arg2) = m ((c.tc : Thread Cert.FourierContextIdeal.nD Cert.FourierContextIdeal.τ).loc Cert.FourierContextIdeal.main_arg2)) →
    ∃ (v0 : (c : Dev Cert.FourierContextIdeal.nD) → Buf (Elt Ideal) ((c.tc : Thread Cert.FourierContextIdeal.nD Cert.FourierContextIdeal.τ).loc Cert.FourierContextIdeal.main_v24)),
      θ_run (Cert.FourierContextIdeal.defs (F := Ideal)) (onTc (τ := Cert.FourierContextIdeal.τ) (Cert.FourierContextIdeal.main (F := Ideal))) ⟨m, fun _ => 0, g⟩ (fun r => ∀ c : Dev Cert.FourierContextIdeal.nD,
          r.2.mem ((c.tc : Thread Cert.FourierContextIdeal.nD Cert.FourierContextIdeal.τ).loc Cert.FourierContextIdeal.main_v24) = v0 c
          ∧ r.2.mem ((c.tc : Thread Cert.FourierContextIdeal.nD Cert.FourierContextIdeal.τ).loc Cert.FourierContextIdeal.main_arg0) = m ((c.tc : Thread Cert.FourierContextIdeal.nD Cert.FourierContextIdeal.τ).loc Cert.FourierContextIdeal.main_arg0)
          ∧ r.2.mem ((c.tc : Thread Cert.FourierContextIdeal.nD Cert.FourierContextIdeal.τ).loc Cert.FourierContextIdeal.main_arg1) = m ((c.tc : Thread Cert.FourierContextIdeal.nD Cert.FourierContextIdeal.τ).loc Cert.FourierContextIdeal.main_arg1)
          ∧ r.2.mem ((c.tc : Thread Cert.FourierContextIdeal.nD Cert.FourierContextIdeal.τ).loc Cert.FourierContextIdeal.main_arg2) = m ((c.tc : Thread Cert.FourierContextIdeal.nD Cert.FourierContextIdeal.τ).loc Cert.FourierContextIdeal.main_arg2))
      ∧ θ_run (Cert.FourierContextReferenceIdeal.defs (F := Ideal)) (onTc (τ := Cert.FourierContextReferenceIdeal.τ) (Cert.FourierContextReferenceIdeal.main (F := Ideal))) ⟨m', fun _ => 0, g'⟩ (fun r => ∀ c : Dev Cert.FourierContextReferenceIdeal.nD,
          r.2.mem ((c.tc : Thread Cert.FourierContextReferenceIdeal.nD Cert.FourierContextReferenceIdeal.τ).loc Cert.FourierContextReferenceIdeal.main_v32) = v0 c
          ∧ r.2.mem ((c.tc : Thread Cert.FourierContextReferenceIdeal.nD Cert.FourierContextReferenceIdeal.τ).loc Cert.FourierContextReferenceIdeal.main_arg0) = m' ((c.tc : Thread Cert.FourierContextReferenceIdeal.nD Cert.FourierContextReferenceIdeal.τ).loc Cert.FourierContextReferenceIdeal.main_arg0)
          ∧ r.2.mem ((c.tc : Thread Cert.FourierContextReferenceIdeal.nD Cert.FourierContextReferenceIdeal.τ).loc Cert.FourierContextReferenceIdeal.main_arg1) = m' ((c.tc : Thread Cert.FourierContextReferenceIdeal.nD Cert.FourierContextReferenceIdeal.τ).loc Cert.FourierContextReferenceIdeal.main_arg1)
          ∧ r.2.mem ((c.tc : Thread Cert.FourierContextReferenceIdeal.nD Cert.FourierContextReferenceIdeal.τ).loc Cert.FourierContextReferenceIdeal.main_arg2) = m' ((c.tc : Thread Cert.FourierContextReferenceIdeal.nD Cert.FourierContextReferenceIdeal.τ).loc Cert.FourierContextReferenceIdeal.main_arg2))

def Claim : Prop :=
  ∃ (hKernel : Cert.Kernel.Facts) (hKernelIdeal : Cert.KernelIdeal.Facts) (hReferenceIdeal : Cert.ReferenceIdeal.Facts) (hFeedForward : Cert.FeedForward.Facts) (hFeedForwardIdeal : Cert.FeedForwardIdeal.Facts) (hFeedForwardReferenceIdeal : Cert.FeedForwardReferenceIdeal.Facts) (hOutProjection : Cert.OutProjection.Facts) (hOutProjectionIdeal : Cert.OutProjectionIdeal.Facts) (hOutProjectionReferenceIdeal : Cert.OutProjectionReferenceIdeal.Facts) (hContext : Cert.Context.Facts) (hContextIdeal : Cert.ContextIdeal.Facts) (hContextReferenceIdeal : Cert.ContextReferenceIdeal.Facts) (hModulation : Cert.Modulation.Facts) (hModulationIdeal : Cert.ModulationIdeal.Facts) (hModulationReferenceIdeal : Cert.ModulationReferenceIdeal.Facts) (hFourier : Cert.Fourier.Facts) (hFourierIdeal : Cert.FourierIdeal.Facts) (hFourierReferenceIdeal : Cert.FourierReferenceIdeal.Facts) (hFourierContext : Cert.FourierContext.Facts) (hFourierContextIdeal : Cert.FourierContextIdeal.Facts) (hFourierContextReferenceIdeal : Cert.FourierContextReferenceIdeal.Facts) (hPre_finite_qk : Cert.Pre_finite_qk.Facts) (hPre_finite_context_qk : Cert.Pre_finite_context_qk.Facts) (hPre_finite_modulation : Cert.Pre_finite_modulation.Facts) (hPre_finite_spectrum : Cert.Pre_finite_spectrum.Facts) (hOn_latent_rows : Cert.On_latent_rows.Facts) (hOn_modulation_rows : Cert.On_modulation_rows.Facts) (hOn_fourier_latent_rows : Cert.On_fourier_latent_rows.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_FeedForward (hFeedForward := hFeedForward)
    ∧ quiescent_FeedForwardIdeal (hFeedForwardIdeal := hFeedForwardIdeal)
    ∧ quiescent_FeedForwardReferenceIdeal (hFeedForwardReferenceIdeal := hFeedForwardReferenceIdeal)
    ∧ quiescent_OutProjection (hOutProjection := hOutProjection)
    ∧ quiescent_OutProjectionIdeal (hOutProjectionIdeal := hOutProjectionIdeal)
    ∧ quiescent_OutProjectionReferenceIdeal (hOutProjectionReferenceIdeal := hOutProjectionReferenceIdeal)
    ∧ quiescent_Context (hContext := hContext)
    ∧ quiescent_ContextIdeal (hContextIdeal := hContextIdeal)
    ∧ quiescent_ContextIdeal_pre_finite_context_qk (hContextIdeal := hContextIdeal) (hPre_finite_context_qk := hPre_finite_context_qk)
    ∧ quiescent_ContextReferenceIdeal (hContextReferenceIdeal := hContextReferenceIdeal)
    ∧ quiescent_ContextReferenceIdeal_pre_finite_context_qk (hContextReferenceIdeal := hContextReferenceIdeal) (hPre_finite_context_qk := hPre_finite_context_qk)
    ∧ quiescent_Modulation (hModulation := hModulation)
    ∧ quiescent_ModulationIdeal (hModulationIdeal := hModulationIdeal)
    ∧ quiescent_ModulationIdeal_pre_finite_modulation (hModulationIdeal := hModulationIdeal) (hPre_finite_modulation := hPre_finite_modulation)
    ∧ quiescent_ModulationReferenceIdeal (hModulationReferenceIdeal := hModulationReferenceIdeal)
    ∧ quiescent_ModulationReferenceIdeal_pre_finite_modulation (hModulationReferenceIdeal := hModulationReferenceIdeal) (hPre_finite_modulation := hPre_finite_modulation)
    ∧ quiescent_Fourier (hFourier := hFourier)
    ∧ quiescent_FourierIdeal (hFourierIdeal := hFourierIdeal)
    ∧ quiescent_FourierIdeal_pre_finite_spectrum (hFourierIdeal := hFourierIdeal) (hPre_finite_spectrum := hPre_finite_spectrum)
    ∧ quiescent_FourierReferenceIdeal (hFourierReferenceIdeal := hFourierReferenceIdeal)
    ∧ quiescent_FourierReferenceIdeal_pre_finite_spectrum (hFourierReferenceIdeal := hFourierReferenceIdeal) (hPre_finite_spectrum := hPre_finite_spectrum)
    ∧ quiescent_FourierContext (hFourierContext := hFourierContext)
    ∧ quiescent_FourierContextIdeal (hFourierContextIdeal := hFourierContextIdeal)
    ∧ quiescent_FourierContextReferenceIdeal (hFourierContextReferenceIdeal := hFourierContextReferenceIdeal)
    ∧ preserves_Kernel_KernelIdeal
    ∧ algebraic_KernelIdeal_ReferenceIdeal_on_latent_rows_pre_finite_qk (hKernelIdeal := hKernelIdeal) (hReferenceIdeal := hReferenceIdeal) (hPre_finite_qk := hPre_finite_qk) (hOn_latent_rows := hOn_latent_rows)
    ∧ preserves_FeedForward_FeedForwardIdeal
    ∧ algebraic_FeedForwardIdeal_FeedForwardReferenceIdeal (hFeedForwardIdeal := hFeedForwardIdeal) (hFeedForwardReferenceIdeal := hFeedForwardReferenceIdeal)
    ∧ preserves_OutProjection_OutProjectionIdeal
    ∧ algebraic_OutProjectionIdeal_OutProjectionReferenceIdeal (hOutProjectionIdeal := hOutProjectionIdeal) (hOutProjectionReferenceIdeal := hOutProjectionReferenceIdeal)
    ∧ preserves_Context_ContextIdeal
    ∧ algebraic_ContextIdeal_ContextReferenceIdeal_pre_finite_context_qk (hContextIdeal := hContextIdeal) (hContextReferenceIdeal := hContextReferenceIdeal) (hPre_finite_context_qk := hPre_finite_context_qk)
    ∧ preserves_Modulation_ModulationIdeal
    ∧ algebraic_ModulationIdeal_ModulationReferenceIdeal_on_modulation_rows_pre_finite_modulation (hModulationIdeal := hModulationIdeal) (hModulationReferenceIdeal := hModulationReferenceIdeal) (hPre_finite_modulation := hPre_finite_modulation) (hOn_modulation_rows := hOn_modulation_rows)
    ∧ preserves_Fourier_FourierIdeal
    ∧ algebraic_FourierIdeal_FourierReferenceIdeal_on_fourier_latent_rows_pre_finite_spectrum (hFourierIdeal := hFourierIdeal) (hFourierReferenceIdeal := hFourierReferenceIdeal) (hPre_finite_spectrum := hPre_finite_spectrum) (hOn_fourier_latent_rows := hOn_fourier_latent_rows)
    ∧ preserves_FourierContext_FourierContextIdeal
    ∧ algebraic_FourierContextIdeal_FourierContextReferenceIdeal (hFourierContextIdeal := hFourierContextIdeal) (hFourierContextReferenceIdeal := hFourierContextReferenceIdeal)
-- ==== On_fourier_latent_rows.lean ====
abbrev S19584x256 : Shape := ⟨2, ![19584, 256]⟩
abbrev S272x8x8x256 : Shape := ⟨4, ![272, 8, 8, 256]⟩
abbrev S_ : Shape := ⟨0, ![]⟩

class Facts : Prop where
  bcast_S_S272x8x8x256 : S_.BroadcastsInDim S272x8x8x256 (![] : Fin 0 → Fin S272x8x8x256.rank)

variable [Facts]

def fn {F : FTy → Type} [FloatOps F] (main_arg0 : FVec F S19584x256 .f32) (main_arg1 : FVec F S19584x256 .f32) : IVec S272x8x8x256 1 :=
  let main_v0 : IVec S272x8x8x256 32 := iotaInDim S272x8x8x256 32 0
  let main_c : IVec S_ 32 := constantI S_ 32 256#32
  let main_v1 : IVec S272x8x8x256 32 := broadcastInDim S272x8x8x256 ![] bcast_S_S272x8x8x256 main_c
  let main_v2 : IVec S272x8x8x256 1 := cmpi .slt main_v0 main_v1
  main_v2
-- ==== On_latent_rows.lean ====
abbrev S17408x512 : Shape := ⟨2, ![17408, 512]⟩
abbrev S17408x128 : Shape := ⟨2, ![17408, 128]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S4x1024x1792 : Shape := ⟨3, ![4, 1024, 1792]⟩
abbrev S_ : Shape := ⟨0, ![]⟩
abbrev S1024x1024 : Shape := ⟨2, ![1024, 1024]⟩
abbrev S1024x4096 : Shape := ⟨2, ![1024, 4096]⟩
abbrev S4096x1024 : Shape := ⟨2, ![4096, 1024]⟩
abbrev S1024x1792 : Shape := ⟨2, ![1024, 1792]⟩

class Facts : Prop where
  bcast_S_S17408x512 : S_.BroadcastsInDim S17408x512 (![] : Fin 0 → Fin S17408x512.rank)
  bcast_S_S1024x1024 : S_.BroadcastsInDim S1024x1024 (![] : Fin 0 → Fin S1024x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1024x1792 : S_.BroadcastsInDim S1024x1792 (![] : Fin 0 → Fin S1024x1792.rank)

variable [Facts]

def fn {F : FTy → Type} [FloatOps F] (main_arg0 : FVec F S17408x512 .f32) (main_arg1 : FVec F S17408x128 .f32) (main_arg2 : FVec F S17408x128 .f32) (main_arg3 : FVec F S4x1024x1024 .f32) (main_arg4 : FVec F S4x1024x4096 .f32) (main_arg5 : FVec F S4x4096x1024 .f32) (main_arg6 : FVec F S4x1024x1792 .f32) : IVec S17408x512 1 × IVec S1024x1024 1 × IVec S1024x4096 1 × IVec S4096x1024 1 × IVec S1024x1792 1 :=
  let main_v0 : IVec S17408x512 32 := iotaInDim S17408x512 32 0
  let main_c : IVec S_ 32 := constantI S_ 32 16384#32
  let main_v1 : IVec S17408x512 32 := broadcastInDim S17408x512 ![] bcast_S_S17408x512 main_c
  let main_v2 : IVec S17408x512 1 := cmpi .slt main_v0 main_v1
  let main_c_0 : IVec S_ 1 := constantI S_ 1 1#1
  let main_v3 : IVec S1024x1024 1 := broadcastInDim S1024x1024 ![] bcast_S_S1024x1024 main_c_0
  let main_c_1 : IVec S_ 1 := constantI S_ 1 1#1
  let main_v4 : IVec S1024x4096 1 := broadcastInDim S1024x4096 ![] bcast_S_S1024x4096 main_c_1
  let main_c_2 : IVec S_ 1 := constantI S_ 1 1#1
  let main_v5 : IVec S4096x1024 1 := broadcastInDim S4096x1024 ![] bcast_S_S4096x1024 main_c_2
  let main_c_3 : IVec S_ 1 := constantI S_ 1 1#1
  let main_v6 : IVec S1024x1792 1 := broadcastInDim S1024x1792 ![] bcast_S_S1024x1792 main_c_3
  (main_v2, main_v3, main_v4, main_v5, main_v6)
-- ==== On_modulation_rows.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S4x8x6144 : Shape := ⟨3, ![4, 8, 6144]⟩
abbrev S_ : Shape := ⟨0, ![]⟩

class Facts : Prop where
  bcast_S_S4x8x6144 : S_.BroadcastsInDim S4x8x6144 (![] : Fin 0 → Fin S4x8x6144.rank)

variable [Facts]

def fn {F : FTy → Type} [FloatOps F] (main_arg0 : FVec F S4x1024 .f32) (main_arg1 : FVec F S1024 .f32) (main_arg2 : FVec F S4x1024x6144 .f32) (main_arg3 : FVec F S4x6144 .f32) : IVec S4x8x6144 1 :=
  let main_v0 : IVec S4x8x6144 32 := iotaInDim S4x8x6144 32 1
  let main_c : IVec S_ 32 := constantI S_ 32 5#32
  let main_v1 : IVec S4x8x6144 32 := broadcastInDim S4x8x6144 ![] bcast_S_S4x8x6144 main_c
  let main_v2 : IVec S4x8x6144 1 := cmpi .slt main_v0 main_v1
  main_v2
-- ==== Pre_finite_context_qk.lean ====
abbrev S17408x512 : Shape := ⟨2, ![17408, 512]⟩
abbrev S17408x128 : Shape := ⟨2, ![17408, 128]⟩
abbrev S_ : Shape := ⟨0, ![]⟩

class Facts : Prop where
  bcast_S_S17408x512 : S_.BroadcastsInDim S17408x512 (![] : Fin 0 → Fin S17408x512.rank)
  bcast_S_S17408x128 : S_.BroadcastsInDim S17408x128 (![] : Fin 0 → Fin S17408x128.rank)

variable [Facts]

def fn {F : FTy → Type} [FloatOps F] (main_arg0 : FVec F S17408x512 .f32) (main_arg1 : FVec F S17408x128 .f32) (main_arg2 : FVec F S17408x128 .f32) (main_arg3 : FVec F S17408x512 .bf16) : IVec S17408x512 1 × IVec S17408x128 1 :=
  let main_v0 : FVec F S17408x512 .f32 := Host.absf main_arg0
  let main_cst : FVec F S_ .f32 := constant S_ .f32 0x7F800000#32
  let main_v1 : FVec F S17408x512 .f32 := broadcastInDim S17408x512 ![] bcast_S_S17408x512 main_cst
  let main_v2 : IVec S17408x512 1 := cmpf .olt main_v0 main_v1
  let main_v3 : FVec F S17408x128 .f32 := Host.absf main_arg1
  let main_cst_0 : FVec F S_ .f32 := constant S_ .f32 0x7F800000#32
  let main_v4 : FVec F S17408x128 .f32 := broadcastInDim S17408x128 ![] bcast_S_S17408x128 main_cst_0
  let main_v5 : IVec S17408x128 1 := cmpf .olt main_v3 main_v4
  (main_v2, main_v5)
-- ==== Pre_finite_modulation.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S4x1024 : S_.BroadcastsInDim S4x1024 (![] : Fin 0 → Fin S4x1024.rank)
  bcast_S_S1024 : S_.BroadcastsInDim S1024 (![] : Fin 0 → Fin S1024.rank)
  bcast_S_S4x1024x6144 : S_.BroadcastsInDim S4x1024x6144 (![] : Fin 0 → Fin S4x1024x6144.rank)

variable [Facts]

def fn {F : FTy → Type} [FloatOps F] (main_arg0 : FVec F S4x1024 .f32) (main_arg1 : FVec F S1024 .f32) (main_arg2 : FVec F S4x1024x6144 .f32) (main_arg3 : FVec F S4x6144 .f32) : IVec S4x1024 1 × IVec S1024 1 × IVec S4x1024x6144 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x1024x6144 .f32 := Host.absf main_arg2
  let main_cst_1 : FVec F S_ .f32 := constant S_ .f32 0x7F800000#32
  let main_v7 : FVec F S4x1024x6144 .f32 := broadcastInDim S4x1024x6144 ![] bcast_S_S4x1024x6144 main_cst_1
  let main_v8 : IVec S4x1024x6144 1 := cmpf .olt main_v6 main_v7
  (main_v2, main_v5, main_v8)
-- ==== Pre_finite_qk.lean ====
abbrev S17408x512 : Shape := ⟨2, ![17408, 512]⟩
abbrev S17408x128 : Shape := ⟨2, ![17408, 128]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S4x1024x1792 : Shape := ⟨3, ![4, 1024, 1792]⟩
abbrev S_ : Shape := ⟨0, ![]⟩

class Facts : Prop where
  bcast_S_S17408x512 : S_.BroadcastsInDim S17408x512 (![] : Fin 0 → Fin S17408x512.rank)
  bcast_S_S17408x128 : S_.BroadcastsInDim S17408x128 (![] : Fin 0 → Fin S17408x128.rank)

variable [Facts]

def fn {F : FTy → Type} [FloatOps F] (main_arg0 : FVec F S17408x512 .f32) (main_arg1 : FVec F S17408x128 .f32) (main_arg2 : FVec F S17408x128 .f32) (main_arg3 : FVec F S4x1024x1024 .f32) (main_arg4 : FVec F S4x1024x4096 .f32) (main_arg5 : FVec F S4x4096x1024 .f32) (main_arg6 : FVec F S4x1024x1792 .f32) : IVec S17408x512 1 × IVec S17408x128 1 :=
  let main_v0 : FVec F S17408x512 .f32 := Host.absf main_arg0
  let main_cst : FVec F S_ .f32 := constant S_ .f32 0x7F800000#32
  let main_v1 : FVec F S17408x512 .f32 := broadcastInDim S17408x512 ![] bcast_S_S17408x512 main_cst
  let main_v2 : IVec S17408x512 1 := cmpf .olt main_v0 main_v1
  let main_v3 : FVec F S17408x128 .f32 := Host.absf main_arg1
  let main_cst_0 : FVec F S_ .f32 := constant S_ .f32 0x7F800000#32
  let main_v4 : FVec F S17408x128 .f32 := broadcastInDim S17408x128 ![] bcast_S_S17408x128 main_cst_0
  let main_v5 : IVec S17408x128 1 := cmpf .olt main_v3 main_v4
  (main_v2, main_v5)
-- ==== Pre_finite_spectrum.lean ====
abbrev S19584x256 : Shape := ⟨2, ![19584, 256]⟩
abbrev S_ : Shape := ⟨0, ![]⟩

class Facts : Prop where
  bcast_S_S19584x256 : S_.BroadcastsInDim S19584x256 (![] : Fin 0 → Fin S19584x256.rank)

variable [Facts]

def fn {F : FTy → Type} [FloatOps F] (main_arg0 : FVec F S19584x256 .f32) (main_arg1 : FVec F S19584x256 .f32) : IVec S19584x256 1 × IVec S19584x256 1 :=
  let main_v0 : IVec S19584x256 32 := iotaInDim S19584x256 32 0
  let main_c : IVec S_ 32 := constantI S_ 32 72#32
  let main_v1 : IVec S19584x256 32 := broadcastInDim S19584x256 ![] bcast_S_S19584x256 main_c
  let main_v2 : IVec S19584x256 32 := Host.remsi main_v0 main_v1
  let main_c_0 : IVec S_ 32 := constantI S_ 32 64#32
  let main_v3 : IVec S19584x256 32 := broadcastInDim S19584x256 ![] bcast_S_S19584x256 main_c_0
  let main_v4 : IVec S19584x256 1 := cmpi .slt main_v2 main_v3
  let main_c_1 : IVec S_ 32 := constantI S_ 32 18432#32
  let main_v5 : IVec S19584x256 32 := broadcastInDim S19584x256 ![] bcast_S_S19584x256 main_c_1
  let main_v6 : IVec S19584x256 1 := cmpi .slt main_v0 main_v5
  let main_v7 : IVec S19584x256 1 := andi main_v4 main_v6
  let main_v8 : FVec F S19584x256 .f32 := Host.absf main_arg0
  let main_cst : FVec F S_ .f32 := constant S_ .f32 0x7F800000#32
  let main_v9 : FVec F S19584x256 .f32 := broadcastInDim S19584x256 ![] bcast_S_S19584x256 main_cst
  let main_v10 : IVec S19584x256 1 := cmpf .olt main_v8 main_v9
  let main_v11 : IVec S19584x256 1 := noti main_v7
  let main_v12 : IVec S19584x256 1 := ori main_v10 main_v11
  let main_v13 : FVec F S19584x256 .f32 := Host.absf main_arg1
  let main_cst_2 : FVec F S_ .f32 := constant S_ .f32 0x7F800000#32
  let main_v14 : FVec F S19584x256 .f32 := broadcastInDim S19584x256 ![] bcast_S_S19584x256 main_cst_2
  let main_v15 : IVec S19584x256 1 := cmpf .olt main_v13 main_v14
  let main_v16 : IVec S19584x256 1 := noti main_v7
  let main_v17 : IVec S19584x256 1 := ori main_v15 main_v16
  (main_v12, main_v17)
-- ==== Kernel.lean ====
abbrev S17408x512 : Shape := ⟨2, ![17408, 512]⟩
abbrev S17408x128 : Shape := ⟨2, ![17408, 128]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S4x1024x1792 : Shape := ⟨3, ![4, 1024, 1792]⟩
abbrev S_ : Shape := ⟨0, ![]⟩
abbrev S512x17408 : Shape := ⟨2, ![512, 17408]⟩
abbrev S68x256x128 : Shape := ⟨3, ![68, 256, 128]⟩
abbrev S68x128x256 : Shape := ⟨3, ![68, 128, 256]⟩
abbrev S1024x1024 : Shape := ⟨2, ![1024, 1024]⟩
abbrev S1024x4096 : Shape := ⟨2, ![1024, 4096]⟩
abbrev S4096x1024 : Shape := ⟨2, ![4096, 1024]⟩
abbrev S1024x1792 : Shape := ⟨2, ![1024, 1792]⟩
abbrev S512x512 : Shape := ⟨2, ![512, 512]⟩
abbrev S256x128 : Shape := ⟨2, ![256, 128]⟩
abbrev S1x128x256 : Shape := ⟨3, ![1, 128, 256]⟩
abbrev S4096x128 : Shape := ⟨2, ![4096, 128]⟩
abbrev S16x128x256 : Shape := ⟨3, ![16, 128, 256]⟩
abbrev S1x32x1024 : Shape := ⟨3, ![1, 32, 1024]⟩
abbrev S1x32x4096 : Shape := ⟨3, ![1, 32, 4096]⟩
abbrev S1x128x1024 : Shape := ⟨3, ![1, 128, 1024]⟩
abbrev S1x32x1792 : Shape := ⟨3, ![1, 32, 1792]⟩
abbrev S32x1024 : Shape := ⟨2, ![32, 1024]⟩
abbrev S32x4096 : Shape := ⟨2, ![32, 4096]⟩
abbrev S128x1024 : Shape := ⟨2, ![128, 1024]⟩
abbrev S32x1792 : Shape := ⟨2, ![32, 1792]⟩
abbrev S512x256 : Shape := ⟨2, ![512, 256]⟩
abbrev S16x256 : Shape := ⟨2, ![16, 256]⟩
abbrev S64x256 : Shape := ⟨2, ![64, 256]⟩
abbrev S128x256 : Shape := ⟨2, ![128, 256]⟩
abbrev S256x256 : Shape := ⟨2, ![256, 256]⟩
abbrev S1x64x256 : Shape := ⟨3, ![1, 64, 256]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S80x256 : Shape := ⟨2, ![80, 256]⟩
abbrev S256x512 : Shape := ⟨2, ![256, 512]⟩

abbrev nBuf : Space → Nat
  | .hbm => 24
  | .vmem => 29
  | .smem => 0
  | _ => 0

abbrev bufTy : (tb : Table) → Fin (tcTables nBuf tb) → BufTy
  | .hbm, ⟨0, _⟩ => ⟨S17408x512, .f32⟩
  | .hbm, ⟨1, _⟩ => ⟨S17408x128, .f32⟩
  | .hbm, ⟨2, _⟩ => ⟨S17408x128, .f32⟩
  | .hbm, ⟨3, _⟩ => ⟨S4x1024x1024, .f32⟩
  | .hbm, ⟨4, _⟩ => ⟨S4x1024x4096, .f32⟩
  | .hbm, ⟨5, _⟩ => ⟨S4x4096x1024, .f32⟩
  | .hbm, ⟨6, _⟩ => ⟨S4x1024x1792, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S17408x512, .f32⟩
  | .hbm, ⟨12, _⟩ => ⟨S17408x512, .f32⟩
  | .hbm, ⟨13, _⟩ => ⟨S512x17408, .f32⟩
  | .hbm, ⟨14, _⟩ => ⟨S512x17408, .bf16⟩
  | .hbm, ⟨15, _⟩ => ⟨S68x256x128, .f32⟩
  | .hbm, ⟨16, _⟩ => ⟨S68x128x256, .f32⟩
  | .hbm, ⟨17, _⟩ => ⟨S68x128x256, .bf16⟩
  | .hbm, ⟨18, _⟩ => ⟨S17408x128, .bf16⟩
  | .hbm, ⟨19, _⟩ => ⟨S17408x512, .bf16⟩
  | .hbm, ⟨20, _⟩ => ⟨S1024x1024, .bf16⟩
  | .hbm, ⟨21, _⟩ => ⟨S1024x4096, .bf16⟩
  | .hbm, ⟨22, _⟩ => ⟨S4096x1024, .bf16⟩
  | .hbm, ⟨23, _⟩ => ⟨S1024x1792, .bf16⟩
  | .local _ .vmem, ⟨0, _⟩ => ⟨S512x512, .bf16⟩
  | .local _ .vmem, ⟨1, _⟩ => ⟨S512x512, .bf16⟩
  | .local _ .vmem, ⟨2, _⟩ => ⟨S256x128, .bf16⟩
  | .local _ .vmem, ⟨3, _⟩ => ⟨S256x128, .bf16⟩
  | .local _ .vmem, ⟨4, _⟩ => ⟨S1x128x256, .bf16⟩
  | .local _ .vmem, ⟨5, _⟩ => ⟨S1x128x256, .bf16⟩
  | .local _ .vmem, ⟨6, _⟩ => ⟨S4096x128, .bf16⟩
  | .local _ .vmem, ⟨7, _⟩ => ⟨S4096x128, .bf16⟩
  | .local _ .vmem, ⟨8, _⟩ => ⟨S16x128x256, .bf16⟩
  | .local _ .vmem, ⟨9, _⟩ => ⟨S16x128x256, .bf16⟩
  | .local _ .vmem, ⟨10, _⟩ => ⟨S1x32x1024, .f32⟩
  | .local _ .vmem, ⟨11, _⟩ => ⟨S1x32x1024, .f32⟩
  | .local _ .vmem, ⟨12, _⟩ => ⟨S1x32x4096, .f32⟩
  | .local _ .vmem, ⟨13, _⟩ => ⟨S1x32x4096, .f32⟩
  | .local _ .vmem, ⟨14, _⟩ => ⟨S1x128x1024, .f32⟩
  | .local _ .vmem, ⟨15, _⟩ => ⟨S1x128x1024, .f32⟩
  | .local _ .vmem, ⟨16, _⟩ => ⟨S1x32x1792, .f32⟩
  | .local _ .vmem, ⟨17, _⟩ => ⟨S1x32x1792, .f32⟩
  | .local _ .vmem, ⟨18, _⟩ => ⟨S512x512, .bf16⟩
  | .local _ .vmem, ⟨19, _⟩ => ⟨S512x512, .bf16⟩
  | .local _ .vmem, ⟨20, _⟩ => ⟨S32x1024, .bf16⟩
  | .local _ .vmem, ⟨21, _⟩ => ⟨S32x1024, .bf16⟩
  | .local _ .vmem, ⟨22, _⟩ => ⟨S32x4096, .bf16⟩
  | .local _ .vmem, ⟨23, _⟩ => ⟨S32x4096, .bf16⟩
  | .local _ .vmem, ⟨24, _⟩ => ⟨S128x1024, .bf16⟩
  | .local _ .vmem, ⟨25, _⟩ => ⟨S128x1024, .bf16⟩
  | .local _ .vmem, ⟨26, _⟩ => ⟨S32x1792, .bf16⟩
  | .local _ .vmem, ⟨27, _⟩ => ⟨S32x1792, .bf16⟩
  | .local _ .vmem, ⟨28, _⟩ => ⟨S512x256, .f32⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x1792 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S17408x512 : Shape := ⟨2, ![17408, 512]⟩
abbrev S17408x128 : Shape := ⟨2, ![17408, 128]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S4x1024x1792 : Shape := ⟨3, ![4, 1024, 1792]⟩
abbrev S16384x512 : Shape := ⟨2, ![16384, 512]⟩
abbrev S4x4096x2x4x64 : Shape := ⟨5, ![4, 4096, 2, 4, 64]⟩
abbrev S1024x128 : Shape := ⟨2, ![1024, 128]⟩
abbrev S4x256x2x64 : Shape := ⟨4, ![4, 256, 2, 64]⟩
abbrev S16384x128 : Shape := ⟨2, ![16384, 128]⟩
abbrev S4x4096x2x64 : Shape := ⟨4, ![4, 4096, 2, 64]⟩
abbrev S4x4352x2x64 : Shape := ⟨4, ![4, 4352, 2, 64]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩
abbrev S1024x512 : Shape := ⟨2, ![1024, 512]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1024x1792 : Shape := ⟨3, ![1, 1024, 1792]⟩
abbrev S1024x1792 : Shape := ⟨2, ![1024, 1792]⟩

abbrev nBuf : Space → Nat
  | .hbm => 57
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S17408x128, .f32⟩
  | .hbm, ⟨2, _⟩ => ⟨S17408x128, .f32⟩
  | .hbm, ⟨3, _⟩ => ⟨S4x1024x1024, .f32⟩
  | .hbm, ⟨4, _⟩ => ⟨S4x1024x4096, .f32⟩
  | .hbm, ⟨5, _⟩ => ⟨S4x4096x1024, .f32⟩
  | .hbm, ⟨6, _⟩ => ⟨S4x1024x1792, .f32⟩
  | .hbm, ⟨7, _⟩ => ⟨S16384x512, .f32⟩
  | .hbm, ⟨8, _⟩ => ⟨S4x4096x2x4x64, .f32⟩
  | .hbm, ⟨9, _⟩ => ⟨S1024x128, .f32⟩
  | .hbm, ⟨10, _⟩ => ⟨S4x256x2x64, .f32⟩
  | .hbm, ⟨11, _⟩ => ⟨S16384x128, .f32⟩
  | .hbm, ⟨12, _⟩ => ⟨S4x4096x2x64, .f32⟩
  | .hbm, ⟨13, _⟩ => ⟨S4x4352x2x64, .f32⟩
  | .hbm, ⟨14, _⟩ => ⟨S1024x128, .f32⟩
  | .hbm, ⟨15, _⟩ => ⟨S4x256x2x64, .f32⟩
  | .hbm, ⟨16, _⟩ => ⟨S16384x128, .f32⟩
  | .hbm, ⟨17, _⟩ => ⟨S4x4096x2x64, .f32⟩
  | .hbm, ⟨18, _⟩ => ⟨S4x4352x2x64, .f32⟩
  | .hbm, ⟨19, _⟩ => ⟨S4x2x4352x4096x4, .f32⟩
  | .hbm, ⟨20, _⟩ => ⟨S4x2x4x4096x4352, .f32⟩
  | .hbm, ⟨21, _⟩ => ⟨S_, .f32⟩
  | .hbm, ⟨22, _⟩ => ⟨S4x2x4x4096x4352, .f32⟩
  | .hbm, ⟨23, _⟩ => ⟨S4x2x4x4096x4352, .f32⟩
  | .hbm, ⟨24, _⟩ => ⟨S_, .f32⟩
  | .hbm, ⟨25, _⟩ => ⟨S4x2x4x4096, .f32⟩
  | .hbm, ⟨26, _⟩ => ⟨S_, .f32⟩
  | .hbm, ⟨27, _⟩ => ⟨S4x2x4x4096, .f32⟩
  | .hbm, ⟨28, _⟩ => ⟨S4x2x4x4096, .f32⟩
  | .hbm, ⟨29, _⟩ => ⟨S4x2x4x4096x1, .f32⟩
  | .hbm, ⟨30, _⟩ => ⟨S4x2x4x4096x4352, .f32⟩
  | .hbm, ⟨31, _⟩ => ⟨S4x2x4x4096x4352, .f32⟩
  | .hbm, ⟨32, _⟩ => ⟨S4x2x4x4096x4352, .f32⟩
  | .hbm, ⟨33, _⟩ => ⟨S_, .f32⟩
  | .hbm, ⟨34, _⟩ => ⟨S4x2x4x4096, .f32⟩
  | .hbm, ⟨35, _⟩ => ⟨S4x2x4x4096x1, .f32⟩
  | .hbm, ⟨36, _⟩ => ⟨S4x2x4x4096x4352, .f32⟩
  | .hbm, ⟨37, _⟩ => ⟨S4x2x4x4096x4352, .f32⟩
  | .hbm, ⟨38, _⟩ => ⟨S4x2x64x4x4096, .f32⟩
  | .hbm, ⟨39, _⟩ => ⟨S4x4096x2x4x64, .f32⟩
  | .hbm, ⟨40, _⟩ => ⟨S16384x512, .f32⟩
  | .hbm, ⟨41, _⟩ => ⟨S_, .f32⟩
  | .hbm, ⟨42, _⟩ => ⟨S1024x512, .f32⟩
  | .hbm, ⟨43, _⟩ => ⟨S17408x512, .f32⟩
  | .hbm, ⟨44, _⟩ => ⟨S17408x512, .bf16⟩
  | .hbm, ⟨45, _⟩ => ⟨S1x1024x1024, .f32⟩
  | .hbm, ⟨46, _⟩ => ⟨S1024x1024, .f32⟩
  | .hbm, ⟨47, _⟩ => ⟨S1024x1024, .bf16⟩
  | .hbm, ⟨48, _⟩ => ⟨S1x1024x4096, .f32⟩
  | .hbm, ⟨49, _⟩ => ⟨S1024x4096, .f32⟩
  | .hbm, ⟨50, _⟩ => ⟨S1024x4096, .bf16⟩
  | .hbm, ⟨51, _⟩ => ⟨S1x4096x1024, .f32⟩
  | .hbm, ⟨52, _⟩ => ⟨S4096x1024, .f32⟩
  | .hbm, ⟨53, _⟩ => ⟨S4096x1024, .bf16⟩
  | .hbm, ⟨54, _⟩ => ⟨S1x1024x1792, .f32⟩
  | .hbm, ⟨55, _⟩ => ⟨S1024x1792, .f32⟩
  | .hbm, ⟨56, _⟩ => ⟨S1024x1792, .bf16⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== FeedForward.lean ====
abbrev S17408x1024 : Shape := ⟨2, ![17408, 1024]⟩
abbrev S4x8x6x1024 : Shape := ⟨4, ![4, 8, 6, 1024]⟩
abbrev S4x1024 : Shape := ⟨2, ![4, 1024]⟩
abbrev S1024x4096 : Shape := ⟨2, ![1024, 4096]⟩
abbrev S4096x1024 : Shape := ⟨2, ![4096, 1024]⟩
abbrev S4x1x1024 : Shape := ⟨3, ![4, 1, 1024]⟩
abbrev S1024x1024 : Shape := ⟨2, ![1024, 1024]⟩
abbrev S1x1x6x1024 : Shape := ⟨4, ![1, 1, 6, 1024]⟩
abbrev S1x1x1024 : Shape := ⟨3, ![1, 1, 1024]⟩
abbrev S256x1024 : Shape := ⟨2, ![256, 1024]⟩
abbrev S1x1024 : Shape := ⟨2, ![1, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S17408x1024, .f32⟩
  | .hbm, ⟨1, _⟩ => ⟨S4x8x6x1024, .f32⟩
  | .hbm, ⟨2, _⟩ => ⟨S4x1024, .f32⟩
  | .hbm, ⟨3, _⟩ => ⟨S4x1024, .f32⟩
  | .hbm, ⟨4, _⟩ => ⟨S1024x4096, .bf16⟩
  | .hbm, ⟨5, _⟩ => ⟨S4096x1024, .bf16⟩
  | .hbm, ⟨6, _⟩ => ⟨S4x1x1024, .f32⟩
  | .hbm, ⟨7, _⟩ => ⟨S4x1x1024, .f32⟩
  | .hbm, ⟨8, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c0_i32_6 : BitVec 32 := 0#32
  let c0_i32_7 : BitVec 32 := 0#32
  let c0_i32_8 : BitVec 32 := 0#32
  ![c0_i32_5.toNat, v18.toNat, c0_i32_6.toNat, c0_i32_7.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FeedForwardReferenceIdeal.lean ====
abbrev S17408x1024 : Shape := ⟨2, ![17408, 1024]⟩
abbrev S4x8x6x1024 : Shape := ⟨4, ![4, 8, 6, 1024]⟩
abbrev S4x1024 : Shape := ⟨2, ![4, 1024]⟩
abbrev S1024x4096 : Shape := ⟨2, ![1024, 4096]⟩
abbrev S4096x1024 : Shape := ⟨2, ![4096, 1024]⟩
abbrev S1x4x1x1024 : Shape := ⟨4, ![1, 4, 1, 1024]⟩
abbrev S4x1x1024 : Shape := ⟨3, ![4, 1, 1024]⟩
abbrev S1x1x1x1024 : Shape := ⟨4, ![1, 1, 1, 1024]⟩
abbrev S1024 : Shape := ⟨1, ![1024]⟩
abbrev S16384x1024 : Shape := ⟨2, ![16384, 1024]⟩
abbrev S4x4096x1024 : Shape := ⟨3, ![4, 4096, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S1024x1024 : Shape := ⟨2, ![1024, 1024]⟩
abbrev S4x256x1024 : Shape := ⟨3, ![4, 256, 1024]⟩
abbrev S4x256 : Shape := ⟨2, ![4, 256]⟩
abbrev S4x256x1 : Shape := ⟨3, ![4, 256, 1]⟩
abbrev S4x256x4096 : Shape := ⟨3, ![4, 256, 4096]⟩

abbrev nBuf : Space → Nat
  | .hbm => 137
  | .vmem => 0
  | .smem => 0
  | _ => 0

abbrev hbmTy0_0 (i : Nat) : BufTy := match i % 128 with
  | 0 => ⟨S17408x1024, .f32⟩
  | 1 => ⟨S4x8x6x1024, .f32⟩
  | 2 => ⟨S4x1024, .f32⟩
  | 3 => ⟨S4x1024, .f32⟩
  | 4 => ⟨S1024x4096, .bf16⟩
  | 5 => ⟨S4096x1024, .bf16⟩
  | 6 => ⟨S1024x4096, .f32⟩
  | 7 => ⟨S4096x1024, .f32⟩
  | 8 => ⟨S1x4x1x1024, .f32⟩
  | 9 => ⟨S4x1024, .f32⟩
  | 10 => ⟨S4x1x1024, .f32⟩
  | 11 => ⟨S1x4x1x1024, .f32⟩
  | 12 => ⟨S4x1024, .f32⟩
  | 13 => ⟨S4x1x1024, .f32⟩
  | 14 => ⟨S1x4x1x1024, .f32⟩
  | 15 => ⟨S4x1024, .f32⟩
  | 16 => ⟨S4x1x1024, .f32⟩
  | 17 => ⟨S1x1x1x1024, .f32⟩
  | 18 => ⟨S1024, .f32⟩
  | 19 => ⟨S1x1x1x1024, .f32⟩
  | 20 => ⟨S1024, .f32⟩
  | 21 => ⟨S1x1x1x1024, .f32⟩
  | 22 => ⟨S1024, .f32⟩
  | 23 => ⟨S16384x1024, .f32⟩
  | 24 => ⟨S4x4096x1024, .f32⟩
  | 25 => ⟨S1x1024, .f32⟩
  | 26 => ⟨S1024, .f32⟩
  | 27 => ⟨S4x4096x1024, .f32⟩
  | 28 => ⟨S_, .f32⟩
  | 29 => ⟨S4x4096, .f32⟩
  | 30 => ⟨S4x4096x1, .f32⟩
  | 31 => ⟨S_, .f32⟩
  | 32 => ⟨S4x4096x1, .f32⟩
  | 33 => ⟨S4x4096x1, .f32⟩
  | 34 => ⟨S_, .f32⟩
  | 35 => ⟨S4x4096x1, .f32⟩
  | 36 => ⟨S4x4096x1, .f32⟩
  | 37 => ⟨S4x4096x1, .f32⟩
  | 38 => ⟨S4x4096x1024, .f32⟩
  | 39 => ⟨S4x4096x1024, .f32⟩
  | 40 => ⟨S1x1x1024, .f32⟩
  | 41 => ⟨S4x4096x1024, .f32⟩
  | 42 => ⟨S4x4096x1024, .f32⟩
  | 43 => ⟨S_, .f32⟩
  | 44 => ⟨S4x1x1024, .f32⟩
  | 45 => ⟨S4x1x1024, .f32⟩
  | 46 => ⟨S4x4096x1024, .f32⟩
  | 47 => ⟨S4x4096x1024, .f32⟩
  | 48 => ⟨S4x4096x1024, .f32⟩
  | 49 => ⟨S4x4096x1024, .f32⟩
  | 50 => ⟨S4x4096x4096, .f32⟩
  | 51 => ⟨S_, .f32⟩
  | 52 => ⟨S4x4096x4096, .f32⟩
  | 53 => ⟨S4x4096x4096, .f32⟩
  | 54 => ⟨S4x4096x4096, .f32⟩
  | 55 => ⟨S4x4096x1024, .f32⟩
  | 56 => ⟨S1x1024, .f32⟩
  | 57 => ⟨S1024, .f32⟩
  | 58 => ⟨S4x4096x1024, .f32⟩
  | 59 => ⟨S_, .f32⟩
  | 60 => ⟨S4x4096, .f32⟩
  | 61 => ⟨S4x4096x1, .f32⟩
  | 62 => ⟨S_, .f32⟩
  | 63 => ⟨S4x4096x1, .f32⟩
  | 64 => ⟨S4x4096x1, .f32⟩
  | 65 => ⟨S_, .f32⟩
  | 66 => ⟨S4x4096x1, .f32⟩
  | 67 => ⟨S4x4096x1, .f32⟩
  | 68 => ⟨S4x4096x1, .f32⟩
  | 69 => ⟨S4x4096x1024, .f32⟩
  | 70 => ⟨S4x4096x1024, .f32⟩
  | 71 => ⟨S1x1x1024, .f32⟩
  | 72 => ⟨S4x4096x1024, .f32⟩
  | 73 => ⟨S4x4096x1024, .f32⟩
  | 74 => ⟨S4x4096x1024, .f32⟩
  | 75 => ⟨S4x4096x1024, .f32⟩
  | 76 => ⟨S4x4096x1024, .f32⟩
  | 77 => ⟨S1024x1024, .f32⟩
  | 78 => ⟨S4x256x1024, .f32⟩
  | 79 => ⟨S1x1024, .f32⟩
  | 80 => ⟨S1024, .f32⟩
  | 81 => ⟨S4x256x1024, .f32⟩
  | 82 => ⟨S_, .f32⟩
  | 83 => ⟨S4x256, .f32⟩
  | 84 => ⟨S4x256x1, .f32⟩
  | 85 => ⟨S_, .f32⟩
  | 86 => ⟨S4x256x1, .f32⟩
  | 87 => ⟨S4x256x1, .f32⟩
  | 88 => ⟨S_, .f32⟩
  | 89 => ⟨S4x256x1, .f32⟩
  | 90 => ⟨S4x256x1, .f32⟩
  | 91 => ⟨S4x256x1, .f32⟩
  | 92 => ⟨S4x256x1024, .f32⟩
  | 93 => ⟨S4x256x1024, .f32⟩
  | 94 => ⟨S1x1x1024, .f32⟩
  | 95 => ⟨S4x256x1024, .f32⟩
  | 96 => ⟨S4x256x1024, .f32⟩
  | 97 => ⟨S_, .f32⟩
  | 98 => ⟨S1024, .f32⟩
  | 99 => ⟨S1024, .f32⟩
  | 100 => ⟨S1x1x1024, .f32⟩
  | 101 => ⟨S4x256x1024, .f32⟩
  | 102 => ⟨S4x256x1024, .f32⟩
  | 103 => ⟨S1x1x1024, .f32⟩
  | 104 => ⟨S4x256x1024, .f32⟩
  | 105 => ⟨S4x256x1024, .f32⟩
  | 106 => ⟨S4x256x4096, .f32⟩
  | 107 => ⟨S_, .f32⟩
  | 108 => ⟨S4x256x4096, .f32⟩
  | 109 => ⟨S4x256x4096, .f32⟩
  | 110 => ⟨S4x256x4096, .f32⟩
  | 111 => ⟨S4x256x1024, .f32⟩
  | 112 => ⟨S1x1024, .f32⟩
  | 113 => ⟨S1024, .f32⟩
  | 114 => ⟨S4x256x1024, .f32⟩
  | 115 => ⟨S_, .f32⟩
  | 116 => ⟨S4x256, .f32⟩
  | 117 => ⟨S4x256x1, .f32⟩
  | 118 => ⟨S_, .f32⟩
  | 119 => ⟨S4x256x1, .f32⟩
  | 120 => ⟨S4x256x1, .f32⟩
  | 121 => ⟨S_, .f32⟩
  | 122 => ⟨S4x256x1, .f32⟩
  | 123 => ⟨S4x256x1, .f32⟩
  | 124 => ⟨S4x256x1, .f32⟩
  | 125 => ⟨S4x256x1024, .f32⟩
  | 126 => ⟨S4x256x1024, .f32⟩
  | 127 => ⟨S1x1x1024, .f32⟩
  | _ => ⟨S17408x1024, .f32⟩

abbrev hbmTy0_1 (i : Nat) : BufTy := match i % 128 with
  | 0 => ⟨S4x256x1024, .f32⟩
  | 1 => ⟨S4x256x1024, .f32⟩
  | 2 => ⟨S1x1x1024, .f32⟩
  | 3 => ⟨S4x256x1024, .f32⟩
  | 4 => ⟨S4x256x1024, .f32⟩
  | 5 => ⟨S4x256x1024, .f32⟩
  | 6 => ⟨S16384x1024, .f32⟩
  | 7 => ⟨S1024x1024, .f32⟩
  | 8 => ⟨S17408x1024, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_cst : Ref sig .tc := ⟨.hbm, 51, rfl⟩
abbrev main_call0_v0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_9 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_call1_cst : Ref sig .tc := ⟨.hbm, 107, rfl⟩
abbrev main_call1_v0 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_10 : Ref sig .tc := ⟨.hbm, 115, rfl⟩
abbrev main_v94 : Ref sig .tc := ⟨.hbm, 116, rfl⟩
abbrev main_v95 : Ref sig .tc := ⟨.hbm, 117, rfl⟩
abbrev main_cst_11 : Ref sig .tc := ⟨.hbm, 118, rfl⟩
abbrev main_v96 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩

abbrev nD : Nat := 1
abbrev τ : Topo := Topo.v7x

variable {F : FTy → Type} [FloatOps F]
-- ==== OutProjection.lean ====
abbrev S17408x768 : Shape := ⟨2, ![17408, 768]⟩
abbrev S17408x256 : Shape := ⟨2, ![17408, 256]⟩
abbrev S17408x512 : Shape := ⟨2, ![17408, 512]⟩
abbrev S17408x1024 : Shape := ⟨2, ![17408, 1024]⟩
abbrev S4x8x6x1024 : Shape := ⟨4, ![4, 8, 6, 1024]⟩
abbrev S4x1024 : Shape := ⟨2, ![4, 1024]⟩
abbrev S4x3x256 : Shape := ⟨3, ![4, 3, 256]⟩
abbrev S1024x1024 : Shape := ⟨2, ![1024, 1024]⟩
abbrev S4x1x1024 : Shape := ⟨3, ![4, 1, 1024]⟩
abbrev S1024x768 : Shape := ⟨2, ![1024, 768]⟩
abbrev S16x768 : Shape := ⟨2, ![16, 768]⟩
abbrev S1024x256 : Shape := ⟨2, ![1024, 256]⟩
abbrev S1024x512 : Shape := ⟨2, ![1024, 512]⟩
abbrev S1x1x6x1024 : Shape := ⟨4, ![1, 1, 6, 1024]⟩
abbrev S1x1x1024 : Shape := ⟨3, ![1, 1, 1024]⟩
abbrev S1x3x256 : Shape := ⟨3, ![1, 3, 256]⟩
abbrev S1x768 : Shape := ⟨2, ![1, 768]⟩
abbrev S1x256 : Shape := ⟨2, ![1, 256]⟩
abbrev S256x1 : Shape := ⟨2, ![256, 1]⟩
abbrev S512x1024 : Shape := ⟨2, ![512, 1024]⟩
abbrev S256x1024 : Shape := ⟨2, ![256, 1024]⟩
abbrev S1x1x1x1024 : Shape := ⟨4, ![1, 1, 1, 1024]⟩
abbrev S1x1024 : Shape := ⟨2, ![1, 1024]⟩
abbrev S256x256 : Shape := ⟨2, ![256, 256]⟩
abbrev S1x1x256 : Shape := ⟨3, ![1, 1, 256]⟩
abbrev S256x512 : Shape := ⟨2, ![256, 512]⟩
abbrev S256 : Shape := ⟨1, ![256]⟩

abbrev nBuf : Space → Nat
  | .hbm => 10
  | .vmem => 19
  | .smem => 0
  | _ => 0

abbrev bufTy : (tb : Table) → Fin (tcTables nBuf tb) → BufTy
  | .hbm, ⟨0, _⟩ => ⟨S17408x768, .bf16⟩
  | .hbm, ⟨1, _⟩ => ⟨S17408x256, .f32⟩
  | .hbm, ⟨2, _⟩ => ⟨S17408x512, .bf16⟩
  | .hbm, ⟨3, _⟩ => ⟨S17408x1024, .f32⟩
  | .hbm, ⟨4, _⟩ => ⟨S4x8x6x1024, .f32⟩
  | .hbm, ⟨5, _⟩ => ⟨S4x1024, .f32⟩
  | .hbm, ⟨6, _⟩ => ⟨S4x3x256, .f32⟩
  | .hbm, ⟨7, _⟩ => ⟨S1024x1024, .bf16⟩
  | .hbm, ⟨8, _⟩ => ⟨S4x1x1024, .f32⟩
  | .hbm, ⟨9, _⟩ => ⟨S17408x1024, .f32⟩
  | .local _ .vmem, ⟨0, _⟩ => ⟨S1024x768, .bf16⟩
  | .local _ .vmem, ⟨1, _⟩ => ⟨S1024x768, .bf16⟩
  | .local _ .vmem, ⟨2, _⟩ => ⟨S16x768, .bf16⟩
  | .local _ .vmem, ⟨3, _⟩ => ⟨S16x768, .bf16⟩
  | .local _ .vmem, ⟨4, _⟩ => ⟨S16x768, .bf16⟩
  | .local _ .vmem, ⟨5, _⟩ => ⟨S16x768, .bf16⟩
  | .local _ .vmem, ⟨6, _⟩ => ⟨S1024x256, .f32⟩
  | .local _ .vmem, ⟨7, _⟩ => ⟨S1024x256, .f32⟩
  | .local _ .vmem, ⟨8, _⟩ => ⟨S1024x512, .bf16⟩
  | .local _ .vmem, ⟨9, _⟩ => ⟨S1024x512, .bf16⟩
  | .local _ .vmem, ⟨10, _⟩ => ⟨S1024x1024, .f32⟩
  | .local _ .vmem, ⟨11, _⟩ => ⟨S1024x1024, .f32⟩
  | .local _ .vmem, ⟨12, _⟩ => ⟨S1x1x6x1024, .f32⟩
  | .local _ .vmem, ⟨13, _⟩ => ⟨S1x1x6x1024, .f32⟩
  | .local _ .vmem, ⟨14, _⟩ => ⟨S1x1x1024, .f32⟩
  | .local _ .vmem, ⟨15, _⟩ => ⟨S1x3x256, .f32⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | _, _ => ⟨S17408x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1087_i32 : BitVec 32 := 1087#32
  let v2 : BitVec 32 := Scalar.minsi v1 c1087_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c1_i32_5 : BitVec 32 := 1#32
  let c0_i32_6 : BitVec 32 := 0#32
  let c0_i32_7 : BitVec 32 := 0#32
  let c0_i32_8 : BitVec 32 := 0#32
  ![c1_i32_5.toNat, v18.toNat, c0_i32_6.toNat, c0_i32_7.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjectionReferenceIdeal.lean ====
abbrev S17408x768 : Shape := ⟨2, ![17408, 768]⟩
abbrev S17408x256 : Shape := ⟨2, ![17408, 256]⟩
abbrev S17408x512 : Shape := ⟨2, ![17408, 512]⟩
abbrev S17408x1024 : Shape := ⟨2, ![17408, 1024]⟩
abbrev S4x8x6x1024 : Shape := ⟨4, ![4, 8, 6, 1024]⟩
abbrev S4x1024 : Shape := ⟨2, ![4, 1024]⟩
abbrev S4x3x256 : Shape := ⟨3, ![4, 3, 256]⟩
abbrev S1024x1024 : Shape := ⟨2, ![1024, 1024]⟩
abbrev S1x1x256 : Shape := ⟨3, ![1, 1, 256]⟩
abbrev S256 : Shape := ⟨1, ![256]⟩
abbrev S1x1024 : Shape := ⟨2, ![1, 1024]⟩
abbrev S1024 : Shape := ⟨1, ![1024]⟩
abbrev S16384x768 : Shape := ⟨2, ![16384, 768]⟩
abbrev S4x4096x768 : Shape := ⟨3, ![4, 4096, 768]⟩
abbrev S16384x256 : Shape := ⟨2, ![16384, 256]⟩
abbrev S4x4096x256 : Shape := ⟨3, ![4, 4096, 256]⟩
abbrev S16384x512 : Shape := ⟨2, ![16384, 512]⟩
abbrev S4x4096x512 : Shape := ⟨3, ![4, 4096, 512]⟩
abbrev S16384x1024 : Shape := ⟨2, ![16384, 1024]⟩
abbrev S4x4096x1024 : Shape := ⟨3, ![4, 4096, 1024]⟩
abbrev S1x4x1x1024 : Shape := ⟨4, ![1, 4, 1, 1024]⟩
abbrev S4x1x1024 : Shape := ⟨3, ![4, 1, 1024]⟩
abbrev S_ : Shape := ⟨0, ![]⟩
abbrev S4x4098x256 : Shape := ⟨3, ![4, 4098, 256]⟩
abbrev S4x4096 : Shape := ⟨2, ![4, 4096]⟩
abbrev S4x4096x1 : Shape := ⟨3, ![4, 4096, 1]⟩
abbrev S1x1x1024 : Shape := ⟨3, ![1, 1, 1024]⟩
abbrev S1024x768 : Shape := ⟨2, ![1024, 768]⟩
abbrev S4x256x768 : Shape := ⟨3, ![4, 256, 768]⟩
abbrev S1024x256 : Shape := ⟨2, ![1024, 256]⟩
abbrev S4x256x256 : Shape := ⟨3, ![4, 256, 256]⟩
abbrev S1024x512 : Shape := ⟨2, ![1024, 512]⟩
abbrev S4x256x512 : Shape := ⟨3, ![4, 256, 512]⟩
abbrev S4x256x1024 : Shape := ⟨3, ![4, 256, 1024]⟩
abbrev S1x1x1x1024 : Shape := ⟨4, ![1, 1, 1, 1024]⟩
abbrev S4x258x256 : Shape := ⟨3, ![4, 258, 256]⟩
abbrev S4x256 : Shape := ⟨2, ![4, 256]⟩
abbrev S4x256x1 : Shape := ⟨3, ![4, 256, 1]⟩

abbrev nBuf : Space → Nat
  | .hbm => 130
  | .vmem => 0
  | .smem => 0
  | _ => 0

abbrev hbmTy0_0 (i : Nat) : BufTy := match i % 128 with
  | 0 => ⟨S17408x768, .bf16⟩
  | 1 => ⟨S17408x256, .f32⟩
  | 2 => ⟨S17408x512, .bf16⟩
  | 3 => ⟨S17408x1024, .f32⟩
  | 4 => ⟨S4x8x6x1024, .f32⟩
  | 5 => ⟨S4x1024, .f32⟩
  | 6 => ⟨S4x3x256, .f32⟩
  | 7 => ⟨S1024x1024, .bf16⟩
  | 8 => ⟨S17408x768, .f32⟩
  | 9 => ⟨S17408x512, .f32⟩
  | 10 => ⟨S1024x1024, .f32⟩
  | 11 => ⟨S1x1x256, .f32⟩
  | 12 => ⟨S256, .f32⟩
  | 13 => ⟨S1x1x256, .f32⟩
  | 14 => ⟨S256, .f32⟩
  | 15 => ⟨S1x1x256, .f32⟩
  | 16 => ⟨S256, .f32⟩
  | 17 => ⟨S1x1024, .f32⟩
  | 18 => ⟨S1024, .f32⟩
  | 19 => ⟨S16384x768, .f32⟩
  | 20 => ⟨S4x4096x768, .f32⟩
  | 21 => ⟨S16384x256, .f32⟩
  | 22 => ⟨S4x4096x256, .f32⟩
  | 23 => ⟨S16384x512, .f32⟩
  | 24 => ⟨S4x4096x512, .f32⟩
  | 25 => ⟨S16384x1024, .f32⟩
  | 26 => ⟨S4x4096x1024, .f32⟩
  | 27 => ⟨S1x4x1x1024, .f32⟩
  | 28 => ⟨S4x1024, .f32⟩
  | 29 => ⟨S4x1x1024, .f32⟩
  | 30 => ⟨S4x4096x256, .f32⟩
  | 31 => ⟨S4x4096x256, .f32⟩
  | 32 => ⟨S4x4096x256, .f32⟩
  | 33 => ⟨S4x4096x256, .f32⟩
  | 34 => ⟨S_, .i32⟩
  | 35 => ⟨S_, .f32⟩
  | 36 => ⟨S4x4098x256, .f32⟩
  | 37 => ⟨S4x4096x256, .f32⟩
  | 38 => ⟨S1x1x256, .f32⟩
  | 39 => ⟨S4x4096x256, .f32⟩
  | 40 => ⟨S4x4096x256, .f32⟩
  | 41 => ⟨S4x4096x256, .f32⟩
  | 42 => ⟨S1x1x256, .f32⟩
  | 43 => ⟨S4x4096x256, .f32⟩
  | 44 => ⟨S4x4096x256, .f32⟩
  | 45 => ⟨S4x4096x256, .f32⟩
  | 46 => ⟨S4x4096x256, .f32⟩
  | 47 => ⟨S1x1x256, .f32⟩
  | 48 => ⟨S4x4096x256, .f32⟩
  | 49 => ⟨S4x4096x256, .f32⟩
  | 50 => ⟨S4x4096x256, .f32⟩
  | 51 => ⟨S4x4096x256, .f32⟩
  | 52 => ⟨S4x4096x1024, .f32⟩
  | 53 => ⟨S4x4096x1024, .f32⟩
  | 54 => ⟨S4x4096x1024, .f32⟩
  | 55 => ⟨S_, .f32⟩
  | 56 => ⟨S4x4096, .f32⟩
  | 57 => ⟨S4x4096x1, .f32⟩
  | 58 => ⟨S_, .f32⟩
  | 59 => ⟨S4x4096x1, .f32⟩
  | 60 => ⟨S4x4096x1, .f32⟩
  | 61 => ⟨S_, .f32⟩
  | 62 => ⟨S4x4096x1, .f32⟩
  | 63 => ⟨S4x4096x1, .f32⟩
  | 64 => ⟨S4x4096x1, .f32⟩
  | 65 => ⟨S4x4096x1024, .f32⟩
  | 66 => ⟨S4x4096x1024, .f32⟩
  | 67 => ⟨S1x1x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S4x4096x1024, .f32⟩
  | 73 => ⟨S1024x768, .f32⟩
  | 74 => ⟨S4x256x768, .f32⟩
  | 75 => ⟨S1024x256, .f32⟩
  | 76 => ⟨S4x256x256, .f32⟩
  | 77 => ⟨S1024x512, .f32⟩
  | 78 => ⟨S4x256x512, .f32⟩
  | 79 => ⟨S1024x1024, .f32⟩
  | 80 => ⟨S4x256x1024, .f32⟩
  | 81 => ⟨S1x1x1x1024, .f32⟩
  | 82 => ⟨S1024, .f32⟩
  | 83 => ⟨S4x256x256, .f32⟩
  | 84 => ⟨S4x256x256, .f32⟩
  | 85 => ⟨S4x256x256, .f32⟩
  | 86 => ⟨S4x256x256, .f32⟩
  | 87 => ⟨S_, .i32⟩
  | 88 => ⟨S_, .f32⟩
  | 89 => ⟨S4x258x256, .f32⟩
  | 90 => ⟨S4x256x256, .f32⟩
  | 91 => ⟨S1x1x256, .f32⟩
  | 92 => ⟨S4x256x256, .f32⟩
  | 93 => ⟨S4x256x256, .f32⟩
  | 94 => ⟨S4x256x256, .f32⟩
  | 95 => ⟨S1x1x256, .f32⟩
  | 96 => ⟨S4x256x256, .f32⟩
  | 97 => ⟨S4x256x256, .f32⟩
  | 98 => ⟨S4x256x256, .f32⟩
  | 99 => ⟨S4x256x256, .f32⟩
  | 100 => ⟨S1x1x256, .f32⟩
  | 101 => ⟨S4x256x256, .f32⟩
  | 102 => ⟨S4x256x256, .f32⟩
  | 103 => ⟨S4x256x256, .f32⟩
  | 104 => ⟨S4x256x256, .f32⟩
  | 105 => ⟨S4x256x1024, .f32⟩
  | 106 => ⟨S4x256x1024, .f32⟩
  | 107 => ⟨S4x256x1024, .f32⟩
  | 108 => ⟨S_, .f32⟩
  | 109 => ⟨S4x256, .f32⟩
  | 110 => ⟨S4x256x1, .f32⟩
  | 111 => ⟨S_, .f32⟩
  | 112 => ⟨S4x256x1, .f32⟩
  | 113 => ⟨S4x256x1, .f32⟩
  | 114 => ⟨S_, .f32⟩
  | 115 => ⟨S4x256x1, .f32⟩
  | 116 => ⟨S4x256x1, .f32⟩
  | 117 => ⟨S4x256x1, .f32⟩
  | 118 => ⟨S4x256x1024, .f32⟩
  | 119 => ⟨S4x256x1024, .f32⟩
  | 120 => ⟨S1x1x1024, .f32⟩
  | 121 => ⟨S4x256x1024, .f32⟩
  | 122 => ⟨S4x256x1024, .f32⟩
  | 123 => ⟨S1x1x1024, .f32⟩
  | 124 => ⟨S4x256x1024, .f32⟩
  | 125 => ⟨S4x256x1024, .f32⟩
  | 126 => ⟨S4x256x1024, .f32⟩
  | 127 => ⟨S16384x1024, .f32⟩
  | _ => ⟨S17408x768, .bf16⟩

abbrev hbmTy0_1 (i : Nat) : BufTy := match i % 128 with
  | 0 => ⟨S1024x1024, .f32⟩
  | 1 => ⟨S17408x1024, .f32⟩
  | _ => ⟨S17408x768, .bf16⟩

abbrev hbmTy (i : Nat) : BufTy := match i / 128 with
  | 0 => hbmTy0_0 i
  | 1 => hbmTy0_1 i
  | _ => ⟨S17408x768, .bf16⟩

abbrev bufTy : (tb : Table) → Fin (tcTables nBuf tb) → BufTy
  | .hbm, ⟨i, _⟩ => hbmTy i
  | _, _ => ⟨S17408x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst : Ref sig .tc := ⟨.hbm, 55, rfl⟩
abbrev main_v45 : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩
abbrev main_cst_1 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_c_2 : Ref sig .tc := ⟨.hbm, 87, rfl⟩
abbrev main_call1_v0 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_3 : Ref sig .tc := ⟨.hbm, 108, rfl⟩
abbrev main_v93 : Ref sig .tc := ⟨.hbm, 109, rfl⟩
abbrev main_v94 : Ref sig .tc := ⟨.hbm, 110, rfl⟩
abbrev main_cst_4 : Ref sig .tc := ⟨.hbm, 111, rfl⟩
abbrev main_v95 : Ref sig .tc := ⟨.hbm, 112, rfl⟩
abbrev main_v96 : Ref sig .tc := ⟨.hbm, 113, rfl⟩
abbrev main_cst_5 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩

abbrev nD : Nat := 1
abbrev τ : Topo := Topo.v7x

variable {F : FTy → Type} [FloatOps F]
-- ==== Context.lean ====
abbrev S17408x512 : Shape := ⟨2, ![17408, 512]⟩
abbrev S17408x128 : Shape := ⟨2, ![17408, 128]⟩
abbrev S_ : Shape := ⟨0, ![]⟩
abbrev S512x17408 : Shape := ⟨2, ![512, 17408]⟩
abbrev S68x256x128 : Shape := ⟨3, ![68, 256, 128]⟩
abbrev S68x128x256 : Shape := ⟨3, ![68, 128, 256]⟩
abbrev S512x256 : Shape := ⟨2, ![512, 256]⟩
abbrev S256x128 : Shape := ⟨2, ![256, 128]⟩
abbrev S1x128x256 : Shape := ⟨3, ![1, 128, 256]⟩
abbrev S256x512 : Shape := ⟨2, ![256, 512]⟩
abbrev S16x256 : Shape := ⟨2, ![16, 256]⟩
abbrev S64x256 : Shape := ⟨2, ![64, 256]⟩
abbrev S128x256 : Shape := ⟨2, ![128, 256]⟩
abbrev S256x256 : Shape := ⟨2, ![256, 256]⟩
abbrev S1x64x256 : Shape := ⟨3, ![1, 64, 256]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S80x256 : Shape := ⟨2, ![80, 256]⟩

abbrev nBuf : Space → Nat
  | .hbm => 17
  | .vmem => 9
  | .smem => 0
  | _ => 0

abbrev bufTy : (tb : Table) → Fin (tcTables nBuf tb) → BufTy
  | .hbm, ⟨0, _⟩ => ⟨S17408x512, .f32⟩
  | .hbm, ⟨1, _⟩ => ⟨S17408x128, .f32⟩
  | .hbm, ⟨2, _⟩ => ⟨S17408x128, .f32⟩
  | .hbm, ⟨3, _⟩ => ⟨S17408x512, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S17408x512, .f32⟩
  | .hbm, ⟨9, _⟩ => ⟨S17408x512, .f32⟩
  | .hbm, ⟨10, _⟩ => ⟨S512x17408, .f32⟩
  | .hbm, ⟨11, _⟩ => ⟨S512x17408, .bf16⟩
  | .hbm, ⟨12, _⟩ => ⟨S68x256x128, .f32⟩
  | .hbm, ⟨13, _⟩ => ⟨S68x128x256, .f32⟩
  | .hbm, ⟨14, _⟩ => ⟨S68x128x256, .bf16⟩
  | .hbm, ⟨15, _⟩ => ⟨S17408x128, .bf16⟩
  | .hbm, ⟨16, _⟩ => ⟨S17408x512, .bf16⟩
  | .local _ .vmem, ⟨0, _⟩ => ⟨S512x256, .bf16⟩
  | .local _ .vmem, ⟨1, _⟩ => ⟨S512x256, .bf16⟩
  | .local _ .vmem, ⟨2, _⟩ => ⟨S256x128, .bf16⟩
  | .local _ .vmem, ⟨3, _⟩ => ⟨S256x128, .bf16⟩
  | .local _ .vmem, ⟨4, _⟩ => ⟨S1x128x256, .bf16⟩
  | .local _ .vmem, ⟨5, _⟩ => ⟨S1x128x256, .bf16⟩
  | .local _ .vmem, ⟨6, _⟩ => ⟨S256x512, .bf16⟩
  | .local _ .vmem, ⟨7, _⟩ => ⟨S256x512, .bf16⟩
  | .local _ .vmem, ⟨8, _⟩ => ⟨S512x256, .f32⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ContextReferenceIdeal.lean ====
abbrev S17408x512 : Shape := ⟨2, ![17408, 512]⟩
abbrev S17408x128 : Shape := ⟨2, ![17408, 128]⟩
abbrev S1024x512 : Shape := ⟨2, ![1024, 512]⟩
abbrev S4x256x2x4x64 : Shape := ⟨5, ![4, 256, 2, 4, 64]⟩
abbrev S1024x128 : Shape := ⟨2, ![1024, 128]⟩
abbrev S4x256x2x64 : Shape := ⟨4, ![4, 256, 2, 64]⟩
abbrev S4x2x256x256x4 : Shape := ⟨5, ![4, 2, 256, 256, 4]⟩
abbrev S4x2x4x256x256 : Shape := ⟨5, ![4, 2, 4, 256, 256]⟩
abbrev S_ : Shape := ⟨0, ![]⟩
abbrev S4x2x4x256 : Shape := ⟨4, ![4, 2, 4, 256]⟩
abbrev S4x2x4x256x1 : Shape := ⟨5, ![4, 2, 4, 256, 1]⟩
abbrev S4x2x64x4x256 : Shape := ⟨5, ![4, 2, 64, 4, 256]⟩
abbrev S16384x512 : Shape := ⟨2, ![16384, 512]⟩

abbrev nBuf : Space → Nat
  | .hbm => 35
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S17408x128, .f32⟩
  | .hbm, ⟨2, _⟩ => ⟨S17408x128, .f32⟩
  | .hbm, ⟨3, _⟩ => ⟨S17408x512, .bf16⟩
  | .hbm, ⟨4, _⟩ => ⟨S1024x512, .f32⟩
  | .hbm, ⟨5, _⟩ => ⟨S4x256x2x4x64, .f32⟩
  | .hbm, ⟨6, _⟩ => ⟨S1024x128, .f32⟩
  | .hbm, ⟨7, _⟩ => ⟨S4x256x2x64, .f32⟩
  | .hbm, ⟨8, _⟩ => ⟨S1024x128, .f32⟩
  | .hbm, ⟨9, _⟩ => ⟨S4x256x2x64, .f32⟩
  | .hbm, ⟨10, _⟩ => ⟨S4x2x256x256x4, .f32⟩
  | .hbm, ⟨11, _⟩ => ⟨S4x2x4x256x256, .f32⟩
  | .hbm, ⟨12, _⟩ => ⟨S_, .f32⟩
  | .hbm, ⟨13, _⟩ => ⟨S4x2x4x256x256, .f32⟩
  | .hbm, ⟨14, _⟩ => ⟨S4x2x4x256x256, .f32⟩
  | .hbm, ⟨15, _⟩ => ⟨S_, .f32⟩
  | .hbm, ⟨16, _⟩ => ⟨S4x2x4x256, .f32⟩
  | .hbm, ⟨17, _⟩ => ⟨S_, .f32⟩
  | .hbm, ⟨18, _⟩ => ⟨S4x2x4x256, .f32⟩
  | .hbm, ⟨19, _⟩ => ⟨S4x2x4x256, .f32⟩
  | .hbm, ⟨20, _⟩ => ⟨S4x2x4x256x1, .f32⟩
  | .hbm, ⟨21, _⟩ => ⟨S4x2x4x256x256, .f32⟩
  | .hbm, ⟨22, _⟩ => ⟨S4x2x4x256x256, .f32⟩
  | .hbm, ⟨23, _⟩ => ⟨S4x2x4x256x256, .f32⟩
  | .hbm, ⟨24, _⟩ => ⟨S_, .f32⟩
  | .hbm, ⟨25, _⟩ => ⟨S4x2x4x256, .f32⟩
  | .hbm, ⟨26, _⟩ => ⟨S4x2x4x256x1, .f32⟩
  | .hbm, ⟨27, _⟩ => ⟨S4x2x4x256x256, .f32⟩
  | .hbm, ⟨28, _⟩ => ⟨S4x2x4x256x256, .f32⟩
  | .hbm, ⟨29, _⟩ => ⟨S4x2x64x4x256, .f32⟩
  | .hbm, ⟨30, _⟩ => ⟨S4x256x2x4x64, .f32⟩
  | .hbm, ⟨31, _⟩ => ⟨S1024x512, .f32⟩
  | .hbm, ⟨32, _⟩ => ⟨S16384x512, .bf16⟩
  | .hbm, ⟨33, _⟩ => ⟨S1024x512, .bf16⟩
  | .hbm, ⟨34, _⟩ => ⟨S17408x512, .bf16⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Modulation.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S16x1024 : Shape := ⟨2, ![16, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S4x1x6144, .f32⟩
  | .hbm, ⟨9, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S4x4x6144 : Shape := ⟨3, ![4, 4, 6144]⟩
abbrev S4x1x6144 : Shape := ⟨3, ![4, 1, 6144]⟩
abbrev S4x3x6144 : Shape := ⟨3, ![4, 3, 6144]⟩
abbrev S4x8x6144 : Shape := ⟨3, ![4, 8, 6144]⟩

abbrev nBuf : Space → Nat
  | .hbm => 33
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x4x6144, .f32⟩
  | .hbm, ⟨14, _⟩ => ⟨S4x4x6144, .f32⟩
  | .hbm, ⟨15, _⟩ => ⟨S4x1x6144, .f32⟩
  | .hbm, ⟨16, _⟩ => ⟨S4x4x6144, .f32⟩
  | .hbm, ⟨17, _⟩ => ⟨S4x4x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4x6144, .f32⟩
  | .hbm, ⟨28, _⟩ => ⟨S4x6144, .f32⟩
  | .hbm, ⟨29, _⟩ => ⟨S4x1x6144, .f32⟩
  | .hbm, ⟨30, _⟩ => ⟨S_, .f32⟩
  | .hbm, ⟨31, _⟩ => ⟨S4x3x6144, .f32⟩
  | .hbm, ⟨32, _⟩ => ⟨S4x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩

abbrev nD : Nat := 1
abbrev τ : Topo := Topo.v7x

variable {F : FTy → Type} [FloatOps F]
-- ==== Fourier.lean ====
abbrev S19584x256 : Shape := ⟨2, ![19584, 256]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩
abbrev S128x128 : Shape := ⟨2, ![128, 128]⟩
abbrev S8 : Shape := ⟨1, ![8]⟩
abbrev S8x1x1x1 : Shape := ⟨4, ![8, 1, 1, 1]⟩
abbrev S1x64x1x1 : Shape := ⟨4, ![1, 64, 1, 1]⟩
abbrev S1x1x8x1 : Shape := ⟨4, ![1, 1, 8, 1]⟩
abbrev S1x1x1x64 : Shape := ⟨4, ![1, 1, 1, 64]⟩
abbrev S8x1x8x1 : Shape := ⟨4, ![8, 1, 8, 1]⟩
abbrev S8x64x8x1 : Shape := ⟨4, ![8, 64, 8, 1]⟩
abbrev S8x64x8x64 : Shape := ⟨4, ![8, 64, 8, 64]⟩
abbrev S8x1 : Shape := ⟨2, ![8, 1]⟩
abbrev S1x8 : Shape := ⟨2, ![1, 8]⟩
abbrev S8x8 : Shape := ⟨2, ![8, 8]⟩
abbrev S1x1x8x8x1 : Shape := ⟨5, ![1, 1, 8, 8, 1]⟩
abbrev S8x64x8x1x64 : Shape := ⟨5, ![8, 64, 8, 1, 64]⟩
abbrev S8x64x8x8x64 : Shape := ⟨5, ![8, 64, 8, 8, 64]⟩
abbrev S8x512x512 : Shape := ⟨3, ![8, 512, 512]⟩
abbrev S272x8x8x256 : Shape := ⟨4, ![272, 8, 8, 256]⟩
abbrev S4608x128 : Shape := ⟨2, ![4608, 128]⟩
abbrev S64x8x8x256 : Shape := ⟨4, ![64, 8, 8, 256]⟩
abbrev S64x256 : Shape := ⟨2, ![64, 256]⟩
abbrev S128x256 : Shape := ⟨2, ![128, 256]⟩
abbrev S1x512x512 : Shape := ⟨3, ![1, 512, 512]⟩
abbrev S512x512 : Shape := ⟨2, ![512, 512]⟩
abbrev S512x256 : Shape := ⟨2, ![512, 256]⟩
abbrev S64x8x256 : Shape := ⟨3, ![64, 8, 256]⟩
abbrev S64x1x8x256 : Shape := ⟨4, ![64, 1, 8, 256]⟩

abbrev nBuf : Space → Nat
  | .hbm => 91
  | .vmem => 17
  | .smem => 0
  | _ => 0

abbrev bufTy : (tb : Table) → Fin (tcTables nBuf tb) → BufTy
  | .hbm, ⟨0, _⟩ => ⟨S19584x256, .f32⟩
  | .hbm, ⟨1, _⟩ => ⟨S19584x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S64, .i32⟩
  | .hbm, ⟨8, _⟩ => ⟨S64x1, .i32⟩
  | .hbm, ⟨9, _⟩ => ⟨S1x64, .i32⟩
  | .hbm, ⟨10, _⟩ => ⟨S64x64, .i32⟩
  | .hbm, ⟨11, _⟩ => ⟨S64x64, .i32⟩
  | .hbm, ⟨12, _⟩ => ⟨S64x64, .i32⟩
  | .hbm, ⟨13, _⟩ => ⟨S64x64, .f32⟩
  | .hbm, ⟨14, _⟩ => ⟨S_, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x128, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x128, .f32⟩
  | .hbm, ⟨27, _⟩ => ⟨S128x128, .f32⟩
  | .hbm, ⟨28, _⟩ => ⟨S8, .i32⟩
  | .hbm, ⟨29, _⟩ => ⟨S8x1x1x1, .i32⟩
  | .hbm, ⟨30, _⟩ => ⟨S64, .i32⟩
  | .hbm, ⟨31, _⟩ => ⟨S1x64x1x1, .i32⟩
  | .hbm, ⟨32, _⟩ => ⟨S8, .i32⟩
  | .hbm, ⟨33, _⟩ => ⟨S1x1x8x1, .i32⟩
  | .hbm, ⟨34, _⟩ => ⟨S64, .i32⟩
  | .hbm, ⟨35, _⟩ => ⟨S1x1x1x64, .i32⟩
  | .hbm, ⟨36, _⟩ => ⟨S_, .i32⟩
  | .hbm, ⟨37, _⟩ => ⟨S8x1x1x1, .i32⟩
  | .hbm, ⟨38, _⟩ => ⟨S8x1x1x1, .i32⟩
  | .hbm, ⟨39, _⟩ => ⟨S8x1x8x1, .i32⟩
  | .hbm, ⟨40, _⟩ => ⟨S8x1x8x1, .i32⟩
  | .hbm, ⟨41, _⟩ => ⟨S8x1x8x1, .i32⟩
  | .hbm, ⟨42, _⟩ => ⟨S_, .i32⟩
  | .hbm, ⟨43, _⟩ => ⟨S1x64x1x1, .i32⟩
  | .hbm, ⟨44, _⟩ => ⟨S1x64x1x1, .i32⟩
  | .hbm, ⟨45, _⟩ => ⟨S8x64x8x1, .i32⟩
  | .hbm, ⟨46, _⟩ => ⟨S8x64x8x1, .i32⟩
  | .hbm, ⟨47, _⟩ => ⟨S8x64x8x1, .i32⟩
  | .hbm, ⟨48, _⟩ => ⟨S8x64x8x64, .i32⟩
  | .hbm, ⟨49, _⟩ => ⟨S8x64x8x64, .i32⟩
  | .hbm, ⟨50, _⟩ => ⟨S8x64x8x64, .i32⟩
  | .hbm, ⟨51, _⟩ => ⟨S_, .i32⟩
  | .hbm, ⟨52, _⟩ => ⟨S8x64x8x64, .i32⟩
  | .hbm, ⟨53, _⟩ => ⟨S8x64x8x64, .i32⟩
  | .hbm, ⟨54, _⟩ => ⟨S8x64x8x64, .f32⟩
  | .hbm, ⟨55, _⟩ => ⟨S_, .f32⟩
  | .hbm, ⟨56, _⟩ => ⟨S8x64x8x64, .f32⟩
  | .hbm, ⟨57, _⟩ => ⟨S8x64x8x64, .f32⟩
  | .hbm, ⟨58, _⟩ => ⟨S_, .f32⟩
  | .hbm, ⟨59, _⟩ => ⟨S8x64x8x64, .f32⟩
  | .hbm, ⟨60, _⟩ => ⟨S8x64x8x64, .f32⟩
  | .hbm, ⟨61, _⟩ => ⟨S8, .i32⟩
  | .hbm, ⟨62, _⟩ => ⟨S8x1, .i32⟩
  | .hbm, ⟨63, _⟩ => ⟨S1x8, .i32⟩
  | .hbm, ⟨64, _⟩ => ⟨S8x8, .i32⟩
  | .hbm, ⟨65, _⟩ => ⟨S8x8, .i32⟩
  | .hbm, ⟨66, _⟩ => ⟨S8x8, .i1⟩
  | .hbm, ⟨67, _⟩ => ⟨S8x8, .f32⟩
  | .hbm, ⟨68, _⟩ => ⟨S1x1x8x8x1, .f32⟩
  | .hbm, ⟨69, _⟩ => ⟨S8x64x8x64, .f32⟩
  | .hbm, ⟨70, _⟩ => ⟨S8x64x8x1x64, .f32⟩
  | .hbm, ⟨71, _⟩ => ⟨S8x64x8x8x64, .f32⟩
  | .hbm, ⟨72, _⟩ => ⟨S8x64x8x8x64, .f32⟩
  | .hbm, ⟨73, _⟩ => ⟨S8x64x8x8x64, .f32⟩
  | .hbm, ⟨74, _⟩ => ⟨S_, .f32⟩
  | .hbm, ⟨75, _⟩ => ⟨S8x64x8x8x64, .f32⟩
  | .hbm, ⟨76, _⟩ => ⟨S8x64x8x8x64, .f32⟩
  | .hbm, ⟨77, _⟩ => ⟨S8x512x512, .f32⟩
  | .hbm, ⟨78, _⟩ => ⟨S8x64x8x64, .f32⟩
  | .hbm, ⟨79, _⟩ => ⟨S8x64x8x1x64, .f32⟩
  | .hbm, ⟨80, _⟩ => ⟨S8x64x8x8x64, .f32⟩
  | .hbm, ⟨81, _⟩ => ⟨S8x64x8x8x64, .f32⟩
  | .hbm, ⟨82, _⟩ => ⟨S8x64x8x8x64, .f32⟩
  | .hbm, ⟨83, _⟩ => ⟨S_, .f32⟩
  | .hbm, ⟨84, _⟩ => ⟨S8x64x8x8x64, .f32⟩
  | .hbm, ⟨85, _⟩ => ⟨S8x64x8x8x64, .f32⟩
  | .hbm, ⟨86, _⟩ => ⟨S8x512x512, .f32⟩
  | .hbm, ⟨87, _⟩ => ⟨S128x128, .bf16⟩
  | .hbm, ⟨88, _⟩ => ⟨S8x512x512, .bf16⟩
  | .hbm, ⟨89, _⟩ => ⟨S8x512x512, .bf16⟩
  | .hbm, ⟨90, _⟩ => ⟨S272x8x8x256, .f32⟩
  | .local _ .vmem, ⟨0, _⟩ => ⟨S4608x128, .f32⟩
  | .local _ .vmem, ⟨1, _⟩ => ⟨S4608x128, .f32⟩
  | .local _ .vmem, ⟨2, _⟩ => ⟨S4608x128, .f32⟩
  | .local _ .vmem, ⟨3, _⟩ => ⟨S4608x128, .f32⟩
  | .local _ .vmem, ⟨4, _⟩ => ⟨S4608x128, .f32⟩
  | .local _ .vmem, ⟨5, _⟩ => ⟨S4608x128, .f32⟩
  | .local _ .vmem, ⟨6, _⟩ => ⟨S4608x128, .f32⟩
  | .local _ .vmem, ⟨7, _⟩ => ⟨S4608x128, .f32⟩
  | .local _ .vmem, ⟨8, _⟩ => ⟨S128x128, .bf16⟩
  | .local _ .vmem, ⟨9, _⟩ => ⟨S8x512x512, .bf16⟩
  | .local _ .vmem, ⟨10, _⟩ => ⟨S8x512x512, .bf16⟩
  | .local _ .vmem, ⟨11, _⟩ => ⟨S64x8x8x256, .f32⟩
  | .local _ .vmem, ⟨12, _⟩ => ⟨S64x8x8x256, .f32⟩
  | .local _ .vmem, ⟨13, _⟩ => ⟨S4608x128, .f32⟩
  | .local _ .vmem, ⟨14, _⟩ => ⟨S4608x128, .f32⟩
  | .local _ .vmem, ⟨15, _⟩ => ⟨S4608x128, .f32⟩
  | .local _ .vmem, ⟨16, _⟩ => ⟨S4608x128, .f32⟩
  | _, _ => ⟨S19584x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_6 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_7 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4608x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4608x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4608x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4608x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x8x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FourierReferenceIdeal.lean ====
abbrev S19584x256 : Shape := ⟨2, ![19584, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S272x72x256 : Shape := ⟨3, ![272, 72, 256]⟩
abbrev S256x64x256 : Shape := ⟨3, ![256, 64, 256]⟩
abbrev S4x4096x256 : Shape := ⟨3, ![4, 4096, 256]⟩
abbrev S4x256x4096 : Shape := ⟨3, ![4, 256, 4096]⟩
abbrev S256x8x8x256 : Shape := ⟨4, ![256, 8, 8, 256]⟩
abbrev S16x8x8x256 : Shape := ⟨4, ![16, 8, 8, 256]⟩
abbrev S272x8x8x256 : Shape := ⟨4, ![272, 8, 8, 256]⟩

abbrev nBuf : Space → Nat
  | .hbm => 42
  | .vmem => 0
  | .smem => 0
  | _ => 0

abbrev bufTy : (tb : Table) → Fin (tcTables nBuf tb) → BufTy
  | .hbm, ⟨0, _⟩ => ⟨S19584x256, .f32⟩
  | .hbm, ⟨1, _⟩ => ⟨S19584x256, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x1, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S272x72x256, .f32⟩
  | .hbm, ⟨24, _⟩ => ⟨S256x64x256, .f32⟩
  | .hbm, ⟨25, _⟩ => ⟨S4x4096x256, .f32⟩
  | .hbm, ⟨26, _⟩ => ⟨S4x256x4096, .f32⟩
  | .hbm, ⟨27, _⟩ => ⟨S4x4096x256, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S272x72x256, .f32⟩
  | .hbm, ⟨33, _⟩ => ⟨S256x64x256, .f32⟩
  | .hbm, ⟨34, _⟩ => ⟨S4x4096x256, .f32⟩
  | .hbm, ⟨35, _⟩ => ⟨S4x256x4096, .f32⟩
  | .hbm, ⟨36, _⟩ => ⟨S4x4096x256, .f32⟩
  | .hbm, ⟨37, _⟩ => ⟨S4x4096x256, .f32⟩
  | .hbm, ⟨38, _⟩ => ⟨S256x8x8x256, .f32⟩
  | .hbm, ⟨39, _⟩ => ⟨S_, .f32⟩
  | .hbm, ⟨40, _⟩ => ⟨S16x8x8x256, .f32⟩
  | .hbm, ⟨41, _⟩ => ⟨S272x8x8x256, .f32⟩
  | _, _ => ⟨S19584x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== FourierContext.lean ====
abbrev S19584x256 : Shape := ⟨2, ![19584, 256]⟩
abbrev S17408x256 : Shape := ⟨2, ![17408, 256]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S288x256 : Shape := ⟨2, ![288, 256]⟩
abbrev S64x256 : Shape := ⟨2, ![64, 256]⟩

abbrev nBuf : Space → Nat
  | .hbm => 35
  | .vmem => 8
  | .smem => 0
  | _ => 0

abbrev bufTy : (tb : Table) → Fin (tcTables nBuf tb) → BufTy
  | .hbm, ⟨0, _⟩ => ⟨S19584x256, .f32⟩
  | .hbm, ⟨1, _⟩ => ⟨S19584x256, .f32⟩
  | .hbm, ⟨2, _⟩ => ⟨S17408x256, .f32⟩
  | .hbm, ⟨3, _⟩ => ⟨S256, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x1, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .bf16⟩
  | .hbm, ⟨33, _⟩ => ⟨S256x256, .bf16⟩
  | .hbm, ⟨34, _⟩ => ⟨S17408x256, .f32⟩
  | .local _ .vmem, ⟨0, _⟩ => ⟨S288x256, .f32⟩
  | .local _ .vmem, ⟨1, _⟩ => ⟨S288x256, .f32⟩
  | .local _ .vmem, ⟨2, _⟩ => ⟨S288x256, .f32⟩
  | .local _ .vmem, ⟨3, _⟩ => ⟨S288x256, .f32⟩
  | .local _ .vmem, ⟨4, _⟩ => ⟨S256x256, .bf16⟩
  | .local _ .vmem, ⟨5, _⟩ => ⟨S256x256, .bf16⟩
  | .local _ .vmem, ⟨6, _⟩ => ⟨S256x256, .f32⟩
  | .local _ .vmem, ⟨7, _⟩ => ⟨S256x256, .f32⟩
  | _, _ => ⟨S19584x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

abbrev stage0_0 : Fin 2 → Memref sig .tc .vmem S288x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S288x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FourierContextReferenceIdeal.lean ====
abbrev S19584x256 : Shape := ⟨2, ![19584, 256]⟩
abbrev S17408x256 : Shape := ⟨2, ![17408, 256]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S272x72x256 : Shape := ⟨3, ![272, 72, 256]⟩
abbrev S16x64x256 : Shape := ⟨3, ![16, 64, 256]⟩
abbrev S4x256x256 : Shape := ⟨3, ![4, 256, 256]⟩
abbrev S16384x256 : Shape := ⟨2, ![16384, 256]⟩
abbrev S1024x256 : Shape := ⟨2, ![1024, 256]⟩

abbrev nBuf : Space → Nat
  | .hbm => 42
  | .vmem => 0
  | .smem => 0
  | _ => 0

abbrev bufTy : (tb : Table) → Fin (tcTables nBuf tb) → BufTy
  | .hbm, ⟨0, _⟩ => ⟨S19584x256, .f32⟩
  | .hbm, ⟨1, _⟩ => ⟨S19584x256, .f32⟩
  | .hbm, ⟨2, _⟩ => ⟨S17408x256, .f32⟩
  | .hbm, ⟨3, _⟩ => ⟨S256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x1, .f32⟩
  | .hbm, ⟨10, _⟩ => ⟨S1x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S272x72x256, .f32⟩
  | .hbm, ⟨25, _⟩ => ⟨S16x64x256, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S272x72x256, .f32⟩
  | .hbm, ⟨34, _⟩ => ⟨S16x64x256, .f32⟩
  | .hbm, ⟨35, _⟩ => ⟨S4x256x256, .f32⟩
  | .hbm, ⟨36, _⟩ => ⟨S4x256x256, .f32⟩
  | .hbm, ⟨37, _⟩ => ⟨S4x256x256, .f32⟩
  | .hbm, ⟨38, _⟩ => ⟨S4x256x256, .f32⟩
  | .hbm, ⟨39, _⟩ => ⟨S16384x256, .f32⟩
  | .hbm, ⟨40, _⟩ => ⟨S1024x256, .f32⟩
  | .hbm, ⟨41, _⟩ => ⟨S17408x256, .f32⟩
  | _, _ => ⟨S19584x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Proof.FourierAngle.lean ====
/- The angles of the Fourier transforms, over the reals. -/
module

public import Idealize.ShloMosaic.PureOps.Ideal
public import Idealize.ShloMosaic.Lib.Pointwise
public import Idealize.ShloMosaic.Lib.ValueIdx
public import Idealize.ShloMosaic.Lib.Affine

@[expose] public section

noncomputable section

namespace Cert.Turns

open Idealize.ShloMosaic

theorem bits_zero : Ideal.ofBits .f32 0x00000000#32 = ((0 : ℝ) : EReal) := by simp [Ideal.ofBits, Ideal.ieee]

theorem bits_minus_one : Ideal.ofBits .f32 0xBF800000#32 = ((-1 : ℝ) : EReal) := by
  simp [Ideal.ofBits, Ideal.ieee]
  rw [← EReal.coe_mul]
  norm_num

theorem bits_two : Ideal.ofBits .f32 0x40000000#32 = ((2 : ℝ) : EReal) := by
  simp [Ideal.ofBits, Ideal.ieee]
  rw [← EReal.coe_mul]
  norm_num

theorem bits_256 : Ideal.ofBits .f32 0x43800000#32 = ((256 : ℝ) : EReal) := by
  simp [Ideal.ofBits, Ideal.ieee]
  rw [← EReal.coe_mul]
  norm_num

theorem bits_sixteenth : Ideal.ofBits .f32 0x3D800000#32 = ((1 / 16 : ℝ) : EReal) := by
  simp [Ideal.ofBits, Ideal.ieee]
  rw [← EReal.coe_mul]
  norm_num

theorem bits_4096 : Ideal.ofBits .f32 0x45800000#32 = ((4096 : ℝ) : EReal) := by
  simp [Ideal.ofBits, Ideal.ieee]
  rw [← EReal.coe_mul]
  norm_num

theorem bits_64 : Ideal.ofBits .f32 0x42800000#32 = ((64 : ℝ) : EReal) := by
  simp [Ideal.ofBits, Ideal.ieee]
  rw [← EReal.coe_mul]
  norm_num

theorem bits_sixty_fourth : Ideal.ofBits .f32 0x3C800000#32 = ((1 / 64 : ℝ) : EReal) := by
  simp [Ideal.ofBits, Ideal.ieee]
  rw [← EReal.coe_mul]
  norm_num

/-- The half turn is the angle of the point (-1, 0). -/
theorem half_turn : Ideal.atan2 (Ideal.ofBits .f32 0x00000000#32) (Ideal.ofBits .f32 0xBF800000#32) = ((Real.pi : ℝ) : EReal) := by
  rw [bits_zero, bits_minus_one]
  show ((if (0 : ℝ) < -1 then Real.arctan (0 / -1)
      else if (-1 : ℝ) < 0 then (if (0 : ℝ) ≤ 0 then Real.arctan (0 / -1) + Real.pi else Real.arctan (0 / -1) - Real.pi)
      else if (0 : ℝ) < 0 then Real.pi / 2 else if (0 : ℝ) < 0 then -(Real.pi / 2) else 0 : ℝ) : EReal) = _
  rw [if_neg (by norm_num), if_pos (by norm_num), if_pos le_rfl, zero_div, Real.arctan_zero, zero_add]

/-- A full turn. -/
theorem full_turn : Ideal.ofBits .f32 0x40000000#32 * Ideal.atan2 (Ideal.ofBits .f32 0x00000000#32) (Ideal.ofBits .f32 0xBF800000#32)
    = ((2 * Real.pi : ℝ) : EReal) := by
  rw [half_turn, bits_two, EReal.coe_mul]

/-- The angle of `j` steps of the `n`th part of a turn. -/
def angle (n j : ℕ) : ℝ := 2 * Real.pi * j / n

theorem angle_mod (n j : ℕ) (hn : n ≠ 0) : angle n j = angle n (j % n) + (j / n : ℕ) * (2 * Real.pi) := by
  have hn' : (n : ℝ) ≠ 0 := Nat.cast_ne_zero.2 hn
  unfold angle
  conv_lhs => rw [← Nat.mod_add_div j n]
  push_cast
  field_simp

theorem cos_mod (n j : ℕ) (hn : n ≠ 0) : Real.cos (angle n (j % n)) = Real.cos (angle n j) := by
  rw [angle_mod n j hn, Real.cos_add_nat_mul_two_pi]

theorem sin_mod (n j : ℕ) (hn : n ≠ 0) : Real.sin (angle n (j % n)) = Real.sin (angle n j) := by
  rw [angle_mod n j hn, Real.sin_add_nat_mul_two_pi]

/-- A step count's angle as the programs compute it. -/
theorem angle_eq (n j : ℕ) (hn : n ≠ 0) : Ideal.div (((2 * Real.pi : ℝ) : EReal) * ((j : ℝ) : EReal)) ((n : ℝ) : EReal) = ((angle n j : ℝ) : EReal) := by
  have hn' : (n : ℝ) ≠ 0 := Nat.cast_ne_zero.2 hn
  rw [Ideal.div_coe hn', ← EReal.coe_mul, ← EReal.coe_mul]
  unfold angle
  rw [mul_one_div]

/-- A word below two to the 31 is the natural number that it stands for. -/
theorem toInt_ofNat (j : ℕ) (h : j < 2 ^ 31) : (BitVec.ofNat 32 j).toInt = j := by
  rw [BitVec.toInt_eq_toNat_of_lt (by rw [BitVec.toNat_ofNat]; omega), BitVec.toNat_ofNat, Nat.mod_eq_of_lt (by omega)]

/-- The remainder of a product of words, as a natural number. -/
theorem rem_toInt (a b n : ℕ) (h : a * b < 2 ^ 31) (hn : 0 < n) (hn' : n < 2 ^ 31) :
    (IntOp.remsi .host (BitVec.ofNat 32 a * BitVec.ofNat 32 b) (BitVec.ofNat 32 n)).toInt = ((a * b % n : ℕ) : ℤ) := by
  rw [IntOp.remsi_of_pos _ (by rw [toInt_ofNat n hn']; omega), ← BitVec.ofNat_mul, BitVec.toInt_srem, toInt_ofNat _ h, toInt_ofNat n hn',
    Int.tmod_eq_emod_of_nonneg (by omega), Int.natCast_mod]

end Cert.Turns

end
-- ==== Proof.Domain.lean ====
/- What the claim's precondition and its choice of elements say. -/
module

public import proofs.«01_k».proof.Pre_finite_qk
public import proofs.«01_k».proof.Pre_finite_context_qk
public import proofs.«01_k».proof.Pre_finite_modulation
public import proofs.«01_k».proof.Pre_finite_spectrum
public import proofs.«01_k».proof.On_latent_rows
public import proofs.«01_k».proof.On_modulation_rows
public import proofs.«01_k».proof.On_fourier_latent_rows
public import proofs.«01_k».proof.Proof.FourierAngle
public import Idealize.ShloMosaic.PureOps.Ideal
public import Idealize.ShloMosaic.Lib.Pointwise
public import Idealize.ShloMosaic.Lib.ValueIdx

@[expose] public section

noncomputable section

namespace Cert.Proof

open Idealize.ShloMosaic

/-- The side conditions of the precondition. -/
theorem preFacts : Cert.Pre_finite_qk.Facts where
  bcast_S_S17408x512 := by decide
  bcast_S_S17408x128 := by decide

/-- The side conditions of the context's precondition. -/
theorem contextFacts : Cert.Pre_finite_context_qk.Facts where
  bcast_S_S17408x512 := by decide
  bcast_S_S17408x128 := by decide

/-- The side conditions of the choice of elements. -/
theorem onFacts : Cert.On_latent_rows.Facts where
  bcast_S_S17408x512 := by decide
  bcast_S_S1024x1024 := by decide
  bcast_S_S1024x4096 := by decide
  bcast_S_S4096x1024 := by decide
  bcast_S_S1024x1792 := by decide

/-- The side conditions of the modulation's precondition. -/
theorem modulationFacts : Cert.Pre_finite_modulation.Facts where
  bcast_S_S4x1024 := by decide
  bcast_S_S1024 := by decide
  bcast_S_S4x1024x6144 := by decide

/-- The side conditions of the choice of the modulation's elements. -/
theorem rowFacts : Cert.On_modulation_rows.Facts where
  bcast_S_S4x8x6144 := by decide

/-- The side conditions of the transform's precondition. -/
theorem spectrumFacts : Cert.Pre_finite_spectrum.Facts where
  bcast_S_S19584x256 := by decide

/-- The side conditions of the choice of the transform's elements. -/
theorem fourierFacts : Cert.On_fourier_latent_rows.Facts where
  bcast_S_S272x8x8x256 := by decide

theorem ofBits_inf : Ideal.ofBits .f32 0x7F800000#32 = ⊤ := by simp [Ideal.ofBits, Ideal.ieee]

/-- A number below infinity in magnitude is real. -/
theorem real_of_lt (x : EReal) (h : Ideal.cmp .olt (max x (-x)) (Ideal.ofBits .f32 0x7F800000#32) = 1#1) : x = (x.toReal : EReal) := by
  rw [ofBits_inf] at h
  have h' : max x (-x) < ⊤ := by
    by_contra hn
    simp [Ideal.cmp, hn] at h
  refine (EReal.coe_toReal (fun e => ?_) (fun e => ?_)).symm
  · simp [e] at h'
  · simp [e] at h'

section
variable (h : Cert.Pre_finite_qk.Facts) (h' : Cert.On_latent_rows.Facts)
  (q : FVec Ideal Cert.Pre_finite_qk.S17408x512 .f32) (k v : FVec Ideal Cert.Pre_finite_qk.S17408x128 .f32)
  (w3 : FVec Ideal Cert.Pre_finite_qk.S4x1024x1024 .f32) (w4 : FVec Ideal Cert.Pre_finite_qk.S4x1024x4096 .f32)
  (w5 : FVec Ideal Cert.Pre_finite_qk.S4x4096x1024 .f32) (w6 : FVec Ideal Cert.Pre_finite_qk.S4x1024x1792 .f32)

/-- Queries that meet the precondition are real. -/
theorem queries_real (hp : (Cert.Pre_finite_qk.fn (F := Ideal) q k v w3 w4 w5 w6).1 = fun _ => 1#1) (i : Cert.Pre_finite_qk.S17408x512.Idx) :
    q i = ((q i).toReal : EReal) :=
  real_of_lt _ (congrFun hp i)

/-- Keys that meet the precondition are real. -/
theorem keys_real (hp : (Cert.Pre_finite_qk.fn (F := Ideal) q k v w3 w4 w5 w6).2 = fun _ => 1#1) (i : Cert.Pre_finite_qk.S17408x128.Idx) :
    k i = ((k i).toReal : EReal) :=
  real_of_lt _ (congrFun hp i)

/-- The elements chosen of the attention are those of the latent rows. -/
theorem latent_row (i : Cert.Pre_finite_qk.S17408x512.Idx) (ho : (Cert.On_latent_rows.fn (F := Ideal) q k v w3 w4 w5 w6).1 i = 1#1) :
    (i 0).val < 16384 := by
  have hi : (i 0).val < 17408 := (i 0).isLt
  have h1 : (BitVec.ofBool ((BitVec.ofNat 32 (i 0).val).slt 16384#32)) = 1#1 := ho
  have h2 : (BitVec.ofNat 32 (i 0).val).slt 16384#32 = true := by
    cases hb : (BitVec.ofNat 32 (i 0).val).slt 16384#32 with
    | true => rfl
    | false => rw [hb] at h1; exact absurd h1 (by decide)
  rw [BitVec.slt_iff_toInt_lt, BitVec.toInt_eq_toNat_of_lt (by rw [BitVec.toNat_ofNat]; omega), BitVec.toNat_ofNat] at h2
  have h3 : (16384#32 : BitVec 32).toInt = 16384 := by decide
  rw [h3] at h2
  omega
end

section
variable (h : Cert.Pre_finite_context_qk.Facts) (q : FVec Ideal Cert.Pre_finite_context_qk.S17408x512 .f32)
  (k v : FVec Ideal Cert.Pre_finite_context_qk.S17408x128 .f32) (old : FVec Ideal Cert.Pre_finite_context_qk.S17408x512 .bf16)

/-- Queries that meet the context's precondition are real. -/
theorem context_queries_real (hp : (Cert.Pre_finite_context_qk.fn (F := Ideal) q k v old).1 = fun _ => 1#1) (i : Cert.Pre_finite_context_qk.S17408x512.Idx) :
    q i = ((q i).toReal : EReal) :=
  real_of_lt _ (congrFun hp i)

/-- Keys that meet the context's precondition are real. -/
theorem context_keys_real (hp : (Cert.Pre_finite_context_qk.fn (F := Ideal) q k v old).2 = fun _ => 1#1) (i : Cert.Pre_finite_context_qk.S17408x128.Idx) :
    k i = ((k i).toReal : EReal) :=
  real_of_lt _ (congrFun hp i)
end

section
variable (h : Cert.Pre_finite_modulation.Facts) (h' : Cert.On_modulation_rows.Facts) (x : FVec Ideal Cert.Pre_finite_modulation.S4x1024 .f32)
  (e : FVec Ideal Cert.Pre_finite_modulation.S1024 .f32) (w : FVec Ideal Cert.Pre_finite_modulation.S4x1024x6144 .f32)
  (b : FVec Ideal Cert.Pre_finite_modulation.S4x6144 .f32)

/-- Conditionings of samples that meet the precondition are real. -/
theorem samples_real (hp : (Cert.Pre_finite_modulation.fn (F := Ideal) x e w b).1 = fun _ => 1#1) (i : Cert.Pre_finite_modulation.S4x1024.Idx) :
    x i = ((x i).toReal : EReal) :=
  real_of_lt _ (congrFun hp i)

/-- The context's conditioning, if it meets the precondition, is real. -/
theorem context_real (hp : (Cert.Pre_finite_modulation.fn (F := Ideal) x e w b).2.1 = fun _ => 1#1) (i : Cert.Pre_finite_modulation.S1024.Idx) :
    e i = ((e i).toReal : EReal) :=
  real_of_lt _ (congrFun hp i)

/-- Weights that meet the precondition are real. -/
theorem weights_real (hp : (Cert.Pre_finite_modulation.fn (F := Ideal) x e w b).2.2 = fun _ => 1#1) (i : Cert.Pre_finite_modulation.S4x1024x6144.Idx) :
    w i = ((w i).toReal : EReal) :=
  real_of_lt _ (congrFun hp i)

/-- The elements chosen of the modulation are those of the first five rows. -/
theorem modulation_row (i : Cert.On_modulation_rows.S4x8x6144.Idx) (ho : Cert.On_modulation_rows.fn (F := Ideal) x e w b i = 1#1) : (i 1).val < 5 := by
  have hi : (i 1).val < 8 := (i 1).isLt
  have h1 : (BitVec.ofBool ((BitVec.ofNat 32 (i 1).val).slt 5#32)) = 1#1 := ho
  generalize (i 1).val = n at hi h1 ⊢
  interval_cases n <;> first | omega | exact absurd h1 (by decide)
end

/-- A word below a bound, for small numbers. -/
theorem slt_small (a b : ℕ) (ha : a < 2 ^ 31) (hb : b < 2 ^ 31) : (BitVec.ofNat 32 a).slt (BitVec.ofNat 32 b) = decide (a < b) := by
  rw [Bool.eq_iff_iff, BitVec.slt_iff_toInt_lt, Turns.toInt_ofNat a ha, Turns.toInt_ofNat b hb]
  simp

section
variable (h : Cert.Pre_finite_spectrum.Facts) (h' : Cert.On_fourier_latent_rows.Facts) (x y : FVec Ideal Cert.Pre_finite_spectrum.S19584x256 .f32)

/-- The rows of the latent positions are those in use. -/
theorem used_row (r : ℕ) (hr : r < 18432) (hr' : r % 72 < 64) :
    IntOp.andi (IntOp.cmpi .slt (IntOp.remsi .host (BitVec.ofNat 32 r) 72#32) 64#32) (IntOp.cmpi .slt (BitVec.ofNat 32 r) 18432#32) = 1#1 := by
  have e : (IntOp.remsi .host (BitVec.ofNat 32 r) 72#32) = BitVec.ofNat 32 (r % 72) := by
    have h := Turns.rem_toInt r 1 72 (by omega) (by norm_num) (by norm_num)
    rw [show BitVec.ofNat 32 r * BitVec.ofNat 32 1 = BitVec.ofNat 32 r from BitVec.mul_one _, Nat.mul_one] at h
    exact BitVec.eq_of_toInt_eq (h.trans (Turns.toInt_ofNat _ (by omega)).symm)
  have h1 : IntOp.cmpi .slt (BitVec.ofNat 32 (r % 72)) 64#32 = 1#1 := by
    show BitVec.ofBool ((BitVec.ofNat 32 (r % 72)).slt (BitVec.ofNat 32 64)) = 1#1
    rw [slt_small _ _ (by omega) (by norm_num), decide_eq_true hr']
    rfl
  have h2 : IntOp.cmpi .slt (BitVec.ofNat 32 r) 18432#32 = 1#1 := by
    show BitVec.ofBool ((BitVec.ofNat 32 r).slt (BitVec.ofNat 32 18432)) = 1#1
    rw [slt_small _ _ (by omega) (by norm_num), decide_eq_true hr]
    rfl
  rw [e, h1, h2]
  rfl

/-- Real parts of latent positions that meet the precondition are real numbers. -/
theorem re_real (hp : (Cert.Pre_finite_spectrum.fn (F := Ideal) x y).1 = fun _ => 1#1) (r : Fin 19584) (w : Fin 256) (hr : r.val < 18432) (hr' : r.val % 72 < 64) :
    x (ix2 r w) = ((x (ix2 r w)).toReal : EReal) := by
  have h1 : IntOp.ori (Ideal.cmp .olt (max (x (ix2 r w)) (-x (ix2 r w))) (Ideal.ofBits .f32 0x7F800000#32)) (~~~
    (IntOp.andi (IntOp.cmpi .slt (IntOp.remsi .host (BitVec.ofNat 32 r.val) 72#32) 64#32) (IntOp.cmpi .slt (BitVec.ofNat 32 r.val) 18432#32))) = 1#1 := congrFun hp (ix2 r w)
  rw [used_row _ hr hr'] at h1
  refine real_of_lt _ ?_
  generalize Ideal.cmp .olt (max (x (ix2 r w)) (-x (ix2 r w))) (Ideal.ofBits .f32 0x7F800000#32) = b at h1 ⊢
  revert b
  decide

/-- The same, of the imaginary parts. -/
theorem im_real (hp : (Cert.Pre_finite_spectrum.fn (F := Ideal) x y).2 = fun _ => 1#1) (r : Fin 19584) (w : Fin 256) (hr : r.val < 18432) (hr' : r.val % 72 < 64) :
    y (ix2 r w) = ((y (ix2 r w)).toReal : EReal) := by
  have h1 : IntOp.ori (Ideal.cmp .olt (max (y (ix2 r w)) (-y (ix2 r w))) (Ideal.ofBits .f32 0x7F800000#32)) (~~~
    (IntOp.andi (IntOp.cmpi .slt (IntOp.remsi .host (BitVec.ofNat 32 r.val) 72#32) 64#32) (IntOp.cmpi .slt (BitVec.ofNat 32 r.val) 18432#32))) = 1#1 := congrFun hp (ix2 r w)
  rw [used_row _ hr hr'] at h1
  refine real_of_lt _ ?_
  generalize Ideal.cmp .olt (max (y (ix2 r w)) (-y (ix2 r w))) (Ideal.ofBits .f32 0x7F800000#32) = b at h1 ⊢
  revert b
  decide

/-- The elements chosen of the transform are those of the latent rows. -/
theorem fourier_row (i : Cert.On_fourier_latent_rows.S272x8x8x256.Idx) (ho : Cert.On_fourier_latent_rows.fn (F := Ideal) x y i = 1#1) : (i 0).val < 256 := by
  have hi : (i 0).val < 272 := (i 0).isLt
  have h1 : BitVec.ofBool ((BitVec.ofNat 32 (i 0).val).slt (BitVec.ofNat 32 256)) = 1#1 := ho
  rw [slt_small _ _ (by omega) (by norm_num)] at h1
  by_contra hn
  rw [decide_eq_false hn] at h1
  exact absurd h1 (by decide)
end

end Cert.Proof

end
-- ==== Proof.Softmax.lean ====
/- The arithmetic of a softmax read tile by tile, over the extended reals: the weighted sum of the tiles read so far,
   taken against a running maximum, moves to the next maximum by one factor; and its quotient by the same sum of ones is
   the softmax-weighted sum, whatever real number the maximum was. -/
module

public import Idealize.ShloMosaic.Lib.Pipeline.ValueKit

@[expose] public section

noncomputable section

namespace Cert.Softmax

open Idealize.ShloMosaic
open Finset (range)

/-- A factor that is a nonnegative real moves into a finite sum of extended reals. -/
theorem sum_mul_coe {ι : Type} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (EReal.coe_nonneg.2 hc) (EReal.coe_ne_top c) _ _

/-- A finite sum of reals, read in the extended reals. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The maximum of finitely many reals (one at least), read in the extended reals from `⊥`, is a real. -/
theorem fold_max_real {ι : Type} (S : Finset ι) (hS : S.Nonempty) (f : ι → ℝ) :
    ∃ r : ℝ, S.fold max (⊥ : EReal) (fun i => (f i : EReal)) = r := by
  classical
  induction hS using Finset.Nonempty.cons_induction with
  | singleton a => exact ⟨f a, by simp⟩
  | cons a S ha hS ih =>
    obtain ⟨r, hr⟩ := ih
    exact ⟨max (f a) r, by rw [Finset.fold_cons, hr]; exact (EReal.coe_strictMono.monotone.map_max).symm⟩

/-- `2` to the difference of two reals, as an extended real. -/
theorem exp2_sub (a b : ℝ) : Ideal.exp2 ((a : EReal) - (b : EReal)) = (((2 : ℝ) ^ (a - b) : ℝ) : EReal) := by
  rw [← EReal.coe_sub, Ideal.exp2_coe]; rfl

variable {n : ℕ}

/-- The values `v` of the first `j` tiles, each times `2` to its score less `m`. -/
def weighted (s : ℕ → Fin n → ℝ) (v : ℕ → Fin n → EReal) (m : ℝ) (j : ℕ) : EReal :=
  ∑ t ∈ range j, ∑ i, v t i * (((2 : ℝ) ^ (s t i - m) : ℝ) : EReal)

/-- One tile more, and the maximum moved from `m` to `m'`. -/
theorem weighted_succ (s : ℕ → Fin n → ℝ) (v : ℕ → Fin n → EReal) (m m' : ℝ) (j : ℕ) :
    (∑ i, v j i * Ideal.exp2 ((s j i : EReal) - (m' : EReal)))
        + weighted s v m j * Ideal.exp2 ((m : EReal) - (m' : EReal)) = weighted s v m' (j + 1) := by
  have hp (x : ℝ) : (0 : ℝ) ≤ 2 ^ x := Real.rpow_nonneg (by norm_num) _
  unfold weighted
  rw [Finset.sum_range_succ, add_comm]
  congr 1
  · rw [exp2_sub, sum_mul_coe _ _ (hp _)]
    refine Finset.sum_congr rfl fun t _ => ?_
    rw [sum_mul_coe _ _ (hp _)]
    refine Finset.sum_congr rfl fun i _ => ?_
    rw [mul_assoc, ← EReal.coe_mul, ← Real.rpow_add (by norm_num), show s t i - m + (m - m') = s t i - m' by ring]

/-- The first tile alone. -/
theorem weighted_one (s : ℕ → Fin n → ℝ) (v : ℕ → Fin n → EReal) (m : ℝ) :
    (∑ i, v 0 i * Ideal.exp2 ((s 0 i : EReal) - (m : EReal))) = weighted s v m 1 := by
  unfold weighted
  rw [Finset.sum_range_one]
  exact Finset.sum_congr rfl fun i _ => by rw [exp2_sub]

/-- The softmax weight of entry `l` among the scores `t`. -/
def share {ι : Type} [Fintype ι] (t : ι → ℝ) (l : ι) : ℝ := Real.exp (t l) / ∑ k, Real.exp (t k)

/-- A common shift of the exponents does not change the shares. -/
theorem share_shift {ι : Type} [Fintype ι] (t : ι → ℝ) (m : ℝ) (l : ι) :
    Real.exp (t l - m) / ∑ k, Real.exp (t k - m) = share t l := by
  have h (k : ι) : Real.exp (t k - m) = Real.exp (t k) * Real.exp (-m) := by rw [sub_eq_add_neg, Real.exp_add]
  simp only [h, ← Finset.sum_mul, share]
  exact mul_div_mul_right _ _ (Real.exp_pos _).ne'

theorem sum_exp_pos {ι : Type} [Fintype ι] [Nonempty ι] (t : ι → ℝ) : 0 < ∑ k, Real.exp (t k) :=
  Finset.sum_pos (fun k _ => Real.exp_pos _) Finset.univ_nonempty

/-- The host's softmax at one entry, `exp (t l − m)` over the sum (from zero) of the `exp (t k − m)`, is its share. -/
theorem host_share {ι : Type} [Fintype ι] [Nonempty ι] (t : ι → ℝ) (m : ℝ) (l : ι) :
    Ideal.div (Ideal.exp ((t l : EReal) - (m : EReal))) (∑ k, Ideal.exp ((t k : EReal) - (m : EReal)))
      = ((share t l : ℝ) : EReal) := by
  simp only [← EReal.coe_sub, Ideal.exp_coe, coe_sum]
  rw [Ideal.div_coe (sum_exp_pos fun k => t k - m).ne', ← EReal.coe_mul, mul_one_div, share_shift]

/-- The weighted sum of the first `j` tiles over the same sum of ones: the sum of the values times their shares. -/
theorem weighted_div [NeZero n] (s : ℕ → Fin n → ℝ) (v : ℕ → Fin n → EReal) (m : ℝ) (j : ℕ) [NeZero j] :
    Ideal.div (weighted s v m j) (weighted s (fun _ _ => 1) m j)
      = ∑ p : Fin j × Fin n, v p.1 p.2
          * ((share (fun q : Fin j × Fin n => s q.1 q.2 * Real.log 2) p : ℝ) : EReal) := by
  have hx (x : ℝ) : (2 : ℝ) ^ (x - m) = Real.exp (x * Real.log 2 - m * Real.log 2) := by
    rw [Real.rpow_def_of_pos (by norm_num)]; congr 1; ring
  have hw (u : ℕ → Fin n → EReal) : weighted s u m j
      = ∑ p : Fin j × Fin n, u p.1 p.2 * ((Real.exp (s p.1 p.2 * Real.log 2 - m * Real.log 2) : ℝ) : EReal) := by
    unfold weighted
    rw [Fintype.sum_prod_type, Finset.sum_range]
    simp only [hx]
  rw [hw, hw]
  simp only [one_mul, coe_sum]
  have hpos := sum_exp_pos fun p : Fin j × Fin n => s p.1 p.2 * Real.log 2 - m * Real.log 2
  rw [Ideal.div_coe hpos.ne', sum_mul_coe _ _ (one_div_nonneg.2 hpos.le)]
  refine Finset.sum_congr rfl fun p _ => ?_
  rw [mul_assoc, ← EReal.coe_mul, mul_one_div]
  rw [share_shift (fun q : Fin j × Fin n => s q.1 q.2 * Real.log 2) (m * Real.log 2) p]

end Cert.Softmax

end
-- ==== Proof.Entry.lean ====
/- What the kernel's windows hold at a grid point, in terms of the queries, keys and values given. -/
module

public import proofs.«01_k».proof.Proof.Gen.KernelIdeal.Value
public import proofs.«01_k».proof.Proof.Softmax

@[expose] public section

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The queries, keys and values given. -/
abbrev Q : FVec Ideal S17408x512 .f32 := m ((c : Thread nD τ).loc main_arg0)
abbrev K : FVec Ideal S17408x128 .f32 := m ((c : Thread nD τ).loc main_arg1)
abbrev W : FVec Ideal S17408x128 .f32 := m ((c : Thread nD τ).loc main_arg2)

/-- The sample of a grid point. -/
def sampleOf (t : Fin cfg0.N) : Fin 4 := ⟨t.val / 8, by have : t.val < 32 := t.isLt; omega⟩

theorem idx (t : Fin cfg0.N) : win0_0.index t = ![0, t.val] ∧ win0_1.index t = ![64 + t.val / 8, 0]
    ∧ win0_2.index t = ![64 + t.val / 8, 0, 0] ∧ win0_3.index t = ![t.val / 8, 0] ∧ win0_4.index t = ![t.val / 8, 0, 0]
    ∧ win0_5.index t = ![0, t.val, 0] ∧ win0_6.index t = ![0, t.val, 0] ∧ win0_7.index t = ![0, t.val, 0]
    ∧ win0_8.index t = ![1, t.val, 0] ∧ win0_9.index t = ![t.val, 0] ∧ win0_10.index t = ![t.val, 0]
    ∧ win0_11.index t = ![t.val, 0] ∧ win0_12.index t = ![t.val, 0] ∧ win0_13.index t = ![t.val, 0] := by
  revert t; decide +kernel

theorem q_block (t : Fin cfg0.N) (f i : Fin 512) :
    iblk m c 0 t (ix2 f i) = Q m c (ix2 ⟨512 * t.val + i.val, by have : t.val < 32 := t.isLt; omega⟩ f)
      * Ideal.div (Ideal.ofBits .f32 0x3E000000#32) (Ideal.log (Ideal.ofBits .f32 0x40000000#32)) := by
  blk_simp [iblk]
  entry_read
  pointwise
  refine congrArg (· * _) ?_
  blk_ext [idx t]

theorem k_context (t : Fin cfg0.N) (i : Fin 256) (f : Fin 128) :
    iblk m c 1 t (ix2 i f) = K m c (ix2 ⟨16384 + 256 * (sampleOf t).val + i.val, by omega⟩ f) := by
  blk_simp [iblk]
  entry_read
  pointwise
  unfold sampleOf
  blk_ext [idx t]

theorem v_context (t : Fin cfg0.N) (f : Fin 128) (i : Fin 256) :
    iblk m c 2 t (ix3 0 f i) = W m c (ix2 ⟨16384 + 256 * (sampleOf t).val + i.val, by omega⟩ f) := by
  blk_simp [iblk]
  entry_read
  pointwise
  unfold sampleOf
  blk_ext [idx t]

theorem k_latent (t : Fin cfg0.N) (i : Fin 4096) (f : Fin 128) :
    X0_3 m c t (ix2 i f) = K m c (ix2 ⟨4096 * (sampleOf t).val + i.val, by omega⟩ f) := by
  unfold X0_3 Pipeline.Window.fill
  rw [dif_pos (moved0_3 t _)]
  blk_simp [iblk]
  entry_read
  pointwise
  unfold sampleOf
  blk_ext [idx t]

theorem v_latent (t : Fin cfg0.N) (j : Fin 16) (f : Fin 128) (i : Fin 256) :
    X0_4 m c t (ix3 j f i) = W m c (ix2 ⟨4096 * (sampleOf t).val + 256 * j.val + i.val, by omega⟩ f) := by
  unfold X0_4 Pipeline.Window.fill
  rw [dif_pos (moved0_4 t _)]
  blk_simp [iblk]
  entry_read
  pointwise
  unfold sampleOf
  blk_ext [idx t]

end Cert.KernelIdeal.Attn

end
-- ==== Proof.Weights.lean ====
/- The four weights that the kernel passes through: each output array is one layer of its weight, rounded. -/
module

public import proofs.«01_k».proof.Proof.Entry
public import proofs.«01_k».proof.Proof.Gen.ReferenceIdeal.Run

@[expose] public section

noncomputable section

namespace Cert.ReferenceIdeal.Attn

open Cert.ReferenceIdeal Cert.ReferenceIdeal.Gen Idealize.ShloMosaic

/-- Layer 0 of the output projection's weight, rounded. -/
def outLayer (w : FVec Ideal S4x1024x1024 .f32) : FVec Ideal S1024x1024 .bf16 :=
  truncf .bf16 (shapeCast _ (extractStridedSlice S1x1024x1024 ![0, 0, 0] w slices_S4x1024x1024_S1x1024x1024_0_0_0) shapeCasts_S1x1024x1024_S1024x1024) bitsLt_bf16_f32

/-- Layer 0 of the feed-forward part's first weight, rounded. -/
def upLayer (w : FVec Ideal S4x1024x4096 .f32) : FVec Ideal S1024x4096 .bf16 :=
  truncf .bf16 (shapeCast _ (extractStridedSlice S1x1024x4096 ![0, 0, 0] w slices_S4x1024x4096_S1x1024x4096_0_0_0) shapeCasts_S1x1024x4096_S1024x4096) bitsLt_bf16_f32

/-- Layer 0 of the feed-forward part's second weight, rounded. -/
def downLayer (w : FVec Ideal S4x4096x1024 .f32) : FVec Ideal S4096x1024 .bf16 :=
  truncf .bf16 (shapeCast _ (extractStridedSlice S1x4096x1024 ![0, 0, 0] w slices_S4x4096x1024_S1x4096x1024_0_0_0) shapeCasts_S1x4096x1024_S4096x1024) bitsLt_bf16_f32

/-- Layer 1 of the input projection's weight, rounded. -/
def inLayer (w : FVec Ideal S4x1024x1792 .f32) : FVec Ideal S1024x1792 .bf16 :=
  truncf .bf16 (shapeCast _ (extractStridedSlice S1x1024x1792 ![1, 0, 0] w slices_S4x1024x1792_S1x1024x1792_1_0_0) shapeCasts_S1x1024x1792_S1024x1792) bitsLt_bf16_f32

end Cert.ReferenceIdeal.Attn

namespace Cert.KernelIdeal.Attn

open Cert.KernelIdeal Cert.KernelIdeal.Gen Idealize.ShloMosaic Idealize.ShloMosaic.TcCoe Idealize.SL.Sem
open Cert.ReferenceIdeal.Attn (outLayer upLayer downLayer inLayer)

variable (m : (ℓ : Loc nD τ sig) → Buf (Elt Ideal) ℓ) (c : Dev nD)

/-- The kernel's array of the output projection's weight. -/
theorem out_weight : (dats m 0 c).arrAt 10 cfg0.N = outLayer (m ((c : Thread nD τ).loc main_arg3)) := by
  refine (dats m 0 c).arrAt_eq_of_covers 10 _ (by decide +kernel) fun t _ y => ?_
  blk_simp
  rw [after0_10]
  unfold outLayer
  frame_out
  unfold k0_pay1
  pointwise
  blk_simp [iblk]
  entry_read
  blk_ext [idx t]

/-- The kernel's array of the first feed-forward weight. -/
theorem up_weight : (dats m 0 c).arrAt 11 cfg0.N = upLayer (m ((c : Thread nD τ).loc main_arg4)) := by
  refine (dats m 0 c).arrAt_eq_of_covers 11 _ (by decide +kernel) fun t _ y => ?_
  blk_simp
  rw [after0_11]
  unfold upLayer
  frame_out
  unfold k0_pay2
  pointwise
  blk_simp [iblk]
  entry_read
  blk_ext [idx t]

/-- The kernel's array of the second feed-forward weight. -/
theorem down_weight : (dats m 0 c).arrAt 12 cfg0.N = downLayer (m ((c : Thread nD τ).loc main_arg5)) := by
  refine (dats m 0 c).arrAt_eq_of_covers 12 _ (by decide +kernel) fun t _ y => ?_
  blk_simp
  rw [after0_12]
  unfold downLayer
  frame_out
  unfold k0_pay3
  pointwise
  blk_simp [iblk]
  entry_read
  blk_ext [idx t]

/-- The kernel's array of the input projection's weight. -/
theorem in_weight : (dats m 0 c).arrAt 13 cfg0.N = inLayer (m ((c : Thread nD τ).loc main_arg6)) := by
  refine (dats m 0 c).arrAt_eq_of_covers 13 _ (by decide +kernel) fun t _ y => ?_
  blk_simp
  rw [after0_13]
  unfold inLayer
  frame_out
  unfold k0_pay4
  pointwise
  blk_simp [iblk]
  entry_read
  blk_ext [idx t]

end Cert.KernelIdeal.Attn

end
-- ==== Proof.Steps.lean ====
/- What one grid point of the attention computes, written once: the scores of a key tile, a tile's maximum, the running
   maximum and the running weighted sums over the tiles, a head's rows of the output. The unrolled body of the kernel is
   these functions at two query blocks, eight heads and seventeen tiles (Body.lean); here are their elements over the
   extended reals. -/
module

public import proofs.«01_k».proof.Proof.Gen.KernelIdeal
public import proofs.«01_k».proof.Proof.Softmax

@[expose] public section

noncomputable section

namespace Cert.KernelIdeal.Attn

open Cert.KernelIdeal Cert.KernelIdeal.Gen Idealize.ShloMosaic Idealize.ShloMosaic.TcCoe

section Def
variable {F : FTy → Type} [FloatOps F]

/-- The queries of one head (features by queries), set against zeros in the rows of the other key head. -/
def pad (second : Bool) (q : Vec F S64x256 .bf16) : FVec F S128x256 .bf16 :=
  let z : FVec F S64x256 .bf16 := broadcast S64x256 (Scalar.ofBits .bf16 0x0000#16)
  let q' : FVec F S64x256 .bf16 := shapeCast S64x256 q shapeCasts_S64x256_S64x256
  match second with
  | false => concatenate S128x256 0 [⟨S64x256, q'⟩, ⟨S64x256, z⟩] concatenates_S64x256_S64x256_S128x256_d0
  | true => concatenate S128x256 0 [⟨S64x256, z⟩, ⟨S64x256, q'⟩] concatenates_S64x256_S64x256_S128x256_d0

/-- The scores of a key tile (keys by queries). -/
def score (second : Bool) (q : Vec F S64x256 .bf16) (k : Vec F S256x128 .bf16) : FVec F S256x256 .f32 :=
  matmul dot_S256x128_S128x256_S256x256_1_0_0_1_n_n none (shapeCast S256x128 k shapeCasts_S256x128_S256x128 : FVec F S256x128 .bf16)
    (pad second q) (constant S256x256 .f32 0x00000000#32)

/-- The maximum of a tile's scores, per query. -/
def tileMax (s : FVec F S256x256 .f32) : FVec F S1x256 .f32 :=
  shapeCast S1x256
    (multiReduction .maximumf [0] S256
      (multiReduction .maximumf [0] S8x256 (shapeCast S32x8x256 s shapeCasts_S256x256_S32x8x256 : FVec F S32x8x256 .f32)
        0xFF800000#32 reduces_S32x8x256_S8x256 (.inl rfl) rfl : FVec F S8x256 .f32)
      0xFF800000#32 reduces_S8x256_S256 (.inl rfl) rfl : FVec F S256 .f32) shapeCasts_S256_S1x256

/-- The values of a tile, and rows of ones under them, weighted by `2` to the scores less `m`. -/
def tileSum (s : FVec F S256x256 .f32) (v : Vec F S1x64x256 .bf16) (m : FVec F S1x256 .f32) : FVec F S80x256 .f32 :=
  let ones : FVec F S16x256 .bf16 := broadcast S16x256 (Scalar.ofBits .bf16 0x3F80#16)
  let v' : FVec F S64x256 .bf16 := shapeCast S64x256 v shapeCasts_S1x64x256_S64x256
  let e : FVec F S256x256 .f32 := exp2 (subf s (broadcastTo S256x256 m broadcasts_S1x256_S256x256))
  matmul dot_S80x256_S256x256_S80x256_1_0_0_1_n_n none
    (concatenate S80x256 0 [⟨S64x256, v'⟩, ⟨S16x256, ones⟩] concatenates_S64x256_S16x256_S80x256_d0 : FVec F S80x256 .bf16)
    (truncf .bf16 e bitsLt_bf16_f32) (constant S80x256 .f32 0x00000000#32)

/-- The maximum of the first tile and of `j` more. -/
def runMax (s : ℕ → FVec F S256x256 .f32) : ℕ → FVec F S1x256 .f32
  | 0 => tileMax (s 0)
  | j + 1 => maximumf (runMax s j) (tileMax (s (j + 1)))

/-- The weighted sums of the first tile and of `j` more, against the maximum of all of them. -/
def runSum (s : ℕ → FVec F S256x256 .f32) (v : ℕ → Vec F S1x64x256 .bf16) : ℕ → FVec F S80x256 .f32
  | 0 => tileSum (s 0) (v 0) (runMax s 0)
  | j + 1 => addf (tileSum (s (j + 1)) (v (j + 1)) (runMax s (j + 1)))
      (mulf (runSum s v j)
        (broadcastTo S80x256 (exp2 (subf (runMax s j) (runMax s (j + 1)))) broadcasts_S1x256_S80x256))

/-- The value rows over the row of ones. -/
def quotient (acc : FVec F S80x256 .f32) : FVec F S64x256 .f32 :=
  shapeCast S64x256
    (divf (extractStridedSlice S64x256 ![0, 0] acc slices_S80x256_o0_0_S64x256 : FVec F S64x256 .f32)
      (broadcastTo S64x256 (extractStridedSlice S1x256 ![64, 0] acc slices_S80x256_o64_0_S1x256 : FVec F S1x256 .f32)
        broadcasts_S1x256_S64x256)) shapeCasts_S64x256_S64x256

/-- One head's rows of the output, from its queries, the key tiles and its value tiles. -/
def head (second : Bool) (q : Vec F S64x256 .bf16) (k : ℕ → Vec F S256x128 .bf16) (v : ℕ → Vec F S1x64x256 .bf16) :
    FVec F S64x256 .f32 :=
  quotient (runSum (fun j => score second q (k j)) v 16)

end Def

/-! ## Elements over the extended reals -/

/-- The column of a key (or value row) of the head a query head reads. -/
def feat (second : Bool) (d : Fin 64) : Fin 128 := ⟨(bif second then 64 else 0) + d.val, by cases second <;> simp <;> omega⟩

theorem score_apply (second : Bool) (q : Vec Ideal S64x256 .bf16) (k : Vec Ideal S256x128 .bf16) (i c : Fin 256) :
    score second q k (ix2 i c) = ∑ d : Fin 64, k (ix2 i (feat second d)) * q (ix2 d c) := by
  unfold score pad
  cases second
  all_goals
    pointwise
    simp only [mul_zero, Finset.sum_const_zero, add_zero, zero_add]
  · exact Finset.sum_congr rfl fun d _ => by
      rw [show feat false d = ⟨d.val, by omega⟩ from Fin.ext (by simp [feat])]
  · rfl

theorem tileSum_apply (s : FVec Ideal S256x256 .f32) (v : Vec Ideal S1x64x256 .bf16) (m : FVec Ideal S1x256 .f32)
    (d : Fin 80) (c : Fin 256) :
    tileSum s v m (ix2 d c) = ∑ i : Fin 256, (if h : d.val < 64 then v (ix3 0 ⟨d.val, h⟩ i) else 1)
      * Ideal.exp2 (s (ix2 i c) - m (ix2 0 c)) := by
  unfold tileSum
  pointwise
  rfl

theorem quotient_apply (acc : FVec Ideal S80x256 .f32) (d : Fin 64) (c : Fin 256) :
    quotient acc (ix2 d c) = Ideal.div (acc (ix2 ⟨d.val, by omega⟩ c)) (acc (ix2 64 c)) := by
  unfold quotient
  pointwise

theorem ofBits_neg_inf : Ideal.ofBits .f32 0xFF800000#32 = ⊥ := by simp [Ideal.ofBits, Ideal.ieee]

/-- The maximum of a tile of real scores is real. -/
theorem tileMax_real (s : FVec Ideal S256x256 .f32) (S : Fin 256 → Fin 256 → ℝ) (h : ∀ i c, s (ix2 i c) = S i c)
    (c : Fin 256) : ∃ m : ℝ, tileMax s (ix2 0 c) = m := by
  unfold tileMax
  pointwise
  simp only [h, ofBits_neg_inf]
  choose r hr using fun a : Fin 8 =>
    Softmax.fold_max_real (Finset.univ : Finset (Fin 32)) Finset.univ_nonempty fun b => S ⟨b.val * 8 + a.val, by omega⟩ c
  simp only [hr]
  exact Softmax.fold_max_real _ Finset.univ_nonempty _

theorem runMax_real (s : ℕ → FVec Ideal S256x256 .f32) (S : ℕ → Fin 256 → Fin 256 → ℝ)
    (h : ∀ j i c, s j (ix2 i c) = S j i c) (c : Fin 256) (j : ℕ) : ∃ m : ℝ, runMax s j (ix2 0 c) = m := by
  induction j with
  | zero => exact tileMax_real _ _ (h 0) c
  | succ j ih =>
    obtain ⟨a, ha⟩ := ih
    obtain ⟨b, hb⟩ := tileMax_real _ _ (h (j + 1)) c
    refine ⟨max a b, ?_⟩
    rw [runMax]
    pointwise
    rw [ha, hb]
    exact (EReal.coe_strictMono.monotone.map_max).symm

/-- Row `d` of the values with the ones under them, over the tiles. -/
def row (v : ℕ → Vec Ideal S1x64x256 .bf16) (d : Fin 80) (t : ℕ) (i : Fin 256) : EReal :=
  if h : d.val < 64 then v t (ix3 0 ⟨d.val, h⟩ i) else 1

/-- The running sums are the weighted sums of the tiles so far against some real number. -/
theorem runSum_apply (s : ℕ → FVec Ideal S256x256 .f32) (v : ℕ → Vec Ideal S1x64x256 .bf16) (S : ℕ → Fin 256 → Fin 256 → ℝ)
    (h : ∀ j i c, s j (ix2 i c) = S j i c) (c : Fin 256) (j : ℕ) :
    ∃ m : ℝ, runMax s j (ix2 0 c) = m
      ∧ ∀ d, runSum s v j (ix2 d c) = Softmax.weighted (fun t i => S t i c) (row v d) m (j + 1) := by
  induction j with
  | zero =>
    obtain ⟨m, hm⟩ := runMax_real s S h c 0
    refine ⟨m, hm, fun d => ?_⟩
    rw [runSum, tileSum_apply, hm, ← Softmax.weighted_one]
    simp only [h, row]
  | succ j ih =>
    obtain ⟨m, hm, hs⟩ := ih
    obtain ⟨m', hm'⟩ := runMax_real s S h c (j + 1)
    refine ⟨m', hm', fun d => ?_⟩
    rw [← Softmax.weighted_succ _ _ m m', ← hs d, runSum]
    have hx : addf (tileSum (s (j + 1)) (v (j + 1)) (runMax s (j + 1))) (mulf (runSum s v j)
        (broadcastTo S80x256 (exp2 (subf (runMax s j) (runMax s (j + 1)))) broadcasts_S1x256_S80x256)) (ix2 d c)
        = tileSum (s (j + 1)) (v (j + 1)) (runMax s (j + 1)) (ix2 d c)
          + runSum s v j (ix2 d c) * Ideal.exp2 (runMax s j (ix2 0 c) - runMax s (j + 1) (ix2 0 c)) := by
      generalize tileSum (s (j + 1)) (v (j + 1)) (runMax s (j + 1)) = a
      generalize runSum s v j = b
      generalize runMax s j = x
      generalize runMax s (j + 1) = y
      pointwise
      rfl
    rw [hx, tileSum_apply, hm, hm']
    simp only [h, row]

/-- A head's rows: its values weighted by the shares of its scores, times `log 2`, among the keys of all tiles. -/
theorem head_apply (second : Bool) (q : Vec Ideal S64x256 .bf16) (k : ℕ → Vec Ideal S256x128 .bf16)
    (v : ℕ → Vec Ideal S1x64x256 .bf16) (S : ℕ → Fin 256 → Fin 256 → ℝ)
    (h : ∀ j i c, (∑ e : Fin 64, k j (ix2 i (feat second e)) * q (ix2 e c)) = S j i c) (d : Fin 64) (c : Fin 256) :
    head second q k v (ix2 d c) = ∑ p : Fin 17 × Fin 256, v p.1 (ix3 0 d p.2)
      * ((Softmax.share (fun r : Fin 17 × Fin 256 => S r.1 r.2 c * Real.log 2) p : ℝ) : EReal) := by
  obtain ⟨m, -, hs⟩ := runSum_apply (fun j => score second q (k j)) v S (fun j i c => by rw [score_apply, h]) c 16
  rw [head, quotient_apply, hs, hs]
  rw [show row v 64 = fun _ _ => 1 from funext fun t => funext fun i => dif_neg (by decide),
    Softmax.weighted_div (fun t i => S t i c) _ m 17]
  refine Finset.sum_congr rfl fun p _ => ?_
  rw [row, dif_pos d.isLt]

end Cert.KernelIdeal.Attn

end
-- ==== Proof.Body.lean ====
module
public import proofs.«01_k».proof.Proof.Gen.KernelIdeal.Value
public import proofs.«01_k».proof.Proof.Steps
public import Idealize.ShloMosaic.Lib.Pipeline.CanonAppend

@[expose] public section

noncomputable section

namespace Cert.KernelIdeal.Attn

open Cert.KernelIdeal Cert.KernelIdeal.Gen Idealize.ShloMosaic Idealize.ShloMosaic.TcCoe

/-- The rows of the scratch that head `g` fills. -/
def rowsRect (g : Fin 8) : Rect S512x256 :=
  Rect.unit (s := S512x256) ![64 * g.val, 0] S64x256.size (by intro a; fin_cases a <;> simp [S512x256, S64x256] <;> omega)

theorem rowsRect_emb (g : Fin 8) (x : S64x256.Idx) :
    (((rowsRect g).emb x 0 : Fin _) : ℕ) = 64 * g.val + (x 0).val ∧ (((rowsRect g).emb x 1 : Fin _) : ℕ) = 0 + (x 1).val :=
  ⟨ValueKit.rect_emb_unit_val _ _ _ _ _, ValueKit.rect_emb_unit_val _ _ _ _ _⟩

theorem mem_rowsRect (y : S512x256.Idx) (g : Fin 8) (h : g.val = (y 0).val / 64) : y ∈ (rowsRect g).set := by
  have h0 : (y 0).val < 512 := (y 0).isLt
  have h1 : (y 1).val < 256 := (y 1).isLt
  unfold rowsRect
  rw [Rect.mem_set_unit]
  intro a
  fin_cases a
  · simp [S64x256]; omega
  · simp [S64x256]; omega

theorem mem_heads : ∀ g : Fin 8, g ∈ [7, 6, 5, 4, 3, 2, 1, (0 : Fin 8)] := by decide

section Run
variable {F : FTy → Type} [FloatOps F] (c : Dev nD)
  (arg2 : Memref sig .tc .vmem S512x512 .bf16) (harg2 : arg2.IsWhole) (arg3 : Memref sig .tc .vmem S256x128 .bf16) (harg3 : arg3.IsWhole)
  (arg4 : Memref sig .tc .vmem S1x128x256 .bf16) (harg4 : arg4.IsWhole) (arg5 : Memref sig .tc .vmem S4096x128 .bf16) (harg5 : arg5.IsWhole)
  (arg6 : Memref sig .tc .vmem S16x128x256 .bf16) (harg6 : arg6.IsWhole)
  (x0 : Vec F S512x512 .bf16) (x1 : Vec F S256x128 .bf16) (x2 : Vec F S1x128x256 .bf16) (x3 : Vec F S4096x128 .bf16) (x4 : Vec F S16x128x256 .bf16)

/-- As the body loads them: the queries of head `g`, query block `n`. -/
def qLoad (n : Fin 2) (g : Fin 8) : Vec F S64x256 .bf16 :=
  View.readAt (Elt F) arg2.view (Rect.unit (s := S512x512) ![64 * g.val, 256 * n.val] S64x256.size
    (by intro a; fin_cases a <;> simp [S512x512, S64x256] <;> omega)).toLoadRect (harg2.unread x0)

/-- As the body loads them: the keys of tile `j`. -/
def kLoad : ℕ → Vec F S256x128 .bf16
  | 0 => View.readAt (Elt F) arg3.view (Rect.unit (s := S256x128) ![0, 0] S256x128.size (by intro a; fin_cases a <;> simp [S256x128])).toLoadRect (harg3.unread x1)
  | j + 1 => View.readAt (Elt F) arg5.view (Rect.unit (s := S4096x128) ![256 * min j 15, 0] S256x128.size
      (by intro a; fin_cases a <;> simp [S4096x128, S256x128] <;> omega)).toLoadRect (harg5.unread x3)

/-- As the body loads them: the values of tile `j`, of the head `second` says. -/
def vLoad (second : Bool) : ℕ → Vec F S1x64x256 .bf16
  | 0 => View.readAt (Elt F) arg4.view (Rect.unit (s := S1x128x256) ![0, bif second then 64 else 0, 0] S1x64x256.size
      (by intro a; cases second <;> fin_cases a <;> simp [S1x128x256, S1x64x256])).toLoadRect (harg4.unread x2)
  | j + 1 => View.readAt (Elt F) arg6.view (Rect.unit (s := S16x128x256) ![min j 15, bif second then 64 else 0, 0] S1x64x256.size
      (by intro a; cases second <;> fin_cases a <;> simp [S16x128x256, S1x64x256] <;> omega)).toLoadRect (harg6.unread x4)

/-- The rows of head `g` of query block `n`. -/
def headLoad (n : Fin 2) (g : Fin 8) : FVec F S64x256 .f32 :=
  head (decide (4 ≤ g.val)) (qLoad arg2 harg2 x0 n g) (kLoad arg3 harg3 arg5 harg5 x1 x3) (vLoad arg4 harg4 arg6 harg6 x2 x4 (decide (4 ≤ g.val)))

/-- The piece of the scratch that head `g` fills. -/
def rowsOf (n : Fin 2) (g : Fin 8) : View.Piece (Elt F) S512x256 .f32 :=
  ⟨rowsRect g,
   headLoad arg2 harg2 arg3 harg3 arg4 harg4 arg5 harg5 arg6 harg6 x0 x1 x2 x3 x4 n g⟩

/-- The stores to the scratch before query block `n` is read back, the last first. -/
def stores : ℕ → List (View.Piece (Elt F) S512x256 .f32)
  | 0 => [7, 6, 5, 4, 3, 2, 1, 0].map (rowsOf arg2 harg2 arg3 harg3 arg4 harg4 arg5 harg5 arg6 harg6 x0 x1 x2 x3 x4 0)
  | _ + 1 => [7, 6, 5, 4, 3, 2, 1, 0].map (rowsOf arg2 harg2 arg3 harg3 arg4 harg4 arg5 harg5 arg6 harg6 x0 x1 x2 x3 x4 1)
      ++ [7, 6, 5, 4, 3, 2, 1, 0].map (rowsOf arg2 harg2 arg3 harg3 arg4 harg4 arg5 harg5 arg6 harg6 x0 x1 x2 x3 x4 0)

/-- The scratch of query block `n` when all its heads are stored, per element. -/
def scratch (n : Fin 2) (i : S512x256.Idx) : F .f32 :=
  headLoad arg2 harg2 arg3 harg3 arg4 harg4 arg5 harg5 arg6 harg6 x0 x1 x2 x3 x4 n
    ⟨(i 0).val / 64, by have := (i 0).isLt; simp [S512x256] at this; omega⟩ (ix2 ⟨(i 0).val % 64, by omega⟩ ⟨(i 1).val, (i 1).isLt⟩)

theorem scratch_emb (n : Fin 2) (g : Fin 8) (x : S64x256.Idx) :
    scratch arg2 harg2 arg3 harg3 arg4 harg4 arg5 harg5 arg6 harg6 x0 x1 x2 x3 x4 n ((rowsRect g).emb x)
      = headLoad arg2 harg2 arg3 harg3 arg4 harg4 arg5 harg5 arg6 harg6 x0 x1 x2 x3 x4 n g x := by
  have h0 : (x 0).val < 64 := (x 0).isLt
  obtain ⟨e0, e1⟩ := rowsRect_emb g x
  unfold scratch
  refine congr (congrArg (headLoad arg2 harg2 arg3 harg3 arg4 harg4 arg5 harg5 arg6 harg6 x0 x1 x2 x3 x4 n) ?_) ?_
  · exact Fin.ext (show ((rowsRect g).emb x 0).val / 64 = g.val by rw [e0]; omega)
  · funext a
    fin_cases a
    · exact Fin.ext (show ((rowsRect g).emb x 0).val % 64 = (x 0).val by rw [e0]; omega)
    · exact Fin.ext (show ((rowsRect g).emb x 1).val = (x 1).val by rw [e1]; omega)

theorem scratch_piece (n : Fin 2) (p : View.Piece (Elt F) S512x256 .f32)
    (hp : p ∈ [7, 6, 5, 4, 3, 2, 1, 0].map (rowsOf arg2 harg2 arg3 harg3 arg4 harg4 arg5 harg5 arg6 harg6 x0 x1 x2 x3 x4 n))
    (x : p.1.shape.Idx) :
    p.2 x = scratch arg2 harg2 arg3 harg3 arg4 harg4 arg5 harg5 arg6 harg6 x0 x1 x2 x3 x4 n (p.1.emb x) := by
  obtain ⟨g, -, rfl⟩ := List.mem_map.mp hp
  exact (scratch_emb arg2 harg2 arg3 harg3 arg4 harg4 arg5 harg5 arg6 harg6 x0 x1 x2 x3 x4 n g x).symm

theorem scratch_cover (n : Fin 2) (y : S512x256.Idx) :
    ∃ p ∈ [7, 6, 5, 4, 3, 2, 1, 0].map (rowsOf arg2 harg2 arg3 harg3 arg4 harg4 arg5 harg5 arg6 harg6 x0 x1 x2 x3 x4 n), y ∈ p.1.set := by
  have h0 : (y 0).val < 512 := (y 0).isLt
  exact ⟨_, List.mem_map.mpr ⟨⟨(y 0).val / 64, by omega⟩, mem_heads _, rfl⟩, mem_rowsRect y _ rfl⟩

/-- The scratch read back whole, for query block `n`. -/
def scratchLoad (arg16 : Memref sig .tc .vmem S512x256 .f32) (n : Fin 2) : Vec F S512x256 .f32 :=
  arg16.view.readCov (stores arg2 harg2 arg3 harg3 arg4 harg4 arg5 harg5 arg6 harg6 x0 x1 x2 x3 x4 n.val)
    (Rect.unit (s := S512x256) ![0, 0] S512x256.size inb_S512x256_S512x256_0_0).toLoadRect

theorem scratchLoad_apply (arg16 : Memref sig .tc .vmem S512x256 .f32) (n : Fin 2) (y : S512x256.Idx) :
    scratchLoad arg2 harg2 arg3 harg3 arg4 harg4 arg5 harg5 arg6 harg6 x0 x1 x2 x3 x4 arg16 n y
      = scratch arg2 harg2 arg3 harg3 arg4 harg4 arg5 harg5 arg6 harg6 x0 x1 x2 x3 x4 n y := by
  unfold scratchLoad
  rw [View.readCov_eq_canon']
  have hy : (Rect.unit (s := S512x256) ![0, 0] S512x256.size inb_S512x256_S512x256_0_0).toLoadRect.idx y = y := by
    funext a
    apply Fin.ext
    show ![0, 0] a + 1 * (y a).val = (y a).val
    fin_cases a <;> simp
  dsimp only
  rw [hy]
  obtain rfl | rfl : n = 0 ∨ n = 1 := by omega
  · exact View.canon_apply_of_pieces _ _ (scratch_piece arg2 harg2 arg3 harg3 arg4 harg4 arg5 harg5 arg6 harg6 x0 x1 x2 x3 x4 0) y
      (scratch_cover arg2 harg2 arg3 harg3 arg4 harg4 arg5 harg5 arg6 harg6 x0 x1 x2 x3 x4 0 y)
  · exact View.canon_append_of_pieces _ _ _ (scratch_piece arg2 harg2 arg3 harg3 arg4 harg4 arg5 harg5 arg6 harg6 x0 x1 x2 x3 x4 1) y
      (scratch_cover arg2 harg2 arg3 harg3 arg4 harg4 arg5 harg5 arg6 harg6 x0 x1 x2 x3 x4 1 y)

/-- The rows of the output that query block `n` fills. -/
def outRect (n : Fin 2) : Rect S512x512 :=
  Rect.unit (s := S512x512) ![256 * n.val, 0] S256x512.size (by intro a; fin_cases a <;> simp [S512x512, S256x512] <;> omega)

theorem outRect_emb (n : Fin 2) (x : S256x512.Idx) :
    (((outRect n).emb x 0 : Fin _) : ℕ) = 256 * n.val + (x 0).val ∧ (((outRect n).emb x 1 : Fin _) : ℕ) = 0 + (x 1).val :=
  ⟨ValueKit.rect_emb_unit_val _ _ _ _ _, ValueKit.rect_emb_unit_val _ _ _ _ _⟩

theorem mem_outRect (y : S512x512.Idx) (n : Fin 2) (h : n.val = (y 0).val / 256) : y ∈ (outRect n).set := by
  have h0 : (y 0).val < 512 := (y 0).isLt
  have h1 : (y 1).val < 512 := (y 1).isLt
  unfold outRect
  rw [Rect.mem_set_unit]
  intro a
  fin_cases a
  · simp [S256x512]; omega
  · simp [S256x512]; omega

/-- The piece of the output that query block `n` fills. -/
def outPiece (arg16 : Memref sig .tc .vmem S512x256 .f32) (n : Fin 2) : View.Piece (Elt F) S512x512 .bf16 :=
  ⟨outRect n, truncf .bf16 (transpose S256x512 [1, 0]
    (scratchLoad arg2 harg2 arg3 harg3 arg4 harg4 arg5 harg5 arg6 harg6 x0 x1 x2 x3 x4 arg16 n : FVec F S512x256 .f32)
    transposes_S512x256_p1_0_S256x512 : FVec F S256x512 .f32) bitsLt_bf16_f32⟩

theorem pieces (i : grid0.Coords)
    (arg7 : Memref sig .tc .vmem S1x32x1024 .f32) (harg7 : arg7.IsWhole) (arg8 : Memref sig .tc .vmem S1x32x4096 .f32) (harg8 : arg8.IsWhole)
    (arg9 : Memref sig .tc .vmem S1x128x1024 .f32) (harg9 : arg9.IsWhole) (arg10 : Memref sig .tc .vmem S1x32x1792 .f32) (harg10 : arg10.IsWhole)
    (arg11 : Memref sig .tc .vmem S512x512 .bf16) (harg11 : arg11.IsWhole) (arg12 : Memref sig .tc .vmem S32x1024 .bf16) (harg12 : arg12.IsWhole)
    (arg13 : Memref sig .tc .vmem S32x4096 .bf16) (harg13 : arg13.IsWhole) (arg14 : Memref sig .tc .vmem S128x1024 .bf16) (harg14 : arg14.IsWhole)
    (arg15 : Memref sig .tc .vmem S32x1792 .bf16) (harg15 : arg15.IsWhole) (arg16 : Memref sig .tc .vmem S512x256 .f32) (harg16 : arg16.IsWhole)
    (x5 : Vec F S1x32x1024 .f32) (x6 : Vec F S1x32x4096 .f32) (x7 : Vec F S1x128x1024 .f32) (x8 : Vec F S1x32x1792 .f32) :
    (kernelRun0_A c i arg2 harg2 arg3 harg3 arg4 harg4 arg5 harg5 arg6 harg6 arg7 harg7 arg8 harg8 arg9 harg9 arg10 harg10 arg11 harg11
      arg12 harg12 arg13 harg13 arg14 harg14 arg15 harg15 arg16 harg16 x0 x1 x2 x3 x4 x5 x6 x7 x8).1
    = [1, 0].map (outPiece arg2 harg2 arg3 harg3 arg4 harg4 arg5 harg5 arg6 harg6 x0 x1 x2 x3 x4 arg16) := by
  sl_kernel_rfl

end Run

/-! ## Over the extended reals -/

section Value
variable (c : Dev nD)
  (arg2 : Memref sig .tc .vmem S512x512 .bf16) (harg2 : arg2.IsWhole) (arg3 : Memref sig .tc .vmem S256x128 .bf16) (harg3 : arg3.IsWhole)
  (arg4 : Memref sig .tc .vmem S1x128x256 .bf16) (harg4 : arg4.IsWhole) (arg5 : Memref sig .tc .vmem S4096x128 .bf16) (harg5 : arg5.IsWhole)
  (arg6 : Memref sig .tc .vmem S16x128x256 .bf16) (harg6 : arg6.IsWhole)
  (x0 : Vec Ideal S512x512 .bf16) (x1 : Vec Ideal S256x128 .bf16) (x2 : Vec Ideal S1x128x256 .bf16)
  (x3 : Vec Ideal S4096x128 .bf16) (x4 : Vec Ideal S16x128x256 .bf16)

/-- A load through a box, at one index of the array. -/
theorem ld_at {s : Shape} {e : EltTy} (x : Vec Ideal s e) (off size : Fin s.rank → ℕ) (inb)
    (j : (Rect.unit off size inb).shape.Idx) (k : s.Idx) (h : ∀ a, (k a).val = off a + (j a).val) :
    View.ld x (Rect.unit off size inb) j = x k :=
  congrArg x (funext fun a => Fin.ext (by
    rw [h a]
    show off a + 1 * (j a).val = _
    omega))

theorem qLoad_apply (n : Fin 2) (g : Fin 8) (e : Fin 64) (i : Fin 256) :
    qLoad arg2 harg2 x0 n g (ix2 e i) = x0 (ix2 ⟨64 * g.val + e.val, by omega⟩ ⟨256 * n.val + i.val, by omega⟩) := by
  unfold qLoad
  rw [View.readAt_eq_ld, harg2.read_unread]
  exact ld_at _ _ _ _ _ _ (by intro a; fin_cases a <;> rfl)

/-- The keys of tile `j`: the context's, then the latents'. -/
def kTile : ℕ → Fin 256 → Fin 128 → EReal
  | 0, i, f => x1 (ix2 i f)
  | j + 1, i, f => x3 (ix2 ⟨256 * min j 15 + i.val, by omega⟩ f)

theorem kLoad_apply (j : ℕ) (i : Fin 256) (f : Fin 128) :
    kLoad arg3 harg3 arg5 harg5 x1 x3 j (ix2 i f) = kTile x1 x3 j i f := by
  cases j
  · rw [kLoad, View.readAt_eq_ld, harg3.read_unread]
    exact ld_at _ _ _ _ _ _ (by intro a; fin_cases a <;> exact (Nat.zero_add _).symm)
  · rw [kLoad, View.readAt_eq_ld, harg5.read_unread]
    refine ld_at _ _ _ _ _ _ ?_
    intro a; fin_cases a
    · rfl
    · exact (Nat.zero_add _).symm

/-- The values of tile `j`, likewise. -/
def vTile : ℕ → Fin 128 → Fin 256 → EReal
  | 0, f, i => x2 (ix3 0 f i)
  | j + 1, f, i => x4 (ix3 ⟨min j 15, by omega⟩ f i)

theorem vLoad_apply (second : Bool) (j : ℕ) (d : Fin 64) (i : Fin 256) :
    vLoad arg4 harg4 arg6 harg6 x2 x4 second j (ix3 0 d i) = vTile x2 x4 j (feat second d) i := by
  cases j
  · rw [vLoad, View.readAt_eq_ld, harg4.read_unread]
    refine ld_at _ _ _ _ _ _ ?_
    intro a; fin_cases a
    · rfl
    · rfl
    · exact (Nat.zero_add _).symm
  · rw [vLoad, View.readAt_eq_ld, harg6.read_unread]
    refine ld_at _ _ _ _ _ _ ?_
    intro a; fin_cases a
    · rfl
    · rfl
    · exact (Nat.zero_add _).symm

theorem outPiece_apply (arg16 : Memref sig .tc .vmem S512x256 .f32) (n : Fin 2) (r : Fin 256) (w : Fin 512) :
    (outPiece arg2 harg2 arg3 harg3 arg4 harg4 arg5 harg5 arg6 harg6 x0 x1 x2 x3 x4 arg16 n).2 (ix2 r w)
      = headLoad arg2 harg2 arg3 harg3 arg4 harg4 arg5 harg5 arg6 harg6 x0 x1 x2 x3 x4 n ⟨w.val / 64, by omega⟩
          (ix2 ⟨w.val % 64, by omega⟩ r) := by
  show truncf .bf16 (transpose S256x512 [1, 0] _ transposes_S512x256_p1_0_S256x512 : FVec Ideal S256x512 .f32) bitsLt_bf16_f32 (ix2 r w) = _
  pointwise
  rw [scratchLoad_apply]
  rfl

/-- What a grid point leaves in the output's block: row `r` is query `r % 256` of query block `r / 256`, column `w` is
    feature `w % 64` of head `w / 64`. -/
theorem block_apply (i : grid0.Coords)
    (arg7 : Memref sig .tc .vmem S1x32x1024 .f32) (harg7 : arg7.IsWhole) (arg8 : Memref sig .tc .vmem S1x32x4096 .f32) (harg8 : arg8.IsWhole)
    (arg9 : Memref sig .tc .vmem S1x128x1024 .f32) (harg9 : arg9.IsWhole) (arg10 : Memref sig .tc .vmem S1x32x1792 .f32) (harg10 : arg10.IsWhole)
    (arg11 : Memref sig .tc .vmem S512x512 .bf16) (harg11 : arg11.IsWhole) (arg12 : Memref sig .tc .vmem S32x1024 .bf16) (harg12 : arg12.IsWhole)
    (arg13 : Memref sig .tc .vmem S32x4096 .bf16) (harg13 : arg13.IsWhole) (arg14 : Memref sig .tc .vmem S128x1024 .bf16) (harg14 : arg14.IsWhole)
    (arg15 : Memref sig .tc .vmem S32x1792 .bf16) (harg15 : arg15.IsWhole) (arg16 : Memref sig .tc .vmem S512x256 .f32) (harg16 : arg16.IsWhole)
    (x5 : Vec Ideal S1x32x1024 .f32) (x6 : Vec Ideal S1x32x4096 .f32) (x7 : Vec Ideal S1x128x1024 .f32) (x8 : Vec Ideal S1x32x1792 .f32)
    (r w : Fin 512) :
    out0_A_9 c i arg2 harg2 arg3 harg3 arg4 harg4 arg5 harg5 arg6 harg6 arg7 harg7 arg8 harg8 arg9 harg9 arg10 harg10 arg11 harg11
      arg12 harg12 arg13 harg13 arg14 harg14 arg15 harg15 arg16 harg16 x0 x1 x2 x3 x4 x5 x6 x7 x8 (ix2 r w)
    = headLoad arg2 harg2 arg3 harg3 arg4 harg4 arg5 harg5 arg6 harg6 x0 x1 x2 x3 x4 ⟨r.val / 256, by omega⟩ ⟨w.val / 64, by omega⟩
        (ix2 ⟨w.val % 64, by omega⟩ ⟨r.val % 256, by omega⟩) := by
  unfold out0_A_9
  rw [View.read_writes_junk_eq_canon, pieces]
  refine (View.canon_apply_of_pieces (fun y : S512x512.Idx =>
    headLoad arg2 harg2 arg3 harg3 arg4 harg4 arg5 harg5 arg6 harg6 x0 x1 x2 x3 x4 ⟨(y 0).val / 256, by have : (y 0).val < 512 := (y 0).isLt; omega⟩
      ⟨(y 1).val / 64, by have : (y 1).val < 512 := (y 1).isLt; omega⟩ (ix2 ⟨(y 1).val % 64, by omega⟩ ⟨(y 0).val % 256, by omega⟩)) _
      (fun p hp x => ?_) (ix2 r w) ?_).trans rfl
  · obtain ⟨n, -, rfl⟩ := List.mem_map.mp hp
    obtain ⟨e0, e1⟩ := outRect_emb n x
    have h0 : (x 0).val < 256 := (x 0).isLt
    have h1 : (x 1).val < 512 := (x 1).isLt
    have hx : x = ix2 ⟨(x 0).val, h0⟩ ⟨(x 1).val, h1⟩ := by funext a; fin_cases a <;> rfl
    refine (congrArg (outPiece arg2 harg2 arg3 harg3 arg4 harg4 arg5 harg5 arg6 harg6 x0 x1 x2 x3 x4 arg16 n).2 hx).trans ?_
    rw [outPiece_apply]
    have a0 : ((outRect n).emb x 0).val / 256 = n.val := by rw [e0]; omega
    have a1 : ((outRect n).emb x 0).val % 256 = (x 0).val := by rw [e0]; omega
    have a2 : ((outRect n).emb x 1).val = (x 1).val := by rw [e1]; omega
    refine congr (congr (congrArg (headLoad arg2 harg2 arg3 harg3 arg4 harg4 arg5 harg5 arg6 harg6 x0 x1 x2 x3 x4) ?_) ?_) ?_
    · exact Fin.ext a0.symm
    · exact Fin.ext (congrArg (· / 64) a2).symm
    · exact congr (congrArg ix2 (Fin.ext (congrArg (· % 64) a2).symm)) (Fin.ext a1.symm)
  · have hm : ∀ n : Fin 2, n ∈ [1, (0 : Fin 2)] := by decide
    exact ⟨_, List.mem_map.mpr ⟨⟨r.val / 256, by omega⟩, hm _, rfl⟩, mem_outRect (ix2 r w) _ rfl⟩

/-- A head's output, where its scores (to base two) are real numbers: the values weighted by the shares of the scores. -/
theorem headLoad_apply (n : Fin 2) (g : Fin 8) (S : ℕ → Fin 256 → Fin 256 → ℝ)
    (h : ∀ j i r, (∑ e : Fin 64, kTile x1 x3 j i (feat (decide (4 ≤ g.val)) e)
      * x0 (ix2 ⟨64 * g.val + e.val, by omega⟩ ⟨256 * n.val + r.val, by omega⟩)) = S j i r) (d : Fin 64) (r : Fin 256) :
    headLoad arg2 harg2 arg3 harg3 arg4 harg4 arg5 harg5 arg6 harg6 x0 x1 x2 x3 x4 n g (ix2 d r)
      = ∑ p : Fin 17 × Fin 256, vTile x2 x4 p.1 (feat (decide (4 ≤ g.val)) d) p.2
        * ((Softmax.share (fun l : Fin 17 × Fin 256 => S l.1 l.2 r * Real.log 2) p : ℝ) : EReal) := by
  unfold headLoad
  rw [head_apply _ _ _ _ S (fun j i r => by simp only [kLoad_apply, qLoad_apply]; exact h j i r)]
  simp only [vLoad_apply]

end Value

end Cert.KernelIdeal.Attn
end
-- ==== Proof.Reference.lean ====
/- The reference's attention, one named step at a time, and its elements over the extended reals. -/
module

public import proofs.«01_k».proof.Proof.Gen.ReferenceIdeal.Run
public import proofs.«01_k».proof.Proof.Softmax

@[expose] public section

noncomputable section

namespace Cert.ReferenceIdeal.Attn

open Cert.ReferenceIdeal Cert.ReferenceIdeal.Gen Idealize.ShloMosaic Idealize.ShloMosaic.TcCoe Idealize.SL.Sem

section Def
variable {F : FTy → Type} [FloatOps F]

/-- The queries of the latent rows, by sample, position, key head, query head of it, feature. -/
def queries (q : FVec F S17408x512 .f32) : FVec F S4x4096x2x4x64 .f32 :=
  shapeCast S4x4096x2x4x64 (extractStridedSlice S16384x512 ![0, 0] q slices_S17408x512_S16384x512_0_0) shapeCasts_S16384x512_S4x4096x2x4x64

/-- The keys (or values) of a sample: the context's, then the latents'. -/
def heads (k : FVec F S17408x128 .f32) : FVec F S4x4352x2x64 .f32 :=
  concatenate S4x4352x2x64 1
    [⟨S4x256x2x64, (shapeCast S4x256x2x64 (extractStridedSlice S1024x128 ![16384, 0] k slices_S17408x128_S1024x128_16384_0) shapeCasts_S1024x128_S4x256x2x64)⟩,
     ⟨S4x4096x2x64, (shapeCast S4x4096x2x64 (extractStridedSlice S16384x128 ![0, 0] k slices_S17408x128_S16384x128_0_0) shapeCasts_S16384x128_S4x4096x2x64)⟩]
    concatenates_S4x256x2x64_S4x4096x2x64_S4x4352x2x64_d1

/-- The scores, an eighth of the products. -/
def scores (qh : FVec F S4x4096x2x4x64 .f32) (kh : FVec F S4x4352x2x64 .f32) : FVec F S4x2x4x4096x4352 .f32 :=
  mulf (transpose S4x2x4x4096x4352 [0, 1, 4, 3, 2]
      (Host.dotGeneral dot_S4x4352x2x64_S4x4096x2x4x64_S4x2x4352x4096x4_3_4_1_13_02_02 none kh qh)
      transposes_S4x2x4352x4096x4_S4x2x4x4096x4352_0_1_4_3_2)
    (broadcastInDim S4x2x4x4096x4352 ![] bcast_S_S4x2x4x4096x4352 (constant S_ .f32 0x3E000000#32))

/-- Each query's greatest score. -/
def tops (s : FVec F S4x2x4x4096x4352 .f32) : FVec F S4x2x4x4096 .f32 :=
  Host.reduce FloatOps.maximumf s (constant S_ .f32 0xFF800000#32) reducesTo_S4x2x4x4096x4352_S4x2x4x4096_d4 h_S_

/-- Numbers not below the least. -/
def floored (y : FVec F S4x2x4x4096 .f32) : FVec F S4x2x4x4096 .f32 :=
  maximumf (broadcastInDim S4x2x4x4096 ![] bcast_S_S4x2x4x4096 (constant S_ .f32 0xFF800000#32)) y

/-- A number per query, at every key. -/
def spread (x : FVec F S4x2x4x4096 .f32) : FVec F S4x2x4x4096x4352 .f32 :=
  broadcastInDim S4x2x4x4096x4352 ![0, 1, 2, 3, 4] bcast_S4x2x4x4096x1_S4x2x4x4096x4352_0_1_2_3_4
    (broadcastInDim S4x2x4x4096x1 ![0, 1, 2, 3] bcast_S4x2x4x4096_S4x2x4x4096x1_0_1_2_3 x)

/-- The exponentials of the scores less the greatest. -/
def expo (s : FVec F S4x2x4x4096x4352 .f32) : FVec F S4x2x4x4096x4352 .f32 := Host.exp (subf s (spread (floored (tops s))))

/-- Their sum per query. -/
def total (e : FVec F S4x2x4x4096x4352 .f32) : FVec F S4x2x4x4096 .f32 :=
  Host.reduceAdd e (constant S_ .f32 0x00000000#32) reducesTo_S4x2x4x4096x4352_S4x2x4x4096_d4 h_S_

/-- The softmax of the scores. -/
def weights (s : FVec F S4x2x4x4096x4352 .f32) : FVec F S4x2x4x4096x4352 .f32 := Host.divf (expo s) (spread (total (expo s)))

/-- The values, summed with the weights. -/
def mix (vh : FVec F S4x4352x2x64 .f32) (w : FVec F S4x2x4x4096x4352 .f32) : FVec F S4x4096x2x4x64 .f32 :=
  transpose S4x4096x2x4x64 [0, 4, 1, 3, 2]
    (Host.dotGeneral dot_S4x4352x2x64_S4x2x4x4096x4352_S4x2x64x4x4096_1_4_3_23_02_01 none vh w)
    transposes_S4x2x64x4x4096_S4x4096x2x4x64_0_4_1_3_2

/-- The rows of all samples over rows of zeros. -/
def stack (o : FVec F S4x4096x2x4x64 .f32) : FVec F S17408x512 .bf16 :=
  truncf .bf16 (concatenate S17408x512 0 [⟨S16384x512, (shapeCast S16384x512 o shapeCasts_S4x4096x2x4x64_S16384x512)⟩,
    ⟨S1024x512, (broadcastInDim S1024x512 ![] bcast_S_S1024x512 (constant S_ .f32 0x00000000#32))⟩]
    concatenates_S16384x512_S1024x512_S17408x512_d0) bitsLt_bf16_f32

/-- The reference's attention, from the queries, keys and values. -/
def attention (q : FVec F S17408x512 .f32) (k v : FVec F S17408x128 .f32) : FVec F S17408x512 .bf16 :=
  stack (mix (heads v) (weights (scores (queries q) (heads k))))

theorem res_eq (m : (ℓ : Loc nD τ sig) → Buf (Elt F) ℓ) (c : Dev nD) :
    Value.res_main_v32 m c = attention (m ((c.tc : Thread nD τ).loc main_arg0)) (m ((c.tc : Thread nD τ).loc main_arg1))
      (m ((c.tc : Thread nD τ).loc main_arg2)) := by
  unfold Value.res_main_v32
  rfl

end Def

/-- The row of the keys that sample `b` reads as its key `l`. -/
def keyRow (b : Fin 4) (l : Fin 4352) : Fin 17408 :=
  if h : l.val < 256 then ⟨16384 + 256 * b.val + l.val, by omega⟩ else ⟨4096 * b.val + (l.val - 256), by omega⟩

theorem queries_apply (q : FVec Ideal S17408x512 .f32) (b : Fin 4) (s : Fin 4096) (h : Fin 2) (g : Fin 4) (d : Fin 64) :
    queries q (ix5 b s h g d) = q (ix2 ⟨4096 * b.val + s.val, by omega⟩ ⟨256 * h.val + 64 * g.val + d.val, by omega⟩) := by
  unfold queries
  pointwise
  blk_ext

theorem heads_apply (k : FVec Ideal S17408x128 .f32) (b : Fin 4) (l : Fin 4352) (h : Fin 2) (d : Fin 64) :
    heads k (ix4 b l h d) = k (ix2 (keyRow b l) ⟨64 * h.val + d.val, by omega⟩) := by
  unfold heads keyRow
  pointwise
  split <;> blk_ext

theorem ofBits_eighth : Ideal.ofBits .f32 0x3E000000#32 = ((1 / 8 : ℝ) : EReal) := by
  simp [Ideal.ofBits, Ideal.ieee]
  rw [← EReal.coe_mul]
  norm_num

theorem scores_apply (qh : FVec Ideal S4x4096x2x4x64 .f32) (kh : FVec Ideal S4x4352x2x64 .f32)
    (b : Fin 4) (h : Fin 2) (g : Fin 4) (s : Fin 4096) (l : Fin 4352) :
    scores qh kh (ix5 b h g s l) = (∑ d : Fin 64, kh (ix4 b l h d) * qh (ix5 b s h g d)) * ((1 / 8 : ℝ) : EReal) := by
  unfold scores
  pointwise
  rw [ofBits_eighth]

theorem spread_apply (x : FVec Ideal S4x2x4x4096 .f32) (b : Fin 4) (h : Fin 2) (g : Fin 4) (s : Fin 4096) (l : Fin 4352) :
    spread x (ix5 b h g s l) = x (ix4 b h g s) := by
  unfold spread
  pointwise

theorem total_apply (e : FVec Ideal S4x2x4x4096x4352 .f32) (b : Fin 4) (h : Fin 2) (g : Fin 4) (s : Fin 4096) :
    total e (ix4 b h g s) = ∑ l : Fin 4352, e (ix5 b h g s l) := by
  unfold total
  pointwise

theorem mix_apply (vh : FVec Ideal S4x4352x2x64 .f32) (w : FVec Ideal S4x2x4x4096x4352 .f32)
    (b : Fin 4) (s : Fin 4096) (h : Fin 2) (g : Fin 4) (d : Fin 64) :
    mix vh w (ix5 b s h g d) = ∑ l : Fin 4352, vh (ix4 b l h d) * w (ix5 b h g s l) := by
  unfold mix
  pointwise

theorem stack_apply (o : FVec Ideal S4x4096x2x4x64 .f32) (b : Fin 4) (s : Fin 4096) (h : Fin 2) (g : Fin 4) (d : Fin 64) :
    stack o (ix2 ⟨4096 * b.val + s.val, by omega⟩ ⟨256 * h.val + 64 * g.val + d.val, by omega⟩) = o (ix5 b s h g d) := by
  unfold stack
  pointwise
  exact if_pos (by omega)

theorem ofBits_neg_inf : Ideal.ofBits .f32 0xFF800000#32 = ⊥ := by simp [Ideal.ofBits, Ideal.ieee]

theorem floored_apply (y : FVec Ideal S4x2x4x4096 .f32) (i : S4x2x4x4096.Idx) : floored y i = y i := by
  have h : floored y i = max (Ideal.ofBits .f32 0xFF800000#32) (y i) := rfl
  rw [h, ofBits_neg_inf, max_eq_right bot_le]

/-- The greatest of real scores is real. -/
theorem tops_real (x : FVec Ideal S4x2x4x4096x4352 .f32) (i : S4x2x4x4096.Idx) (h : ∀ j, ∃ r : ℝ, x j = r) :
    ∃ m : ℝ, tops x i = m := by
  unfold tops
  rw [Host.reduce_eq_fold_single FloatOps.maximumf x _ reducesTo_S4x2x4x4096x4352_S4x2x4x4096_d4 (by decide) h_S_]
  choose r hr using h
  rw [show (constant (F := Ideal) S_ .f32 0xFF800000#32) (Shape.Idx.first h_S_) = ⊥ from ofBits_neg_inf, show x = fun j => (r j : EReal) from funext hr]
  exact Softmax.fold_max_real _ ⟨⟨0, by decide⟩, Finset.mem_univ _⟩ _

theorem powers_apply (x : FVec Ideal S4x2x4x4096x4352 .f32) (y : FVec Ideal S4x2x4x4096 .f32) (b : Fin 4) (h : Fin 2) (g : Fin 4) (s : Fin 4096) (l : Fin 4352) :
    Host.exp (subf x (spread y)) (ix5 b h g s l) = Ideal.exp (x (ix5 b h g s l) - y (ix4 b h g s)) := by
  have h : Host.exp (subf x (spread y)) (ix5 b h g s l) = Ideal.exp (x (ix5 b h g s l) - spread y (ix5 b h g s l)) := rfl
  rw [h, spread_apply]

theorem quotients_apply (x : FVec Ideal S4x2x4x4096x4352 .f32) (y : FVec Ideal S4x2x4x4096 .f32) (b : Fin 4) (h : Fin 2) (g : Fin 4) (s : Fin 4096) (l : Fin 4352) :
    Host.divf x (spread y) (ix5 b h g s l) = Ideal.div (x (ix5 b h g s l)) (y (ix4 b h g s)) := by
  have h : Host.divf x (spread y) (ix5 b h g s l) = Ideal.div (x (ix5 b h g s l)) (spread y (ix5 b h g s l)) := rfl
  rw [h, spread_apply]

/-- The weights of real scores are their shares. -/
theorem weights_apply (x : FVec Ideal S4x2x4x4096x4352 .f32) (T : Fin 4 → Fin 2 → Fin 4 → Fin 4096 → Fin 4352 → ℝ)
    (hT : ∀ b h g s l, x (ix5 b h g s l) = T b h g s l) (b : Fin 4) (h : Fin 2) (g : Fin 4) (s : Fin 4096) (l : Fin 4352) :
    weights x (ix5 b h g s l) = (Softmax.share (T b h g s) l : ℝ) := by
  obtain ⟨m, hm⟩ := tops_real x (ix4 b h g s) (fun j => ⟨T (j 0) (j 1) (j 2) (j 3) (j 4), by
    refine Eq.trans (congrArg x (funext fun a => ?_)) (hT (j 0) (j 1) (j 2) (j 3) (j 4))
    fin_cases a <;> rfl⟩)
  have he : ∀ l, expo x (ix5 b h g s l) = Ideal.exp (T b h g s l - m) := fun l => by
    rw [expo, powers_apply, floored_apply, hm, hT]
  rw [weights, quotients_apply, total_apply]
  simp only [he]
  exact Softmax.host_share _ _ _

/-- The reference's attention, where the scores are real numbers. -/
theorem att_apply (q : FVec Ideal S17408x512 .f32) (k v : FVec Ideal S17408x128 .f32) (T : Fin 4 → Fin 2 → Fin 4 → Fin 4096 → Fin 4352 → ℝ)
    (hT : ∀ b h g s l, (∑ d : Fin 64, k (ix2 (keyRow b l) ⟨64 * h.val + d.val, by omega⟩)
        * q (ix2 ⟨4096 * b.val + s.val, by omega⟩ ⟨256 * h.val + 64 * g.val + d.val, by omega⟩)) * ((1 / 8 : ℝ) : EReal) = T b h g s l)
    (b : Fin 4) (s : Fin 4096) (h : Fin 2) (g : Fin 4) (d : Fin 64) :
    attention q k v (ix2 ⟨4096 * b.val + s.val, by omega⟩ ⟨256 * h.val + 64 * g.val + d.val, by omega⟩)
      = ∑ l : Fin 4352, v (ix2 (keyRow b l) ⟨64 * h.val + d.val, by omega⟩) * ((Softmax.share (T b h g s) l : ℝ) : EReal) := by
  rw [attention, stack_apply, mix_apply]
  refine Finset.sum_congr rfl fun l _ => ?_
  rw [heads_apply, weights_apply _ T]
  intro b h g s l
  rw [scores_apply, ← hT]
  simp only [heads_apply, queries_apply]

end Cert.ReferenceIdeal.Attn

end
-- ==== Proof.Final.lean ====
/- The kernel's attention array, for real queries and keys: the reference's sum over all the keys of a sample. -/
module

public import proofs.«01_k».proof.Proof.Body
public import proofs.«01_k».proof.Proof.Entry
public import proofs.«01_k».proof.Proof.Reference

@[expose] public section

noncomputable section

namespace Cert.KernelIdeal.Attn

open Cert.KernelIdeal Cert.KernelIdeal.Gen Idealize.ShloMosaic Idealize.ShloMosaic.TcCoe Idealize.SL.Sem
open Cert.ReferenceIdeal.Attn (keyRow ofBits_eighth)

/-- The exponent of the reference's softmax: query row `s` of sample `b`, head `g` of key head `h`, key `l`. -/
def exponent (qr : Fin 17408 → Fin 512 → ℝ) (kr : Fin 17408 → Fin 128 → ℝ) (b : Fin 4) (h : Fin 2) (g : Fin 4) (s : Fin 4096) (l : Fin 4352) : ℝ :=
  (∑ d : Fin 64, kr (keyRow b l) ⟨64 * h.val + d.val, by omega⟩
    * qr ⟨4096 * b.val + s.val, by omega⟩ ⟨256 * h.val + 64 * g.val + d.val, by omega⟩) * (1 / 8)

theorem ofBits_two : Ideal.ofBits .f32 0x40000000#32 = ((2 : ℝ) : EReal) := by
  simp [Ideal.ofBits, Ideal.ieee]
  rw [← EReal.coe_mul]
  norm_num

/-- The scale of the queries: an eighth over the logarithm of two. -/
theorem scale_eq : Ideal.div (Ideal.ofBits .f32 0x3E000000#32) (Ideal.log (Ideal.ofBits .f32 0x40000000#32))
    = ((1 / 8 / Real.log 2 : ℝ) : EReal) := by
  have h2 : Real.log 2 ≠ 0 := (Real.log_pos one_lt_two).ne'
  rw [ofBits_eighth, ofBits_two, Ideal.log_coe, if_neg (by norm_num), Ideal.div_coe h2, ← EReal.coe_mul]
  refine congrArg _ ?_
  ring

/-- The place of key `i` of tile `j` among a sample's keys. -/
def place : Fin 17 × Fin 256 ≃ Fin 4352 := finProdFinEquiv

theorem place_val (p : Fin 17 × Fin 256) : (place p).val = 256 * p.1.val + p.2.val := by
  show p.2.val + 256 * p.1.val = _
  omega

/-- The shares follow a renaming of the index. -/
theorem share_place (T : Fin 4352 → ℝ) (S : Fin 17 × Fin 256 → ℝ) (h : ∀ p, S p = T (place p)) (p : Fin 17 × Fin 256) :
    Softmax.share S p = Softmax.share T (place p) := by
  unfold Softmax.share
  rw [h, ← Equiv.sum_comp place]
  simp only [h]

theorem feat_head (h : Fin 2) (g : Fin 4) (d : Fin 64) (k : ℕ) (hk : k = 4 * h.val + g.val) :
    feat (decide (4 ≤ k)) d = ⟨64 * h.val + d.val, by omega⟩ := by
  refine Fin.ext ?_
  subst hk
  unfold feat
  obtain ⟨h, hh⟩ := h
  interval_cases h
  · rw [decide_eq_false (by have := g.isLt; simp only; omega)]
    simp
  · rw [decide_eq_true (by simp only; omega)]
    simp

/-- The row of key `i` of tile `j`, where the tiles past the last repeat it. -/
def tileRow (b : Fin 4) (j : ℕ) (i : Fin 256) : Fin 17408 := keyRow b ⟨256 * min j 16 + i.val, by omega⟩

theorem tileRow_place (b : Fin 4) (p : Fin 17 × Fin 256) : tileRow b p.1 p.2 = keyRow b (place p) := by
  unfold tileRow
  refine congrArg (keyRow b) (Fin.ext ?_)
  rw [place_val]
  have := p.1.isLt
  show 256 * min p.1.val 16 + p.2.val = _
  omega

theorem tileRow_zero (b : Fin 4) (i : Fin 256) : tileRow b 0 i = ⟨16384 + 256 * b.val + i.val, by omega⟩ := by
  unfold tileRow keyRow
  rw [dif_pos (by show 256 * min 0 16 + i.val < 256; omega)]
  refine Fin.ext ?_
  show 16384 + 256 * b.val + (256 * min 0 16 + i.val) = _
  simp

theorem tileRow_succ (b : Fin 4) (j : ℕ) (i : Fin 256) : tileRow b (j + 1) i = ⟨4096 * b.val + 256 * min j 15 + i.val, by omega⟩ := by
  unfold tileRow keyRow
  rw [dif_neg (by show ¬ 256 * min (j + 1) 16 + i.val < 256; omega)]
  refine Fin.ext ?_
  show 4096 * b.val + (256 * min (j + 1) 16 + i.val - 256) = 4096 * b.val + 256 * min j 15 + i.val
  omega

variable (m : (ℓ : Loc nD τ sig) → Buf (Elt Ideal) ℓ) (c : Dev nD)

theorem keys_tile (t : Fin cfg0.N) (j : ℕ) (i : Fin 256) (f : Fin 128) :
    kTile (iblk m c 1 t) (X0_3 m c t) j i f = K m c (ix2 (tileRow (sampleOf t) j i) f) := by
  cases j with
  | zero => rw [kTile, k_context, tileRow_zero]
  | succ j =>
    rw [kTile, k_latent, tileRow_succ]
    exact congrArg (fun r => K m c (ix2 r f)) (Fin.ext (Nat.add_assoc _ _ _).symm)

theorem values_tile (t : Fin cfg0.N) (j : ℕ) (i : Fin 256) (f : Fin 128) :
    vTile (iblk m c 2 t) (X0_4 m c t) j f i = W m c (ix2 (tileRow (sampleOf t) j i) f) := by
  cases j with
  | zero => rw [vTile, v_context, tileRow_zero]
  | succ j => rw [vTile, v_latent, tileRow_succ]

variable (qr : Fin 17408 → Fin 512 → ℝ) (kr : Fin 17408 → Fin 128 → ℝ)
  (hq : ∀ r f, Q m c (ix2 r f) = qr r f) (hk : ∀ r f, K m c (ix2 r f) = kr r f)

include hq hk in
/-- One product of the kernel's scores, with the scale in the queries. -/
theorem tile_score (t : Fin cfg0.N) (n : Fin 2) (h : Fin 2) (g : Fin 4) (j : ℕ) (i r : Fin 256) :
    (∑ e : Fin 64, kTile (iblk m c 1 t) (X0_3 m c t) j i (feat (decide (4 ≤ 4 * h.val + g.val)) e)
      * iblk m c 0 t (ix2 ⟨64 * (4 * h.val + g.val) + e.val, by omega⟩ ⟨256 * n.val + r.val, by omega⟩))
    = (((∑ e : Fin 64, kr (tileRow (sampleOf t) j i) ⟨64 * h.val + e.val, by omega⟩
        * qr ⟨512 * t.val + (256 * n.val + r.val), by have : t.val < 32 := t.isLt; omega⟩ ⟨256 * h.val + 64 * g.val + e.val, by omega⟩)
      * (1 / 8 / Real.log 2) : ℝ) : EReal) := by
  rw [Finset.sum_mul, ← Softmax.coe_sum]
  refine Finset.sum_congr rfl fun e _ => ?_
  rw [keys_tile, q_block, hq, hk, scale_eq, feat_head h g e _ rfl, ← EReal.coe_mul, ← EReal.coe_mul, ← mul_assoc]
  refine congrArg (fun f => ((kr _ _ * qr _ f * _ : ℝ) : EReal)) (Fin.ext ?_)
  show 64 * (4 * h.val + g.val) + e.val = 256 * h.val + 64 * g.val + e.val
  omega

include hq hk in
/-- What a grid point's body leaves for a head, a feature and a query row. -/
theorem head_attends (t : Fin cfg0.N) (n : Fin 2) (h : Fin 2) (g : Fin 4) (d : Fin 64) (r : Fin 256) :
    headLoad (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (X0_3 m c t) (X0_4 m c t) n ⟨4 * h.val + g.val, by omega⟩ (ix2 d r)
      = ∑ l : Fin 4352, W m c (ix2 (keyRow (sampleOf t) l) ⟨64 * h.val + d.val, by omega⟩)
        * ((Softmax.share (exponent qr kr (sampleOf t) h g ⟨512 * (t.val % 8) + 256 * n.val + r.val, by omega⟩) l : ℝ) : EReal) := by
  refine (headLoad_apply (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (X0_3 m c t) (X0_4 m c t) n ⟨4 * h.val + g.val, by omega⟩
    (fun j i r => (∑ e : Fin 64, kr (tileRow (sampleOf t) j i) ⟨64 * h.val + e.val, by omega⟩
        * qr ⟨512 * t.val + (256 * n.val + r.val), by have : t.val < 32 := t.isLt; omega⟩ ⟨256 * h.val + 64 * g.val + e.val, by omega⟩)
      * (1 / 8 / Real.log 2)) (fun j i r => tile_score m c qr kr hq hk t n h g j i r) d r).trans ?_
  rw [← Equiv.sum_comp place]
  refine Finset.sum_congr rfl fun p _ => ?_
  rw [values_tile, tileRow_place, feat_head h g d _ rfl]
  refine congrArg (fun s : ℝ => W m c _ * (s : EReal)) (share_place _ _ (fun p => ?_) p)
  have h2 : Real.log 2 ≠ 0 := (Real.log_pos one_lt_two).ne'
  rw [tileRow_place, mul_assoc, div_mul_cancel₀ _ h2]
  unfold exponent
  refine congrArg (· * (1 / 8 : ℝ)) (Finset.sum_congr rfl fun e _ => ?_)
  refine congrArg (fun s => kr _ _ * qr s _) (Fin.ext ?_)
  show 512 * t.val + (256 * n.val + r.val) = 4096 * (t.val / 8) + (512 * (t.val % 8) + 256 * n.val + r.val)
  omega

/-- The reference's attention at latent row `i 0` and column `i 1`. -/
def attended (r : Fin 17408) (w : Fin 512) : EReal :=
  ∑ l : Fin 4352, W m c (ix2 (keyRow ⟨r.val / 4096 % 4, by omega⟩ l) ⟨64 * (w.val / 256) + w.val % 64, by omega⟩)
    * ((Softmax.share (exponent qr kr ⟨r.val / 4096 % 4, by omega⟩ ⟨w.val / 256, by omega⟩ ⟨w.val / 64 % 4, by omega⟩ ⟨r.val % 4096, by omega⟩) l : ℝ) : EReal)

include hq hk in
/-- Row `r`, column `w` of the block that grid point `t` computes. -/
theorem block_attends (t : Fin cfg0.N) (r w : Fin 512) :
    (outsAt0 m c t).1 (ix2 r w) = attended m c qr kr ⟨512 * t.val + r.val, by have : t.val < 32 := t.isLt; omega⟩ w := by
  have ht : t.val < 32 := t.isLt
  have hg : (⟨w.val / 64, by omega⟩ : Fin 8) = ⟨4 * (w.val / 256) + w.val / 64 % 4, by omega⟩ :=
    Fin.ext (show w.val / 64 = 4 * (w.val / 256) + w.val / 64 % 4 by omega)
  have hb : (⟨(512 * t.val + r.val) / 4096 % 4, by omega⟩ : Fin 4) = sampleOf t :=
    Fin.ext (show (512 * t.val + r.val) / 4096 % 4 = t.val / 8 by omega)
  have hs : (⟨(512 * t.val + r.val) % 4096, by omega⟩ : Fin 4096) = ⟨512 * (t.val % 8) + 256 * (r.val / 256) + r.val % 256, by omega⟩ :=
    Fin.ext (show (512 * t.val + r.val) % 4096 = 512 * (t.val % 8) + 256 * (r.val / 256) + r.val % 256 by omega)
  simp only [outsAt0]
  rw [block_apply, hg]
  refine (head_attends m c qr kr hq hk t ⟨r.val / 256, by omega⟩ ⟨w.val / 256, by omega⟩ ⟨w.val / 64 % 4, by omega⟩ ⟨w.val % 64, by omega⟩
    ⟨r.val % 256, by omega⟩).trans ?_
  unfold attended
  simp only [hb, hs]

/-- The same, over the array's indices. -/
def attArray (i : S17408x512.Idx) : EReal := attended m c qr kr (i 0) (i 1)

include hq hk in
/-- The kernel's array, at the latent rows. -/
theorem att_array (r : Fin 17408) (hr : r.val < 16384) (w : Fin 512) :
    (dats m 0 c).arrAt 9 cfg0.N (ix2 r w) = attended m c qr kr r w := by
  refine ((dats m 0 c).arrAt_apply_of_coversWhere 9 (attArray m c qr kr) (P := fun i => (i 0).val / 512 < 32)
    (fun i => i 0 < 32) (by decide +kernel) (fun t _ y => ?_) (fun j => Iff.rfl) (ix2 r w)).trans (if_pos (show r.val / 512 < 32 by omega))
  blk_simp
  rw [after0_9]
  have hy : y = ix2 (⟨(y 0).val, (y 0).isLt⟩ : Fin 512) (⟨(y 1).val, (y 1).isLt⟩ : Fin 512) := by
    funext a
    fin_cases a <;> rfl
  refine (congrArg (outsAt0 m c t).1 hy).trans ((block_attends m c qr kr hq hk t _ _).trans ?_)
  show attArray m c qr kr (ix2 _ _) = _
  blk_ext [idx t]

/-- The reference's attention at the same rows, from the same queries, keys and values. -/
theorem att_reference (q : FVec Ideal S17408x512 .f32) (k v : FVec Ideal S17408x128 .f32)
    (hq : ∀ r f, q (ix2 r f) = qr r f) (hk : ∀ r f, k (ix2 r f) = kr r f) (hv : v = W m c)
    (r : Fin 17408) (hr : r.val < 16384) (w : Fin 512) :
    Cert.ReferenceIdeal.Attn.attention q k v (ix2 r w)
      = attended m c qr kr r w := by
  have h := Cert.ReferenceIdeal.Attn.att_apply q k v (exponent qr kr) (fun b h g s l => by
      unfold exponent
      rw [EReal.coe_mul, ← Softmax.coe_sum]
      refine congrArg (· * _) (Finset.sum_congr rfl fun d _ => ?_)
      rw [hq, hk, EReal.coe_mul]) ⟨r.val / 4096 % 4, by omega⟩ ⟨r.val % 4096, by omega⟩ ⟨w.val / 256, by omega⟩ ⟨w.val / 64 % 4, by omega⟩ ⟨w.val % 64, by omega⟩
  have hr' : (⟨4096 * (r.val / 4096 % 4) + r.val % 4096, by omega⟩ : Fin 17408) = r :=
    Fin.ext (show 4096 * (r.val / 4096 % 4) + r.val % 4096 = r.val by omega)
  have hw' : (⟨256 * (w.val / 256) + 64 * (w.val / 64 % 4) + w.val % 64, by omega⟩ : Fin 512) = w :=
    Fin.ext (show 256 * (w.val / 256) + 64 * (w.val / 64 % 4) + w.val % 64 = w.val by omega)
  simp only [hr', hw', hv] at h
  rw [hv]
  exact h

end Cert.KernelIdeal.Attn

end
-- ==== Proof.FeedRow.lean ====
/- The feed-forward part of one row, over the extended reals: the root-mean-square factor, the modulated row, the
   squared rectified products with the first weight, their products with the second, the gated sum. -/
module

public import Idealize.ShloMosaic.Lib.Pipeline.ValueKit

@[expose] public section

noncomputable section

namespace Cert.FeedRow

open Idealize.ShloMosaic

/-- One over the root of the mean square, a small number added to the mean. -/
def factor (x : Fin 1024 → EReal) : EReal :=
  Ideal.rsqrt (Ideal.div (∑ d, x d * x d) (Ideal.ofBits .f32 0x44800000#32) + Ideal.ofBits .f32 0x358637BD#32)

/-- The row by its factor, the gains and one more than the scales, the shifts added. -/
def modulated (x g sc sh : Fin 1024 → EReal) (k : Fin 1024) : EReal :=
  x k * factor x * (g k * (1 + sc k)) + sh k

/-- The square of the rectified product with a column of the first weight. -/
def active {n : ℕ} (h : Fin 1024 → EReal) (u : Fin 1024 → Fin n → EReal) (f : Fin n) : EReal :=
  max (∑ k, h k * u k f) 0 * max (∑ k, h k * u k f) 0

/-- The products with the second weight. -/
def mixed {n : ℕ} (h : Fin 1024 → EReal) (u : Fin 1024 → Fin n → EReal) (w : Fin n → Fin 1024 → EReal) (k : Fin 1024) : EReal :=
  ∑ f, active h u f * w f k

/-- The row, and the row `y` by its factor and the gates by the gains added to it. -/
def gated (x y gt gp : Fin 1024 → EReal) (k : Fin 1024) : EReal :=
  x k + y k * factor y * (gt k * gp k)

/-- A row's feed-forward part, from the row, its modulation, the gains and the weights. -/
def row (x sc sh gt g gp : Fin 1024 → EReal) (u : Fin 1024 → Fin 4096 → EReal) (w : Fin 4096 → Fin 1024 → EReal) : Fin 1024 → EReal :=
  gated x (mixed (modulated x g sc sh) u w) gt gp

/-- The modulation's row of a row: its sample's among the latent rows, the fifth among the context rows. -/
def sample (r : Fin 17408) : Fin 8 := if h : r.val < 16384 then ⟨r.val / 4096, by omega⟩ else 4

/-- Every row's feed-forward part, from all rows, the modulation, the gains and the weights. -/
def feed (x : Fin 17408 → Fin 1024 → EReal) (m : Fin 8 → Fin 6 → Fin 1024 → EReal) (g gp : Fin 1024 → EReal)
    (u : Fin 1024 → Fin 4096 → EReal) (w : Fin 4096 → Fin 1024 → EReal) (r : Fin 17408) : Fin 1024 → EReal :=
  row (x r) (m (sample r) 4) (m (sample r) 3) (m (sample r) 5) g gp u w

/-- Feature `f` of chunk `j` of the four. -/
def column (j : Fin 4) (f : Fin 1024) : Fin 4096 := ⟨1024 * j.val + f.val, by omega⟩

/-- The sum over the features is the sum of the sums over the four chunks. -/
theorem mixed_chunks (h : Fin 1024 → EReal) (u : Fin 1024 → Fin 4096 → EReal) (w : Fin 4096 → Fin 1024 → EReal) (k : Fin 1024) :
    mixed h u w k = mixed h (fun i f => u i (column 0 f)) (fun f => w (column 0 f)) k
      + mixed h (fun i f => u i (column 1 f)) (fun f => w (column 1 f)) k
      + mixed h (fun i f => u i (column 2 f)) (fun f => w (column 2 f)) k
      + mixed h (fun i f => u i (column 3 f)) (fun f => w (column 3 f)) k := by
  have hs (F : Fin 4096 → EReal) : ∑ f, F f = ∑ j : Fin 4, ∑ f : Fin 1024, F (column j f) := by
    rw [← Fintype.sum_prod_type', ← Equiv.sum_comp (finProdFinEquiv : Fin 4 × Fin 1024 ≃ Fin 4096) F]
    refine Finset.sum_congr rfl fun p _ => congrArg F (Fin.ext ?_)
    simp [column, finProdFinEquiv]
    omega
  unfold mixed
  rw [hs, Fin.sum_univ_four]
  rfl

end Cert.FeedRow

end
-- ==== Proof.FeedBody.lean ====
/- What one grid point of the feed-forward part computes, written once: of a block of 256 rows, the modulated rows, a
   chunk's products with the two weights, the gated sum. The kernel's body is these functions at four blocks of rows;
   here are their elements over the extended reals. -/
module

public import proofs.«01_k».proof.Proof.Gen.FeedForwardIdeal.Value
public import proofs.«01_k».proof.Proof.FeedRow

@[expose] public section

noncomputable section

namespace Cert.FeedForwardIdeal.Rows

open Cert.FeedForwardIdeal Cert.FeedForwardIdeal.Gen Idealize.ShloMosaic Idealize.ShloMosaic.TcCoe Idealize.SL.Sem

section Def
variable {F : FTy → Type} [FloatOps F]

/-- The factors of the rows. -/
def factors (x : FVec F S256x1024 .f32) : FVec F S256x1 .f32 :=
  rsqrt (addf (divf (shapeCast S256x1 (multiReduction .add [1] S256 (mulf x x) 0x00000000#32 reduces_S256x1024_S256 (.inl rfl) rfl : FVec F S256 .f32)
      shapeCasts_S256_S256x1) (broadcast S256x1 (Scalar.ofBits .f32 0x44800000#32 : F .f32)))
    (broadcast S256x1 (Scalar.ofBits .f32 0x358637BD#32 : F .f32)))

/-- The modulated rows. -/
def modulate (x : Vec F S256x1024 .f32) (g : Vec F S1x1x1024 .f32) (sc sh : Vec F S1x1x1x1024 .f32) : FVec F S256x1024 .bf16 :=
  truncf .bf16 (addf (mulf (mulf x (broadcastTo S256x1024 (factors x) broadcasts_S256x1_S256x1024) : FVec F S256x1024 .f32)
    (broadcastTo S256x1024 (mulf (shapeCast S1x1024 g shapeCasts_S1x1x1024_S1x1024 : FVec F S1x1024 .f32)
      (addf (broadcast S1x1024 (Scalar.ofBits .f32 0x3F800000#32 : F .f32)) (shapeCast S1x1024 sc shapeCasts_S1x1x1x1024_S1x1024)) : FVec F S1x1024 .f32)
      broadcasts_S1x1024_S256x1024))
    (broadcastTo S256x1024 (shapeCast S1x1024 sh shapeCasts_S1x1x1x1024_S1x1024 : FVec F S1x1024 .f32) broadcasts_S1x1024_S256x1024) : FVec F S256x1024 .f32)
    bitsLt_bf16_f32

/-- A product with a chunk of a weight. -/
def times (a : FVec F S256x1024 .bf16) (b : Vec F S1024x1024 .bf16) : FVec F S256x1024 .f32 :=
  matmul dot_S256x1024_S1024x1024_S256x1024_1_0_0_1_n_n none a b (constant S256x1024 .f32 0x00000000#32)

/-- The square of what is positive. -/
def rectify (a : FVec F S256x1024 .f32) : FVec F S256x1024 .bf16 :=
  truncf .bf16 (mulf (maximumf a (broadcast S256x1024 (Scalar.ofBits .f32 0x00000000#32 : F .f32)))
    (maximumf a (broadcast S256x1024 (Scalar.ofBits .f32 0x00000000#32 : F .f32))) : FVec F S256x1024 .f32) bitsLt_bf16_f32

/-- A chunk's share of the second product. -/
def chunk (h : FVec F S256x1024 .bf16) (u w : Vec F S1024x1024 .bf16) : FVec F S256x1024 .f32 := times (rectify (times h u)) w

/-- The gated sum. -/
def gate (x : Vec F S256x1024 .f32) (y : FVec F S256x1024 .f32) (gt : Vec F S1x1x1x1024 .f32) (gp : Vec F S1x1x1024 .f32) : FVec F S256x1024 .f32 :=
  addf x (mulf (mulf y (broadcastTo S256x1024 (factors y) broadcasts_S256x1_S256x1024) : FVec F S256x1024 .f32)
    (broadcastTo S256x1024 (mulf (shapeCast S1x1024 gt shapeCasts_S1x1x1x1024_S1x1024 : FVec F S1x1024 .f32)
      (shapeCast S1x1024 gp shapeCasts_S1x1x1024_S1x1024) : FVec F S1x1024 .f32) broadcasts_S1x1024_S256x1024))

/-- The rows of a block of 256, from the windows' contents. -/
def rows (x : Vec F S256x1024 .f32) (x1 : Vec F S1x1x6x1024 .f32) (x2 x3 : Vec F S1x1x1024 .f32) (x4 : Vec F S1024x4096 .bf16) (x5 : Vec F S4096x1024 .bf16) :
    FVec F S256x1024 .f32 :=
  let h := modulate x (View.ld x2 r0_1) (View.ld x1 r0_2) (View.ld x1 r0_3)
  gate x (addf (addf (addf (chunk h (View.ld x4 r0_4) (View.ld x5 r0_6)) (chunk h (View.ld x4 r0_5) (View.ld x5 r0_8)))
    (chunk h (View.ld x4 r0_7) (View.ld x5 r0_10))) (chunk h (View.ld x4 r0_9) (View.ld x5 r0_12))) (View.ld x1 r0_13) (View.ld x3 r0_1)

/-- The body's result is the rows of the four blocks. -/
theorem out_rows (x0 : Vec F S1024x1024 .f32) (x1 : Vec F S1x1x6x1024 .f32) (x2 x3 : Vec F S1x1x1024 .f32) (x4 : Vec F S1024x4096 .bf16) (x5 : Vec F S4096x1024 .bf16) :
    out0_6 x0 x1 x2 x3 x4 x5 = View.canon [⟨r0_15, rows (View.ld x0 r0_15) x1 x2 x3 x4 x5⟩, ⟨r0_14, rows (View.ld x0 r0_14) x1 x2 x3 x4 x5⟩,
      ⟨r0_11, rows (View.ld x0 r0_11) x1 x2 x3 x4 x5⟩, ⟨r0_0, rows (View.ld x0 r0_0) x1 x2 x3 x4 x5⟩] := rfl

end Def

/-! ## Elements over the extended reals -/

theorem factors_apply (x : FVec Ideal S256x1024 .f32) (r : Fin 256) :
    factors x (ix2 r 0) = FeedRow.factor fun k => x (ix2 r k) := by
  unfold factors FeedRow.factor
  pointwise

theorem modulate_apply (x : Vec Ideal S256x1024 .f32) (g : Vec Ideal S1x1x1024 .f32) (sc sh : Vec Ideal S1x1x1x1024 .f32) (r : Fin 256) (k : Fin 1024) :
    modulate x g sc sh (ix2 r k) = FeedRow.modulated (fun k => x (ix2 r k)) (fun k => g (ix3 0 0 k)) (fun k => sc (ix4 0 0 0 k))
      (fun k => sh (ix4 0 0 0 k)) k := by
  unfold modulate FeedRow.modulated
  rw [← factors_apply]
  generalize factors (F := Ideal) x = y
  pointwise

theorem chunk_apply (h : FVec Ideal S256x1024 .bf16) (u w : Vec Ideal S1024x1024 .bf16) (r : Fin 256) (k : Fin 1024) :
    chunk h u w (ix2 r k) = FeedRow.mixed (fun k => h (ix2 r k)) (fun i f => u (ix2 i f)) (fun f i => w (ix2 f i)) k := by
  unfold chunk times rectify FeedRow.mixed FeedRow.active
  pointwise

theorem gate_apply (x : Vec Ideal S256x1024 .f32) (y : FVec Ideal S256x1024 .f32) (gt : Vec Ideal S1x1x1x1024 .f32) (gp : Vec Ideal S1x1x1024 .f32)
    (r : Fin 256) (k : Fin 1024) :
    gate x y gt gp (ix2 r k) = FeedRow.gated (fun k => x (ix2 r k)) (fun k => y (ix2 r k)) (fun k => gt (ix4 0 0 0 k)) (fun k => gp (ix3 0 0 k)) k := by
  unfold gate FeedRow.gated
  rw [← factors_apply]
  generalize factors y = z
  pointwise

end Cert.FeedForwardIdeal.Rows

end
-- ==== Proof.FeedFinal.lean ====
/- The kernel's array of the feed-forward part, row by row. -/
module

public import proofs.«01_k».proof.Proof.FeedBody

@[expose] public section

noncomputable section

namespace Cert.FeedForwardIdeal.Rows

open Cert.FeedForwardIdeal Cert.FeedForwardIdeal.Gen Idealize.ShloMosaic Idealize.ShloMosaic.TcCoe Idealize.SL.Sem

theorem rows_apply (x : Vec Ideal S256x1024 .f32) (x1 : Vec Ideal S1x1x6x1024 .f32) (x2 x3 : Vec Ideal S1x1x1024 .f32)
    (x4 : Vec Ideal S1024x4096 .bf16) (x5 : Vec Ideal S4096x1024 .bf16) (r : Fin 256) (k : Fin 1024) :
    rows x x1 x2 x3 x4 x5 (ix2 r k) = FeedRow.row (fun k => x (ix2 r k)) (fun k => x1 (ix4 0 0 4 k)) (fun k => x1 (ix4 0 0 3 k))
      (fun k => x1 (ix4 0 0 5 k)) (fun k => x2 (ix3 0 0 k)) (fun k => x3 (ix3 0 0 k)) (fun i f => x4 (ix2 i f)) (fun f i => x5 (ix2 f i)) k := by
  have e1 (k : Fin 1024) : View.ld x2 r0_1 (ix3 0 0 k) = x2 (ix3 0 0 k) := by pointwise
  have e2 (k : Fin 1024) : View.ld x1 r0_2 (ix4 0 0 0 k) = x1 (ix4 0 0 4 k) := by pointwise
  have e3 (k : Fin 1024) : View.ld x1 r0_3 (ix4 0 0 0 k) = x1 (ix4 0 0 3 k) := by pointwise
  have e13 (k : Fin 1024) : View.ld x1 r0_13 (ix4 0 0 0 k) = x1 (ix4 0 0 5 k) := by pointwise
  have e1' (k : Fin 1024) : View.ld x3 r0_1 (ix3 0 0 k) = x3 (ix3 0 0 k) := by pointwise
  have u0 (i f : Fin 1024) : View.ld x4 r0_4 (ix2 i f) = x4 (ix2 i (FeedRow.column 0 f)) := by unfold FeedRow.column; pointwise
  have u1 (i f : Fin 1024) : View.ld x4 r0_5 (ix2 i f) = x4 (ix2 i (FeedRow.column 1 f)) := by unfold FeedRow.column; pointwise
  have u2 (i f : Fin 1024) : View.ld x4 r0_7 (ix2 i f) = x4 (ix2 i (FeedRow.column 2 f)) := by unfold FeedRow.column; pointwise
  have u3 (i f : Fin 1024) : View.ld x4 r0_9 (ix2 i f) = x4 (ix2 i (FeedRow.column 3 f)) := by unfold FeedRow.column; pointwise
  have w0 (f i : Fin 1024) : View.ld x5 r0_6 (ix2 f i) = x5 (ix2 (FeedRow.column 0 f) i) := by unfold FeedRow.column; pointwise
  have w1 (f i : Fin 1024) : View.ld x5 r0_8 (ix2 f i) = x5 (ix2 (FeedRow.column 1 f) i) := by unfold FeedRow.column; pointwise
  have w2 (f i : Fin 1024) : View.ld x5 r0_10 (ix2 f i) = x5 (ix2 (FeedRow.column 2 f) i) := by unfold FeedRow.column; pointwise
  have w3 (f i : Fin 1024) : View.ld x5 r0_12 (ix2 f i) = x5 (ix2 (FeedRow.column 3 f) i) := by unfold FeedRow.column; pointwise
  have ha (a b : FVec Ideal S256x1024 .f32) (r : Fin 256) (k : Fin 1024) : addf a b (ix2 r k) = a (ix2 r k) + b (ix2 r k) := by pointwise
  unfold rows FeedRow.row
  simp only [gate_apply, ha, chunk_apply, modulate_apply, e1, e2, e3, e13, e1', u0, u1, u2, u3, w0, w1, w2, w3]
  refine congrArg (fun y => FeedRow.gated _ y _ _ k) (funext fun i => ?_)
  exact (FeedRow.mixed_chunks _ (fun i f => x4 (ix2 i f)) (fun f i => x5 (ix2 f i)) i).symm

/-- A block's feed-forward part at an index, from the windows' contents. -/
def blockAt (x0 : Vec Ideal S1024x1024 .f32) (x1 : Vec Ideal S1x1x6x1024 .f32) (x2 x3 : Vec Ideal S1x1x1024 .f32)
    (x4 : Vec Ideal S1024x4096 .bf16) (x5 : Vec Ideal S4096x1024 .bf16) (y : S1024x1024.Idx) : EReal :=
  FeedRow.row (fun k => x0 (ix2 (y 0) k)) (fun k => x1 (ix4 0 0 4 k)) (fun k => x1 (ix4 0 0 3 k))
    (fun k => x1 (ix4 0 0 5 k)) (fun k => x2 (ix3 0 0 k)) (fun k => x3 (ix3 0 0 k)) (fun i f => x4 (ix2 i f)) (fun f i => x5 (ix2 f i)) (y 1)

/-- The block of 256 rows that starts at row `o` holds the rows' feed-forward parts. -/
theorem piece_apply (x0 : Vec Ideal S1024x1024 .f32) (x1 : Vec Ideal S1x1x6x1024 .f32) (x2 x3 : Vec Ideal S1x1x1024 .f32)
    (x4 : Vec Ideal S1024x4096 .bf16) (x5 : Vec Ideal S4096x1024 .bf16) (o : ℕ) (h : ∀ a, ![o, 0] a + S256x1024.size a ≤ S1024x1024.size a)
    (x : S256x1024.Idx) :
    rows (View.ld x0 (Rect.unit (s := S1024x1024) ![o, 0] S256x1024.size h)) x1 x2 x3 x4 x5 x
      = blockAt x0 x1 x2 x3 x4 x5 ((Rect.unit (s := S1024x1024) ![o, 0] S256x1024.size h).emb x) := by
  have hx : x = ix2 (⟨(x 0).val, (x 0).isLt⟩ : Fin 256) (⟨(x 1).val, (x 1).isLt⟩ : Fin 1024) := by
    funext a
    fin_cases a <;> rfl
  rw [hx, rows_apply]
  unfold blockAt
  have e (r : Fin 256) (k : Fin 1024) : View.ld x0 (Rect.unit (s := S1024x1024) ![o, 0] S256x1024.size h) (ix2 r k)
      = x0 ((Rect.unit (s := S1024x1024) ![o, 0] S256x1024.size h).emb (ix2 r k)) := rfl
  simp only [e]
  have e0 (r : Fin 256) (k : Fin 1024) : (((Rect.unit (s := S1024x1024) ![o, 0] S256x1024.size h).emb (ix2 r k) 0 : Fin _) : ℕ) = o + r.val :=
    ValueKit.rect_emb_unit_val _ _ _ _ _
  have e1 (r : Fin 256) (k : Fin 1024) : (((Rect.unit (s := S1024x1024) ![o, 0] S256x1024.size h).emb (ix2 r k) 1 : Fin _) : ℕ) = 0 + k.val :=
    ValueKit.rect_emb_unit_val _ _ _ _ _
  refine congr (congrArg (fun z => FeedRow.row z _ _ _ _ _ _ _) (funext fun i => congrArg x0 ?_)) (Fin.ext ?_)
  · funext a
    fin_cases a
    · exact Fin.ext ((e0 _ i).trans (e0 _ _).symm)
    · exact Fin.ext ((e1 _ i).trans (zero_add _))
  · exact ((e1 _ _).trans (zero_add _)).symm

/-- The body's result, row by row. -/
theorem out_apply (x0 : Vec Ideal S1024x1024 .f32) (x1 : Vec Ideal S1x1x6x1024 .f32) (x2 x3 : Vec Ideal S1x1x1024 .f32)
    (x4 : Vec Ideal S1024x4096 .bf16) (x5 : Vec Ideal S4096x1024 .bf16) (y : S1024x1024.Idx) :
    out0_6 x0 x1 x2 x3 x4 x5 y = blockAt x0 x1 x2 x3 x4 x5 y := by
  rw [out_rows]
  refine View.canon_apply_of_pieces (Val := Elt Ideal) (blockAt x0 x1 x2 x3 x4 x5) _ (fun p hp => ?_) y (cover0_6 _ _ _ _ y)
  simp only [List.mem_cons, List.not_mem_nil, or_false] at hp
  obtain rfl | rfl | rfl | rfl := hp
  all_goals exact piece_apply x0 x1 x2 x3 x4 x5 _ _

variable (m : (ℓ : Loc nD τ sig) → Buf (Elt Ideal) ℓ) (c : Dev nD)

/-- The rows, the modulation, the gains and the weights given. -/
abbrev X : FVec Ideal S17408x1024 .f32 := m ((c : Thread nD τ).loc main_arg0)
abbrev M : FVec Ideal S4x8x6x1024 .f32 := m ((c : Thread nD τ).loc main_arg1)
abbrev G : FVec Ideal S4x1024 .f32 := m ((c : Thread nD τ).loc main_arg2)
abbrev P : FVec Ideal S4x1024 .f32 := m ((c : Thread nD τ).loc main_arg3)
abbrev U : FVec Ideal S1024x4096 .bf16 := m ((c : Thread nD τ).loc main_arg4)
abbrev D : FVec Ideal S4096x1024 .bf16 := m ((c : Thread nD τ).loc main_arg5)

/-- The modulation's row at a grid point. -/
def sampleAt (t : Fin cfg0.N) : Fin 8 := if h : t.val < 16 then ⟨t.val / 4, by omega⟩ else 4

theorem idx (t : Fin cfg0.N) : win0_0.index t = ![t.val, 0] ∧ win0_1.index t = ![0, (sampleAt t).val, 0, 0]
    ∧ win0_2.index t = ![0, 0, 0] ∧ win0_3.index t = ![0, 0, 0] ∧ win0_4.index t = ![0, 0] ∧ win0_5.index t = ![0, 0]
    ∧ win0_6.index t = ![t.val, 0] := by
  revert t; decide +kernel

/-- Row `r` of the block at a grid point. -/
def rowAt (t : Fin cfg0.N) (r : Fin 1024) : Fin 17408 := ⟨1024 * t.val + r.val, by have : t.val < 17 := t.isLt; omega⟩

theorem sample_rowAt (t : Fin cfg0.N) (r : Fin 1024) : FeedRow.sample (rowAt t r) = sampleAt t := by
  have : t.val < 17 := t.isLt
  unfold FeedRow.sample sampleAt rowAt
  by_cases h : t.val < 16
  · rw [dif_pos h, dif_pos (by simp; omega)]
    exact Fin.ext (by simp; omega)
  · rw [dif_neg h, dif_neg (by simp; omega)]

theorem x_block (t : Fin cfg0.N) (r k : Fin 1024) : iblk m c 0 t (ix2 r k) = X m c (ix2 (rowAt t r) k) := by
  blk_simp [iblk]
  entry_read
  unfold rowAt
  blk_ext [idx t]

theorem m_block (t : Fin cfg0.N) (n : Fin 6) (k : Fin 1024) : iblk m c 1 t (ix4 0 0 n k) = M m c (ix4 0 (sampleAt t) n k) := by
  blk_simp [iblk]
  entry_read
  blk_ext [idx t]

theorem g_block (t : Fin cfg0.N) (k : Fin 1024) : iblk m c 2 t (ix3 0 0 k) = G m c (ix2 0 k) := by
  blk_simp [iblk]
  entry_read
  pointwise
  blk_ext [idx t]

theorem p_block (t : Fin cfg0.N) (k : Fin 1024) : iblk m c 3 t (ix3 0 0 k) = P m c (ix2 0 k) := by
  blk_simp [iblk]
  entry_read
  pointwise
  blk_ext [idx t]

theorem u_block (t : Fin cfg0.N) (i : Fin 1024) (f : Fin 4096) : iblk m c 4 t (ix2 i f) = U m c (ix2 i f) := by
  blk_simp [iblk]
  entry_read
  blk_ext [idx t]

theorem d_block (t : Fin cfg0.N) (f : Fin 4096) (i : Fin 1024) : iblk m c 5 t (ix2 f i) = D m c (ix2 f i) := by
  blk_simp [iblk]
  entry_read
  blk_ext [idx t]

/-- The kernel's array: every row's feed-forward part. -/
def feedArray (i : S17408x1024.Idx) : EReal :=
  FeedRow.feed (fun r k => X m c (ix2 r k)) (fun s n k => M m c (ix4 0 s n k)) (fun k => G m c (ix2 0 k)) (fun k => P m c (ix2 0 k))
    (fun i f => U m c (ix2 i f)) (fun f i => D m c (ix2 f i)) (i 0) (i 1)

theorem feed_array : (dats m 0 c).arrAt 6 cfg0.N = feedArray m c := by
  refine (dats m 0 c).arrAt_eq_of_covers 6 (feedArray m c) (by decide +kernel) fun t _ y => ?_
  blk_simp
  rw [after0_6]
  have hy : y = ix2 (⟨(y 0).val, (y 0).isLt⟩ : Fin 1024) (⟨(y 1).val, (y 1).isLt⟩ : Fin 1024) := by
    funext a
    fin_cases a <;> rfl
  refine (congrArg (out0_6 (iblk m c 0 t) (iblk m c 1 t) (iblk m c 2 t) (iblk m c 3 t) (iblk m c 4 t) (iblk m c 5 t)) hy).trans
    ((out_apply (iblk m c 0 t) (iblk m c 1 t) (iblk m c 2 t) (iblk m c 3 t) (iblk m c 4 t) (iblk m c 5 t) _).trans ?_)
  have hb (r k : Fin 1024) : blockAt (iblk m c 0 t) (iblk m c 1 t) (iblk m c 2 t) (iblk m c 3 t) (iblk m c 4 t) (iblk m c 5 t) (ix2 r k)
      = feedArray m c (ix2 (rowAt t r) k) := by
    show FeedRow.row (fun k => iblk m c 0 t (ix2 r k)) (fun k => iblk m c 1 t (ix4 0 0 4 k)) (fun k => iblk m c 1 t (ix4 0 0 3 k))
      (fun k => iblk m c 1 t (ix4 0 0 5 k)) (fun k => iblk m c 2 t (ix3 0 0 k)) (fun k => iblk m c 3 t (ix3 0 0 k)) (fun i f => iblk m c 4 t (ix2 i f))
      (fun f i => iblk m c 5 t (ix2 f i)) k = FeedRow.feed _ _ _ _ _ _ (rowAt t r) k
    unfold FeedRow.feed
    rw [sample_rowAt]
    simp only [x_block, m_block, g_block, p_block, u_block, d_block]
  rw [hb]
  unfold rowAt
  blk_ext [idx t]

end Cert.FeedForwardIdeal.Rows

end
-- ==== Proof.FeedReference.lean ====
/- The reference's feed-forward part, one named step at a time, and its elements over the extended reals. -/
module

public import proofs.«01_k».proof.Proof.Gen.FeedForwardReferenceIdeal.Run
public import proofs.«01_k».proof.Proof.FeedRow

@[expose] public section

noncomputable section

namespace Cert.FeedForwardReferenceIdeal.Rows

open Cert.FeedForwardReferenceIdeal Cert.FeedForwardReferenceIdeal.Gen Idealize.ShloMosaic Idealize.ShloMosaic.TcCoe Idealize.SL.Sem

section Def
variable {F : FTy → Type} [FloatOps F]

/-- The factors of the latent rows. -/
def latentFactor (x : FVec F S4x4096x1024 .f32) : FVec F S4x4096x1 .f32 :=
  Host.rsqrt (addf (Host.divf (broadcastInDim S4x4096x1 ![0, 1] bcast_S4x4096_S4x4096x1_0_1
      (Host.reduceAdd (mulf x x) (constant S_ .f32 0x00000000#32) reducesTo_S4x4096x1024_S4x4096_d2 h_S_))
    (broadcastInDim S4x4096x1 ![] bcast_S_S4x4096x1 (constant S_ .f32 0x44800000#32)))
    (broadcastInDim S4x4096x1 ![] bcast_S_S4x4096x1 (constant S_ .f32 0x358637BD#32)))

/-- The latent rows by their factors and the gains. -/
def latentNorm (x : FVec F S4x4096x1024 .f32) (g : FVec F S1024 .f32) : FVec F S4x4096x1024 .f32 :=
  mulf (mulf x (broadcastInDim S4x4096x1024 ![0, 1, 2] bcast_S4x4096x1_S4x4096x1024_0_1_2 (latentFactor x)))
    (broadcastInDim S4x4096x1024 ![0, 1, 2] bcast_S1x1x1024_S4x4096x1024_0_1_2 (broadcastInDim S1x1x1024 ![2] bcast_S1024_S1x1x1024_2 g))

/-- The latent rows by one more than the scales, the shifts added. -/
def latentModulate (x : FVec F S4x4096x1024 .f32) (sh sc : FVec F S4x1x1024 .f32) : FVec F S4x4096x1024 .f32 :=
  addf (mulf x (broadcastInDim S4x4096x1024 ![0, 1, 2] bcast_S4x1x1024_S4x4096x1024_0_1_2 (addf (broadcastInDim S4x1x1024 ![] bcast_S_S4x1x1024 (constant S_ .f32 0x3F800000#32)) sc)))
    (broadcastInDim S4x4096x1024 ![0, 1, 2] bcast_S4x1x1024_S4x4096x1024_0_1_2 sh)

/-- The squares of the rectified products with the first weight. -/
def latentActive (h : FVec F S4x4096x1024 .f32) (u : FVec F S1024x4096 .f32) : FVec F S4x4096x4096 .f32 :=
  mulf (maximumf (Host.dotGeneral dot_S4x4096x1024_S1024x4096_S4x4096x4096_2_0_01_1_n_n none h u)
      (broadcastInDim S4x4096x4096 ![] bcast_S_S4x4096x4096 (constant S_ .f32 0x00000000#32)))
    (maximumf (Host.dotGeneral dot_S4x4096x1024_S1024x4096_S4x4096x4096_2_0_01_1_n_n none h u)
      (broadcastInDim S4x4096x4096 ![] bcast_S_S4x4096x4096 (constant S_ .f32 0x00000000#32)))

/-- Their products with the second weight. -/
def latentMix (a : FVec F S4x4096x4096 .f32) (w : FVec F S4096x1024 .f32) : FVec F S4x4096x1024 .f32 :=
  Host.dotGeneral dot_S4x4096x4096_S4096x1024_S4x4096x1024_2_0_01_1_n_n none a w

/-- The latent rows, and gated rows added to them. -/
def latentGate (x y : FVec F S4x4096x1024 .f32) (gt : FVec F S4x1x1024 .f32) : FVec F S4x4096x1024 .f32 :=
  addf x (mulf (broadcastInDim S4x4096x1024 ![0, 1, 2] bcast_S4x1x1024_S4x4096x1024_0_1_2 gt) y)

/-- The feed-forward part of the latent rows. -/
def latentStream (x : FVec F S4x4096x1024 .f32) (sh sc gt : FVec F S4x1x1024 .f32) (g gp : FVec F S1024 .f32)
    (u : FVec F S1024x4096 .f32) (w : FVec F S4096x1024 .f32) : FVec F S4x4096x1024 .f32 :=
  latentGate x (latentNorm (latentMix (latentActive (latentModulate (latentNorm x g) sh sc) u) w) gp) gt

/-- The factors of the context rows. -/
def contextFactor (x : FVec F S4x256x1024 .f32) : FVec F S4x256x1 .f32 :=
  Host.rsqrt (addf (Host.divf (broadcastInDim S4x256x1 ![0, 1] bcast_S4x256_S4x256x1_0_1
      (Host.reduceAdd (mulf x x) (constant S_ .f32 0x00000000#32) reducesTo_S4x256x1024_S4x256_d2 h_S_))
    (broadcastInDim S4x256x1 ![] bcast_S_S4x256x1 (constant S_ .f32 0x44800000#32)))
    (broadcastInDim S4x256x1 ![] bcast_S_S4x256x1 (constant S_ .f32 0x358637BD#32)))

/-- The context rows by their factors and the gains. -/
def contextNorm (x : FVec F S4x256x1024 .f32) (g : FVec F S1024 .f32) : FVec F S4x256x1024 .f32 :=
  mulf (mulf x (broadcastInDim S4x256x1024 ![0, 1, 2] bcast_S4x256x1_S4x256x1024_0_1_2 (contextFactor x)))
    (broadcastInDim S4x256x1024 ![0, 1, 2] bcast_S1x1x1024_S4x256x1024_0_1_2 (broadcastInDim S1x1x1024 ![2] bcast_S1024_S1x1x1024_2 g))

/-- The context rows by one more than the scales, the shifts added. -/
def contextModulate (x : FVec F S4x256x1024 .f32) (sh sc : FVec F S1024 .f32) : FVec F S4x256x1024 .f32 :=
  addf (mulf x (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) sc))))
    (broadcastInDim S4x256x1024 ![0, 1, 2] bcast_S1x1x1024_S4x256x1024_0_1_2 (broadcastInDim S1x1x1024 ![2] bcast_S1024_S1x1x1024_2 sh))

/-- The squares of the rectified products with the first weight. -/
def contextActive (h : FVec F S4x256x1024 .f32) (u : FVec F S1024x4096 .f32) : FVec F S4x256x4096 .f32 :=
  mulf (maximumf (Host.dotGeneral dot_S4x256x1024_S1024x4096_S4x256x4096_2_0_01_1_n_n none h u)
      (broadcastInDim S4x256x4096 ![] bcast_S_S4x256x4096 (constant S_ .f32 0x00000000#32)))
    (maximumf (Host.dotGeneral dot_S4x256x1024_S1024x4096_S4x256x4096_2_0_01_1_n_n none h u)
      (broadcastInDim S4x256x4096 ![] bcast_S_S4x256x4096 (constant S_ .f32 0x00000000#32)))

/-- Their products with the second weight. -/
def contextMix (a : FVec F S4x256x4096 .f32) (w : FVec F S4096x1024 .f32) : FVec F S4x256x1024 .f32 :=
  Host.dotGeneral dot_S4x256x4096_S4096x1024_S4x256x1024_2_0_01_1_n_n none a w

/-- The context rows, and gated rows added to them. -/
def contextGate (x y : FVec F S4x256x1024 .f32) (gt : FVec F S1024 .f32) : FVec F S4x256x1024 .f32 :=
  addf x (mulf (broadcastInDim S4x256x1024 ![0, 1, 2] bcast_S1x1x1024_S4x256x1024_0_1_2 (broadcastInDim S1x1x1024 ![2] bcast_S1024_S1x1x1024_2 gt)) y)

/-- The feed-forward part of the context rows. -/
def contextStream (x : FVec F S4x256x1024 .f32) (sh sc gt : FVec F S1024 .f32) (g gp : FVec F S1024 .f32)
    (u : FVec F S1024x4096 .f32) (w : FVec F S4096x1024 .f32) : FVec F S4x256x1024 .f32 :=
  contextGate x (contextNorm (contextMix (contextActive (contextModulate (contextNorm x g) sh sc) u) w) gp) gt

/-- Layer 0 of a gain. -/
def gain (g : FVec F S4x1024 .f32) : FVec F S1024 .f32 :=
  shapeCast S1024 (extractStridedSlice S1x1024 ![0, 0] g slices_S4x1024_S1x1024_0_0) shapeCasts_S1x1024_S1024

/-- The latent rows, by sample and position. -/
def latents (x : FVec F S17408x1024 .f32) : FVec F S4x4096x1024 .f32 :=
  shapeCast S4x4096x1024 (extractStridedSlice S16384x1024 ![0, 0] x slices_S17408x1024_S16384x1024_0_0) shapeCasts_S16384x1024_S4x4096x1024

/-- The context rows, by sample and position. -/
def contexts (x : FVec F S17408x1024 .f32) : FVec F S4x256x1024 .f32 :=
  shapeCast S4x256x1024 (extractStridedSlice S1024x1024 ![16384, 0] x slices_S17408x1024_S1024x1024_16384_0) shapeCasts_S1024x1024_S4x256x1024

/-- The shifts of the latent rows. -/
def latentShifts (a : FVec F S4x8x6x1024 .f32) : FVec F S4x1x1024 .f32 :=
  broadcastInDim S4x1x1024 ![0, 2] bcast_S4x1024_S4x1x1024_0_2 (shapeCast S4x1024 (extractStridedSlice S1x4x1x1024 ![0, 0, 3, 0] a slices_S4x8x6x1024_S1x4x1x1024_0_0_3_0)
    shapeCasts_S1x4x1x1024_S4x1024)

/-- The shifts of the context rows. -/
def contextShifts (a : FVec F S4x8x6x1024 .f32) : FVec F S1024 .f32 :=
  shapeCast S1024 (extractStridedSlice S1x1x1x1024 ![0, 4, 3, 0] a slices_S4x8x6x1024_S1x1x1x1024_0_4_3_0) shapeCasts_S1x1x1x1024_S1024

/-- The scales of the latent rows. -/
def latentScales (a : FVec F S4x8x6x1024 .f32) : FVec F S4x1x1024 .f32 :=
  broadcastInDim S4x1x1024 ![0, 2] bcast_S4x1024_S4x1x1024_0_2 (shapeCast S4x1024 (extractStridedSlice S1x4x1x1024 ![0, 0, 4, 0] a slices_S4x8x6x1024_S1x4x1x1024_0_0_4_0)
    shapeCasts_S1x4x1x1024_S4x1024)

/-- The scales of the context rows. -/
def contextScales (a : FVec F S4x8x6x1024 .f32) : FVec F S1024 .f32 :=
  shapeCast S1024 (extractStridedSlice S1x1x1x1024 ![0, 4, 4, 0] a slices_S4x8x6x1024_S1x1x1x1024_0_4_4_0) shapeCasts_S1x1x1x1024_S1024

/-- The gates of the latent rows. -/
def latentGates (a : FVec F S4x8x6x1024 .f32) : FVec F S4x1x1024 .f32 :=
  broadcastInDim S4x1x1024 ![0, 2] bcast_S4x1024_S4x1x1024_0_2 (shapeCast S4x1024 (extractStridedSlice S1x4x1x1024 ![0, 0, 5, 0] a slices_S4x8x6x1024_S1x4x1x1024_0_0_5_0)
    shapeCasts_S1x4x1x1024_S4x1024)

/-- The gates of the context rows. -/
def contextGates (a : FVec F S4x8x6x1024 .f32) : FVec F S1024 .f32 :=
  shapeCast S1024 (extractStridedSlice S1x1x1x1024 ![0, 4, 5, 0] a slices_S4x8x6x1024_S1x1x1x1024_0_4_5_0) shapeCasts_S1x1x1x1024_S1024

/-- The two streams, one over the other. -/
def stack (l : FVec F S4x4096x1024 .f32) (k : FVec F S4x256x1024 .f32) : FVec F S17408x1024 .f32 :=
  concatenate S17408x1024 0 [⟨S16384x1024, (shapeCast S16384x1024 l shapeCasts_S4x4096x1024_S16384x1024)⟩,
    ⟨S1024x1024, (shapeCast S1024x1024 k shapeCasts_S4x256x1024_S1024x1024)⟩] concatenates_S16384x1024_S1024x1024_S17408x1024_d0

/-- The reference's feed-forward part, from the rows, the modulation, the gains and the weights. -/
def feedForward (x : FVec F S17408x1024 .f32) (a : FVec F S4x8x6x1024 .f32) (g gp : FVec F S4x1024 .f32) (u : FVec F S1024x4096 .bf16)
    (w : FVec F S4096x1024 .bf16) : FVec F S17408x1024 .f32 :=
  stack (latentStream (latents x) (latentShifts a) (latentScales a) (latentGates a) (gain g) (gain gp) (extf .f32 u bitsLt_bf16_f32) (extf .f32 w bitsLt_bf16_f32))
    (contextStream (contexts x) (contextShifts a) (contextScales a) (contextGates a) (gain g) (gain gp) (extf .f32 u bitsLt_bf16_f32) (extf .f32 w bitsLt_bf16_f32))

theorem res_eq (m : (ℓ : Loc nD τ sig) → Buf (Elt F) ℓ) (c : Dev nD) :
    Value.res_main_v112 m c = feedForward (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Value.res_main_v112
  rfl

end Def

/-! ## Elements over the extended reals -/

theorem latentFactor_apply (x : FVec Ideal S4x4096x1024 .f32) (b : Fin 4) (s : Fin 4096) :
    latentFactor x (ix3 b s 0) = FeedRow.factor fun k => x (ix3 b s k) := by
  unfold latentFactor FeedRow.factor
  pointwise

theorem latentNorm_apply (x : FVec Ideal S4x4096x1024 .f32) (g : FVec Ideal S1024 .f32) (b : Fin 4) (s : Fin 4096) (k : Fin 1024) :
    latentNorm x g (ix3 b s k) = x (ix3 b s k) * FeedRow.factor (fun k => x (ix3 b s k)) * g (ix1 k) := by
  rw [← latentFactor_apply]
  unfold latentNorm
  generalize latentFactor (F := Ideal) x = y
  pointwise

theorem latentModulate_apply (x : FVec Ideal S4x4096x1024 .f32) (sh sc : FVec Ideal S4x1x1024 .f32) (b : Fin 4) (s : Fin 4096) (k : Fin 1024) :
    latentModulate x sh sc (ix3 b s k) = x (ix3 b s k) * (1 + sc (ix3 b 0 k)) + sh (ix3 b 0 k) := by
  unfold latentModulate
  pointwise

theorem latentActive_apply (h : FVec Ideal S4x4096x1024 .f32) (u : FVec Ideal S1024x4096 .f32) (b : Fin 4) (s : Fin 4096) (f : Fin 4096) :
    latentActive h u (ix3 b s f) = FeedRow.active (fun k => h (ix3 b s k)) (fun i f => u (ix2 i f)) f := by
  unfold latentActive FeedRow.active
  pointwise

theorem latentMix_apply (a : FVec Ideal S4x4096x4096 .f32) (w : FVec Ideal S4096x1024 .f32) (b : Fin 4) (s : Fin 4096) (k : Fin 1024) :
    latentMix a w (ix3 b s k) = ∑ f, a (ix3 b s f) * w (ix2 f k) := by
  unfold latentMix
  pointwise

theorem latentGate_apply (x y : FVec Ideal S4x4096x1024 .f32) (gt : FVec Ideal S4x1x1024 .f32) (b : Fin 4) (s : Fin 4096) (k : Fin 1024) :
    latentGate x y gt (ix3 b s k) = x (ix3 b s k) + gt (ix3 b 0 k) * y (ix3 b s k) := by
  unfold latentGate
  pointwise

theorem latentStream_apply (x : FVec Ideal S4x4096x1024 .f32) (sh sc gt : FVec Ideal S4x1x1024 .f32) (g gp : FVec Ideal S1024 .f32)
    (u : FVec Ideal S1024x4096 .f32) (w : FVec Ideal S4096x1024 .f32) (b : Fin 4) (s : Fin 4096) (k : Fin 1024) :
    latentStream x sh sc gt g gp u w (ix3 b s k) = FeedRow.row (fun k => x (ix3 b s k)) (fun k => sc (ix3 b 0 k)) (fun k => sh (ix3 b 0 k))
      (fun k => gt (ix3 b 0 k)) (fun k => g (ix1 k)) (fun k => gp (ix1 k)) (fun i f => u (ix2 i f)) (fun f i => w (ix2 f i)) k := by
  have hm (i : Fin 1024) : latentModulate (latentNorm x g) sh sc (ix3 b s i) = FeedRow.modulated (fun k => x (ix3 b s k)) (fun k => g (ix1 k))
      (fun k => sc (ix3 b 0 k)) (fun k => sh (ix3 b 0 k)) i := by
    rw [latentModulate_apply, latentNorm_apply, FeedRow.modulated, mul_assoc (x (ix3 b s i) * _)]
  unfold latentStream
  rw [latentGate_apply, latentNorm_apply]
  simp only [latentMix_apply, latentActive_apply, hm]
  unfold FeedRow.row FeedRow.gated FeedRow.mixed
  refine congrArg (x (ix3 b s k) + ·) ?_
  rw [mul_left_comm]

theorem contextFactor_apply (x : FVec Ideal S4x256x1024 .f32) (b : Fin 4) (s : Fin 256) :
    contextFactor x (ix3 b s 0) = FeedRow.factor fun k => x (ix3 b s k) := by
  unfold contextFactor FeedRow.factor
  pointwise

theorem contextNorm_apply (x : FVec Ideal S4x256x1024 .f32) (g : FVec Ideal S1024 .f32) (b : Fin 4) (s : Fin 256) (k : Fin 1024) :
    contextNorm x g (ix3 b s k) = x (ix3 b s k) * FeedRow.factor (fun k => x (ix3 b s k)) * g (ix1 k) := by
  rw [← contextFactor_apply]
  unfold contextNorm
  generalize contextFactor (F := Ideal) x = y
  pointwise

theorem contextModulate_apply (x : FVec Ideal S4x256x1024 .f32) (sh sc : FVec Ideal S1024 .f32) (b : Fin 4) (s : Fin 256) (k : Fin 1024) :
    contextModulate x sh sc (ix3 b s k) = x (ix3 b s k) * (1 + sc (ix1 k)) + sh (ix1 k) := by
  unfold contextModulate
  pointwise

theorem contextActive_apply (h : FVec Ideal S4x256x1024 .f32) (u : FVec Ideal S1024x4096 .f32) (b : Fin 4) (s : Fin 256) (f : Fin 4096) :
    contextActive h u (ix3 b s f) = FeedRow.active (fun k => h (ix3 b s k)) (fun i f => u (ix2 i f)) f := by
  unfold contextActive FeedRow.active
  pointwise

theorem contextMix_apply (a : FVec Ideal S4x256x4096 .f32) (w : FVec Ideal S4096x1024 .f32) (b : Fin 4) (s : Fin 256) (k : Fin 1024) :
    contextMix a w (ix3 b s k) = ∑ f, a (ix3 b s f) * w (ix2 f k) := by
  unfold contextMix
  pointwise

theorem contextGate_apply (x y : FVec Ideal S4x256x1024 .f32) (gt : FVec Ideal S1024 .f32) (b : Fin 4) (s : Fin 256) (k : Fin 1024) :
    contextGate x y gt (ix3 b s k) = x (ix3 b s k) + gt (ix1 k) * y (ix3 b s k) := by
  unfold contextGate
  pointwise

theorem contextStream_apply (x : FVec Ideal S4x256x1024 .f32) (sh sc gt : FVec Ideal S1024 .f32) (g gp : FVec Ideal S1024 .f32)
    (u : FVec Ideal S1024x4096 .f32) (w : FVec Ideal S4096x1024 .f32) (b : Fin 4) (s : Fin 256) (k : Fin 1024) :
    contextStream x sh sc gt g gp u w (ix3 b s k) = FeedRow.row (fun k => x (ix3 b s k)) (fun k => sc (ix1 k)) (fun k => sh (ix1 k))
      (fun k => gt (ix1 k)) (fun k => g (ix1 k)) (fun k => gp (ix1 k)) (fun i f => u (ix2 i f)) (fun f i => w (ix2 f i)) k := by
  have hm (i : Fin 1024) : contextModulate (contextNorm x g) sh sc (ix3 b s i) = FeedRow.modulated (fun k => x (ix3 b s k)) (fun k => g (ix1 k))
      (fun k => sc (ix1 k)) (fun k => sh (ix1 k)) i := by
    rw [contextModulate_apply, contextNorm_apply, FeedRow.modulated, mul_assoc (x (ix3 b s i) * _)]
  unfold contextStream
  rw [contextGate_apply, contextNorm_apply]
  simp only [contextMix_apply, contextActive_apply, hm]
  unfold FeedRow.row FeedRow.gated FeedRow.mixed
  refine congrArg (x (ix3 b s k) + ·) ?_
  rw [mul_left_comm]

theorem gain_apply (g : FVec Ideal S4x1024 .f32) (k : Fin 1024) : gain g (ix1 k) = g (ix2 0 k) := by
  unfold gain
  pointwise

theorem latents_apply (x : FVec Ideal S17408x1024 .f32) (b : Fin 4) (s : Fin 4096) (k : Fin 1024) :
    latents x (ix3 b s k) = x (ix2 ⟨4096 * b.val + s.val, by omega⟩ k) := by
  unfold latents
  pointwise
  blk_ext

theorem contexts_apply (x : FVec Ideal S17408x1024 .f32) (b : Fin 4) (s : Fin 256) (k : Fin 1024) :
    contexts x (ix3 b s k) = x (ix2 ⟨16384 + 256 * b.val + s.val, by omega⟩ k) := by
  unfold contexts
  pointwise
  blk_ext

theorem latentShifts_apply (a : FVec Ideal S4x8x6x1024 .f32) (b : Fin 4) (k : Fin 1024) :
    latentShifts a (ix3 b 0 k) = a (ix4 0 ⟨b.val, by omega⟩ 3 k) := by
  unfold latentShifts
  pointwise
  blk_ext

theorem contextShifts_apply (a : FVec Ideal S4x8x6x1024 .f32) (k : Fin 1024) : contextShifts a (ix1 k) = a (ix4 0 4 3 k) := by
  unfold contextShifts
  pointwise

theorem latentScales_apply (a : FVec Ideal S4x8x6x1024 .f32) (b : Fin 4) (k : Fin 1024) :
    latentScales a (ix3 b 0 k) = a (ix4 0 ⟨b.val, by omega⟩ 4 k) := by
  unfold latentScales
  pointwise
  blk_ext

theorem contextScales_apply (a : FVec Ideal S4x8x6x1024 .f32) (k : Fin 1024) : contextScales a (ix1 k) = a (ix4 0 4 4 k) := by
  unfold contextScales
  pointwise

theorem latentGates_apply (a : FVec Ideal S4x8x6x1024 .f32) (b : Fin 4) (k : Fin 1024) :
    latentGates a (ix3 b 0 k) = a (ix4 0 ⟨b.val, by omega⟩ 5 k) := by
  unfold latentGates
  pointwise
  blk_ext

theorem contextGates_apply (a : FVec Ideal S4x8x6x1024 .f32) (k : Fin 1024) : contextGates a (ix1 k) = a (ix4 0 4 5 k) := by
  unfold contextGates
  pointwise

theorem stack_latent (l : FVec Ideal S4x4096x1024 .f32) (e : FVec Ideal S4x256x1024 .f32) (r : Fin 17408) (h : r.val < 16384) (k : Fin 1024) :
    stack l e (ix2 r k) = l (ix3 ⟨r.val / 4096, by omega⟩ ⟨r.val % 4096, by omega⟩ k) := by
  unfold stack
  pointwise
  exact dif_pos h

theorem stack_context (l : FVec Ideal S4x4096x1024 .f32) (e : FVec Ideal S4x256x1024 .f32) (r : Fin 17408) (h : ¬ r.val < 16384) (k : Fin 1024) :
    stack l e (ix2 r k) = e (ix3 ⟨(r.val - 16384) / 256, by omega⟩ ⟨(r.val - 16384) % 256, by omega⟩ k) := by
  unfold stack
  pointwise
  exact dif_neg h

/-- Every element of the reference's feed-forward part is the row's. -/
theorem feedForward_apply (x : FVec Ideal S17408x1024 .f32) (a : FVec Ideal S4x8x6x1024 .f32) (g gp : FVec Ideal S4x1024 .f32)
    (u : FVec Ideal S1024x4096 .bf16) (w : FVec Ideal S4096x1024 .bf16) (r : Fin 17408) (k : Fin 1024) :
    feedForward x a g gp u w (ix2 r k) = FeedRow.feed (fun r k => x (ix2 r k)) (fun s n k => a (ix4 0 s n k)) (fun k => g (ix2 0 k))
      (fun k => gp (ix2 0 k)) (fun i f => u (ix2 i f)) (fun f i => w (ix2 f i)) r k := by
  unfold feedForward FeedRow.feed
  by_cases hr : r.val < 16384
  · rw [stack_latent _ _ r hr, latentStream_apply]
    have e : FeedRow.sample r = ⟨r.val / 4096, by omega⟩ := by
      unfold FeedRow.sample
      simp [hr]
    have e' : (⟨4096 * (r.val / 4096) + r.val % 4096, by omega⟩ : Fin 17408) = r := Fin.ext (Nat.div_add_mod _ _)
    rw [e]
    simp only [latents_apply, latentShifts_apply, latentScales_apply, latentGates_apply, gain_apply, e']
    rfl
  · rw [stack_context _ _ r hr, contextStream_apply]
    have e : FeedRow.sample r = 4 := by
      unfold FeedRow.sample
      simp [hr]
    have e' : (⟨16384 + 256 * ((r.val - 16384) / 256) + (r.val - 16384) % 256, by omega⟩ : Fin 17408) = r := Fin.ext (by
      show 16384 + 256 * ((r.val - 16384) / 256) + (r.val - 16384) % 256 = r.val
      omega)
    rw [e]
    simp only [contexts_apply, contextShifts_apply, contextScales_apply, contextGates_apply, gain_apply, e']
    rfl

end Cert.FeedForwardReferenceIdeal.Rows

end
-- ==== Proof.OutRow.lean ====
/- The short convolution, the output projection and the gated sum of one row, over the extended reals. -/
module

public import proofs.«01_k».proof.Proof.FeedRow

@[expose] public section

noncomputable section

namespace Cert.OutRow

open Idealize.ShloMosaic

/-- The first third of a row times the last one. -/
def carried (a : Fin 768 → EReal) (d : Fin 256) : EReal := a ⟨512 + d.val, by omega⟩ * a ⟨d.val, by omega⟩

/-- The middle third of a row. -/
def middle (a : Fin 768 → EReal) (d : Fin 256) : EReal := a ⟨256 + d.val, by omega⟩

/-- The convolution of three neighbours, times the middle. -/
def taps (zb z za bg : Fin 256 → EReal) (w : Fin 3 → Fin 256 → EReal) (d : Fin 256) : EReal :=
  bg d * (zb d * w 0 d + z d * w 1 d + za d * w 2 d)

/-- The products of the three parts of the mixing width with the weight. -/
def product (w : Fin 1024 → Fin 1024 → EReal) (cv yf : Fin 256 → EReal) (att : Fin 512 → EReal) (k : Fin 1024) : EReal :=
  ∑ d : Fin 256, cv d * w ⟨d.val, by omega⟩ k + ∑ d : Fin 256, yf d * w ⟨256 + d.val, by omega⟩ k
    + ∑ d : Fin 512, att d * w ⟨512 + d.val, by omega⟩ k

/-- The length of a row's segment. -/
def segment (r : ℕ) : ℕ := if r < 16384 then 4096 else 256

/-- The row before, zero at a segment's start. -/
def before (z : Fin 17408 → Fin 256 → EReal) (r : Fin 17408) (d : Fin 256) : EReal :=
  if r.val % segment r.val = 0 then 0 else z ⟨r.val - 1, by omega⟩ d

/-- The row after, zero at a segment's end. -/
def after (z : Fin 17408 → Fin 256 → EReal) (r : Fin 17408) (d : Fin 256) : EReal :=
  if (r.val + 1) % segment r.val = 0 then 0 else z ⟨(r.val + 1) % 17408, by omega⟩ d

/-- Every row after the output projection. -/
def out (a : Fin 17408 → Fin 768 → EReal) (yf : Fin 17408 → Fin 256 → EReal) (att : Fin 17408 → Fin 512 → EReal) (x : Fin 17408 → Fin 1024 → EReal)
    (m : Fin 8 → Fin 6 → Fin 1024 → EReal) (g : Fin 1024 → EReal) (cw : Fin 3 → Fin 256 → EReal) (w : Fin 1024 → Fin 1024 → EReal)
    (r : Fin 17408) : Fin 1024 → EReal :=
  FeedRow.gated (x r) (product w (taps (before (fun r => carried (a r)) r) (carried (a r)) (after (fun r => carried (a r)) r) (middle (a r)) cw)
    (yf r) (att r)) (m (FeedRow.sample r) 2) g

/-- Row `r` of the sub-block `s` of the tile `t`. -/
def at_ (t : Fin 17) (s : Fin 4) (r : Fin 256) : Fin 17408 := ⟨1024 * t.val + 256 * s.val + r.val, by omega⟩

theorem segment_at (t : Fin 17) (s : Fin 4) (r : Fin 256) : segment (at_ t s r).val = segment (1024 * t.val) := by
  unfold segment at_
  by_cases h : t.val < 16
  · rw [if_pos (by simp; omega), if_pos (by omega)]
  · rw [if_neg (by simp; omega), if_neg (by omega)]

theorem before_at (z : Fin 17408 → Fin 256 → EReal) (t : Fin 17) (s : Fin 4) (r : Fin 256) (d : Fin 256) (p : Prop) [Decidable p]
    (hp : p ↔ (1024 * t.val + 256 * s.val) % segment (1024 * t.val) = 0) (e : EReal)
    (he : ¬ p → e = z ⟨1024 * t.val + 256 * s.val - 1, by omega⟩ d) (q : Fin 256) (hq : r.val ≠ 0 → q.val = r.val - 1) :
    (if r.val = 0 then (if p then 0 else e) else z (at_ t s q) d) = before z (at_ t s r) d := by
  unfold before
  rw [segment_at]
  by_cases hr : r.val = 0
  · have e0 : (at_ t s r).val = 1024 * t.val + 256 * s.val := by simp [at_, hr]
    rw [if_pos hr]
    by_cases h : p
    · rw [if_pos h, if_pos (by rw [e0]; exact hp.1 h)]
    · rw [if_neg h, if_neg (by rw [e0]; exact fun h' => h (hp.2 h')), he h]
      exact congrArg (fun i => z i d) (Fin.ext (by simp only [e0]))
  · rw [if_neg hr, if_neg]
    · exact congrArg (fun i => z i d) (Fin.ext (by have := hq hr; simp only [at_]; omega))
    · unfold segment at_
      split <;> simp <;> omega

theorem after_at (z : Fin 17408 → Fin 256 → EReal) (t : Fin 17) (s : Fin 4) (r : Fin 256) (d : Fin 256) (p : Prop) [Decidable p]
    (hp : p ↔ (1024 * t.val + 256 * s.val + 256) % segment (1024 * t.val) = 0) (e : EReal)
    (he : ¬ p → e = z ⟨(1024 * t.val + 256 * s.val + 256) % 17408, by omega⟩ d) (q : Fin 256) (hq : r.val ≠ 255 → q.val = r.val + 1) :
    (if r.val = 255 then (if p then 0 else e) else z (at_ t s q) d) = after z (at_ t s r) d := by
  unfold after
  rw [segment_at]
  by_cases hr : r.val = 255
  · have e0 : (at_ t s r).val + 1 = 1024 * t.val + 256 * s.val + 256 := by simp [at_, hr]
    rw [if_pos hr]
    by_cases h : p
    · rw [if_pos h, if_pos (by rw [e0]; exact hp.1 h)]
    · rw [if_neg h, if_neg (by rw [e0]; exact fun h' => h (hp.2 h')), he h]
      exact congrArg (fun i => z i d) (Fin.ext (by simp only [e0]))
  · rw [if_neg hr, if_neg]
    · exact congrArg (fun i => z i d) (Fin.ext (by have := hq hr; simp only [at_]; omega))
    · unfold segment at_
      split <;> simp <;> omega

/-- A sum over the mixing width, in the kernel's order of its parts. -/
theorem sum_parts (f : Fin 1024 → EReal) :
    ∑ j, f j = ∑ d : Fin 512, f ⟨d.val, by omega⟩ + ∑ d : Fin 256, f ⟨512 + d.val, by omega⟩ + ∑ d : Fin 256, f ⟨768 + d.val, by omega⟩ := by
  show ∑ j : Fin (512 + 256 + 256), f j = _
  rw [Fin.sum_univ_add, Fin.sum_univ_add]
  rfl

/-- A sum over the mixing width, in the reference's order of its parts. -/
theorem sum_thirds (f : Fin 1024 → EReal) :
    ∑ j, f j = ∑ d : Fin 256, f ⟨d.val, by omega⟩ + ∑ d : Fin 256, f ⟨256 + d.val, by omega⟩ + ∑ d : Fin 512, f ⟨512 + d.val, by omega⟩ := by
  show ∑ j : Fin (256 + 256 + 512), f j = _
  rw [Fin.sum_univ_add, Fin.sum_univ_add]
  rfl

end Cert.OutRow

end
-- ==== Proof.OutBody.lean ====
/- What one grid point of the output projection computes, written once for a block of 256 rows. The kernel's body is
   these functions at four blocks; here are their elements over the extended reals. -/
module

public import proofs.«01_k».proof.Proof.Gen.OutProjectionIdeal.Value
public import proofs.«01_k».proof.Proof.OutRow

@[expose] public section

noncomputable section

namespace Cert.OutProjectionIdeal.Rows

open Cert.OutProjectionIdeal Cert.OutProjectionIdeal.Gen Idealize.ShloMosaic Idealize.ShloMosaic.TcCoe Idealize.SL.Sem

section Def
variable {F : FTy → Type} [FloatOps F]

/-- The rows that carry the convolution. -/
def carry (a : Vec F S1024x768 .bf16) : FVec F S1024x256 .f32 :=
  mulf (extractStridedSlice S1024x256 ![0, 512] (extf .f32 a bitsLt_bf16_f32 : FVec F S1024x768 .f32) slices_S1024x768_o0_512_S1024x256)
    (extractStridedSlice S1024x256 ![0, 0] (extf .f32 a bitsLt_bf16_f32 : FVec F S1024x768 .f32) slices_S1024x768_o0_0_S1024x256)

/-- The rows that gate it. -/
def centre (a : Vec F S1024x768 .bf16) : FVec F S1024x256 .f32 :=
  extractStridedSlice S1024x256 ![0, 256] (extf .f32 a bitsLt_bf16_f32 : FVec F S1024x768 .f32) slices_S1024x768_o0_256_S1024x256

/-- The row of a neighbouring tile that carries the convolution. -/
def edge (a : Vec F S1x768 .bf16) : FVec F S1x256 .f32 :=
  mulf (extractStridedSlice S1x256 ![0, 512] (extf .f32 a bitsLt_bf16_f32 : FVec F S1x768 .f32) slices_S1x768_o0_512_S1x256)
    (extractStridedSlice S1x256 ![0, 0] (extf .f32 a bitsLt_bf16_f32 : FVec F S1x768 .f32) slices_S1x768_o0_0_S1x256)

/-- The rows `z` rotated by `n`, row `i` replaced by a neighbour's, by zero where `b` says so. -/
def shifted (i n : BitVec 32) (b : BitVec 1) (e : FVec F S1x256 .f32) (z : FVec F S256x256 .f32) : FVec F S256x256 .f32 :=
  select (broadcastTo S256x256 (shapeCast S256x1 (cmpi .eq (iota .tc S256x1 32 [0] iota_S256x1_d0_w32) (broadcast S256x1 i) : IVec S256x1 1)
      shapeCasts_S256x1_S256x1) broadcasts_S256x1_S256x256)
    (broadcastTo S256x256 (shapeCast S1x256 (Scalar.select b (broadcast S1x256 (Scalar.ofBits .f32 0x00000000#32 : F .f32)) e : FVec F S1x256 .f32)
      shapeCasts_S1x256_S1x256) broadcasts_S1x256_S256x256)
    (dynamicRotate 0 n none z rotates_S256x256_d0)

/-- The convolution. -/
def convolve (zb z za bg : FVec F S256x256 .f32) (w0 w1 w2 : Vec F S1x1x256 .f32) : FVec F S256x256 .f32 :=
  mulf bg (addf (addf (mulf zb (broadcastTo S256x256 (shapeCast S1x256 w0 shapeCasts_S1x1x256_S1x256 : FVec F S1x256 .f32) broadcasts_S1x256_S256x256))
    (mulf z (broadcastTo S256x256 (shapeCast S1x256 w1 shapeCasts_S1x1x256_S1x256 : FVec F S1x256 .f32) broadcasts_S1x256_S256x256)) : FVec F S256x256 .f32)
    (mulf za (broadcastTo S256x256 (shapeCast S1x256 w2 shapeCasts_S1x1x256_S1x256 : FVec F S1x256 .f32) broadcasts_S1x256_S256x256)) : FVec F S256x256 .f32)

/-- The three parts side by side. -/
def parts (att : Vec F S256x512 .bf16) (yf : Vec F S256x256 .f32) (cv : FVec F S256x256 .f32) : FVec F S256x1024 .bf16 :=
  concatenate S256x1024 1 [⟨S256x512, att⟩, ⟨S256x256, truncf .bf16 yf bitsLt_bf16_f32⟩, ⟨S256x256, truncf .bf16 cv bitsLt_bf16_f32⟩]
    concatenates_S256x512_S256x256_S256x256_S256x1024_d1

/-- The weight's rows in that order. -/
def weight (w0 : Vec F S512x1024 .bf16) (w1 w2 : Vec F S256x1024 .bf16) : FVec F S1024x1024 .bf16 :=
  concatenate S1024x1024 0 [⟨S512x1024, w0⟩, ⟨S256x1024, w1⟩, ⟨S256x1024, w2⟩] concatenates_S512x1024_S256x1024_S256x1024_S1024x1024_d0

/-- Their product. -/
def project (a : FVec F S256x1024 .bf16) (w : FVec F S1024x1024 .bf16) : FVec F S256x1024 .f32 :=
  matmul dot_S256x1024_S1024x1024_S256x1024_1_0_0_1_n_n none a w (constant S256x1024 .f32 0x00000000#32)

/-- The factors of the rows. -/
def factors (x : FVec F S256x1024 .f32) : FVec F S256x1 .f32 :=
  rsqrt (addf (divf (shapeCast S256x1 (multiReduction .add [1] S256 (mulf x x) 0x00000000#32 reduces_S256x1024_S256 (.inl rfl) rfl : FVec F S256 .f32)
      shapeCasts_S256_S256x1) (broadcast S256x1 (Scalar.ofBits .f32 0x44800000#32 : F .f32)))
    (broadcast S256x1 (Scalar.ofBits .f32 0x358637BD#32 : F .f32)))

/-- The gates by the gains. -/
def gates (gt : Vec F S1x1x1x1024 .f32) (g : Vec F S1x1x1024 .f32) : FVec F S1x1024 .f32 :=
  mulf (shapeCast S1x1024 gt shapeCasts_S1x1x1x1024_S1x1024 : FVec F S1x1024 .f32) (shapeCast S1x1024 g shapeCasts_S1x1x1024_S1x1024)

/-- The gated sum. -/
def gate (x : Vec F S256x1024 .f32) (y : FVec F S256x1024 .f32) (gg : FVec F S1x1024 .f32) : FVec F S256x1024 .f32 :=
  addf x (mulf (mulf y (broadcastTo S256x1024 (factors y) broadcasts_S256x1_S256x1024) : FVec F S256x1024 .f32)
    (broadcastTo S256x1024 gg broadcasts_S1x1024_S256x1024))

/-- The rows of a block of 256, from what it reads. -/
def rows (st en : BitVec 1) (ea eb : FVec F S1x256 .f32) (z bg : FVec F S256x256 .f32) (att : Vec F S256x512 .bf16) (yf : Vec F S256x256 .f32)
    (x : Vec F S256x1024 .f32) (x6 : Vec F S1x1x6x1024 .f32) (x7 : Vec F S1x1x1024 .f32) (x8 : Vec F S1x3x256 .f32) (x9 : Vec F S1024x1024 .bf16) :
    FVec F S256x1024 .f32 :=
  gate x (project (parts att yf (convolve (shifted 0#32 1#32 st ea z) z (shifted 255#32 255#32 en eb z) bg (View.ld x8 r0_8) (View.ld x8 r0_9) (View.ld x8 r0_10)))
    (weight (View.ld x9 r0_3) (View.ld x9 r0_4) (View.ld x9 r0_5))) (gates (View.ld x6 r0_6) (View.ld x7 r0_7))

/-- The first row of a block. -/
def base (i o : BitVec 32) : BitVec 32 := Scalar.addi (Scalar.muli i 1024#32) o

/-- The mask of its segment's positions. -/
def mask (i o : BitVec 32) : BitVec 32 := Scalar.subi (Scalar.select (Scalar.cmpi .slt (base i o) 16384#32) 4096#32 256#32) 1#32

/-- Whether a segment starts with the block. -/
def starts (i o : BitVec 32) : BitVec 1 := Scalar.cmpi .eq (Scalar.andi (base i o) (mask i o)) 0#32

/-- Whether a segment ends with it. -/
def ends (i o : BitVec 32) : BitVec 1 := Scalar.cmpi .eq (Scalar.andi (Scalar.addi (base i o) 256#32) (mask i o)) 0#32

/-- The body's result is the rows of the four blocks. -/
theorem out_rows (i : grid0.Coords) (x0 : Vec F S1024x768 .bf16) (x1 x2 : Vec F S16x768 .bf16) (x3 : Vec F S1024x256 .f32) (x4 : Vec F S1024x512 .bf16)
    (x5 : Vec F S1024x1024 .f32) (x6 : Vec F S1x1x6x1024 .f32) (x7 : Vec F S1x1x1024 .f32) (x8 : Vec F S1x3x256 .f32) (x9 : Vec F S1024x1024 .bf16) :
    out0_10 i x0 x1 x2 x3 x4 x5 x6 x7 x8 x9 = View.canon [
      ⟨r0_20, rows (starts (BitVec.ofNat 32 (i 0).val) 768#32) (ends (BitVec.ofNat 32 (i 0).val) 768#32)
        (extractStridedSlice S1x256 ![767, 0] (carry (View.ld x0 r0_0)) slices_S1024x256_o767_0_S1x256) (edge (View.ld x2 r0_2))
        (extractStridedSlice S256x256 ![768, 0] (carry (View.ld x0 r0_0)) slices_S1024x256_o768_0_S256x256)
        (extractStridedSlice S256x256 ![768, 0] (centre (View.ld x0 r0_0)) slices_S1024x256_o768_0_S256x256)
        (View.ld x4 r0_18) (View.ld x3 r0_19) (View.ld x5 r0_20) x6 x7 x8 x9⟩,
      ⟨r0_17, rows (starts (BitVec.ofNat 32 (i 0).val) 512#32) (ends (BitVec.ofNat 32 (i 0).val) 512#32)
        (extractStridedSlice S1x256 ![511, 0] (carry (View.ld x0 r0_0)) slices_S1024x256_o511_0_S1x256)
        (extractStridedSlice S1x256 ![768, 0] (carry (View.ld x0 r0_0)) slices_S1024x256_o768_0_S1x256)
        (extractStridedSlice S256x256 ![512, 0] (carry (View.ld x0 r0_0)) slices_S1024x256_o512_0_S256x256)
        (extractStridedSlice S256x256 ![512, 0] (centre (View.ld x0 r0_0)) slices_S1024x256_o512_0_S256x256)
        (View.ld x4 r0_15) (View.ld x3 r0_16) (View.ld x5 r0_17) x6 x7 x8 x9⟩,
      ⟨r0_4, rows (starts (BitVec.ofNat 32 (i 0).val) 256#32) (ends (BitVec.ofNat 32 (i 0).val) 256#32)
        (extractStridedSlice S1x256 ![255, 0] (carry (View.ld x0 r0_0)) slices_S1024x256_o255_0_S1x256)
        (extractStridedSlice S1x256 ![512, 0] (carry (View.ld x0 r0_0)) slices_S1024x256_o512_0_S1x256)
        (extractStridedSlice S256x256 ![256, 0] (carry (View.ld x0 r0_0)) slices_S1024x256_o256_0_S256x256)
        (extractStridedSlice S256x256 ![256, 0] (centre (View.ld x0 r0_0)) slices_S1024x256_o256_0_S256x256)
        (View.ld x4 r0_13) (View.ld x3 r0_14) (View.ld x5 r0_4) x6 x7 x8 x9⟩,
      ⟨r0_5, rows (starts (BitVec.ofNat 32 (i 0).val) 0#32) (ends (BitVec.ofNat 32 (i 0).val) 0#32) (edge (View.ld x1 r0_1))
        (extractStridedSlice S1x256 ![256, 0] (carry (View.ld x0 r0_0)) slices_S1024x256_o256_0_S1x256)
        (extractStridedSlice S256x256 ![0, 0] (carry (View.ld x0 r0_0)) slices_S1024x256_o0_0_S256x256)
        (extractStridedSlice S256x256 ![0, 0] (centre (View.ld x0 r0_0)) slices_S1024x256_o0_0_S256x256)
        (View.ld x4 r0_11) (View.ld x3 r0_12) (View.ld x5 r0_5) x6 x7 x8 x9⟩] := rfl

end Def

/-! ## Elements over the extended reals -/

theorem starts_iff (t : Fin 17) (s : Fin 4) : starts (BitVec.ofNat 32 t.val) (BitVec.ofNat 32 (256 * s.val)) = 1#1
    ↔ (1024 * t.val + 256 * s.val) % OutRow.segment (1024 * t.val) = 0 := by
  revert t s; decide +kernel

theorem ends_iff (t : Fin 17) (s : Fin 4) : ends (BitVec.ofNat 32 t.val) (BitVec.ofNat 32 (256 * s.val)) = 1#1
    ↔ (1024 * t.val + 256 * s.val + 256) % OutRow.segment (1024 * t.val) = 0 := by
  revert t s; decide +kernel

theorem carry_apply (a : Vec Ideal S1024x768 .bf16) (r : Fin 1024) (d : Fin 256) :
    carry a (ix2 r d) = OutRow.carried (fun k => a (ix2 r k)) d := by
  unfold carry OutRow.carried
  pointwise

theorem centre_apply (a : Vec Ideal S1024x768 .bf16) (r : Fin 1024) (d : Fin 256) :
    centre a (ix2 r d) = OutRow.middle (fun k => a (ix2 r k)) d := by
  unfold centre OutRow.middle
  pointwise

theorem edge_apply (a : Vec Ideal S1x768 .bf16) (d : Fin 256) :
    edge a (ix2 0 d) = OutRow.carried (fun k => a (ix2 0 k)) d := by
  unfold edge OutRow.carried
  pointwise

theorem select_iff {c : BitVec 1} {p : Prop} [Decidable p] (h : c = 1#1 ↔ p) (a b : EReal) : Scalar.select c a b = if p then a else b := by
  unfold Scalar.select
  by_cases hp : p
  · rw [if_pos hp]; exact if_pos (h.2 hp)
  · rw [if_neg hp]; exact if_neg fun e => hp (h.1 e)

theorem first_iff (r : Fin 256) : IntOp.cmpi .eq (BitVec.ofNat 32 r.val) 0#32 = 1#1 ↔ r.val = 0 := by
  revert r; decide +kernel

theorem last_iff (r : Fin 256) : IntOp.cmpi .eq (BitVec.ofNat 32 r.val) 255#32 = 1#1 ↔ r.val = 255 := by
  revert r; decide +kernel

theorem first_apply (b : BitVec 1) (e : FVec Ideal S1x256 .f32) (z : FVec Ideal S256x256 .f32) (r d : Fin 256) :
    shifted 0#32 1#32 b e z (ix2 r d) = if r.val = 0 then (if b = 1#1 then 0 else e (ix2 0 d)) else z (ix2 ⟨(r.val + 256 - 1) % 256, by omega⟩ d) := by
  unfold shifted
  pointwise
  exact (select_iff (first_iff r) _ _).trans (by split <;> rfl)

theorem last_apply (b : BitVec 1) (e : FVec Ideal S1x256 .f32) (z : FVec Ideal S256x256 .f32) (r d : Fin 256) :
    shifted 255#32 255#32 b e z (ix2 r d) = if r.val = 255 then (if b = 1#1 then 0 else e (ix2 0 d)) else z (ix2 ⟨(r.val + 256 - 255) % 256, by omega⟩ d) := by
  unfold shifted
  pointwise
  exact (select_iff (last_iff r) _ _).trans (by split <;> rfl)

theorem convolve_apply (zb z za bg : FVec Ideal S256x256 .f32) (w0 w1 w2 : Vec Ideal S1x1x256 .f32) (r d : Fin 256) :
    convolve zb z za bg w0 w1 w2 (ix2 r d) = bg (ix2 r d) * (zb (ix2 r d) * w0 (ix3 0 0 d) + z (ix2 r d) * w1 (ix3 0 0 d) + za (ix2 r d) * w2 (ix3 0 0 d)) := by
  unfold convolve
  pointwise

theorem parts_apply (att : Vec Ideal S256x512 .bf16) (yf : Vec Ideal S256x256 .f32) (cv : FVec Ideal S256x256 .f32) (r : Fin 256) :
    (∀ d : Fin 512, parts att yf cv (ix2 r ⟨d.val, by omega⟩) = att (ix2 r d))
    ∧ (∀ d : Fin 256, parts att yf cv (ix2 r ⟨512 + d.val, by omega⟩) = yf (ix2 r d))
    ∧ (∀ d : Fin 256, parts att yf cv (ix2 r ⟨768 + d.val, by omega⟩) = cv (ix2 r d)) := by
  unfold parts
  refine ⟨fun d => ?_, fun d => ?_, fun d => ?_⟩ <;> pointwise
  rw [dif_neg (by omega), dif_neg (by omega)]
  exact congrArg (fun i => cv (ix2 r i)) (Fin.ext (by simp only []; omega))

theorem weight_apply (w0 : Vec Ideal S512x1024 .bf16) (w1 w2 : Vec Ideal S256x1024 .bf16) (k : Fin 1024) :
    (∀ d : Fin 512, weight w0 w1 w2 (ix2 ⟨d.val, by omega⟩ k) = w0 (ix2 d k))
    ∧ (∀ d : Fin 256, weight w0 w1 w2 (ix2 ⟨512 + d.val, by omega⟩ k) = w1 (ix2 d k))
    ∧ (∀ d : Fin 256, weight w0 w1 w2 (ix2 ⟨768 + d.val, by omega⟩ k) = w2 (ix2 d k)) := by
  unfold weight
  refine ⟨fun d => ?_, fun d => ?_, fun d => ?_⟩ <;> pointwise
  rw [dif_neg (by omega), dif_neg (by omega)]
  exact congrArg (fun i => w2 (ix2 i k)) (Fin.ext (by simp only []; omega))

theorem project_apply (a : FVec Ideal S256x1024 .bf16) (w : FVec Ideal S1024x1024 .bf16) (r : Fin 256) (k : Fin 1024) :
    project a w (ix2 r k) = ∑ j, a (ix2 r j) * w (ix2 j k) := by
  unfold project
  pointwise

theorem factors_apply (x : FVec Ideal S256x1024 .f32) (r : Fin 256) :
    factors x (ix2 r 0) = FeedRow.factor fun k => x (ix2 r k) := by
  unfold factors FeedRow.factor
  pointwise

theorem gates_apply (gt : Vec Ideal S1x1x1x1024 .f32) (g : Vec Ideal S1x1x1024 .f32) (k : Fin 1024) :
    gates gt g (ix2 0 k) = gt (ix4 0 0 0 k) * g (ix3 0 0 k) := by
  unfold gates
  pointwise

theorem gate_apply (x : Vec Ideal S256x1024 .f32) (y : FVec Ideal S256x1024 .f32) (gt : Vec Ideal S1x1x1x1024 .f32) (g : Vec Ideal S1x1x1024 .f32)
    (r : Fin 256) (k : Fin 1024) :
    gate x y (gates gt g) (ix2 r k) = FeedRow.gated (fun k => x (ix2 r k)) (fun k => y (ix2 r k)) (fun k => gt (ix4 0 0 0 k)) (fun k => g (ix3 0 0 k)) k := by
  unfold gate FeedRow.gated
  rw [← factors_apply, ← gates_apply]
  generalize factors (F := Ideal) y = z
  generalize gates (F := Ideal) gt g = gg
  pointwise

end Cert.OutProjectionIdeal.Rows

end
-- ==== Proof.OutFinal.lean ====
/- The kernel's array of the output projection, row by row. -/
module

public import proofs.«01_k».proof.Proof.OutBody

@[expose] public section

noncomputable section

namespace Cert.OutProjectionIdeal.Rows

open Cert.OutProjectionIdeal Cert.OutProjectionIdeal.Gen Idealize.ShloMosaic Idealize.ShloMosaic.TcCoe Idealize.SL.Sem

/-- A block's rows, from what it reads. -/
theorem rows_apply (st en : BitVec 1) (ea eb : FVec Ideal S1x256 .f32) (z bg : FVec Ideal S256x256 .f32) (att : Vec Ideal S256x512 .bf16)
    (yf : Vec Ideal S256x256 .f32) (x : Vec Ideal S256x1024 .f32) (x6 : Vec Ideal S1x1x6x1024 .f32) (x7 : Vec Ideal S1x1x1024 .f32)
    (x8 : Vec Ideal S1x3x256 .f32) (x9 : Vec Ideal S1024x1024 .bf16) (r : Fin 256) (k : Fin 1024) :
    rows st en ea eb z bg att yf x x6 x7 x8 x9 (ix2 r k) = FeedRow.gated (fun k => x (ix2 r k))
      (OutRow.product (fun j k => x9 (ix2 j k))
        (OutRow.taps (fun d => if r.val = 0 then (if st = 1#1 then 0 else ea (ix2 0 d)) else z (ix2 ⟨(r.val + 256 - 1) % 256, by omega⟩ d))
          (fun d => z (ix2 r d))
          (fun d => if r.val = 255 then (if en = 1#1 then 0 else eb (ix2 0 d)) else z (ix2 ⟨(r.val + 256 - 255) % 256, by omega⟩ d))
          (fun d => bg (ix2 r d)) (fun n d => x8 (ix3 0 n d)))
        (fun d => yf (ix2 r d)) (fun d => att (ix2 r d)))
      (fun k => x6 (ix4 0 0 2 k)) (fun k => x7 (ix3 0 0 k)) k := by
  have e6 (k : Fin 1024) : View.ld x6 r0_6 (ix4 0 0 0 k) = x6 (ix4 0 0 2 k) := by pointwise
  have e7 (k : Fin 1024) : View.ld x7 r0_7 (ix3 0 0 k) = x7 (ix3 0 0 k) := by pointwise
  have e8 (d : Fin 256) : View.ld x8 r0_8 (ix3 0 0 d) = x8 (ix3 0 0 d) := by pointwise
  have e9 (d : Fin 256) : View.ld x8 r0_9 (ix3 0 0 d) = x8 (ix3 0 1 d) := by pointwise
  have e10 (d : Fin 256) : View.ld x8 r0_10 (ix3 0 0 d) = x8 (ix3 0 2 d) := by pointwise
  have w3 (d : Fin 512) (k : Fin 1024) : View.ld x9 r0_3 (ix2 d k) = x9 (ix2 ⟨512 + d.val, by omega⟩ k) := by pointwise
  have w4 (d : Fin 256) (k : Fin 1024) : View.ld x9 r0_4 (ix2 d k) = x9 (ix2 ⟨256 + d.val, by omega⟩ k) := by pointwise
  have w5 (d : Fin 256) (k : Fin 1024) : View.ld x9 r0_5 (ix2 d k) = x9 (ix2 ⟨d.val, by omega⟩ k) := by pointwise
  unfold rows
  rw [gate_apply]
  simp only [e6, e7]
  refine congrArg (fun y => FeedRow.gated _ y _ _ k) (funext fun j => ?_)
  rw [project_apply, OutRow.sum_parts]
  simp only [(parts_apply _ _ _ r).1, (parts_apply _ _ _ r).2.1, (parts_apply _ _ _ r).2.2, (weight_apply _ _ _ j).1, (weight_apply _ _ _ j).2.1,
    (weight_apply _ _ _ j).2.2, convolve_apply, first_apply, last_apply, e8, e9, e10, w3, w4, w5]
  unfold OutRow.product OutRow.taps
  rw [add_comm (∑ d : Fin 512, _) _, add_comm (_ + _) (∑ d : Fin 256, _ * _), ← add_assoc]

variable (m : (ℓ : Loc nD τ sig) → Buf (Elt Ideal) ℓ) (c : Dev nD)

/-- The projected rows, the Fourier part, the attention, the stream, the modulation, the gain, the taps and the weight given. -/
abbrev A : FVec Ideal S17408x768 .bf16 := m ((c : Thread nD τ).loc main_arg0)
abbrev Y : FVec Ideal S17408x256 .f32 := m ((c : Thread nD τ).loc main_arg1)
abbrev T : FVec Ideal S17408x512 .bf16 := m ((c : Thread nD τ).loc main_arg2)
abbrev X : FVec Ideal S17408x1024 .f32 := m ((c : Thread nD τ).loc main_arg3)
abbrev M : FVec Ideal S4x8x6x1024 .f32 := m ((c : Thread nD τ).loc main_arg4)
abbrev G : FVec Ideal S4x1024 .f32 := m ((c : Thread nD τ).loc main_arg5)
abbrev C : FVec Ideal S4x3x256 .f32 := m ((c : Thread nD τ).loc main_arg6)
abbrev W : FVec Ideal S1024x1024 .bf16 := m ((c : Thread nD τ).loc main_arg7)

/-- The modulation's row at a grid point. -/
def sampleAt (t : Fin cfg0.N) : Fin 8 := if h : t.val < 16 then ⟨t.val / 4, by omega⟩ else 4

/-- A grid point, as a number. -/
def tile (t : Fin cfg0.N) : Fin 17 := ⟨t.val, t.isLt⟩

theorem idx (t : Fin cfg0.N) : win0_0.index t = ![t.val, 0] ∧ win0_1.index t = ![64 * t.val - 1, 0] ∧ win0_2.index t = ![min (64 * t.val + 64) 1087, 0]
    ∧ win0_3.index t = ![t.val, 0] ∧ win0_4.index t = ![t.val, 0] ∧ win0_5.index t = ![t.val, 0] ∧ win0_6.index t = ![1, (sampleAt t).val, 0, 0]
    ∧ win0_7.index t = ![1, 0, 0] ∧ win0_8.index t = ![1, 0, 0] ∧ win0_9.index t = ![0, 0] ∧ win0_10.index t = ![t.val, 0] := by
  revert t; decide +kernel

theorem coord (t : Fin cfg0.N) : (grid0.coords t 0).val = t.val := by
  revert t; decide +kernel

/-- Row `r` of the block at a grid point. -/
def rowAt (t : Fin cfg0.N) (r : Fin 1024) : Fin 17408 := ⟨1024 * t.val + r.val, by have : t.val < 17 := t.isLt; omega⟩

theorem rowAt_at (t : Fin cfg0.N) (s : Fin 4) {o : ℕ} (r : Fin 256) (h : o + r.val < 1024) (ho : o = 256 * s.val := by rfl) :
    rowAt t ⟨o + r.val, h⟩ = OutRow.at_ (tile t) s r := Fin.ext (by simp only [rowAt, OutRow.at_, tile]; omega)

theorem sample_at (t : Fin cfg0.N) (s : Fin 4) (r : Fin 256) : FeedRow.sample (OutRow.at_ (tile t) s r) = sampleAt t := by
  have : t.val < 17 := t.isLt
  unfold FeedRow.sample sampleAt OutRow.at_ tile
  by_cases h : t.val < 16
  · rw [dif_pos h, dif_pos (by simp; omega)]
    exact Fin.ext (by simp; omega)
  · rw [dif_neg h, dif_neg (by simp; omega)]

theorem a_block (t : Fin cfg0.N) (r : Fin 1024) (k : Fin 768) : iblk m c 0 t (ix2 r k) = A m c (ix2 (rowAt t r) k) := by
  blk_simp [iblk]
  entry_read
  unfold rowAt
  blk_ext [idx t]

theorem before_block (t : Fin cfg0.N) (h : t.val ≠ 0) (k : Fin 768) :
    iblk m c 1 t (ix2 15 k) = A m c (ix2 ⟨1024 * t.val - 1, by have : t.val < 17 := t.isLt; omega⟩ k) := by
  blk_simp [iblk]
  entry_read
  blk_ext [idx t]

theorem after_block (t : Fin cfg0.N) (h : t.val ≠ 16) (k : Fin 768) :
    iblk m c 2 t (ix2 0 k) = A m c (ix2 ⟨(1024 * t.val + 1024) % 17408, by omega⟩ k) := by
  have : t.val < 17 := t.isLt
  blk_simp [iblk]
  entry_read
  blk_ext [idx t]

theorem y_block (t : Fin cfg0.N) (r : Fin 1024) (k : Fin 256) : iblk m c 3 t (ix2 r k) = Y m c (ix2 (rowAt t r) k) := by
  blk_simp [iblk]
  entry_read
  unfold rowAt
  blk_ext [idx t]

theorem att_block (t : Fin cfg0.N) (r : Fin 1024) (k : Fin 512) : iblk m c 4 t (ix2 r k) = T m c (ix2 (rowAt t r) k) := by
  blk_simp [iblk]
  entry_read
  unfold rowAt
  blk_ext [idx t]

theorem x_block (t : Fin cfg0.N) (r k : Fin 1024) : iblk m c 5 t (ix2 r k) = X m c (ix2 (rowAt t r) k) := by
  blk_simp [iblk]
  entry_read
  unfold rowAt
  blk_ext [idx t]

theorem m_block (t : Fin cfg0.N) (n : Fin 6) (k : Fin 1024) : iblk m c 6 t (ix4 0 0 n k) = M m c (ix4 1 (sampleAt t) n k) := by
  blk_simp [iblk]
  entry_read
  blk_ext [idx t]

theorem g_block (t : Fin cfg0.N) (k : Fin 1024) : iblk m c 7 t (ix3 0 0 k) = G m c (ix2 1 k) := by
  blk_simp [iblk]
  entry_read
  pointwise
  blk_ext [idx t]

theorem c_block (t : Fin cfg0.N) (n : Fin 3) (d : Fin 256) : iblk m c 8 t (ix3 0 n d) = C m c (ix3 1 n d) := by
  blk_simp [iblk]
  entry_read
  blk_ext [idx t]

theorem w_block (t : Fin cfg0.N) (j k : Fin 1024) : iblk m c 9 t (ix2 j k) = W m c (ix2 j k) := by
  blk_simp [iblk]
  entry_read
  blk_ext [idx t]

/-- The kernel's array: every row after the output projection. -/
def outArray (i : S17408x1024.Idx) : EReal :=
  OutRow.out (fun r k => A m c (ix2 r k)) (fun r k => Y m c (ix2 r k)) (fun r k => T m c (ix2 r k)) (fun r k => X m c (ix2 r k))
    (fun s n k => M m c (ix4 1 s n k)) (fun k => G m c (ix2 1 k)) (fun n d => C m c (ix3 1 n d)) (fun j k => W m c (ix2 j k)) (i 0) (i 1)

/-- The rows that carry the convolution. -/
def Z (r : Fin 17408) (d : Fin 256) : EReal := OutRow.carried (fun k => A m c (ix2 r k)) d

theorem tile_carry (t : Fin cfg0.N) (r : Fin 1024) (d : Fin 256) : carry (View.ld (iblk m c 0 t) r0_0) (ix2 r d) = Z m c (rowAt t r) d := by
  have e (x : Vec Ideal S1024x768 .bf16) (k : Fin 768) : View.ld x r0_0 (ix2 r k) = x (ix2 r k) := by pointwise
  refine (carry_apply (View.ld (iblk m c 0 t) r0_0) r d).trans ?_
  exact congrArg (fun a => OutRow.carried a d) (funext fun k => (e _ k).trans (a_block m c t r k))

theorem tile_centre (t : Fin cfg0.N) (r : Fin 1024) (d : Fin 256) :
    centre (View.ld (iblk m c 0 t) r0_0) (ix2 r d) = OutRow.middle (fun k => A m c (ix2 (rowAt t r) k)) d := by
  have e (x : Vec Ideal S1024x768 .bf16) (k : Fin 768) : View.ld x r0_0 (ix2 r k) = x (ix2 r k) := by pointwise
  refine (centre_apply (View.ld (iblk m c 0 t) r0_0) r d).trans ?_
  exact congrArg (fun a => OutRow.middle a d) (funext fun k => (e _ k).trans (a_block m c t r k))

/-- A block of 256 rows, from the arrays. -/
theorem block_rows (t : Fin cfg0.N) (s : Fin 4) (st en : BitVec 1) (ea eb : FVec Ideal S1x256 .f32) (z bg : FVec Ideal S256x256 .f32)
    (att : Vec Ideal S256x512 .bf16) (yf : Vec Ideal S256x256 .f32) (x : Vec Ideal S256x1024 .f32)
    (hst : st = 1#1 ↔ (1024 * (tile t).val + 256 * s.val) % OutRow.segment (1024 * (tile t).val) = 0)
    (hen : en = 1#1 ↔ (1024 * (tile t).val + 256 * s.val + 256) % OutRow.segment (1024 * (tile t).val) = 0)
    (hea : ¬ st = 1#1 → ∀ d, ea (ix2 0 d) = Z m c ⟨1024 * (tile t).val + 256 * s.val - 1, by omega⟩ d)
    (heb : ¬ en = 1#1 → ∀ d, eb (ix2 0 d) = Z m c ⟨(1024 * (tile t).val + 256 * s.val + 256) % 17408, by omega⟩ d)
    (hz : ∀ r d, z (ix2 r d) = Z m c (OutRow.at_ (tile t) s r) d)
    (hbg : ∀ r d, bg (ix2 r d) = OutRow.middle (fun k => A m c (ix2 (OutRow.at_ (tile t) s r) k)) d)
    (hatt : ∀ r d, att (ix2 r d) = T m c (ix2 (OutRow.at_ (tile t) s r) d)) (hyf : ∀ r d, yf (ix2 r d) = Y m c (ix2 (OutRow.at_ (tile t) s r) d))
    (hx : ∀ r k, x (ix2 r k) = X m c (ix2 (OutRow.at_ (tile t) s r) k)) (r : Fin 256) (k : Fin 1024) :
    rows st en ea eb z bg att yf x (iblk m c 6 t) (iblk m c 7 t) (iblk m c 8 t) (iblk m c 9 t) (ix2 r k)
      = outArray m c (ix2 (OutRow.at_ (tile t) s r) k) := by
  refine (rows_apply st en ea eb z bg att yf x (iblk m c 6 t) (iblk m c 7 t) (iblk m c 8 t) (iblk m c 9 t) r k).trans ?_
  have hb (d : Fin 256) := OutRow.before_at (Z m c) (tile t) s r d (st = 1#1) hst (ea (ix2 0 d)) (fun h => hea h d)
    ⟨(r.val + 256 - 1) % 256, by omega⟩ (fun h => by simp only []; omega)
  have ha (d : Fin 256) := OutRow.after_at (Z m c) (tile t) s r d (en = 1#1) hen (eb (ix2 0 d)) (fun h => heb h d)
    ⟨(r.val + 256 - 255) % 256, by omega⟩ (fun h => by simp only []; omega)
  simp only [hz, hbg, hatt, hyf, hx, hb, ha, m_block, g_block, c_block, w_block]
  show _ = OutRow.out _ _ _ _ _ _ _ _ (OutRow.at_ (tile t) s r) k
  unfold OutRow.out
  rw [sample_at]
  rfl

/-- The same, at an index of the block's rectangle. -/
theorem piece (t : Fin cfg0.N) (s : Fin 4) (st en : BitVec 1) (ea eb : FVec Ideal S1x256 .f32) (z bg : FVec Ideal S256x256 .f32)
    (att : Vec Ideal S256x512 .bf16) (yf : Vec Ideal S256x256 .f32) (x : Vec Ideal S256x1024 .f32)
    (hst : st = 1#1 ↔ (1024 * (tile t).val + 256 * s.val) % OutRow.segment (1024 * (tile t).val) = 0)
    (hen : en = 1#1 ↔ (1024 * (tile t).val + 256 * s.val + 256) % OutRow.segment (1024 * (tile t).val) = 0)
    (hea : ¬ st = 1#1 → ∀ d, ea (ix2 0 d) = Z m c ⟨1024 * (tile t).val + 256 * s.val - 1, by omega⟩ d)
    (heb : ¬ en = 1#1 → ∀ d, eb (ix2 0 d) = Z m c ⟨(1024 * (tile t).val + 256 * s.val + 256) % 17408, by omega⟩ d)
    (hz : ∀ r d, z (ix2 r d) = Z m c (OutRow.at_ (tile t) s r) d)
    (hbg : ∀ r d, bg (ix2 r d) = OutRow.middle (fun k => A m c (ix2 (OutRow.at_ (tile t) s r) k)) d)
    (hatt : ∀ r d, att (ix2 r d) = T m c (ix2 (OutRow.at_ (tile t) s r) d)) (hyf : ∀ r d, yf (ix2 r d) = Y m c (ix2 (OutRow.at_ (tile t) s r) d))
    (hx : ∀ r k, x (ix2 r k) = X m c (ix2 (OutRow.at_ (tile t) s r) k))
    (h : ∀ a, ![256 * s.val, 0] a + S256x1024.size a ≤ S1024x1024.size a) (y : S256x1024.Idx) :
    rows st en ea eb z bg att yf x (iblk m c 6 t) (iblk m c 7 t) (iblk m c 8 t) (iblk m c 9 t) y
      = (fun y : S1024x1024.Idx => outArray m c (ix2 (rowAt t ⟨(y 0).val, (y 0).isLt⟩) ⟨(y 1).val, (y 1).isLt⟩))
        ((Rect.unit (s := S1024x1024) ![256 * s.val, 0] S256x1024.size h).emb y) := by
  have hy : y = ix2 (⟨(y 0).val, (y 0).isLt⟩ : Fin 256) (⟨(y 1).val, (y 1).isLt⟩ : Fin 1024) := by
    funext a
    fin_cases a <;> rfl
  have e0 : (((Rect.unit (s := S1024x1024) ![256 * s.val, 0] S256x1024.size h).emb y 0 : Fin _) : ℕ) = 256 * s.val + (y 0).val :=
    ValueKit.rect_emb_unit_val _ _ _ _ _
  have e1 : (((Rect.unit (s := S1024x1024) ![256 * s.val, 0] S256x1024.size h).emb y 1 : Fin _) : ℕ) = 0 + (y 1).val :=
    ValueKit.rect_emb_unit_val _ _ _ _ _
  refine (congrArg _ hy).trans ((block_rows m c t s st en ea eb z bg att yf x hst hen hea heb hz hbg hatt hyf hx _ _).trans ?_)
  refine congrArg₂ (fun i j => outArray m c (ix2 i j)) (Fin.ext ?_) (Fin.ext ?_)
  · exact (Nat.add_assoc _ _ _).trans (congrArg (1024 * t.val + ·) e0.symm)
  · exact ((e1).trans (zero_add _)).symm

/-- The body's result at a grid point. -/
theorem out_apply (t : Fin cfg0.N) (y : S1024x1024.Idx) :
    out0_10 (grid0.coords t) (iblk m c 0 t) (iblk m c 1 t) (iblk m c 2 t) (iblk m c 3 t) (iblk m c 4 t) (iblk m c 5 t) (iblk m c 6 t) (iblk m c 7 t)
      (iblk m c 8 t) (iblk m c 9 t) y = outArray m c (ix2 (rowAt t ⟨(y 0).val, (y 0).isLt⟩) ⟨(y 1).val, (y 1).isLt⟩) := by
  have ht : t.val < 17 := t.isLt
  have hp (h : ¬ starts (BitVec.ofNat 32 (tile t).val) (BitVec.ofNat 32 (256 * (0 : Fin 4).val)) = 1#1) (d : Fin 256) :
      OutRow.carried (fun k => View.ld (iblk m c 1 t) r0_1 (ix2 0 k)) d = Z m c ⟨1024 * (tile t).val + 256 * (0 : Fin 4).val - 1, by simp [tile]; omega⟩ d := by
    have e (x : Vec Ideal S16x768 .bf16) (k : Fin 768) : View.ld x r0_1 (ix2 0 k) = x (ix2 15 k) := by pointwise
    have h0 : t.val ≠ 0 := fun h0 => h ((starts_iff (tile t) 0).2 (by simp [tile, h0]))
    exact congrArg (fun a => OutRow.carried a d) (funext fun k => (e _ k).trans (before_block m c t h0 k))
  have hn (h : ¬ ends (BitVec.ofNat 32 (tile t).val) (BitVec.ofNat 32 (256 * (3 : Fin 4).val)) = 1#1) (d : Fin 256) :
      OutRow.carried (fun k => View.ld (iblk m c 2 t) r0_2 (ix2 0 k)) d
        = Z m c ⟨(1024 * (tile t).val + 256 * (3 : Fin 4).val + 256) % 17408, by omega⟩ d := by
    have e (x : Vec Ideal S16x768 .bf16) (k : Fin 768) : View.ld x r0_2 (ix2 0 k) = x (ix2 0 k) := by pointwise
    have h0 : t.val ≠ 16 := fun h0 => h ((ends_iff (tile t) 3).2 (by simp [tile, h0, OutRow.segment]))
    exact (congrArg (fun a => OutRow.carried a d) (funext fun k => (e _ k).trans (after_block m c t h0 k))).trans rfl
  rw [out_rows, coord]
  refine View.canon_apply_of_pieces (Val := Elt Ideal) (fun y => outArray m c (ix2 (rowAt t ⟨(y 0).val, (y 0).isLt⟩) ⟨(y 1).val, (y 1).isLt⟩)) _
    (fun p hp' => ?_) y (cover0_10 _ _ _ _ y)
  simp only [List.mem_cons, List.not_mem_nil, or_false] at hp'
  obtain rfl | rfl | rfl | rfl := hp'
  · intro x
    refine piece m c t 3 _ _ _ _ _ _ _ _ _ ?_ ?_ ?_ ?_ (fun r d => ?_) (fun r d => ?_) (fun r d => ?_) (fun r d => ?_) (fun r d => ?_) (by intro a; fin_cases a <;> decide) x
    · exact starts_iff (tile t) 3
    · exact ends_iff (tile t) 3
    · intro _ d
      rw [show ∀ z : FVec Ideal S1024x256 .f32, extractStridedSlice S1x256 ![767, 0] z slices_S1024x256_o767_0_S1x256 (ix2 0 d) = z (ix2 767 d) from fun z => by pointwise, tile_carry]
      exact congrArg (fun i => Z m c i d) (Fin.ext (by simp only [rowAt, tile]; show _ + 767 = _; omega))
    · exact fun h d => (edge_apply _ d).trans (hn h d)
    · rw [show ∀ z : FVec Ideal S1024x256 .f32, extractStridedSlice S256x256 ![768, 0] z slices_S1024x256_o768_0_S256x256 (ix2 r d)
        = z (ix2 ⟨768 + r.val, by omega⟩ d) from fun z => by pointwise, tile_carry, rowAt_at t 3]
    · rw [show ∀ z : FVec Ideal S1024x256 .f32, extractStridedSlice S256x256 ![768, 0] z slices_S1024x256_o768_0_S256x256 (ix2 r d)
        = z (ix2 ⟨768 + r.val, by omega⟩ d) from fun z => by pointwise, tile_centre, rowAt_at t 3]
    · rw [show ∀ z : Vec Ideal S1024x512 .bf16, View.ld z r0_18 (ix2 r d) = z (ix2 ⟨768 + r.val, by omega⟩ d) from fun z => by pointwise, att_block,
        rowAt_at t 3]
    · rw [show ∀ z : Vec Ideal S1024x256 .f32, View.ld z r0_19 (ix2 r d) = z (ix2 ⟨768 + r.val, by omega⟩ d) from fun z => by pointwise, y_block,
        rowAt_at t 3]
    · rw [show ∀ z : Vec Ideal S1024x1024 .f32, View.ld z r0_20 (ix2 r d) = z (ix2 ⟨768 + r.val, by omega⟩ d) from fun z => by pointwise, x_block,
        rowAt_at t 3]
  · intro x
    refine piece m c t 2 _ _ _ _ _ _ _ _ _ ?_ ?_ ?_ ?_ (fun r d => ?_) (fun r d => ?_) (fun r d => ?_) (fun r d => ?_) (fun r d => ?_) (by intro a; fin_cases a <;> decide) x
    · exact starts_iff (tile t) 2
    · exact ends_iff (tile t) 2
    · intro _ d
      rw [show ∀ z : FVec Ideal S1024x256 .f32, extractStridedSlice S1x256 ![511, 0] z slices_S1024x256_o511_0_S1x256 (ix2 0 d) = z (ix2 511 d) from fun z => by pointwise, tile_carry]
      exact congrArg (fun i => Z m c i d) (Fin.ext (by simp only [rowAt, tile]; show _ + 511 = _; omega))
    · intro _ d
      rw [show ∀ z : FVec Ideal S1024x256 .f32, extractStridedSlice S1x256 ![768, 0] z slices_S1024x256_o768_0_S1x256 (ix2 0 d) = z (ix2 768 d) from fun z => by pointwise, tile_carry]
      exact congrArg (fun i => Z m c i d) (Fin.ext (by simp only [rowAt, tile]; show _ + 768 = _; omega))
    · rw [show ∀ z : FVec Ideal S1024x256 .f32, extractStridedSlice S256x256 ![512, 0] z slices_S1024x256_o512_0_S256x256 (ix2 r d)
        = z (ix2 ⟨512 + r.val, by omega⟩ d) from fun z => by pointwise, tile_carry, rowAt_at t 2]
    · rw [show ∀ z : FVec Ideal S1024x256 .f32, extractStridedSlice S256x256 ![512, 0] z slices_S1024x256_o512_0_S256x256 (ix2 r d)
        = z (ix2 ⟨512 + r.val, by omega⟩ d) from fun z => by pointwise, tile_centre, rowAt_at t 2]
    · rw [show ∀ z : Vec Ideal S1024x512 .bf16, View.ld z r0_15 (ix2 r d) = z (ix2 ⟨512 + r.val, by omega⟩ d) from fun z => by pointwise, att_block,
        rowAt_at t 2]
    · rw [show ∀ z : Vec Ideal S1024x256 .f32, View.ld z r0_16 (ix2 r d) = z (ix2 ⟨512 + r.val, by omega⟩ d) from fun z => by pointwise, y_block,
        rowAt_at t 2]
    · rw [show ∀ z : Vec Ideal S1024x1024 .f32, View.ld z r0_17 (ix2 r d) = z (ix2 ⟨512 + r.val, by omega⟩ d) from fun z => by pointwise, x_block,
        rowAt_at t 2]
  · intro x
    refine piece m c t 1 _ _ _ _ _ _ _ _ _ ?_ ?_ ?_ ?_ (fun r d => ?_) (fun r d => ?_) (fun r d => ?_) (fun r d => ?_) (fun r d => ?_) (by intro a; fin_cases a <;> decide) x
    · exact starts_iff (tile t) 1
    · exact ends_iff (tile t) 1
    · intro _ d
      rw [show ∀ z : FVec Ideal S1024x256 .f32, extractStridedSlice S1x256 ![255, 0] z slices_S1024x256_o255_0_S1x256 (ix2 0 d) = z (ix2 255 d) from fun z => by pointwise, tile_carry]
      exact congrArg (fun i => Z m c i d) (Fin.ext (by simp only [rowAt, tile]; show _ + 255 = _; omega))
    · intro _ d
      rw [show ∀ z : FVec Ideal S1024x256 .f32, extractStridedSlice S1x256 ![512, 0] z slices_S1024x256_o512_0_S1x256 (ix2 0 d) = z (ix2 512 d) from fun z => by pointwise, tile_carry]
      exact congrArg (fun i => Z m c i d) (Fin.ext (by simp only [rowAt, tile]; show _ + 512 = _; omega))
    · rw [show ∀ z : FVec Ideal S1024x256 .f32, extractStridedSlice S256x256 ![256, 0] z slices_S1024x256_o256_0_S256x256 (ix2 r d)
        = z (ix2 ⟨256 + r.val, by omega⟩ d) from fun z => by pointwise, tile_carry, rowAt_at t 1]
    · rw [show ∀ z : FVec Ideal S1024x256 .f32, extractStridedSlice S256x256 ![256, 0] z slices_S1024x256_o256_0_S256x256 (ix2 r d)
        = z (ix2 ⟨256 + r.val, by omega⟩ d) from fun z => by pointwise, tile_centre, rowAt_at t 1]
    · rw [show ∀ z : Vec Ideal S1024x512 .bf16, View.ld z r0_13 (ix2 r d) = z (ix2 ⟨256 + r.val, by omega⟩ d) from fun z => by pointwise, att_block,
        rowAt_at t 1]
    · rw [show ∀ z : Vec Ideal S1024x256 .f32, View.ld z r0_14 (ix2 r d) = z (ix2 ⟨256 + r.val, by omega⟩ d) from fun z => by pointwise, y_block,
        rowAt_at t 1]
    · rw [show ∀ z : Vec Ideal S1024x1024 .f32, View.ld z r0_4 (ix2 r d) = z (ix2 ⟨256 + r.val, by omega⟩ d) from fun z => by pointwise, x_block,
        rowAt_at t 1]
  · intro x
    refine piece m c t 0 _ _ _ _ _ _ _ _ _ ?_ ?_ ?_ ?_ (fun r d => ?_) (fun r d => ?_) (fun r d => ?_) (fun r d => ?_) (fun r d => ?_) (by intro a; fin_cases a <;> decide) x
    · exact starts_iff (tile t) 0
    · exact ends_iff (tile t) 0
    · exact fun h d => (edge_apply _ d).trans (hp h d)
    · intro _ d
      rw [show ∀ z : FVec Ideal S1024x256 .f32, extractStridedSlice S1x256 ![256, 0] z slices_S1024x256_o256_0_S1x256 (ix2 0 d) = z (ix2 256 d) from fun z => by pointwise, tile_carry]
      exact congrArg (fun i => Z m c i d) (Fin.ext (by simp only [rowAt, tile]; show _ + 256 = _; omega))
    · rw [show ∀ z : FVec Ideal S1024x256 .f32, extractStridedSlice S256x256 ![0, 0] z slices_S1024x256_o0_0_S256x256 (ix2 r d)
        = z (ix2 ⟨0 + r.val, by omega⟩ d) from fun z => by pointwise, tile_carry, rowAt_at t 0]
    · rw [show ∀ z : FVec Ideal S1024x256 .f32, extractStridedSlice S256x256 ![0, 0] z slices_S1024x256_o0_0_S256x256 (ix2 r d)
        = z (ix2 ⟨0 + r.val, by omega⟩ d) from fun z => by pointwise, tile_centre, rowAt_at t 0]
    · rw [show ∀ z : Vec Ideal S1024x512 .bf16, View.ld z r0_11 (ix2 r d) = z (ix2 ⟨0 + r.val, by omega⟩ d) from fun z => by pointwise, att_block,
        rowAt_at t 0]
    · rw [show ∀ z : Vec Ideal S1024x256 .f32, View.ld z r0_12 (ix2 r d) = z (ix2 ⟨0 + r.val, by omega⟩ d) from fun z => by pointwise, y_block,
        rowAt_at t 0]
    · rw [show ∀ z : Vec Ideal S1024x1024 .f32, View.ld z r0_5 (ix2 r d) = z (ix2 ⟨0 + r.val, by omega⟩ d) from fun z => by pointwise, x_block,
        rowAt_at t 0]

theorem out_array : (dats m 0 c).arrAt 10 cfg0.N = outArray m c := by
  refine (dats m 0 c).arrAt_eq_of_covers 10 (outArray m c) (by decide +kernel) fun t _ y => ?_
  blk_simp
  rw [after0_10]
  have hy : y = ix2 (⟨(y 0).val, (y 0).isLt⟩ : Fin 1024) (⟨(y 1).val, (y 1).isLt⟩ : Fin 1024) := by
    funext a
    fin_cases a <;> rfl
  refine (congrArg (out0_10 (grid0.coords t) (iblk m c 0 t) (iblk m c 1 t) (iblk m c 2 t) (iblk m c 3 t) (iblk m c 4 t) (iblk m c 5 t) (iblk m c 6 t)
    (iblk m c 7 t) (iblk m c 8 t) (iblk m c 9 t)) hy).trans ((out_apply m c t _).trans ?_)
  unfold rowAt
  blk_ext [idx t]

end Cert.OutProjectionIdeal.Rows

end
-- ==== Proof.OutReference.lean ====
/- The reference's output projection, one named step at a time, and its elements over the extended reals. -/
module

public import proofs.«01_k».proof.Proof.Gen.OutProjectionReferenceIdeal.Run
public import proofs.«01_k».proof.Proof.OutRow
public import Idealize.ShloMosaic.Lib.KernelVsHost

@[expose] public section

noncomputable section

namespace Cert.OutProjectionReferenceIdeal.Rows

open Cert.OutProjectionReferenceIdeal Cert.OutProjectionReferenceIdeal.Gen Idealize.ShloMosaic Idealize.ShloMosaic.TcCoe Idealize.SL.Sem

section Def
variable {F : FTy → Type} [FloatOps F]

/-- The factors of the latent rows. -/
def latentFactor (x : FVec F S4x4096x1024 .f32) : FVec F S4x4096x1 .f32 :=
  Host.rsqrt (addf (Host.divf (broadcastInDim S4x4096x1 ![0, 1] bcast_S4x4096_S4x4096x1_0_1
      (Host.reduceAdd (mulf x x) (constant S_ .f32 0x00000000#32) reducesTo_S4x4096x1024_S4x4096_d2 h_S_))
    (broadcastInDim S4x4096x1 ![] bcast_S_S4x4096x1 (constant S_ .f32 0x44800000#32)))
    (broadcastInDim S4x4096x1 ![] bcast_S_S4x4096x1 (constant S_ .f32 0x358637BD#32)))

/-- The latent rows by their factors and the gains. -/
def latentNorm (x : FVec F S4x4096x1024 .f32) (g : FVec F S1024 .f32) : FVec F S4x4096x1024 .f32 :=
  mulf (mulf x (broadcastInDim S4x4096x1024 ![0, 1, 2] bcast_S4x4096x1_S4x4096x1024_0_1_2 (latentFactor x)))
    (broadcastInDim S4x4096x1024 ![0, 1, 2] bcast_S1x1x1024_S4x4096x1024_0_1_2 (broadcastInDim S1x1x1024 ![2] bcast_S1024_S1x1x1024_2 g))

/-- The latent rows, and gated rows added to them. -/
def latentGate (x y : FVec F S4x4096x1024 .f32) (gt : FVec F S4x1x1024 .f32) : FVec F S4x4096x1024 .f32 :=
  addf x (mulf (broadcastInDim S4x4096x1024 ![0, 1, 2] bcast_S4x1x1024_S4x4096x1024_0_1_2 gt) y)

/-- The latent rows of an array of 768 columns. -/
def latentThirds (a : FVec F S17408x768 .f32) : FVec F S4x4096x768 .f32 :=
  shapeCast S4x4096x768 (extractStridedSlice S16384x768 ![0, 0] a slices_S17408x768_S16384x768_0_0) shapeCasts_S16384x768_S4x4096x768

/-- The latent rows of an array of 256 columns. -/
def latentFourier (a : FVec F S17408x256 .f32) : FVec F S4x4096x256 .f32 :=
  shapeCast S4x4096x256 (extractStridedSlice S16384x256 ![0, 0] a slices_S17408x256_S16384x256_0_0) shapeCasts_S16384x256_S4x4096x256

/-- The latent rows of an array of 512 columns. -/
def latentAttention (a : FVec F S17408x512 .f32) : FVec F S4x4096x512 .f32 :=
  shapeCast S4x4096x512 (extractStridedSlice S16384x512 ![0, 0] a slices_S17408x512_S16384x512_0_0) shapeCasts_S16384x512_S4x4096x512

/-- The latent rows of an array of 1024 columns. -/
def latentRows (a : FVec F S17408x1024 .f32) : FVec F S4x4096x1024 .f32 :=
  shapeCast S4x4096x1024 (extractStridedSlice S16384x1024 ![0, 0] a slices_S17408x1024_S16384x1024_0_0) shapeCasts_S16384x1024_S4x4096x1024

/-- The first third times the last one. -/
def latentCarried (a : FVec F S4x4096x768 .f32) : FVec F S4x4096x256 .f32 :=
  mulf (extractStridedSlice S4x4096x256 ![0, 0, 512] a slices_S4x4096x768_S4x4096x256_0_0_512) (extractStridedSlice S4x4096x256 ![0, 0, 0] a slices_S4x4096x768_S4x4096x256_0_0_0)

/-- A zero row before and after every sample. -/
def latentPadded (z : FVec F S4x4096x256 .f32) : FVec F S4x4098x256 .f32 :=
  pad S4x4098x256 ![0, 1, 0] ![0, 1, 0] ![0, 0, 0] z (sitofp .f32 (constantI S_ 32 0#32)) pads_S4x4096x256_S4x4098x256_000_110_000 h_S_

/-- Three neighbours, each times its taps. -/
def latentTaps (z : FVec F S4x4098x256 .f32) (w0 w1 w2 : FVec F S256 .f32) : FVec F S4x4096x256 .f32 :=
  addf (addf (mulf (extractStridedSlice S4x4096x256 ![0, 0, 0] z slices_S4x4098x256_S4x4096x256_0_0_0) (broadcastInDim S4x4096x256 ![0, 1, 2] bcast_S1x1x256_S4x4096x256_0_1_2 (broadcastInDim S1x1x256 ![2] bcast_S256_S1x1x256_2 w0)))
    (mulf (extractStridedSlice S4x4096x256 ![0, 1, 0] z slices_S4x4098x256_S4x4096x256_0_1_0) (broadcastInDim S4x4096x256 ![0, 1, 2] bcast_S1x1x256_S4x4096x256_0_1_2 (broadcastInDim S1x1x256 ![2] bcast_S256_S1x1x256_2 w1))))
    (mulf (extractStridedSlice S4x4096x256 ![0, 2, 0] z slices_S4x4098x256_S4x4096x256_0_2_0) (broadcastInDim S4x4096x256 ![0, 1, 2] bcast_S1x1x256_S4x4096x256_0_1_2 (broadcastInDim S1x1x256 ![2] bcast_S256_S1x1x256_2 w2)))

/-- The convolution of the latent rows, times their middle third. -/
def latentConvolve (a : FVec F S4x4096x768 .f32) (w0 w1 w2 : FVec F S256 .f32) : FVec F S4x4096x256 .f32 :=
  mulf (extractStridedSlice S4x4096x256 ![0, 0, 256] a slices_S4x4096x768_S4x4096x256_0_0_256) (latentTaps (latentPadded (latentCarried a)) w0 w1 w2)

/-- The three parts of the mixing width, side by side. -/
def latentJoined (cv yf : FVec F S4x4096x256 .f32) (att : FVec F S4x4096x512 .f32) : FVec F S4x4096x1024 .f32 :=
  (concatenate S4x4096x1024 2 [⟨S4x4096x256, cv⟩, ⟨S4x4096x256, yf⟩, ⟨S4x4096x512, att⟩] concatenates_S4x4096x256_S4x4096x256_S4x4096x512_S4x4096x1024_d2)

/-- The products with the weight. -/
def latentProduct (a : FVec F S4x4096x1024 .f32) (w : FVec F S1024x1024 .f32) : FVec F S4x4096x1024 .f32 :=
  Host.dotGeneral dot_S4x4096x1024_S1024x1024_S4x4096x1024_2_0_01_1_n_n none a w

/-- The gates of the latent rows. -/
def latentGates (a : FVec F S4x8x6x1024 .f32) : FVec F S4x1x1024 .f32 :=
  broadcastInDim S4x1x1024 ![0, 2] bcast_S4x1024_S4x1x1024_0_2 (shapeCast S4x1024 (extractStridedSlice S1x4x1x1024 ![1, 0, 2, 0] a slices_S4x8x6x1024_S1x4x1x1024_1_0_2_0)
    shapeCasts_S1x4x1x1024_S4x1024)

/-- The output projection of the latent rows. -/
def latentStream (a : FVec F S17408x768 .f32) (yf : FVec F S17408x256 .f32) (att : FVec F S17408x512 .f32) (x : FVec F S17408x1024 .f32) (m : FVec F S4x8x6x1024 .f32)
    (g : FVec F S1024 .f32) (w0 w1 w2 : FVec F S256 .f32) (w : FVec F S1024x1024 .f32) : FVec F S4x4096x1024 .f32 :=
  latentGate (latentRows x) (latentNorm (latentProduct (latentJoined (latentConvolve (latentThirds a) w0 w1 w2) (latentFourier yf) (latentAttention att)) w) g) (latentGates m)

/-- The factors of the context rows. -/
def contextFactor (x : FVec F S4x256x1024 .f32) : FVec F S4x256x1 .f32 :=
  Host.rsqrt (addf (Host.divf (broadcastInDim S4x256x1 ![0, 1] bcast_S4x256_S4x256x1_0_1
      (Host.reduceAdd (mulf x x) (constant S_ .f32 0x00000000#32) reducesTo_S4x256x1024_S4x256_d2 h_S_))
    (broadcastInDim S4x256x1 ![] bcast_S_S4x256x1 (constant S_ .f32 0x44800000#32)))
    (broadcastInDim S4x256x1 ![] bcast_S_S4x256x1 (constant S_ .f32 0x358637BD#32)))

/-- The context rows by their factors and the gains. -/
def contextNorm (x : FVec F S4x256x1024 .f32) (g : FVec F S1024 .f32) : FVec F S4x256x1024 .f32 :=
  mulf (mulf x (broadcastInDim S4x256x1024 ![0, 1, 2] bcast_S4x256x1_S4x256x1024_0_1_2 (contextFactor x)))
    (broadcastInDim S4x256x1024 ![0, 1, 2] bcast_S1x1x1024_S4x256x1024_0_1_2 (broadcastInDim S1x1x1024 ![2] bcast_S1024_S1x1x1024_2 g))

/-- The context rows, and gated rows added to them. -/
def contextGate (x y : FVec F S4x256x1024 .f32) (gt : FVec F S1024 .f32) : FVec F S4x256x1024 .f32 :=
  addf x (mulf (broadcastInDim S4x256x1024 ![0, 1, 2] bcast_S1x1x1024_S4x256x1024_0_1_2 (broadcastInDim S1x1x1024 ![2] bcast_S1024_S1x1x1024_2 gt)) y)

/-- The context rows of an array of 768 columns. -/
def contextThirds (a : FVec F S17408x768 .f32) : FVec F S4x256x768 .f32 :=
  shapeCast S4x256x768 (extractStridedSlice S1024x768 ![16384, 0] a slices_S17408x768_S1024x768_16384_0) shapeCasts_S1024x768_S4x256x768

/-- The context rows of an array of 256 columns. -/
def contextFourier (a : FVec F S17408x256 .f32) : FVec F S4x256x256 .f32 :=
  shapeCast S4x256x256 (extractStridedSlice S1024x256 ![16384, 0] a slices_S17408x256_S1024x256_16384_0) shapeCasts_S1024x256_S4x256x256

/-- The context rows of an array of 512 columns. -/
def contextAttention (a : FVec F S17408x512 .f32) : FVec F S4x256x512 .f32 :=
  shapeCast S4x256x512 (extractStridedSlice S1024x512 ![16384, 0] a slices_S17408x512_S1024x512_16384_0) shapeCasts_S1024x512_S4x256x512

/-- The context rows of an array of 1024 columns. -/
def contextRows (a : FVec F S17408x1024 .f32) : FVec F S4x256x1024 .f32 :=
  shapeCast S4x256x1024 (extractStridedSlice S1024x1024 ![16384, 0] a slices_S17408x1024_S1024x1024_16384_0) shapeCasts_S1024x1024_S4x256x1024

/-- The first third times the last one. -/
def contextCarried (a : FVec F S4x256x768 .f32) : FVec F S4x256x256 .f32 :=
  mulf (extractStridedSlice S4x256x256 ![0, 0, 512] a slices_S4x256x768_S4x256x256_0_0_512) (extractStridedSlice S4x256x256 ![0, 0, 0] a slices_S4x256x768_S4x256x256_0_0_0)

/-- A zero row before and after every sample. -/
def contextPadded (z : FVec F S4x256x256 .f32) : FVec F S4x258x256 .f32 :=
  pad S4x258x256 ![0, 1, 0] ![0, 1, 0] ![0, 0, 0] z (sitofp .f32 (constantI S_ 32 0#32)) pads_S4x256x256_S4x258x256_000_110_000 h_S_

/-- Three neighbours, each times its taps. -/
def contextTaps (z : FVec F S4x258x256 .f32) (w0 w1 w2 : FVec F S256 .f32) : FVec F S4x256x256 .f32 :=
  addf (addf (mulf (extractStridedSlice S4x256x256 ![0, 0, 0] z slices_S4x258x256_S4x256x256_0_0_0) (broadcastInDim S4x256x256 ![0, 1, 2] bcast_S1x1x256_S4x256x256_0_1_2 (broadcastInDim S1x1x256 ![2] bcast_S256_S1x1x256_2 w0)))
    (mulf (extractStridedSlice S4x256x256 ![0, 1, 0] z slices_S4x258x256_S4x256x256_0_1_0) (broadcastInDim S4x256x256 ![0, 1, 2] bcast_S1x1x256_S4x256x256_0_1_2 (broadcastInDim S1x1x256 ![2] bcast_S256_S1x1x256_2 w1))))
    (mulf (extractStridedSlice S4x256x256 ![0, 2, 0] z slices_S4x258x256_S4x256x256_0_2_0) (broadcastInDim S4x256x256 ![0, 1, 2] bcast_S1x1x256_S4x256x256_0_1_2 (broadcastInDim S1x1x256 ![2] bcast_S256_S1x1x256_2 w2)))

/-- The convolution of the context rows, times their middle third. -/
def contextConvolve (a : FVec F S4x256x768 .f32) (w0 w1 w2 : FVec F S256 .f32) : FVec F S4x256x256 .f32 :=
  mulf (extractStridedSlice S4x256x256 ![0, 0, 256] a slices_S4x256x768_S4x256x256_0_0_256) (contextTaps (contextPadded (contextCarried a)) w0 w1 w2)

/-- The three parts of the mixing width, side by side. -/
def contextJoined (cv yf : FVec F S4x256x256 .f32) (att : FVec F S4x256x512 .f32) : FVec F S4x256x1024 .f32 :=
  (concatenate S4x256x1024 2 [⟨S4x256x256, cv⟩, ⟨S4x256x256, yf⟩, ⟨S4x256x512, att⟩] concatenates_S4x256x256_S4x256x256_S4x256x512_S4x256x1024_d2)

/-- The products with the weight. -/
def contextProduct (a : FVec F S4x256x1024 .f32) (w : FVec F S1024x1024 .f32) : FVec F S4x256x1024 .f32 :=
  Host.dotGeneral dot_S4x256x1024_S1024x1024_S4x256x1024_2_0_01_1_n_n none a w

/-- The gates of the context rows. -/
def contextGates (a : FVec F S4x8x6x1024 .f32) : FVec F S1024 .f32 :=
  shapeCast S1024 (extractStridedSlice S1x1x1x1024 ![1, 4, 2, 0] a slices_S4x8x6x1024_S1x1x1x1024_1_4_2_0) shapeCasts_S1x1x1x1024_S1024

/-- The output projection of the context rows. -/
def contextStream (a : FVec F S17408x768 .f32) (yf : FVec F S17408x256 .f32) (att : FVec F S17408x512 .f32) (x : FVec F S17408x1024 .f32) (m : FVec F S4x8x6x1024 .f32)
    (g : FVec F S1024 .f32) (w0 w1 w2 : FVec F S256 .f32) (w : FVec F S1024x1024 .f32) : FVec F S4x256x1024 .f32 :=
  contextGate (contextRows x) (contextNorm (contextProduct (contextJoined (contextConvolve (contextThirds a) w0 w1 w2) (contextFourier yf) (contextAttention att)) w) g) (contextGates m)

/-- Layer 1 of a gain. -/
def gain (g : FVec F S4x1024 .f32) : FVec F S1024 .f32 :=
  shapeCast S1024 (extractStridedSlice S1x1024 ![1, 0] g slices_S4x1024_S1x1024_1_0) shapeCasts_S1x1024_S1024

/-- Tap 0 of layer 1. -/
def tap0 (w : FVec F S4x3x256 .f32) : FVec F S256 .f32 :=
  shapeCast S256 (extractStridedSlice S1x1x256 ![1, 0, 0] w slices_S4x3x256_S1x1x256_1_0_0) shapeCasts_S1x1x256_S256

/-- Tap 1 of layer 1. -/
def tap1 (w : FVec F S4x3x256 .f32) : FVec F S256 .f32 :=
  shapeCast S256 (extractStridedSlice S1x1x256 ![1, 1, 0] w slices_S4x3x256_S1x1x256_1_1_0) shapeCasts_S1x1x256_S256

/-- Tap 2 of layer 1. -/
def tap2 (w : FVec F S4x3x256 .f32) : FVec F S256 .f32 :=
  shapeCast S256 (extractStridedSlice S1x1x256 ![1, 2, 0] w slices_S4x3x256_S1x1x256_1_2_0) shapeCasts_S1x1x256_S256

/-- The two streams, one over the other. -/
def stack (l : FVec F S4x4096x1024 .f32) (k : FVec F S4x256x1024 .f32) : FVec F S17408x1024 .f32 :=
  concatenate S17408x1024 0 [⟨S16384x1024, (shapeCast S16384x1024 l shapeCasts_S4x4096x1024_S16384x1024)⟩,
    ⟨S1024x1024, (shapeCast S1024x1024 k shapeCasts_S4x256x1024_S1024x1024)⟩] concatenates_S16384x1024_S1024x1024_S17408x1024_d0

/-- The reference's output projection, from the projected rows, the Fourier part, the attention, the stream, the
    modulation, the gain, the taps and the weight. -/
def outProjection (a : FVec F S17408x768 .bf16) (yf : FVec F S17408x256 .f32) (att : FVec F S17408x512 .bf16) (x : FVec F S17408x1024 .f32)
    (m : FVec F S4x8x6x1024 .f32) (g : FVec F S4x1024 .f32) (cw : FVec F S4x3x256 .f32) (w : FVec F S1024x1024 .bf16) : FVec F S17408x1024 .f32 :=
  stack
    (latentStream (extf .f32 a bitsLt_bf16_f32) yf (extf .f32 att bitsLt_bf16_f32) x m (gain g) (tap0 cw) (tap1 cw) (tap2 cw) (extf .f32 w bitsLt_bf16_f32))
    (contextStream (extf .f32 a bitsLt_bf16_f32) yf (extf .f32 att bitsLt_bf16_f32) x m (gain g) (tap0 cw) (tap1 cw) (tap2 cw) (extf .f32 w bitsLt_bf16_f32))

theorem res_eq (m : (ℓ : Loc nD τ sig) → Buf (Elt F) ℓ) (c : Dev nD) :
    Value.res_main_v111 m c = outProjection (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Value.res_main_v111
  rfl

end Def

/-! ## Elements over the extended reals -/

theorem latentFactor_apply (x : FVec Ideal S4x4096x1024 .f32) (b : Fin 4) (s : Fin 4096) :
    latentFactor x (ix3 b s 0) = FeedRow.factor fun k => x (ix3 b s k) := by
  unfold latentFactor FeedRow.factor
  pointwise

theorem latentNorm_apply (x : FVec Ideal S4x4096x1024 .f32) (g : FVec Ideal S1024 .f32) (b : Fin 4) (s : Fin 4096) (k : Fin 1024) :
    latentNorm x g (ix3 b s k) = x (ix3 b s k) * FeedRow.factor (fun k => x (ix3 b s k)) * g (ix1 k) := by
  rw [← latentFactor_apply]
  unfold latentNorm
  generalize latentFactor (F := Ideal) x = y
  pointwise

theorem latentGate_apply (x y : FVec Ideal S4x4096x1024 .f32) (gt : FVec Ideal S4x1x1024 .f32) (b : Fin 4) (s : Fin 4096) (k : Fin 1024) :
    latentGate x y gt (ix3 b s k) = x (ix3 b s k) + gt (ix3 b 0 k) * y (ix3 b s k) := by
  unfold latentGate
  pointwise

theorem latentThirds_apply (a : FVec Ideal S17408x768 .f32) (b : Fin 4) (s : Fin 4096) (k : Fin 768) :
    latentThirds a (ix3 b s k) = a (ix2 ⟨4096 * b.val + s.val, by omega⟩ k) := by
  unfold latentThirds
  pointwise
  blk_ext

theorem latentFourier_apply (a : FVec Ideal S17408x256 .f32) (b : Fin 4) (s : Fin 4096) (k : Fin 256) :
    latentFourier a (ix3 b s k) = a (ix2 ⟨4096 * b.val + s.val, by omega⟩ k) := by
  unfold latentFourier
  pointwise
  blk_ext

theorem latentAttention_apply (a : FVec Ideal S17408x512 .f32) (b : Fin 4) (s : Fin 4096) (k : Fin 512) :
    latentAttention a (ix3 b s k) = a (ix2 ⟨4096 * b.val + s.val, by omega⟩ k) := by
  unfold latentAttention
  pointwise
  blk_ext

theorem latentRows_apply (a : FVec Ideal S17408x1024 .f32) (b : Fin 4) (s : Fin 4096) (k : Fin 1024) :
    latentRows a (ix3 b s k) = a (ix2 ⟨4096 * b.val + s.val, by omega⟩ k) := by
  unfold latentRows
  pointwise
  blk_ext

theorem latentCarried_apply (a : FVec Ideal S4x4096x768 .f32) (b : Fin 4) (s : Fin 4096) (d : Fin 256) :
    latentCarried a (ix3 b s d) = OutRow.carried (fun k => a (ix3 b s k)) d := by
  unfold latentCarried OutRow.carried
  pointwise

theorem latentPadded_inside (z : FVec Ideal S4x4096x256 .f32) (b : Fin 4) (q : Fin 4098) (s : Fin 4096) (h : q.val = s.val + 1) (d : Fin 256) :
    latentPadded z (ix3 b q d) = z (ix3 b s d) := by
  unfold latentPadded
  refine pad_apply_of_inside _ _ _ _ _ _ _ _ (ix3 b s d) fun a => ?_
  fin_cases a
  · show b.val = 0 + b.val * (0 + 1)
    omega
  · show q.val = 1 + s.val * (0 + 1)
    omega
  · show d.val = 0 + d.val * (0 + 1)
    omega

theorem latentPadded_outside (z : FVec Ideal S4x4096x256 .f32) (b : Fin 4) (q : Fin 4098) (h : q.val = 0 ∨ q.val = 4097) (d : Fin 256) :
    latentPadded z (ix3 b q d) = 0 := by
  unfold latentPadded
  refine (pad_apply_of_not_inside _ _ _ _ _ _ _ _ (1 : Fin 3) ?_).trans ?_
  · show ¬(1 ≤ q.val ∧ (q.val - 1) % (0 + 1) = 0 ∧ (q.val - 1) / (0 + 1) < 4096)
    omega
  · pointwise
    show (((0#32 : BitVec 32).toInt : ℝ) : EReal) = 0
    simp

theorem latentTaps_apply (z : FVec Ideal S4x4098x256 .f32) (w0 w1 w2 : FVec Ideal S256 .f32) (b : Fin 4) (s : Fin 4096) (d : Fin 256) :
    latentTaps z w0 w1 w2 (ix3 b s d) = z (ix3 b ⟨s.val, by omega⟩ d) * w0 (ix1 d) + z (ix3 b ⟨1 + s.val, by omega⟩ d) * w1 (ix1 d)
      + z (ix3 b ⟨2 + s.val, by omega⟩ d) * w2 (ix1 d) := by
  unfold latentTaps
  pointwise

theorem latentConvolve_apply (a : FVec Ideal S4x4096x768 .f32) (w0 w1 w2 : FVec Ideal S256 .f32) (b : Fin 4) (s : Fin 4096) (d : Fin 256) :
    latentConvolve a w0 w1 w2 (ix3 b s d) = OutRow.middle (fun k => a (ix3 b s k)) d
      * ((if s.val = 0 then 0 else OutRow.carried (fun k => a (ix3 b ⟨s.val - 1, by omega⟩ k)) d) * w0 (ix1 d)
        + OutRow.carried (fun k => a (ix3 b s k)) d * w1 (ix1 d)
        + (if s.val = 4095 then 0 else OutRow.carried (fun k => a (ix3 b ⟨(s.val + 1) % 4096, by omega⟩ k)) d) * w2 (ix1 d)) := by
  have hb : latentPadded (latentCarried a) (ix3 b ⟨s.val, by omega⟩ d) = if s.val = 0 then 0 else OutRow.carried (fun k => a (ix3 b ⟨s.val - 1, by omega⟩ k)) d := by
    by_cases h : s.val = 0
    · rw [if_pos h]
      exact latentPadded_outside _ b _ (.inl h) d
    · rw [if_neg h, ← latentCarried_apply]
      exact latentPadded_inside _ b _ _ (by show s.val = s.val - 1 + 1; omega) d
  have hm : latentPadded (latentCarried a) (ix3 b ⟨1 + s.val, by omega⟩ d) = OutRow.carried (fun k => a (ix3 b s k)) d := by
    rw [← latentCarried_apply]
    exact latentPadded_inside _ b _ _ (Nat.add_comm _ _) d
  have ha : latentPadded (latentCarried a) (ix3 b ⟨2 + s.val, by omega⟩ d) = if s.val = 4095 then 0 else OutRow.carried (fun k => a (ix3 b ⟨(s.val + 1) % 4096, by omega⟩ k)) d := by
    by_cases h : s.val = 4095
    · rw [if_pos h]
      exact latentPadded_outside _ b _ (.inr (by show 2 + s.val = 4097; omega)) d
    · rw [if_neg h, ← latentCarried_apply]
      exact latentPadded_inside _ b _ _ (by show 2 + s.val = (s.val + 1) % 4096 + 1; omega) d
  have hc : extractStridedSlice S4x4096x256 ![0, 0, 256] a slices_S4x4096x768_S4x4096x256_0_0_256 (ix3 b s d) = OutRow.middle (fun k => a (ix3 b s k)) d := by
    unfold OutRow.middle
    pointwise
  rw [← hb, ← hm, ← ha, ← hc, ← latentTaps_apply]
  rfl

theorem latentJoined_apply (cv yf : FVec Ideal S4x4096x256 .f32) (att : FVec Ideal S4x4096x512 .f32) (b : Fin 4) (s : Fin 4096) :
    (∀ d : Fin 256, latentJoined cv yf att (ix3 b s ⟨d.val, by omega⟩) = cv (ix3 b s d))
    ∧ (∀ d : Fin 256, latentJoined cv yf att (ix3 b s ⟨256 + d.val, by omega⟩) = yf (ix3 b s d))
    ∧ (∀ d : Fin 512, latentJoined cv yf att (ix3 b s ⟨512 + d.val, by omega⟩) = att (ix3 b s d)) := by
  refine ⟨fun d => ?_, fun d => ?_, fun d => ?_⟩ <;> unfold latentJoined <;> pointwise
  rw [dif_neg (by omega), dif_neg (by omega)]
  exact congrArg (fun i => att (ix3 b s i)) (Fin.ext (by simp only []; omega))

theorem latentProduct_apply (a : FVec Ideal S4x4096x1024 .f32) (w : FVec Ideal S1024x1024 .f32) (b : Fin 4) (s : Fin 4096) (k : Fin 1024) :
    latentProduct a w (ix3 b s k) = ∑ j, a (ix3 b s j) * w (ix2 j k) := by
  unfold latentProduct
  pointwise

theorem latentMixed_apply (cv yf : FVec Ideal S4x4096x256 .f32) (att : FVec Ideal S4x4096x512 .f32) (w : FVec Ideal S1024x1024 .f32) (b : Fin 4) (s : Fin 4096) (k : Fin 1024) :
    latentProduct (latentJoined cv yf att) w (ix3 b s k) = OutRow.product (fun j k => w (ix2 j k)) (fun d => cv (ix3 b s d)) (fun d => yf (ix3 b s d))
      (fun d => att (ix3 b s d)) k := by
  rw [latentProduct_apply, OutRow.sum_thirds]
  simp only [(latentJoined_apply cv yf att b s).1, (latentJoined_apply cv yf att b s).2.1, (latentJoined_apply cv yf att b s).2.2]
  rfl

theorem latentGates_apply (a : FVec Ideal S4x8x6x1024 .f32) (b : Fin 4) (k : Fin 1024) :
    latentGates a (ix3 b 0 k) = a (ix4 1 ⟨b.val, by omega⟩ 2 k) := by
  unfold latentGates
  pointwise
  blk_ext

theorem latentStream_apply (a : FVec Ideal S17408x768 .f32) (yf : FVec Ideal S17408x256 .f32) (att : FVec Ideal S17408x512 .f32) (x : FVec Ideal S17408x1024 .f32)
    (m : FVec Ideal S4x8x6x1024 .f32) (g : FVec Ideal S1024 .f32) (w0 w1 w2 : FVec Ideal S256 .f32) (w : FVec Ideal S1024x1024 .f32) (C : Fin 3 → Fin 256 → EReal)
    (h0 : ∀ d, w0 (ix1 d) = C 0 d) (h1 : ∀ d, w1 (ix1 d) = C 1 d) (h2 : ∀ d, w2 (ix1 d) = C 2 d) (b : Fin 4) (s : Fin 4096) (r : Fin 17408)
    (hr : r.val = 4096 * b.val + s.val) (k : Fin 1024) :
    latentStream a yf att x m g w0 w1 w2 w (ix3 b s k) = OutRow.out (fun r k => a (ix2 r k)) (fun r k => yf (ix2 r k)) (fun r k => att (ix2 r k))
      (fun r k => x (ix2 r k)) (fun s n k => m (ix4 1 s n k)) (fun k => g (ix1 k)) C (fun j k => w (ix2 j k)) r k := by
  have er : ((⟨4096 * b.val + s.val, by omega⟩ : Fin 17408)) = r := Fin.ext hr.symm
  have es : OutRow.segment r.val = 4096 := by
    unfold OutRow.segment
    rw [if_pos (by omega)]
  have eq : FeedRow.sample r = ⟨b.val, by omega⟩ := by
    unfold FeedRow.sample
    rw [dif_pos (by omega)]
    exact Fin.ext (by show r.val / 4096 = b.val; omega)
  have eb (d : Fin 256) : (if s.val = 0 then 0 else OutRow.carried (fun k => latentThirds a (ix3 b ⟨s.val - 1, by omega⟩ k)) d)
      = OutRow.before (fun r d => OutRow.carried (fun k => a (ix2 r k)) d) r d := by
    unfold OutRow.before
    rw [es]
    by_cases h : s.val = 0
    · rw [if_pos h, if_pos (by omega)]
    · rw [if_neg h, if_neg (by omega)]
      simp only [latentThirds_apply]
      exact congrArg (fun r => OutRow.carried (fun k => a (ix2 r k)) d) (Fin.ext (by show 4096 * b.val + (s.val - 1) = r.val - 1; omega))
  have ea (d : Fin 256) : (if s.val = 4095 then 0 else OutRow.carried (fun k => latentThirds a (ix3 b ⟨(s.val + 1) % 4096, by omega⟩ k)) d)
      = OutRow.after (fun r d => OutRow.carried (fun k => a (ix2 r k)) d) r d := by
    unfold OutRow.after
    rw [es]
    by_cases h : s.val = 4095
    · rw [if_pos h, if_pos (by omega)]
    · rw [if_neg h, if_neg (by omega)]
      simp only [latentThirds_apply]
      exact congrArg (fun r => OutRow.carried (fun k => a (ix2 r k)) d) (Fin.ext (by show 4096 * b.val + (s.val + 1) % 4096 = (r.val + 1) % 17408; omega))
  unfold latentStream
  rw [latentGate_apply, latentNorm_apply]
  simp only [latentMixed_apply, latentConvolve_apply, eb, ea]
  simp only [latentThirds_apply, latentFourier_apply, latentAttention_apply, latentRows_apply, latentGates_apply, er, h0, h1, h2]
  unfold OutRow.out FeedRow.gated
  rw [eq]
  refine congrArg (x (ix2 r k) + ·) ?_
  exact mul_left_comm _ _ _

theorem contextFactor_apply (x : FVec Ideal S4x256x1024 .f32) (b : Fin 4) (s : Fin 256) :
    contextFactor x (ix3 b s 0) = FeedRow.factor fun k => x (ix3 b s k) := by
  unfold contextFactor FeedRow.factor
  pointwise

theorem contextNorm_apply (x : FVec Ideal S4x256x1024 .f32) (g : FVec Ideal S1024 .f32) (b : Fin 4) (s : Fin 256) (k : Fin 1024) :
    contextNorm x g (ix3 b s k) = x (ix3 b s k) * FeedRow.factor (fun k => x (ix3 b s k)) * g (ix1 k) := by
  rw [← contextFactor_apply]
  unfold contextNorm
  generalize contextFactor (F := Ideal) x = y
  pointwise

theorem contextGate_apply (x y : FVec Ideal S4x256x1024 .f32) (gt : FVec Ideal S1024 .f32) (b : Fin 4) (s : Fin 256) (k : Fin 1024) :
    contextGate x y gt (ix3 b s k) = x (ix3 b s k) + gt (ix1 k) * y (ix3 b s k) := by
  unfold contextGate
  pointwise

theorem contextThirds_apply (a : FVec Ideal S17408x768 .f32) (b : Fin 4) (s : Fin 256) (k : Fin 768) :
    contextThirds a (ix3 b s k) = a (ix2 ⟨16384 + 256 * b.val + s.val, by omega⟩ k) := by
  unfold contextThirds
  pointwise
  blk_ext

theorem contextFourier_apply (a : FVec Ideal S17408x256 .f32) (b : Fin 4) (s : Fin 256) (k : Fin 256) :
    contextFourier a (ix3 b s k) = a (ix2 ⟨16384 + 256 * b.val + s.val, by omega⟩ k) := by
  unfold contextFourier
  pointwise
  blk_ext

theorem contextAttention_apply (a : FVec Ideal S17408x512 .f32) (b : Fin 4) (s : Fin 256) (k : Fin 512) :
    contextAttention a (ix3 b s k) = a (ix2 ⟨16384 + 256 * b.val + s.val, by omega⟩ k) := by
  unfold contextAttention
  pointwise
  blk_ext

theorem contextRows_apply (a : FVec Ideal S17408x1024 .f32) (b : Fin 4) (s : Fin 256) (k : Fin 1024) :
    contextRows a (ix3 b s k) = a (ix2 ⟨16384 + 256 * b.val + s.val, by omega⟩ k) := by
  unfold contextRows
  pointwise
  blk_ext

theorem contextCarried_apply (a : FVec Ideal S4x256x768 .f32) (b : Fin 4) (s : Fin 256) (d : Fin 256) :
    contextCarried a (ix3 b s d) = OutRow.carried (fun k => a (ix3 b s k)) d := by
  unfold contextCarried OutRow.carried
  pointwise

theorem contextPadded_inside (z : FVec Ideal S4x256x256 .f32) (b : Fin 4) (q : Fin 258) (s : Fin 256) (h : q.val = s.val + 1) (d : Fin 256) :
    contextPadded z (ix3 b q d) = z (ix3 b s d) := by
  unfold contextPadded
  refine pad_apply_of_inside _ _ _ _ _ _ _ _ (ix3 b s d) fun a => ?_
  fin_cases a
  · show b.val = 0 + b.val * (0 + 1)
    omega
  · show q.val = 1 + s.val * (0 + 1)
    omega
  · show d.val = 0 + d.val * (0 + 1)
    omega

theorem contextPadded_outside (z : FVec Ideal S4x256x256 .f32) (b : Fin 4) (q : Fin 258) (h : q.val = 0 ∨ q.val = 257) (d : Fin 256) :
    contextPadded z (ix3 b q d) = 0 := by
  unfold contextPadded
  refine (pad_apply_of_not_inside _ _ _ _ _ _ _ _ (1 : Fin 3) ?_).trans ?_
  · show ¬(1 ≤ q.val ∧ (q.val - 1) % (0 + 1) = 0 ∧ (q.val - 1) / (0 + 1) < 256)
    omega
  · pointwise
    show (((0#32 : BitVec 32).toInt : ℝ) : EReal) = 0
    simp

theorem contextTaps_apply (z : FVec Ideal S4x258x256 .f32) (w0 w1 w2 : FVec Ideal S256 .f32) (b : Fin 4) (s : Fin 256) (d : Fin 256) :
    contextTaps z w0 w1 w2 (ix3 b s d) = z (ix3 b ⟨s.val, by omega⟩ d) * w0 (ix1 d) + z (ix3 b ⟨1 + s.val, by omega⟩ d) * w1 (ix1 d)
      + z (ix3 b ⟨2 + s.val, by omega⟩ d) * w2 (ix1 d) := by
  unfold contextTaps
  pointwise

theorem contextConvolve_apply (a : FVec Ideal S4x256x768 .f32) (w0 w1 w2 : FVec Ideal S256 .f32) (b : Fin 4) (s : Fin 256) (d : Fin 256) :
    contextConvolve a w0 w1 w2 (ix3 b s d) = OutRow.middle (fun k => a (ix3 b s k)) d
      * ((if s.val = 0 then 0 else OutRow.carried (fun k => a (ix3 b ⟨s.val - 1, by omega⟩ k)) d) * w0 (ix1 d)
        + OutRow.carried (fun k => a (ix3 b s k)) d * w1 (ix1 d)
        + (if s.val = 255 then 0 else OutRow.carried (fun k => a (ix3 b ⟨(s.val + 1) % 256, by omega⟩ k)) d) * w2 (ix1 d)) := by
  have hb : contextPadded (contextCarried a) (ix3 b ⟨s.val, by omega⟩ d) = if s.val = 0 then 0 else OutRow.carried (fun k => a (ix3 b ⟨s.val - 1, by omega⟩ k)) d := by
    by_cases h : s.val = 0
    · rw [if_pos h]
      exact contextPadded_outside _ b _ (.inl h) d
    · rw [if_neg h, ← contextCarried_apply]
      exact contextPadded_inside _ b _ _ (by show s.val = s.val - 1 + 1; omega) d
  have hm : contextPadded (contextCarried a) (ix3 b ⟨1 + s.val, by omega⟩ d) = OutRow.carried (fun k => a (ix3 b s k)) d := by
    rw [← contextCarried_apply]
    exact contextPadded_inside _ b _ _ (Nat.add_comm _ _) d
  have ha : contextPadded (contextCarried a) (ix3 b ⟨2 + s.val, by omega⟩ d) = if s.val = 255 then 0 else OutRow.carried (fun k => a (ix3 b ⟨(s.val + 1) % 256, by omega⟩ k)) d := by
    by_cases h : s.val = 255
    · rw [if_pos h]
      exact contextPadded_outside _ b _ (.inr (by show 2 + s.val = 257; omega)) d
    · rw [if_neg h, ← contextCarried_apply]
      exact contextPadded_inside _ b _ _ (by show 2 + s.val = (s.val + 1) % 256 + 1; omega) d
  have hc : extractStridedSlice S4x256x256 ![0, 0, 256] a slices_S4x256x768_S4x256x256_0_0_256 (ix3 b s d) = OutRow.middle (fun k => a (ix3 b s k)) d := by
    unfold OutRow.middle
    pointwise
  rw [← hb, ← hm, ← ha, ← hc, ← contextTaps_apply]
  rfl

theorem contextJoined_apply (cv yf : FVec Ideal S4x256x256 .f32) (att : FVec Ideal S4x256x512 .f32) (b : Fin 4) (s : Fin 256) :
    (∀ d : Fin 256, contextJoined cv yf att (ix3 b s ⟨d.val, by omega⟩) = cv (ix3 b s d))
    ∧ (∀ d : Fin 256, contextJoined cv yf att (ix3 b s ⟨256 + d.val, by omega⟩) = yf (ix3 b s d))
    ∧ (∀ d : Fin 512, contextJoined cv yf att (ix3 b s ⟨512 + d.val, by omega⟩) = att (ix3 b s d)) := by
  refine ⟨fun d => ?_, fun d => ?_, fun d => ?_⟩ <;> unfold contextJoined <;> pointwise
  rw [dif_neg (by omega), dif_neg (by omega)]
  exact congrArg (fun i => att (ix3 b s i)) (Fin.ext (by simp only []; omega))

theorem contextProduct_apply (a : FVec Ideal S4x256x1024 .f32) (w : FVec Ideal S1024x1024 .f32) (b : Fin 4) (s : Fin 256) (k : Fin 1024) :
    contextProduct a w (ix3 b s k) = ∑ j, a (ix3 b s j) * w (ix2 j k) := by
  unfold contextProduct
  pointwise

theorem contextMixed_apply (cv yf : FVec Ideal S4x256x256 .f32) (att : FVec Ideal S4x256x512 .f32) (w : FVec Ideal S1024x1024 .f32) (b : Fin 4) (s : Fin 256) (k : Fin 1024) :
    contextProduct (contextJoined cv yf att) w (ix3 b s k) = OutRow.product (fun j k => w (ix2 j k)) (fun d => cv (ix3 b s d)) (fun d => yf (ix3 b s d))
      (fun d => att (ix3 b s d)) k := by
  rw [contextProduct_apply, OutRow.sum_thirds]
  simp only [(contextJoined_apply cv yf att b s).1, (contextJoined_apply cv yf att b s).2.1, (contextJoined_apply cv yf att b s).2.2]
  rfl

theorem contextGates_apply (a : FVec Ideal S4x8x6x1024 .f32) (k : Fin 1024) :
    contextGates a (ix1 k) = a (ix4 1 4 2 k) := by
  unfold contextGates
  pointwise

theorem contextStream_apply (a : FVec Ideal S17408x768 .f32) (yf : FVec Ideal S17408x256 .f32) (att : FVec Ideal S17408x512 .f32) (x : FVec Ideal S17408x1024 .f32)
    (m : FVec Ideal S4x8x6x1024 .f32) (g : FVec Ideal S1024 .f32) (w0 w1 w2 : FVec Ideal S256 .f32) (w : FVec Ideal S1024x1024 .f32) (C : Fin 3 → Fin 256 → EReal)
    (h0 : ∀ d, w0 (ix1 d) = C 0 d) (h1 : ∀ d, w1 (ix1 d) = C 1 d) (h2 : ∀ d, w2 (ix1 d) = C 2 d) (b : Fin 4) (s : Fin 256) (r : Fin 17408)
    (hr : r.val = 16384 + 256 * b.val + s.val) (k : Fin 1024) :
    contextStream a yf att x m g w0 w1 w2 w (ix3 b s k) = OutRow.out (fun r k => a (ix2 r k)) (fun r k => yf (ix2 r k)) (fun r k => att (ix2 r k))
      (fun r k => x (ix2 r k)) (fun s n k => m (ix4 1 s n k)) (fun k => g (ix1 k)) C (fun j k => w (ix2 j k)) r k := by
  have er : ((⟨16384 + 256 * b.val + s.val, by omega⟩ : Fin 17408)) = r := Fin.ext hr.symm
  have es : OutRow.segment r.val = 256 := by
    unfold OutRow.segment
    rw [if_neg (by omega)]
  have eq : FeedRow.sample r = 4 := by
    unfold FeedRow.sample
    rw [dif_neg (by omega)]

  have eb (d : Fin 256) : (if s.val = 0 then 0 else OutRow.carried (fun k => contextThirds a (ix3 b ⟨s.val - 1, by omega⟩ k)) d)
      = OutRow.before (fun r d => OutRow.carried (fun k => a (ix2 r k)) d) r d := by
    unfold OutRow.before
    rw [es]
    by_cases h : s.val = 0
    · rw [if_pos h, if_pos (by omega)]
    · rw [if_neg h, if_neg (by omega)]
      simp only [contextThirds_apply]
      exact congrArg (fun r => OutRow.carried (fun k => a (ix2 r k)) d) (Fin.ext (by show 16384 + 256 * b.val + (s.val - 1) = r.val - 1; omega))
  have ea (d : Fin 256) : (if s.val = 255 then 0 else OutRow.carried (fun k => contextThirds a (ix3 b ⟨(s.val + 1) % 256, by omega⟩ k)) d)
      = OutRow.after (fun r d => OutRow.carried (fun k => a (ix2 r k)) d) r d := by
    unfold OutRow.after
    rw [es]
    by_cases h : s.val = 255
    · rw [if_pos h, if_pos (by omega)]
    · rw [if_neg h, if_neg (by omega)]
      simp only [contextThirds_apply]
      exact congrArg (fun r => OutRow.carried (fun k => a (ix2 r k)) d) (Fin.ext (by show 16384 + 256 * b.val + (s.val + 1) % 256 = (r.val + 1) % 17408; omega))
  unfold contextStream
  rw [contextGate_apply, contextNorm_apply]
  simp only [contextMixed_apply, contextConvolve_apply, eb, ea]
  simp only [contextThirds_apply, contextFourier_apply, contextAttention_apply, contextRows_apply, contextGates_apply, er, h0, h1, h2]
  unfold OutRow.out FeedRow.gated
  rw [eq]
  refine congrArg (x (ix2 r k) + ·) ?_
  exact mul_left_comm _ _ _

theorem gain_apply (g : FVec Ideal S4x1024 .f32) (k : Fin 1024) : gain g (ix1 k) = g (ix2 1 k) := by
  unfold gain
  pointwise

theorem tap0_apply (w : FVec Ideal S4x3x256 .f32) (d : Fin 256) : tap0 w (ix1 d) = w (ix3 1 0 d) := by
  unfold tap0
  pointwise

theorem tap1_apply (w : FVec Ideal S4x3x256 .f32) (d : Fin 256) : tap1 w (ix1 d) = w (ix3 1 1 d) := by
  unfold tap1
  pointwise

theorem tap2_apply (w : FVec Ideal S4x3x256 .f32) (d : Fin 256) : tap2 w (ix1 d) = w (ix3 1 2 d) := by
  unfold tap2
  pointwise

theorem stack_latent (l : FVec Ideal S4x4096x1024 .f32) (e : FVec Ideal S4x256x1024 .f32) (r : Fin 17408) (h : r.val < 16384) (k : Fin 1024) :
    stack l e (ix2 r k) = l (ix3 ⟨r.val / 4096, by omega⟩ ⟨r.val % 4096, by omega⟩ k) := by
  unfold stack
  pointwise
  exact dif_pos h

theorem stack_context (l : FVec Ideal S4x4096x1024 .f32) (e : FVec Ideal S4x256x1024 .f32) (r : Fin 17408) (h : ¬ r.val < 16384) (k : Fin 1024) :
    stack l e (ix2 r k) = e (ix3 ⟨(r.val - 16384) / 256, by omega⟩ ⟨(r.val - 16384) % 256, by omega⟩ k) := by
  unfold stack
  pointwise
  exact dif_neg h

/-- Every element of the reference's output projection is the row's. -/
theorem outProjection_apply (a : FVec Ideal S17408x768 .bf16) (yf : FVec Ideal S17408x256 .f32) (att : FVec Ideal S17408x512 .bf16) (x : FVec Ideal S17408x1024 .f32)
    (m : FVec Ideal S4x8x6x1024 .f32) (g : FVec Ideal S4x1024 .f32) (cw : FVec Ideal S4x3x256 .f32) (w : FVec Ideal S1024x1024 .bf16) (r : Fin 17408) (k : Fin 1024) :
    outProjection a yf att x m g cw w (ix2 r k) = OutRow.out (fun r k => a (ix2 r k)) (fun r k => yf (ix2 r k)) (fun r k => att (ix2 r k))
      (fun r k => x (ix2 r k)) (fun s n k => m (ix4 1 s n k)) (fun k => g (ix2 1 k)) (fun n d => cw (ix3 1 n d)) (fun j k => w (ix2 j k)) r k := by
  unfold outProjection
  by_cases hr : r.val < 16384
  · rw [stack_latent _ _ r hr, latentStream_apply _ _ _ _ _ _ _ _ _ _ (fun n d => cw (ix3 1 n d)) (tap0_apply cw) (tap1_apply cw) (tap2_apply cw) _ _ r
      (Nat.div_add_mod _ _).symm]
    simp only [gain_apply]
    rfl
  · rw [stack_context _ _ r hr, contextStream_apply _ _ _ _ _ _ _ _ _ _ (fun n d => cw (ix3 1 n d)) (tap0_apply cw) (tap1_apply cw) (tap2_apply cw) _ _ r
      (by show r.val = 16384 + 256 * ((r.val - 16384) / 256) + (r.val - 16384) % 256; omega)]
    simp only [gain_apply]
    rfl

end Cert.OutProjectionReferenceIdeal.Rows

end
-- ==== Proof.ContextBody.lean ====
/- What one grid point of the context's attention leaves in its block: each head of each query attends to the one tile of
   keys of its sample. The steps are those of the latent rows' attention (Steps.lean) with the first tile alone. -/
module

public import proofs.«01_k».proof.Proof.Gen.ContextIdeal.Value
public import proofs.«01_k».proof.Proof.Steps

@[expose] public section

noncomputable section

namespace Cert.ContextIdeal.Attn

open Cert.ContextIdeal Cert.ContextIdeal.Gen Idealize.ShloMosaic Idealize.ShloMosaic.TcCoe
open Cert.KernelIdeal.Attn (score runSum quotient feat score_apply runSum_apply quotient_apply row)

/-- The rows of the scratch that head `g` fills. -/
def headRect (g : Fin 8) : Rect S512x256 :=
  Rect.unit (s := S512x256) ![64 * g.val, 0] S64x256.size (by intro a; fin_cases a <;> simp [S512x256, S64x256] <;> omega)

theorem headRect_emb (g : Fin 8) (x : S64x256.Idx) :
    (((headRect g).emb x 0 : Fin _) : ℕ) = 64 * g.val + (x 0).val ∧ (((headRect g).emb x 1 : Fin _) : ℕ) = 0 + (x 1).val :=
  ⟨ValueKit.rect_emb_unit_val _ _ _ _ _, ValueKit.rect_emb_unit_val _ _ _ _ _⟩

section Run
variable {F : FTy → Type} [FloatOps F] (c : Dev nD)
  (arg1 : Memref sig .tc .vmem S512x256 .bf16) (harg1 : arg1.IsWhole) (arg2 : Memref sig .tc .vmem S256x128 .bf16) (harg2 : arg2.IsWhole)
  (arg3 : Memref sig .tc .vmem S1x128x256 .bf16) (harg3 : arg3.IsWhole)
  (x0 : Vec F S512x256 .bf16) (x1 : Vec F S256x128 .bf16) (x2 : Vec F S1x128x256 .bf16)

/-- As the body loads them: the queries of head `g`. -/
def qLoad (g : Fin 8) : Vec F S64x256 .bf16 :=
  View.readAt (Elt F) arg1.view (Rect.unit (s := S512x256) ![64 * g.val, 0] S64x256.size
    (by intro a; fin_cases a <;> simp [S512x256, S64x256] <;> omega)).toLoadRect (harg1.unread x0)

/-- As the body loads them: the keys. -/
def kLoad : Vec F S256x128 .bf16 :=
  View.readAt (Elt F) arg2.view (Rect.unit (s := S256x128) ![0, 0] S256x128.size (by intro a; fin_cases a <;> simp [S256x128])).toLoadRect (harg2.unread x1)

/-- As the body loads them: the values of the head `second` says. -/
def vLoad (second : Bool) : Vec F S1x64x256 .bf16 :=
  View.readAt (Elt F) arg3.view (Rect.unit (s := S1x128x256) ![0, bif second then 64 else 0, 0] S1x64x256.size
    (by intro a; cases second <;> fin_cases a <;> simp [S1x128x256, S1x64x256])).toLoadRect (harg3.unread x2)

/-- The rows of head `g`. -/
def headOut (g : Fin 8) : FVec F S64x256 .f32 :=
  quotient (runSum (fun _ => score (decide (4 ≤ g.val)) (qLoad arg1 harg1 x0 g) (kLoad arg2 harg2 x1)) (fun _ => vLoad arg3 harg3 x2 (decide (4 ≤ g.val))) 0)

/-- The stores to the scratch, the last first. -/
def stores : List (View.Piece (Elt F) S512x256 .f32) :=
  [7, 6, 5, 4, 3, 2, 1, 0].map fun g => ⟨headRect g, headOut arg1 harg1 arg2 harg2 arg3 harg3 x0 x1 x2 g⟩

/-- The scratch when all heads are stored, per element. -/
def scratch (i : S512x256.Idx) : F .f32 :=
  headOut arg1 harg1 arg2 harg2 arg3 harg3 x0 x1 x2
    ⟨(i 0).val / 64, by have : (i 0).val < 512 := (i 0).isLt; omega⟩ (ix2 ⟨(i 0).val % 64, by omega⟩ ⟨(i 1).val, (i 1).isLt⟩)

/-- The scratch read back whole. -/
def scratchLoad (arg6 : Memref sig .tc .vmem S512x256 .f32) : Vec F S512x256 .f32 :=
  arg6.view.readCov (stores arg1 harg1 arg2 harg2 arg3 harg3 x0 x1 x2)
    (Rect.unit (s := S512x256) ![0, 0] S512x256.size inb_S512x256_S512x256_0_0).toLoadRect

theorem scratchLoad_apply (arg6 : Memref sig .tc .vmem S512x256 .f32) (y : S512x256.Idx) :
    scratchLoad arg1 harg1 arg2 harg2 arg3 harg3 x0 x1 x2 arg6 y = scratch arg1 harg1 arg2 harg2 arg3 harg3 x0 x1 x2 y := by
  unfold scratchLoad
  rw [View.readCov_eq_canon']
  have hy : (Rect.unit (s := S512x256) ![0, 0] S512x256.size inb_S512x256_S512x256_0_0).toLoadRect.idx y = y := by
    funext a
    apply Fin.ext
    show ![0, 0] a + 1 * (y a).val = (y a).val
    fin_cases a <;> simp
  dsimp only
  rw [hy]
  have y0 : (y 0).val < 512 := (y 0).isLt
  have y1 : (y 1).val < 256 := (y 1).isLt
  have hm : ∀ g : Fin 8, g ∈ [7, 6, 5, 4, 3, 2, 1, (0 : Fin 8)] := by decide
  refine View.canon_apply_of_pieces _ _ (fun p hp x => ?_) y ⟨_, List.mem_map.mpr ⟨⟨(y 0).val / 64, by omega⟩, hm _, rfl⟩, ?_⟩
  · obtain ⟨g, -, rfl⟩ := List.mem_map.mp hp
    have h0 : (x 0).val < 64 := (x 0).isLt
    obtain ⟨e0, e1⟩ := headRect_emb g x
    unfold scratch
    refine (congr (congrArg (headOut arg1 harg1 arg2 harg2 arg3 harg3 x0 x1 x2) ?_) ?_).symm
    · exact Fin.ext (show ((headRect g).emb x 0).val / 64 = g.val by rw [e0]; omega)
    · funext a
      fin_cases a
      · exact Fin.ext (show ((headRect g).emb x 0).val % 64 = (x 0).val by rw [e0]; omega)
      · exact Fin.ext (show ((headRect g).emb x 1).val = (x 1).val by rw [e1]; omega)
  · unfold headRect
    rw [Rect.mem_set_unit]
    intro a
    fin_cases a
    · simp [S64x256]; omega
    · simp [S64x256]; omega

/-- The one piece of the output. -/
def outPiece (arg6 : Memref sig .tc .vmem S512x256 .f32) : View.Piece (Elt F) S256x512 .bf16 :=
  ⟨Rect.unit (s := S256x512) ![0, 0] S256x512.size (by intro a; fin_cases a <;> simp [S256x512]), truncf .bf16 (transpose S256x512 [1, 0]
    (scratchLoad arg1 harg1 arg2 harg2 arg3 harg3 x0 x1 x2 arg6 : FVec F S512x256 .f32)
    transposes_S512x256_p1_0_S256x512 : FVec F S256x512 .f32) bitsLt_bf16_f32⟩

theorem pieces (i : grid0.Coords) (arg5 : Memref sig .tc .vmem S256x512 .bf16) (harg5 : arg5.IsWhole)
    (arg6 : Memref sig .tc .vmem S512x256 .f32) (harg6 : arg6.IsWhole) :
    (kernelRun0_A c i arg1 harg1 arg2 harg2 arg3 harg3 arg5 harg5 arg6 harg6 x0 x1 x2).1
    = [outPiece arg1 harg1 arg2 harg2 arg3 harg3 x0 x1 x2 arg6] := by
  sl_kernel_rfl

end Run

/-! ## Over the extended reals -/

section Value
variable (c : Dev nD)
  (arg1 : Memref sig .tc .vmem S512x256 .bf16) (harg1 : arg1.IsWhole) (arg2 : Memref sig .tc .vmem S256x128 .bf16) (harg2 : arg2.IsWhole)
  (arg3 : Memref sig .tc .vmem S1x128x256 .bf16) (harg3 : arg3.IsWhole)
  (x0 : Vec Ideal S512x256 .bf16) (x1 : Vec Ideal S256x128 .bf16) (x2 : Vec Ideal S1x128x256 .bf16)

/-- A load through a box, at one index of the array. -/
theorem ld_at {s : Shape} {e : EltTy} (x : Vec Ideal s e) (off size : Fin s.rank → ℕ) (inb)
    (j : (Rect.unit off size inb).shape.Idx) (k : s.Idx) (h : ∀ a, (k a).val = off a + (j a).val) :
    View.ld x (Rect.unit off size inb) j = x k :=
  congrArg x (funext fun a => Fin.ext (by
    rw [h a]
    show off a + 1 * (j a).val = _
    omega))

theorem qLoad_apply (g : Fin 8) (e : Fin 64) (i : Fin 256) :
    qLoad arg1 harg1 x0 g (ix2 e i) = x0 (ix2 ⟨64 * g.val + e.val, by omega⟩ i) := by
  unfold qLoad
  rw [View.readAt_eq_ld, harg1.read_unread]
  refine ld_at _ _ _ _ _ _ ?_
  intro a; fin_cases a
  · rfl
  · exact (Nat.zero_add _).symm

theorem kLoad_apply (i : Fin 256) (f : Fin 128) : kLoad arg2 harg2 x1 (ix2 i f) = x1 (ix2 i f) := by
  rw [kLoad, View.readAt_eq_ld, harg2.read_unread]
  exact ld_at _ _ _ _ _ _ (by intro a; fin_cases a <;> exact (Nat.zero_add _).symm)

theorem vLoad_apply (second : Bool) (d : Fin 64) (i : Fin 256) :
    vLoad arg3 harg3 x2 second (ix3 0 d i) = x2 (ix3 0 (feat second d) i) := by
  rw [vLoad, View.readAt_eq_ld, harg3.read_unread]
  refine ld_at _ _ _ _ _ _ ?_
  intro a; fin_cases a
  · rfl
  · rfl
  · exact (Nat.zero_add _).symm

/-- What a grid point leaves in the output's block: row `r` is query `r`, column `w` is feature `w % 64` of head `w / 64`. -/
theorem block_apply (i : grid0.Coords) (arg5 : Memref sig .tc .vmem S256x512 .bf16) (harg5 : arg5.IsWhole)
    (arg6 : Memref sig .tc .vmem S512x256 .f32) (harg6 : arg6.IsWhole) (r : Fin 256) (w : Fin 512) :
    out0_A_3 c i arg1 harg1 arg2 harg2 arg3 harg3 arg5 harg5 arg6 harg6 x0 x1 x2 (ix2 r w)
    = headOut arg1 harg1 arg2 harg2 arg3 harg3 x0 x1 x2 ⟨w.val / 64, by omega⟩ (ix2 ⟨w.val % 64, by omega⟩ r) := by
  unfold out0_A_3
  rw [View.read_writes_junk_eq_canon, pieces]
  refine (View.canon_apply_of_pieces (Val := Elt Ideal) (fun y : S256x512.Idx =>
    headOut arg1 harg1 arg2 harg2 arg3 harg3 x0 x1 x2
      ⟨(y 1).val / 64, by have : (y 1).val < 512 := (y 1).isLt; omega⟩ (ix2 ⟨(y 1).val % 64, by omega⟩ ⟨(y 0).val, (y 0).isLt⟩)) _
      (fun p hp x => ?_) (ix2 r w) ⟨_, List.mem_singleton.mpr rfl, ?_⟩).trans rfl
  · obtain rfl := List.mem_singleton.mp hp
    have h0 : (x 0).val < 256 := (x 0).isLt
    have h1 : (x 1).val < 512 := (x 1).isLt
    have hx : x = ix2 ⟨(x 0).val, h0⟩ ⟨(x 1).val, h1⟩ := by funext a; fin_cases a <;> rfl
    have he : (outPiece arg1 harg1 arg2 harg2 arg3 harg3 x0 x1 x2 arg6).1.emb x = x := by
      funext a
      refine Fin.ext ((ValueKit.rect_emb_unit_val _ _ (by intro a; fin_cases a <;> simp [S256x512]) x a).trans ?_)
      fin_cases a <;> exact Nat.zero_add _
    rw [he]
    refine (congrArg (outPiece arg1 harg1 arg2 harg2 arg3 harg3 x0 x1 x2 arg6).2 hx).trans ?_
    show truncf .bf16 (transpose S256x512 [1, 0] _ transposes_S512x256_p1_0_S256x512 : FVec Ideal S256x512 .f32) bitsLt_bf16_f32 (ix2 _ _) = _
    pointwise
    rw [scratchLoad_apply]
    rfl
  · unfold outPiece
    rw [Rect.mem_set_unit]
    intro a
    fin_cases a <;> simp [S256x512]

/-- The shares follow a renaming of the index. -/
theorem share_equiv {ι κ : Type} [Fintype ι] [Fintype κ] (e : ι ≃ κ) (S : ι → ℝ) (T : κ → ℝ) (h : ∀ p, S p = T (e p)) (p : ι) :
    Softmax.share S p = Softmax.share T (e p) := by
  unfold Softmax.share
  rw [h, ← Equiv.sum_comp e]
  simp only [h]

/-- A head's output, where its scores (to base two) are real numbers: the values weighted by the shares of the scores. -/
theorem headOut_apply (g : Fin 8) (S : Fin 256 → Fin 256 → ℝ)
    (h : ∀ i r, (∑ e : Fin 64, x1 (ix2 i (feat (decide (4 ≤ g.val)) e)) * x0 (ix2 ⟨64 * g.val + e.val, by omega⟩ r)) = S i r)
    (d : Fin 64) (r : Fin 256) :
    headOut arg1 harg1 arg2 harg2 arg3 harg3 x0 x1 x2 g (ix2 d r)
      = ∑ i : Fin 256, x2 (ix3 0 (feat (decide (4 ≤ g.val)) d) i)
        * ((Softmax.share (fun l : Fin 256 => S l r * Real.log 2) i : ℝ) : EReal) := by
  unfold headOut
  obtain ⟨m, -, hs⟩ := runSum_apply (fun _ => score (decide (4 ≤ g.val)) (qLoad arg1 harg1 x0 g) (kLoad arg2 harg2 x1))
    (fun _ => vLoad arg3 harg3 x2 (decide (4 ≤ g.val))) (fun _ => S)
    (fun j i r => by rw [score_apply, ← h]; simp only [kLoad_apply, qLoad_apply]) r 0
  rw [quotient_apply, hs, hs]
  rw [show row (fun _ => vLoad arg3 harg3 x2 (decide (4 ≤ g.val))) 64 = fun _ _ => 1 from funext fun t => funext fun i => dif_neg (by decide),
    Softmax.weighted_div (fun _ i => S i r) _ m 1, ← Equiv.sum_comp (Equiv.uniqueProd (Fin 256) (Fin 1))]
  refine Finset.sum_congr rfl fun p _ => ?_
  rw [row, dif_pos d.isLt]
  refine congr (congrArg (fun a (b : EReal) => a * b) (vLoad_apply arg3 harg3 x2 _ d p.2)) (congrArg (fun s : ℝ => (s : EReal)) ?_)
  exact share_equiv (Equiv.uniqueProd (Fin 256) (Fin 1)) (fun q => S q.2 r * Real.log 2) (fun l => S l r * Real.log 2) (fun _ => rfl) p

end Value

end Cert.ContextIdeal.Attn

end
-- ==== Proof.ContextReference.lean ====
/- The reference's attention of the context rows, one named step at a time, and its elements over the extended reals. -/
module

public import proofs.«01_k».proof.Proof.Gen.ContextReferenceIdeal.Run
public import proofs.«01_k».proof.Proof.Softmax

@[expose] public section

noncomputable section

namespace Cert.ContextReferenceIdeal.Attn

open Cert.ContextReferenceIdeal Cert.ContextReferenceIdeal.Gen Idealize.ShloMosaic Idealize.ShloMosaic.TcCoe Idealize.SL.Sem

section Def
variable {F : FTy → Type} [FloatOps F]

/-- The queries of the context rows, by sample, position, key head, query head of it, feature. -/
def queries (q : FVec F S17408x512 .f32) : FVec F S4x256x2x4x64 .f32 :=
  shapeCast S4x256x2x4x64 (extractStridedSlice S1024x512 ![16384, 0] q slices_S17408x512_S1024x512_16384_0) shapeCasts_S1024x512_S4x256x2x4x64

/-- The keys (or values) of the context rows. -/
def heads (k : FVec F S17408x128 .f32) : FVec F S4x256x2x64 .f32 :=
  shapeCast S4x256x2x64 (extractStridedSlice S1024x128 ![16384, 0] k slices_S17408x128_S1024x128_16384_0) shapeCasts_S1024x128_S4x256x2x64

/-- The scores, an eighth of the products. -/
def scores (qh : FVec F S4x256x2x4x64 .f32) (kh : FVec F S4x256x2x64 .f32) : FVec F S4x2x4x256x256 .f32 :=
  mulf (transpose S4x2x4x256x256 [0, 1, 4, 3, 2]
      (Host.dotGeneral dot_S4x256x2x64_S4x256x2x4x64_S4x2x256x256x4_3_4_1_13_02_02 none kh qh)
      transposes_S4x2x256x256x4_S4x2x4x256x256_0_1_4_3_2)
    (broadcastInDim S4x2x4x256x256 ![] bcast_S_S4x2x4x256x256 (constant S_ .f32 0x3E000000#32))

/-- Each query's greatest score. -/
def tops (s : FVec F S4x2x4x256x256 .f32) : FVec F S4x2x4x256 .f32 :=
  Host.reduce FloatOps.maximumf s (constant S_ .f32 0xFF800000#32) reducesTo_S4x2x4x256x256_S4x2x4x256_d4 h_S_

/-- Numbers not below the least. -/
def floored (y : FVec F S4x2x4x256 .f32) : FVec F S4x2x4x256 .f32 :=
  maximumf (broadcastInDim S4x2x4x256 ![] bcast_S_S4x2x4x256 (constant S_ .f32 0xFF800000#32)) y

/-- A number per query, at every key. -/
def spread (x : FVec F S4x2x4x256 .f32) : FVec F S4x2x4x256x256 .f32 :=
  broadcastInDim S4x2x4x256x256 ![0, 1, 2, 3, 4] bcast_S4x2x4x256x1_S4x2x4x256x256_0_1_2_3_4
    (broadcastInDim S4x2x4x256x1 ![0, 1, 2, 3] bcast_S4x2x4x256_S4x2x4x256x1_0_1_2_3 x)

/-- The exponentials of the scores less the greatest. -/
def expo (s : FVec F S4x2x4x256x256 .f32) : FVec F S4x2x4x256x256 .f32 := Host.exp (subf s (spread (floored (tops s))))

/-- Their sum per query. -/
def total (e : FVec F S4x2x4x256x256 .f32) : FVec F S4x2x4x256 .f32 :=
  Host.reduceAdd e (constant S_ .f32 0x00000000#32) reducesTo_S4x2x4x256x256_S4x2x4x256_d4 h_S_

/-- The softmax of the scores. -/
def weights (s : FVec F S4x2x4x256x256 .f32) : FVec F S4x2x4x256x256 .f32 := Host.divf (expo s) (spread (total (expo s)))

/-- The values, summed with the weights. -/
def mix (vh : FVec F S4x256x2x64 .f32) (w : FVec F S4x2x4x256x256 .f32) : FVec F S4x256x2x4x64 .f32 :=
  transpose S4x256x2x4x64 [0, 4, 1, 3, 2]
    (Host.dotGeneral dot_S4x256x2x64_S4x2x4x256x256_S4x2x64x4x256_1_4_3_23_02_01 none vh w)
    transposes_S4x2x64x4x256_S4x256x2x4x64_0_4_1_3_2

/-- The latent rows of an array over the rows of all samples. -/
def stack (old : FVec F S17408x512 .bf16) (o : FVec F S4x256x2x4x64 .f32) : FVec F S17408x512 .bf16 :=
  concatenate S17408x512 0 [⟨S16384x512, (extractStridedSlice S16384x512 ![0, 0] old slices_S17408x512_S16384x512_0_0)⟩,
    ⟨S1024x512, (truncf .bf16 (shapeCast S1024x512 o shapeCasts_S4x256x2x4x64_S1024x512) bitsLt_bf16_f32)⟩]
    concatenates_S16384x512_S1024x512_S17408x512_d0

/-- The reference's attention, from the queries, keys and values, under the latent rows. -/
def attention (q : FVec F S17408x512 .f32) (k v : FVec F S17408x128 .f32) (old : FVec F S17408x512 .bf16) : FVec F S17408x512 .bf16 :=
  stack old (mix (heads v) (weights (scores (queries q) (heads k))))

theorem res_eq (m : (ℓ : Loc nD τ sig) → Buf (Elt F) ℓ) (c : Dev nD) :
    Value.res_main_v26 m c = attention (m ((c.tc : Thread nD τ).loc main_arg0)) (m ((c.tc : Thread nD τ).loc main_arg1))
      (m ((c.tc : Thread nD τ).loc main_arg2)) (m ((c.tc : Thread nD τ).loc main_arg3)) := by
  unfold Value.res_main_v26
  rfl

end Def

/-- The row of the context's row `l` of sample `b`. -/
def contextRow (b : Fin 4) (l : Fin 256) : Fin 17408 := ⟨16384 + 256 * b.val + l.val, by omega⟩

theorem queries_apply (q : FVec Ideal S17408x512 .f32) (b : Fin 4) (s : Fin 256) (h : Fin 2) (g : Fin 4) (d : Fin 64) :
    queries q (ix5 b s h g d) = q (ix2 (contextRow b s) ⟨256 * h.val + 64 * g.val + d.val, by omega⟩) := by
  unfold queries contextRow
  pointwise
  blk_ext

theorem heads_apply (k : FVec Ideal S17408x128 .f32) (b : Fin 4) (l : Fin 256) (h : Fin 2) (d : Fin 64) :
    heads k (ix4 b l h d) = k (ix2 (contextRow b l) ⟨64 * h.val + d.val, by omega⟩) := by
  unfold heads contextRow
  pointwise
  blk_ext

theorem ofBits_eighth : Ideal.ofBits .f32 0x3E000000#32 = ((1 / 8 : ℝ) : EReal) := by
  simp [Ideal.ofBits, Ideal.ieee]
  rw [← EReal.coe_mul]
  norm_num

theorem scores_apply (qh : FVec Ideal S4x256x2x4x64 .f32) (kh : FVec Ideal S4x256x2x64 .f32)
    (b : Fin 4) (h : Fin 2) (g : Fin 4) (s : Fin 256) (l : Fin 256) :
    scores qh kh (ix5 b h g s l) = (∑ d : Fin 64, kh (ix4 b l h d) * qh (ix5 b s h g d)) * ((1 / 8 : ℝ) : EReal) := by
  unfold scores
  pointwise
  rw [ofBits_eighth]

theorem spread_apply (x : FVec Ideal S4x2x4x256 .f32) (b : Fin 4) (h : Fin 2) (g : Fin 4) (s : Fin 256) (l : Fin 256) :
    spread x (ix5 b h g s l) = x (ix4 b h g s) := by
  unfold spread
  pointwise

theorem total_apply (e : FVec Ideal S4x2x4x256x256 .f32) (b : Fin 4) (h : Fin 2) (g : Fin 4) (s : Fin 256) :
    total e (ix4 b h g s) = ∑ l : Fin 256, e (ix5 b h g s l) := by
  unfold total
  pointwise

theorem mix_apply (vh : FVec Ideal S4x256x2x64 .f32) (w : FVec Ideal S4x2x4x256x256 .f32)
    (b : Fin 4) (s : Fin 256) (h : Fin 2) (g : Fin 4) (d : Fin 64) :
    mix vh w (ix5 b s h g d) = ∑ l : Fin 256, vh (ix4 b l h d) * w (ix5 b h g s l) := by
  unfold mix
  pointwise

theorem stack_context (old : FVec Ideal S17408x512 .bf16) (o : FVec Ideal S4x256x2x4x64 .f32) (b : Fin 4) (s : Fin 256) (h : Fin 2) (g : Fin 4) (d : Fin 64) :
    stack old o (ix2 (contextRow b s) ⟨256 * h.val + 64 * g.val + d.val, by omega⟩) = o (ix5 b s h g d) := by
  unfold stack contextRow
  pointwise
  rw [dif_neg (by omega)]
  blk_ext

theorem stack_latent (old : FVec Ideal S17408x512 .bf16) (o : FVec Ideal S4x256x2x4x64 .f32) (r : Fin 17408) (hr : r.val < 16384) (w : Fin 512) :
    stack old o (ix2 r w) = old (ix2 r w) := by
  unfold stack
  pointwise
  rw [dif_pos hr]

theorem ofBits_neg_inf : Ideal.ofBits .f32 0xFF800000#32 = ⊥ := by simp [Ideal.ofBits, Ideal.ieee]

theorem floored_apply (y : FVec Ideal S4x2x4x256 .f32) (i : S4x2x4x256.Idx) : floored y i = y i := by
  have h : floored y i = max (Ideal.ofBits .f32 0xFF800000#32) (y i) := rfl
  rw [h, ofBits_neg_inf, max_eq_right bot_le]

/-- The greatest of real scores is real. -/
theorem tops_real (x : FVec Ideal S4x2x4x256x256 .f32) (i : S4x2x4x256.Idx) (h : ∀ j, ∃ r : ℝ, x j = r) :
    ∃ m : ℝ, tops x i = m := by
  unfold tops
  rw [Host.reduce_eq_fold_single FloatOps.maximumf x _ reducesTo_S4x2x4x256x256_S4x2x4x256_d4 (by decide) h_S_]
  choose r hr using h
  rw [show (constant (F := Ideal) S_ .f32 0xFF800000#32) (Shape.Idx.first h_S_) = ⊥ from ofBits_neg_inf, show x = fun j => (r j : EReal) from funext hr]
  exact Softmax.fold_max_real _ ⟨⟨0, by decide⟩, Finset.mem_univ _⟩ _

theorem powers_apply (x : FVec Ideal S4x2x4x256x256 .f32) (y : FVec Ideal S4x2x4x256 .f32) (b : Fin 4) (h : Fin 2) (g : Fin 4) (s : Fin 256) (l : Fin 256) :
    Host.exp (subf x (spread y)) (ix5 b h g s l) = Ideal.exp (x (ix5 b h g s l) - y (ix4 b h g s)) := by
  have h : Host.exp (subf x (spread y)) (ix5 b h g s l) = Ideal.exp (x (ix5 b h g s l) - spread y (ix5 b h g s l)) := rfl
  rw [h, spread_apply]

theorem quotients_apply (x : FVec Ideal S4x2x4x256x256 .f32) (y : FVec Ideal S4x2x4x256 .f32) (b : Fin 4) (h : Fin 2) (g : Fin 4) (s : Fin 256) (l : Fin 256) :
    Host.divf x (spread y) (ix5 b h g s l) = Ideal.div (x (ix5 b h g s l)) (y (ix4 b h g s)) := by
  have h : Host.divf x (spread y) (ix5 b h g s l) = Ideal.div (x (ix5 b h g s l)) (spread y (ix5 b h g s l)) := rfl
  rw [h, spread_apply]

/-- The weights of real scores are their shares. -/
theorem weights_apply (x : FVec Ideal S4x2x4x256x256 .f32) (T : Fin 4 → Fin 2 → Fin 4 → Fin 256 → Fin 256 → ℝ)
    (hT : ∀ b h g s l, x (ix5 b h g s l) = T b h g s l) (b : Fin 4) (h : Fin 2) (g : Fin 4) (s : Fin 256) (l : Fin 256) :
    weights x (ix5 b h g s l) = (Softmax.share (T b h g s) l : ℝ) := by
  obtain ⟨m, hm⟩ := tops_real x (ix4 b h g s) (fun j => ⟨T (j 0) (j 1) (j 2) (j 3) (j 4), by
    refine Eq.trans (congrArg x (funext fun a => ?_)) (hT (j 0) (j 1) (j 2) (j 3) (j 4))
    fin_cases a <;> rfl⟩)
  have he : ∀ l, expo x (ix5 b h g s l) = Ideal.exp (T b h g s l - m) := fun l => by
    rw [expo, powers_apply, floored_apply, hm, hT]
  rw [weights, quotients_apply, total_apply]
  simp only [he]
  exact Softmax.host_share _ _ _

/-- The reference's attention of a context row, where the scores are real numbers. -/
theorem att_context (q : FVec Ideal S17408x512 .f32) (k v : FVec Ideal S17408x128 .f32) (old : FVec Ideal S17408x512 .bf16) (T : Fin 4 → Fin 2 → Fin 4 → Fin 256 → Fin 256 → ℝ)
    (hT : ∀ b h g s l, (∑ d : Fin 64, k (ix2 (contextRow b l) ⟨64 * h.val + d.val, by omega⟩)
        * q (ix2 (contextRow b s) ⟨256 * h.val + 64 * g.val + d.val, by omega⟩)) * ((1 / 8 : ℝ) : EReal) = T b h g s l)
    (b : Fin 4) (s : Fin 256) (h : Fin 2) (g : Fin 4) (d : Fin 64) :
    attention q k v old (ix2 (contextRow b s) ⟨256 * h.val + 64 * g.val + d.val, by omega⟩)
      = ∑ l : Fin 256, v (ix2 (contextRow b l) ⟨64 * h.val + d.val, by omega⟩) * ((Softmax.share (T b h g s) l : ℝ) : EReal) := by
  rw [attention, stack_context, mix_apply]
  refine Finset.sum_congr rfl fun l _ => ?_
  rw [heads_apply, weights_apply _ T]
  intro b h g s l
  rw [scores_apply, ← hT]
  simp only [heads_apply, queries_apply]

/-- The latent rows are those given. -/
theorem att_latent (q : FVec Ideal S17408x512 .f32) (k v : FVec Ideal S17408x128 .f32) (old : FVec Ideal S17408x512 .bf16)
    (r : Fin 17408) (hr : r.val < 16384) (w : Fin 512) : attention q k v old (ix2 r w) = old (ix2 r w) :=
  stack_latent _ _ r hr w

end Cert.ContextReferenceIdeal.Attn

end
-- ==== Proof.ContextFinal.lean ====
/- The array that the context's attention leaves, for real queries and keys: the reference's. -/
module

public import proofs.«01_k».proof.Proof.ContextBody
public import proofs.«01_k».proof.Proof.ContextReference
public import proofs.«01_k».proof.Proof.Final

@[expose] public section

noncomputable section

namespace Cert.ContextIdeal.Attn

open Cert.ContextIdeal Cert.ContextIdeal.Gen Idealize.ShloMosaic Idealize.ShloMosaic.TcCoe Idealize.SL.Sem
open Cert.KernelIdeal.Attn (feat feat_head scale_eq)
open Cert.ContextReferenceIdeal.Attn (contextRow attention att_context att_latent)

variable (m : (ℓ : Loc nD τ sig) → Buf (Elt Ideal) ℓ) (c : Dev nD)

/-- The queries, keys, values and latent rows given. -/
abbrev Q : FVec Ideal S17408x512 .f32 := m ((c : Thread nD τ).loc main_arg0)
abbrev K : FVec Ideal S17408x128 .f32 := m ((c : Thread nD τ).loc main_arg1)
abbrev W : FVec Ideal S17408x128 .f32 := m ((c : Thread nD τ).loc main_arg2)
abbrev A : FVec Ideal S17408x512 .bf16 := m ((c : Thread nD τ).loc main_arg3)

/-- The sample of a grid point. -/
def sampleOf (t : Fin cfg0.N) : Fin 4 := ⟨t.val, t.isLt⟩

theorem idx (t : Fin cfg0.N) : win0_0.index t = ![0, 64 + t.val] ∧ win0_1.index t = ![64 + t.val, 0]
    ∧ win0_2.index t = ![64 + t.val, 0, 0] ∧ win0_3.index t = ![64 + t.val, 0] := by
  revert t; decide +kernel

/-- The blocks of queries and keys that a grid point reads. -/
abbrev queryBlock (t : Fin cfg0.N) : Vec Ideal S512x256 .bf16 := iblk m c 0 t
abbrev keyBlock (t : Fin cfg0.N) : Vec Ideal S256x128 .bf16 := iblk m c 1 t

theorem q_block (t : Fin cfg0.N) (f : Fin 512) (i : Fin 256) :
    queryBlock m c t (ix2 f i) = Q m c (ix2 (contextRow (sampleOf t) i) f)
      * Ideal.div (Ideal.ofBits .f32 0x3E000000#32) (Ideal.log (Ideal.ofBits .f32 0x40000000#32)) := by
  blk_simp [queryBlock, iblk]
  entry_read
  pointwise
  refine congrArg (· * _) ?_
  unfold sampleOf contextRow
  blk_ext [idx t]

theorem k_block (t : Fin cfg0.N) (i : Fin 256) (f : Fin 128) :
    keyBlock m c t (ix2 i f) = K m c (ix2 (contextRow (sampleOf t) i) f) := by
  blk_simp [keyBlock, iblk]
  entry_read
  pointwise
  unfold sampleOf contextRow
  blk_ext [idx t]

theorem v_block (t : Fin cfg0.N) (f : Fin 128) (i : Fin 256) :
    iblk m c 2 t (ix3 0 f i) = W m c (ix2 (contextRow (sampleOf t) i) f) := by
  blk_simp [iblk]
  entry_read
  pointwise
  unfold sampleOf contextRow
  blk_ext [idx t]

variable (qr : Fin 17408 → Fin 512 → ℝ) (kr : Fin 17408 → Fin 128 → ℝ)
  (hq : ∀ r f, Q m c (ix2 r f) = qr r f) (hk : ∀ r f, K m c (ix2 r f) = kr r f)

/-- The exponent of the reference's softmax: query row `s` of sample `b`, head `g` of key head `h`, key `l`. -/
def exponent (b : Fin 4) (h : Fin 2) (g : Fin 4) (s l : Fin 256) : ℝ :=
  (∑ d : Fin 64, kr (contextRow b l) ⟨64 * h.val + d.val, by omega⟩
    * qr (contextRow b s) ⟨256 * h.val + 64 * g.val + d.val, by omega⟩) * (1 / 8)

include hq hk in
/-- One product of the kernel's scores, with the scale in the queries. -/
theorem block_score (t : Fin cfg0.N) (h : Fin 2) (g : Fin 4) (i r : Fin 256) :
    (∑ e : Fin 64, keyBlock m c t (ix2 i (feat (decide (4 ≤ 4 * h.val + g.val)) e))
      * queryBlock m c t (ix2 ⟨64 * (4 * h.val + g.val) + e.val, by omega⟩ r))
    = (((∑ e : Fin 64, kr (contextRow (sampleOf t) i) ⟨64 * h.val + e.val, by omega⟩
        * qr (contextRow (sampleOf t) r) ⟨256 * h.val + 64 * g.val + e.val, by omega⟩)
      * (1 / 8 / Real.log 2) : ℝ) : EReal) := by
  rw [Finset.sum_mul, ← Softmax.coe_sum]
  refine Finset.sum_congr rfl fun e _ => ?_
  rw [k_block, q_block, hq, hk, scale_eq, feat_head h g e _ rfl, ← EReal.coe_mul, ← EReal.coe_mul, ← mul_assoc]
  refine congrArg (fun f => ((kr _ _ * qr _ f * _ : ℝ) : EReal)) (Fin.ext ?_)
  show 64 * (4 * h.val + g.val) + e.val = 256 * h.val + 64 * g.val + e.val
  omega

/-- The attention of sample `b`'s context row `s`, at feature `d` of head `g` of key head `h`. -/
def attended (b : Fin 4) (h : Fin 2) (g : Fin 4) (s : Fin 256) (d : Fin 64) : EReal :=
  ∑ l : Fin 256, W m c (ix2 (contextRow b l) ⟨64 * h.val + d.val, by omega⟩) * ((Softmax.share (exponent qr kr b h g s) l : ℝ) : EReal)

include hq hk in
/-- What a grid point's body leaves for a head, a feature and a query row. -/
theorem head_attends (t : Fin cfg0.N) (h : Fin 2) (g : Fin 4) (d : Fin 64) (r : Fin 256) :
    headOut (ms0_0 t) (hs0_0 t) (ms0_1 t) (hs0_1 t) (ms0_2 t) (hs0_2 t)
        (iblk m c 0 t) (iblk m c 1 t) (iblk m c 2 t) ⟨4 * h.val + g.val, by omega⟩ (ix2 d r)
      = attended m c qr kr (sampleOf t) h g r d := by
  refine (headOut_apply (ms0_0 t) (hs0_0 t) (ms0_1 t) (hs0_1 t) (ms0_2 t) (hs0_2 t)
    (iblk m c 0 t) (iblk m c 1 t) (iblk m c 2 t) ⟨4 * h.val + g.val, by omega⟩
    (fun i r => (∑ e : Fin 64, kr (contextRow (sampleOf t) i) ⟨64 * h.val + e.val, by omega⟩
        * qr (contextRow (sampleOf t) r) ⟨256 * h.val + 64 * g.val + e.val, by omega⟩)
      * (1 / 8 / Real.log 2)) (fun i r => block_score m c qr kr hq hk t h g i r) d r).trans ?_
  refine Finset.sum_congr rfl fun l _ => ?_
  rw [v_block, feat_head h g d _ rfl]
  refine congrArg (fun T : Fin 256 → ℝ => W m c _ * (Softmax.share T l : EReal)) (funext fun l => ?_)
  have h2 : Real.log 2 ≠ 0 := (Real.log_pos one_lt_two).ne'
  rw [mul_assoc, div_mul_cancel₀ _ h2]
  rfl

/-- The same, of row `16384 + r` and column `w` of the array. -/
def attendedAt (r : ℕ) (w : Fin 512) : EReal :=
  attended m c qr kr ⟨r / 256 % 4, by omega⟩ ⟨w.val / 256, by omega⟩ ⟨w.val / 64 % 4, by omega⟩ ⟨r % 256, by omega⟩ ⟨w.val % 64, by omega⟩

include hq hk in
/-- Row `r`, column `w` of the block that grid point `t` computes. -/
theorem block_attends (t : Fin cfg0.N) (r : Fin 256) (w : Fin 512) :
    outsAt0 m c t (ix2 r w) = attendedAt m c qr kr (256 * t.val + r.val) w := by
  have ht : t.val < 4 := t.isLt
  have hg : (⟨w.val / 64, by omega⟩ : Fin 8) = ⟨4 * (w.val / 256) + w.val / 64 % 4, by omega⟩ :=
    Fin.ext (show w.val / 64 = 4 * (w.val / 256) + w.val / 64 % 4 by omega)
  have hb : (⟨(256 * t.val + r.val) / 256 % 4, by omega⟩ : Fin 4) = sampleOf t :=
    Fin.ext (show (256 * t.val + r.val) / 256 % 4 = t.val by omega)
  have hs : (⟨(256 * t.val + r.val) % 256, by omega⟩ : Fin 256) = r :=
    Fin.ext (show (256 * t.val + r.val) % 256 = r.val by omega)
  unfold outsAt0 attendedAt
  rw [block_apply, hg, hb, hs]
  exact head_attends m c qr kr hq hk t ⟨w.val / 256, by omega⟩ ⟨w.val / 64 % 4, by omega⟩ ⟨w.val % 64, by omega⟩ r

/-- The array's context rows, over its indices. -/
def contextArray (i : S17408x512.Idx) : EReal := attendedAt m c qr kr ((i 0).val - 16384) (i 1)

include hq hk in
/-- The kernel's array: the context rows attend, the latent rows are those given. -/
theorem att_array (r : Fin 17408) (w : Fin 512) :
    (dats m 0 c).arrAt 3 cfg0.N (ix2 r w) = if 64 ≤ r.val / 256 then contextArray m c qr kr (ix2 r w) else A m c (ix2 r w) := by
  refine ((dats m 0 c).arrAt_apply_of_coversWhere 3 (contextArray m c qr kr) (P := fun i => 64 ≤ (i 0).val / 256)
    (fun i => 64 ≤ i 0) (by decide +kernel) (fun t _ y => ?_) (fun j => Iff.rfl) (ix2 r w)).trans (if_congr Iff.rfl rfl ?_)
  · blk_simp
    rw [after0_3]
    have hy : y = ix2 (⟨(y 0).val, (y 0).isLt⟩ : Fin 256) (⟨(y 1).val, (y 1).isLt⟩ : Fin 512) := by
      funext a
      fin_cases a <;> rfl
    refine (congrArg (outsAt0 m c t) hy).trans ((block_attends m c qr kr hq hk t _ _).trans ?_)
    show attendedAt m c qr kr _ _ = attendedAt m c qr kr _ _
    refine congr (congrArg (attendedAt m c qr kr) ?_) (Fin.ext ?_)
    · blk_simp [idx t]
      show 256 * t.val + (y 0).val = (64 + t.val) * 256 + (y 0).val - 16384
      omega
    · blk_simp [idx t]
  · rw [A_eq]
    entry_read
    rfl

include hq hk in
/-- The kernel's array is the reference's. -/
theorem att_same (q : FVec Ideal S17408x512 .f32) (k v : FVec Ideal S17408x128 .f32) (old : FVec Ideal S17408x512 .bf16)
    (eq : q = Q m c) (ek : k = K m c) (ev : v = W m c) (eo : old = A m c) :
    (dats m 0 c).arrAt 3 cfg0.N = attention q k v old := by
  subst eq ek ev eo
  funext i
  obtain ⟨r, w, rfl⟩ : ∃ (r : Fin 17408) (w : Fin 512), i = ix2 r w := ⟨⟨(i 0).val, (i 0).isLt⟩, ⟨(i 1).val, (i 1).isLt⟩, by
    funext a
    fin_cases a <;> rfl⟩
  rw [att_array m c qr kr hq hk]
  by_cases hr : r.val < 16384
  · rw [if_neg (by omega), att_latent _ _ _ _ r hr]
  · rw [if_pos (by omega)]
    have h := att_context (Q m c) (K m c) (W m c) (A m c) (exponent qr kr) (fun b h g s l => by
      unfold exponent
      rw [EReal.coe_mul, ← Softmax.coe_sum]
      refine congrArg (· * _) (Finset.sum_congr rfl fun d _ => ?_)
      rw [hq, hk, EReal.coe_mul]) ⟨(r.val - 16384) / 256 % 4, by omega⟩ ⟨(r.val - 16384) % 256, by omega⟩
        ⟨w.val / 256, by omega⟩ ⟨w.val / 64 % 4, by omega⟩ ⟨w.val % 64, by omega⟩
    have hr' : contextRow ⟨(r.val - 16384) / 256 % 4, by omega⟩ ⟨(r.val - 16384) % 256, by omega⟩ = r :=
      Fin.ext (show 16384 + 256 * ((r.val - 16384) / 256 % 4) + (r.val - 16384) % 256 = r.val by omega)
    have hw' : (⟨256 * (w.val / 256) + 64 * (w.val / 64 % 4) + w.val % 64, by omega⟩ : Fin 512) = w :=
      Fin.ext (show 256 * (w.val / 256) + 64 * (w.val / 64 % 4) + w.val % 64 = w.val by omega)
    simp only [hr', hw'] at h
    exact h.symm

end Cert.ContextIdeal.Attn

end
-- ==== Proof.ModulationBody.lean ====
/- The modulation: what one grid point computes, and the reference's elements, over the extended reals. -/
module

public import proofs.«01_k».proof.Proof.Gen.ModulationIdeal.Value
public import proofs.«01_k».proof.Proof.Gen.ModulationReferenceIdeal.Run
public import Idealize.ShloMosaic.Lib.Pipeline.ValueKit

@[expose] public section

noncomputable section

namespace Cert.ModulationIdeal.Rows

open Cert.ModulationIdeal Cert.ModulationIdeal.Gen Idealize.ShloMosaic Idealize.ShloMosaic.TcCoe Idealize.SL.Sem

/-- A number times its logistic. -/
def swish (x : EReal) : EReal := x * Ideal.logistic x

/-- Of a real number it is real. -/
theorem swish_real (x : ℝ) : swish x = ((x * (1 + Real.exp (-x))⁻¹ : ℝ) : EReal) := by
  rw [swish, Ideal.logistic_coe, EReal.coe_mul]

/-- One element of the modulation, from a conditioning row, a column of the weight and a bias. -/
def element (x w : Fin 1024 → EReal) (b : EReal) : EReal := (∑ i, swish (x i) * w i) + b

/-- A real number less itself is zero. -/
theorem sub_real (x : EReal) (r : ℝ) (h : x = r) : x - x = 0 := by
  rw [h, ← EReal.coe_sub, sub_self, EReal.coe_zero]

/-- What a grid point computes, for real numbers in the row and the column: the parts that rounding would leave over are zero. -/
theorem payload_apply (x : Vec Ideal S8x1024 .f32) (w : Vec Ideal S1x1024x1024 .f32) (b : Vec Ideal S1x1x1024 .f32) (r : Fin 8) (k : Fin 1024)
    (xr wr : Fin 1024 → ℝ) (hx : ∀ i, x (ix2 r i) = xr i) (hw : ∀ i, w (ix3 0 i k) = wr i) :
    k0_pay1 x w b (ix3 0 r k) = element (fun i => x (ix2 r i)) (fun i => w (ix3 0 i k)) (b (ix3 0 0 k)) := by
  have h1 (i : Fin 1024) : x (ix2 r i) * Ideal.logistic (x (ix2 r i)) - x (ix2 r i) * Ideal.logistic (x (ix2 r i)) = 0 := by
    rw [hx]
    exact sub_real _ _ (swish_real (xr i))
  have h2 (i : Fin 1024) : w (ix3 0 i k) - w (ix3 0 i k) = 0 := sub_real _ _ (hw i)
  unfold k0_pay1 element swish
  pointwise
  simp only [h1, h2, zero_mul, mul_zero, Finset.sum_const_zero, add_zero]

end Cert.ModulationIdeal.Rows

namespace Cert.ModulationReferenceIdeal.Rows

open Cert.ModulationReferenceIdeal Cert.ModulationReferenceIdeal.Gen Idealize.ShloMosaic Idealize.ShloMosaic.TcCoe Idealize.SL.Sem
open Cert.ModulationIdeal.Rows (swish element)

section Def
variable {F : FTy → Type} [FloatOps F]

/-- The conditioning of the samples, each number times its logistic. -/
def sampleSwish (x : FVec F S4x1024 .f32) : FVec F S4x1024 .f32 :=
  mulf x (Host.divf (broadcastInDim S4x1024 ![] bcast_S_S4x1024 (constant S_ .f32 0x3F800000#32))
    (addf (broadcastInDim S4x1024 ![] bcast_S_S4x1024 (constant S_ .f32 0x3F800000#32)) (Host.exp (Host.negf x))))

/-- The conditioning of the context, each number times its logistic. -/
def contextSwish (x : FVec F S1024 .f32) : FVec F S1024 .f32 :=
  mulf x (Host.divf (broadcastInDim S1024 ![] bcast_S_S1024 (constant S_ .f32 0x3F800000#32))
    (addf (broadcastInDim S1024 ![] bcast_S_S1024 (constant S_ .f32 0x3F800000#32)) (Host.exp (Host.negf x))))

/-- The samples' rows. -/
def samples (x : FVec F S4x1024 .f32) (w : FVec F S4x1024x6144 .f32) (b : FVec F S4x6144 .f32) : FVec F S4x4x6144 .f32 :=
  addf (transpose S4x4x6144 [1, 0, 2] (Host.dotGeneral dot_S4x1024_S4x1024x6144_S4x4x6144_1_1_0_02_n_n none (sampleSwish x) w)
      transposes_S4x4x6144_S4x4x6144_1_0_2)
    (broadcastInDim S4x4x6144 ![0, 1, 2] bcast_S4x1x6144_S4x4x6144_0_1_2 (broadcastInDim S4x1x6144 ![0, 2] bcast_S4x6144_S4x1x6144_0_2 b))

/-- The context's row. -/
def context (x : FVec F S1024 .f32) (w : FVec F S4x1024x6144 .f32) (b : FVec F S4x6144 .f32) : FVec F S4x1x6144 .f32 :=
  broadcastInDim S4x1x6144 ![0, 2] bcast_S4x6144_S4x1x6144_0_2
    (addf (Host.dotGeneral dot_S1024_S4x1024x6144_S4x6144_0_1_n_02_n_n none (contextSwish x) w) b)

/-- The rows of the samples, of the context, and three of zeros. -/
def stack (s : FVec F S4x4x6144 .f32) (e : FVec F S4x1x6144 .f32) : FVec F S4x8x6144 .f32 :=
  concatenate S4x8x6144 1 [⟨S4x4x6144, s⟩, ⟨S4x1x6144, e⟩,
    ⟨S4x3x6144, (broadcastInDim S4x3x6144 ![] bcast_S_S4x3x6144 (constant S_ .f32 0x00000000#32) : FVec F S4x3x6144 .f32)⟩]
    concatenates_S4x4x6144_S4x1x6144_S4x3x6144_S4x8x6144_d1

/-- The reference's modulation. -/
def modulation (x : FVec F S4x1024 .f32) (e : FVec F S1024 .f32) (w : FVec F S4x1024x6144 .f32) (b : FVec F S4x6144 .f32) : FVec F S4x8x6144 .f32 :=
  stack (samples x w b) (context e w b)

end Def

theorem sampleSwish_apply (x : FVec Ideal S4x1024 .f32) (r : Fin 4) (i : Fin 1024) : sampleSwish x (ix2 r i) = swish (x (ix2 r i)) := by
  unfold sampleSwish swish Ideal.logistic
  pointwise

theorem contextSwish_apply (x : FVec Ideal S1024 .f32) (i : Fin 1024) : contextSwish x (ix1 i) = swish (x (ix1 i)) := by
  unfold contextSwish swish Ideal.logistic
  pointwise

theorem samples_apply (x : FVec Ideal S4x1024 .f32) (w : FVec Ideal S4x1024x6144 .f32) (b : FVec Ideal S4x6144 .f32) (l r : Fin 4) (k : Fin 6144) :
    samples x w b (ix3 l r k) = element (fun i => x (ix2 r i)) (fun i => w (ix3 l i k)) (b (ix2 l k)) := by
  unfold samples element
  simp only [← sampleSwish_apply]
  generalize sampleSwish (F := Ideal) x = y
  pointwise

theorem context_apply (x : FVec Ideal S1024 .f32) (w : FVec Ideal S4x1024x6144 .f32) (b : FVec Ideal S4x6144 .f32) (l : Fin 4) (k : Fin 6144) :
    context x w b (ix3 l 0 k) = element (fun i => x (ix1 i)) (fun i => w (ix3 l i k)) (b (ix2 l k)) := by
  unfold context element
  simp only [← contextSwish_apply]
  generalize contextSwish (F := Ideal) x = y
  pointwise

theorem stack_samples (s : FVec Ideal S4x4x6144 .f32) (e : FVec Ideal S4x1x6144 .f32) (l : Fin 4) (r : Fin 8) (h : r.val < 4) (k : Fin 6144) :
    stack s e (ix3 l r k) = s (ix3 l ⟨r.val, h⟩ k) := by
  unfold stack
  pointwise
  exact dif_pos h

theorem stack_context (s : FVec Ideal S4x4x6144 .f32) (e : FVec Ideal S4x1x6144 .f32) (l : Fin 4) (k : Fin 6144) :
    stack s e (ix3 l 4 k) = e (ix3 l 0 k) := by
  unfold stack
  pointwise

end Cert.ModulationReferenceIdeal.Rows

end
-- ==== Proof.ModulationFinal.lean ====
/- The array that the modulation's call leaves, and its rows beside the reference's. -/
module

public import proofs.«01_k».proof.Proof.ModulationBody

@[expose] public section

noncomputable section

namespace Cert.ModulationIdeal.Rows

open Cert.ModulationIdeal Cert.ModulationIdeal.Gen Idealize.ShloMosaic Idealize.ShloMosaic.TcCoe Idealize.SL.Sem
open Cert.ModulationReferenceIdeal.Rows (modulation samples_apply context_apply stack_samples stack_context)

variable (m : (ℓ : Loc nD τ sig) → Buf (Elt Ideal) ℓ) (c : Dev nD)

/-- The conditioning of the samples and of the context, the weight and the bias given. -/
abbrev X : FVec Ideal S4x1024 .f32 := m ((c : Thread nD τ).loc main_arg0)
abbrev E : FVec Ideal S1024 .f32 := m ((c : Thread nD τ).loc main_arg1)
abbrev W : FVec Ideal S4x1024x6144 .f32 := m ((c : Thread nD τ).loc main_arg2)
abbrev B : FVec Ideal S4x6144 .f32 := m ((c : Thread nD τ).loc main_arg3)

/-- The conditioning of a row: a sample's, the context's, or nothing. -/
def conditioning (r : Fin 8) (i : Fin 1024) : EReal :=
  if h : r.val < 4 then X m c (ix2 ⟨r.val, h⟩ i) else if r.val < 5 then E m c (ix1 i) else 0

/-- The layer of a grid point. -/
def layerOf (t : Fin cfg0.N) : Fin 4 := ⟨t.val / 6, by have : t.val < 24 := t.isLt; omega⟩

/-- Column `k` of the block of a grid point. -/
def columnOf (t : Fin cfg0.N) (k : Fin 1024) : Fin 6144 := ⟨1024 * (t.val % 6) + k.val, by omega⟩

theorem idx (t : Fin cfg0.N) : win0_0.index t = ![0, 0] ∧ win0_1.index t = ![t.val / 6, 0, t.val % 6]
    ∧ win0_2.index t = ![t.val / 6, 0, t.val % 6] ∧ win0_3.index t = ![t.val / 6, 0, t.val % 6] := by
  revert t; decide +kernel

/-- The rows of the samples, of the context, and three of zeros. -/
def conditions (x : FVec Ideal S4x1024 .f32) (e : FVec Ideal S1024 .f32) : FVec Ideal S8x1024 .f32 :=
  concatenate S8x1024 0 [⟨S4x1024, x⟩, ⟨S1x1024, (broadcastInDim S1x1024 ![1] bcast_S1024_S1x1024_1 e : FVec Ideal S1x1024 .f32)⟩,
    ⟨S3x1024, (broadcastInDim S3x1024 ![] bcast_S_S3x1024 (constant S_ .f32 0x00000000#32) : FVec Ideal S3x1024 .f32)⟩]
    concatenates_S4x1024_S1x1024_S3x1024_S8x1024_d0

/-- The call's first array, as the host leaves it. -/
theorem conditions_entry : V m c main_v2 = conditions (X m c) (E m c) := by
  show StableHlo.after hostOps0 (fun b => m (c, b)) main_v2 = _
  simp only [hostOps0]
  after_results <;> rfl

theorem conditions_apply (r : Fin 8) (i : Fin 1024) : conditions (X m c) (E m c) (ix2 r i) = conditioning m c r i := by
  unfold conditions conditioning
  pointwise
  by_cases h : r.val < 4
  · rw [dif_pos h, dif_pos h]
  · rw [dif_neg h, dif_neg h]
    by_cases h' : r.val < 5
    · rw [if_pos h', dif_pos (by omega)]
    · rw [if_neg h', dif_neg (by omega)]

theorem x_block (t : Fin cfg0.N) (r : Fin 8) (i : Fin 1024) : iblk m c 0 t (ix2 r i) = conditioning m c r i := by
  rw [← conditions_apply, ← conditions_entry]
  blk_simp [iblk]
  blk_ext [idx t]

theorem w_block (t : Fin cfg0.N) (i k : Fin 1024) : iblk m c 1 t (ix3 0 i k) = W m c (ix3 (layerOf t) i (columnOf t k)) := by
  blk_simp [iblk]
  entry_read
  unfold layerOf columnOf
  blk_ext [idx t]

theorem b_block (t : Fin cfg0.N) (k : Fin 1024) : iblk m c 2 t (ix3 0 0 k) = B m c (ix2 (layerOf t) (columnOf t k)) := by
  blk_simp [iblk]
  entry_read
  pointwise
  unfold layerOf columnOf
  blk_ext [idx t]

/-- The kernel's array: every row's elements. -/
def modArray (i : S4x8x6144.Idx) : EReal :=
  element (conditioning m c (i 1)) (fun j => W m c (ix3 (i 0) j (i 2))) (B m c (ix2 (i 0) (i 2)))

variable (xr : Fin 4 → Fin 1024 → ℝ) (er : Fin 1024 → ℝ) (wr : Fin 4 → Fin 1024 → Fin 6144 → ℝ)
  (hx : ∀ r i, X m c (ix2 r i) = xr r i) (he : ∀ i, E m c (ix1 i) = er i) (hw : ∀ l i k, W m c (ix3 l i k) = wr l i k)

include hx he in
theorem conditioning_real (r : Fin 8) (i : Fin 1024) :
    conditioning m c r i = ((if h : r.val < 4 then xr ⟨r.val, h⟩ i else if r.val < 5 then er i else 0 : ℝ) : EReal) := by
  unfold conditioning
  split
  · exact hx _ _
  · split
    · exact he _
    · exact EReal.coe_zero.symm

/-- The one store of a grid point covers its block. -/
theorem out_apply (x0 : Vec Ideal S8x1024 .f32) (x1 : Vec Ideal S1x1024x1024 .f32) (x2 : Vec Ideal S1x1x1024 .f32) (r : Fin 8) (k : Fin 1024) :
    out0_3 x0 x1 x2 (ix3 0 r k) = k0_pay1 (View.ld x0 r0_0) (View.ld x1 r0_1) (View.ld x2 r0_2) (ix3 0 r k) := by
  unfold out0_3
  refine View.canon_apply_of_pieces (Val := Elt Ideal) (k0_pay1 (View.ld x0 r0_0) (View.ld x1 r0_1) (View.ld x2 r0_2)) _ (fun p hp => ?_) _
    (cover0_3 _ _)
  rw [List.mem_singleton] at hp
  subst hp
  intro y
  refine congrArg (k0_pay1 (View.ld x0 r0_0) (View.ld x1 r0_1) (View.ld x2 r0_2)) (funext fun a => Fin.ext ?_)
  refine Eq.symm ((ValueKit.rect_emb_unit_val (s := S1x8x1024) ![0, 0, 0] S1x8x1024.size inb_S1x8x1024_S1x8x1024_0_0_0 y a).trans ?_)
  fin_cases a <;> exact zero_add _

include hx he hw in
/-- The block that a grid point computes. -/
theorem block_element (t : Fin cfg0.N) (r : Fin 8) (k : Fin 1024) :
    out0_3 (iblk m c 0 t) (iblk m c 1 t) (iblk m c 2 t) (ix3 0 r k) = modArray m c (ix3 (layerOf t) r (columnOf t k)) := by
  have h0 (i : Fin 1024) : View.ld (iblk m c 0 t) r0_0 (ix2 r i) = conditioning m c r i := by
    rw [← x_block m c t r i]
    pointwise
  have h1 (i : Fin 1024) : View.ld (iblk m c 1 t) r0_1 (ix3 0 i k) = W m c (ix3 (layerOf t) i (columnOf t k)) := by
    rw [← w_block m c t i k]
    pointwise
  have h2 : View.ld (iblk m c 2 t) r0_2 (ix3 0 0 k) = B m c (ix2 (layerOf t) (columnOf t k)) := by
    rw [← b_block m c t k]
    pointwise
  refine (out_apply (iblk m c 0 t) (iblk m c 1 t) (iblk m c 2 t) r k).trans ((payload_apply (View.ld (iblk m c 0 t) r0_0) (View.ld (iblk m c 1 t) r0_1)
    (View.ld (iblk m c 2 t) r0_2) r k _ _ (fun i => (h0 i).trans (conditioning_real m c xr er hx he r i))
    (fun i => (h1 i).trans (hw _ _ _))).trans ?_)
  rw [h2]
  simp only [h0, h1]
  rfl

include hx he hw in
theorem mod_array : (dats m 0 c).arrAt 3 cfg0.N = modArray m c := by
  refine (dats m 0 c).arrAt_eq_of_covers 3 (modArray m c) (by decide +kernel) fun t _ y => ?_
  blk_simp
  rw [after0_3]
  have hy : y = ix3 (0 : Fin 1) (⟨(y 1).val, (y 1).isLt⟩ : Fin 8) (⟨(y 2).val, (y 2).isLt⟩ : Fin 1024) := by
    funext a
    fin_cases a
    · exact Fin.ext (show (y 0).val = 0 from Nat.lt_one_iff.1 (y 0).isLt)
    · rfl
    · rfl
  refine (congrArg (out0_3 (iblk m c 0 t) (iblk m c 1 t) (iblk m c 2 t)) hy).trans ((block_element m c xr er wr hx he hw t _ _).trans ?_)
  unfold layerOf columnOf
  blk_ext [idx t]

include hx he hw in
/-- The kernel's rows of the samples and of the context are the reference's. -/
theorem mod_same (x : FVec Ideal S4x1024 .f32) (e : FVec Ideal S1024 .f32) (w : FVec Ideal S4x1024x6144 .f32) (b : FVec Ideal S4x6144 .f32)
    (ex : x = X m c) (ee : e = E m c) (ew : w = W m c) (eb : b = B m c) (i : S4x8x6144.Idx) (hi : (i 1).val < 5) :
    (dats m 0 c).arrAt 3 cfg0.N i = modulation x e w b i := by
  subst ex ee ew eb
  rw [mod_array m c xr er wr hx he hw]
  obtain ⟨l, r, k, rfl⟩ : ∃ (l : Fin 4) (r : Fin 8) (k : Fin 6144), i = ix3 l r k :=
    ⟨⟨(i 0).val, (i 0).isLt⟩, ⟨(i 1).val, (i 1).isLt⟩, ⟨(i 2).val, (i 2).isLt⟩, by
      funext a
      fin_cases a <;> rfl⟩
  show element (conditioning m c r) (fun j => W m c (ix3 l j k)) (B m c (ix2 l k)) = _
  unfold modulation
  by_cases hr : r.val < 4
  · rw [stack_samples _ _ l r hr, samples_apply]
    refine congrArg (fun z => element z _ _) (funext fun j => ?_)
    exact dif_pos hr
  · have h4 : r = 4 := Fin.ext (by
      have h5 : r.val < 5 := hi
      show r.val = 4
      omega)
    subst h4
    rw [stack_context, context_apply]
    rfl

end Cert.ModulationIdeal.Rows

end
-- ==== Proof.FourierBody.lean ====
/- What one grid point of the latent Fourier transform computes. -/
module

public import proofs.«01_k».proof.Proof.Gen.FourierIdeal.Value
public import proofs.«01_k».proof.Proof.FourierAngle
public import Idealize.ShloMosaic.Lib.Pipeline.ValueKit

@[expose] public section

noncomputable section

namespace Cert.FourierIdeal.Rows

open Cert.FourierIdeal Cert.FourierIdeal.Gen Idealize.ShloMosaic Idealize.ShloMosaic.TcCoe Idealize.SL.Sem

/-- Every 72nd row from row `q` on: column `q` of each of the 64 rows of a sample. -/
def columnRect (q : Fin 64) : Rect S4608x128 where
  off := ![q.val, 0]
  size := S64x128.size
  stride := ![72, 1]
  inb := by
    intro a
    right
    fin_cases a
    · show q.val + 72 * (64 - 1) < 4608
      omega
    · show 0 + 1 * (128 - 1) < 128
      omega
  stride_pos := by intro a; fin_cases a <;> decide

/-- Sixty-four rows from row `72 * j` on. -/
def rowRect (j : Fin 64) : Rect S4608x128 :=
  Rect.unit (s := S4608x128) ![72 * j.val, 0] S64x128.size (by
    intro a
    fin_cases a
    · show 72 * j.val + 64 ≤ 4608
      omega
    · show 0 + 128 ≤ 128
      omega)

/-- The block of output rows with second index `n`. -/
def stepRect (n : Fin 8) : Rect S64x8x8x256 :=
  Rect.unit (s := S64x8x8x256) ![0, n.val, 0, 0] ![64, 1, 8, 256] (by
    intro a
    fin_cases a
    · show 0 + 64 ≤ 64
      omega
    · show n.val + 1 ≤ 8
      omega
    · show 0 + 8 ≤ 8
      omega
    · show 0 + 256 ≤ 256
      omega)

/-- The columns of a sample, the last first. -/
def columns : List (Fin 64) :=
  [63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

section Run
variable {F : FTy → Type} [FloatOps F]

/-- Column `q` of a part of the input, as the body loads it. -/
def column (arg : Memref sig .tc .vmem S4608x128 .f32) (harg : arg.IsWhole) (x : Vec F S4608x128 .f32) (q : Fin 64) : Vec F S64x128 .f32 :=
  View.readAt (Elt F) arg.view (columnRect q).toLoadRect (harg.unread x)

/-- The rotation, as the body loads it. -/
def rotation (arg : Memref sig .tc .vmem S128x128 .bf16) (harg : arg.IsWhole) (x : Vec F S128x128 .bf16) : Vec F S128x128 .bf16 :=
  View.readAt (Elt F) arg.view (Rect.unit (s := S128x128) ![0, 0] S128x128.size (by intro a; fin_cases a <;> simp [S128x128])).toLoadRect (harg.unread x)

/-- Plane `n` of a table, as the body loads it. -/
def plane (arg : Memref sig .tc .vmem S8x512x512 .bf16) (harg : arg.IsWhole) (x : Vec F S8x512x512 .bf16) (n : Fin 8) : Vec F S1x512x512 .bf16 :=
  View.readAt (Elt F) arg.view (Rect.unit (s := S8x512x512) ![n.val, 0, 0] S1x512x512.size (by
    intro a
    fin_cases a
    · show n.val + 1 ≤ 8
      omega
    · show 0 + 512 ≤ 512
      omega
    · show 0 + 512 ≤ 512
      omega)).toLoadRect (harg.unread x)

/-- The scratch stores of the 64 columns. -/
def stores (p : Fin 64 → FVec F S64x128 .f32) : List (View.Piece (Elt F) S4608x128 .f32) :=
  columns.map fun q => ⟨columnRect q, p q⟩

/-- Row `j` of the scratch, read back. -/
def back (arg : Memref sig .tc .vmem S4608x128 .f32) (p : Fin 64 → FVec F S64x128 .f32) (j : Fin 64) : Vec F S64x128 .f32 :=
  arg.view.readCov (stores p) (rowRect j).toLoadRect

/-- The two halves of row `8 n + g`. -/
def wide (a b : Fin 64 → Vec F S64x128 .f32) (n g : Fin 8) : FVec F S64x256 .f32 :=
  concatenate S64x256 1 [⟨S64x128, a ⟨8 * n.val + g.val, by omega⟩⟩, ⟨S64x128, b ⟨8 * n.val + g.val, by omega⟩⟩] concatenates_S64x128_S64x128_S64x256_d1

/-- Eight rows, one under the other. -/
def group (p : Fin 8 → FVec F S64x256 .f32) : FVec F S512x256 .f32 :=
  concatenate S512x256 0 [⟨S64x256, p 0⟩, ⟨S64x256, p 1⟩, ⟨S64x256, p 2⟩, ⟨S64x256, p 3⟩, ⟨S64x256, p 4⟩, ⟨S64x256, p 5⟩, ⟨S64x256, p 6⟩, ⟨S64x256, p 7⟩]
    concatenates_S64x256_S64x256_S64x256_S64x256_S64x256_S64x256_S64x256_S64x256_S512x256_d0

/-- A plane of a table times a group. -/
def turned (t : Vec F S1x512x512 .bf16) (p : FVec F S512x256 .f32) : FVec F S512x256 .f32 :=
  matmul dot_S512x512_S512x256_S512x256_1_0_0_1_n_n none (shapeCast S512x512 t shapeCasts_S1x512x512_S512x512 : FVec F S512x512 .bf16)
    (truncf .bf16 p bitsLt_bf16_f32) (constant S512x256 .f32 0x00000000#32)

/-- As the output takes it. -/
def shaped (v : FVec F S512x256 .f32) : FVec F S64x1x8x256 .f32 :=
  shapeCast S64x1x8x256 (shapeCast S64x8x256 v shapeCasts_S512x256_S64x8x256 : FVec F S64x8x256 .f32) shapeCasts_S64x8x256_S64x1x8x256

variable (arg1 : Memref sig .tc .vmem S4608x128 .f32) (harg1 : arg1.IsWhole) (arg2 : Memref sig .tc .vmem S4608x128 .f32) (harg2 : arg2.IsWhole)
  (arg3 : Memref sig .tc .vmem S4608x128 .f32) (harg3 : arg3.IsWhole) (arg4 : Memref sig .tc .vmem S4608x128 .f32) (harg4 : arg4.IsWhole)
  (arg5 : Memref sig .tc .vmem S128x128 .bf16) (harg5 : arg5.IsWhole) (arg6 : Memref sig .tc .vmem S8x512x512 .bf16) (harg6 : arg6.IsWhole)
  (arg7 : Memref sig .tc .vmem S8x512x512 .bf16) (harg7 : arg7.IsWhole)
  (arg9 arg10 arg11 arg12 : Memref sig .tc .vmem S4608x128 .f32)
  (x0 x1 x2 x3 : Vec F S4608x128 .f32) (x4 : Vec F S128x128 .bf16) (x5 x6 : Vec F S8x512x512 .bf16)

/-- The four parts of the first step on column `q`. -/
def reLo (q : Fin 64) : FVec F S64x128 .f32 :=
  k0_pay6 (rotation arg5 harg5 x4) (column arg1 harg1 x0 q) (column arg2 harg2 x1 q) (column arg3 harg3 x2 q) (column arg4 harg4 x3 q)
def reHi (q : Fin 64) : FVec F S64x128 .f32 :=
  k0_pay7 (rotation arg5 harg5 x4) (column arg1 harg1 x0 q) (column arg2 harg2 x1 q) (column arg3 harg3 x2 q) (column arg4 harg4 x3 q)
def imLo (q : Fin 64) : FVec F S64x128 .f32 :=
  k0_pay8 (rotation arg5 harg5 x4) (column arg1 harg1 x0 q) (column arg2 harg2 x1 q) (column arg3 harg3 x2 q) (column arg4 harg4 x3 q)
def imHi (q : Fin 64) : FVec F S64x128 .f32 :=
  k0_pay9 (rotation arg5 harg5 x4) (column arg1 harg1 x0 q) (column arg2 harg2 x1 q) (column arg3 harg3 x2 q) (column arg4 harg4 x3 q)

/-- Both halves of the second step's operands. -/
def reRow (n g : Fin 8) : FVec F S64x256 .f32 :=
  wide (back arg9 (reLo arg1 harg1 arg2 harg2 arg3 harg3 arg4 harg4 arg5 harg5 x0 x1 x2 x3 x4)) (back arg10 (reHi arg1 harg1 arg2 harg2 arg3 harg3 arg4 harg4 arg5 harg5 x0 x1 x2 x3 x4)) n g
def imRow (n g : Fin 8) : FVec F S64x256 .f32 :=
  wide (back arg11 (imLo arg1 harg1 arg2 harg2 arg3 harg3 arg4 harg4 arg5 harg5 x0 x1 x2 x3 x4)) (back arg12 (imHi arg1 harg1 arg2 harg2 arg3 harg3 arg4 harg4 arg5 harg5 x0 x1 x2 x3 x4)) n g

/-- The steps with second index `n`. -/
def steps (n : Fin 8) : FVec F S512x256 .f32 :=
  addf (turned (plane arg6 harg6 x5 n) (group (reRow arg1 harg1 arg2 harg2 arg3 harg3 arg4 harg4 arg5 harg5 arg9 arg10 x0 x1 x2 x3 x4 n)))
    (turned (plane arg7 harg7 x6 n) (group (imRow arg1 harg1 arg2 harg2 arg3 harg3 arg4 harg4 arg5 harg5 arg11 arg12 x0 x1 x2 x3 x4 n)))

/-- The stores of the output. -/
def outputs : List (View.Piece (Elt F) S64x8x8x256 .f32) :=
  [7, 6, 5, 4, 3, 2, 1, 0].map fun n => ⟨stepRect n,
    shaped (steps arg1 harg1 arg2 harg2 arg3 harg3 arg4 harg4 arg5 harg5 arg6 harg6 arg7 harg7 arg9 arg10 arg11 arg12 x0 x1 x2 x3 x4 x5 x6 n)⟩

theorem pieces (c : Dev nD) (i : grid0.Coords) (arg8 : Memref sig .tc .vmem S64x8x8x256 .f32) (harg8 : arg8.IsWhole)
    (harg9 : arg9.IsWhole) (harg10 : arg10.IsWhole) (harg11 : arg11.IsWhole) (harg12 : arg12.IsWhole) :
    (kernelRun0_A c i arg1 harg1 arg2 harg2 arg3 harg3 arg4 harg4 arg5 harg5 arg6 harg6 arg7 harg7 arg8 harg8 arg9 harg9 arg10 harg10
      arg11 harg11 arg12 harg12 x0 x1 x2 x3 x4 x5 x6).1
    = outputs arg1 harg1 arg2 harg2 arg3 harg3 arg4 harg4 arg5 harg5 arg6 harg6 arg7 harg7 arg9 arg10 arg11 arg12 x0 x1 x2 x3 x4 x5 x6 := by
  sl_kernel_rfl

end Run

end Cert.FourierIdeal.Rows

end
-- ==== Proof.FourierValue.lean ====
/- What one grid point of the latent Fourier transform computes, as sums over the extended reals. -/
module

public import proofs.«01_k».proof.Proof.FourierBody

@[expose] public section

noncomputable section

namespace Cert.FourierIdeal.Rows

open Cert.FourierIdeal Cert.FourierIdeal.Gen Idealize.ShloMosaic Idealize.ShloMosaic.TcCoe Idealize.SL.Sem

/-! ## The loads -/

theorem column_apply (arg : Memref sig .tc .vmem S4608x128 .f32) (harg : arg.IsWhole) (x : Vec Ideal S4608x128 .f32) (q r : Fin 64) (w : Fin 128) :
    column arg harg x q (ix2 r w) = x (ix2 ⟨72 * r.val + q.val, by omega⟩ w) := by
  unfold column
  rw [View.readAt_eq_ld, harg.read_unread]
  refine congrArg x (funext fun a => Fin.ext ?_)
  fin_cases a
  · show q.val + 72 * r.val = 72 * r.val + q.val
    omega
  · show 0 + 1 * w.val = w.val
    omega

theorem rotation_apply (arg : Memref sig .tc .vmem S128x128 .bf16) (harg : arg.IsWhole) (x : Vec Ideal S128x128 .bf16) (r s : Fin 128) :
    rotation arg harg x (ix2 r s) = x (ix2 r s) := by
  unfold rotation
  rw [View.readAt_eq_ld, harg.read_unread]
  refine congrArg x (funext fun a => Fin.ext ?_)
  fin_cases a
  · show 0 + 1 * r.val = r.val
    omega
  · show 0 + 1 * s.val = s.val
    omega

theorem plane_apply (arg : Memref sig .tc .vmem S8x512x512 .bf16) (harg : arg.IsWhole) (x : Vec Ideal S8x512x512 .bf16) (n : Fin 8) (s u : Fin 512) :
    plane arg harg x n (ix3 0 s u) = x (ix3 n s u) := by
  unfold plane
  rw [View.readAt_eq_ld, harg.read_unread]
  refine congrArg x (funext fun a => Fin.ext ?_)
  fin_cases a
  · show n.val + 1 * 0 = n.val
    omega
  · show 0 + 1 * s.val = s.val
    omega
  · show 0 + 1 * u.val = u.val
    omega

theorem mem_columns : ∀ q : Fin 64, q ∈ columns := by decide +kernel

/-- A row read back from the scratch: each column's entry of that row. -/
theorem back_apply (arg : Memref sig .tc .vmem S4608x128 .f32) (p : Fin 64 → FVec Ideal S64x128 .f32) (j q : Fin 64) (w : Fin 128) :
    back arg p j (ix2 q w) = p q (ix2 j w) := by
  unfold back
  rw [View.readCov_eq_canon']
  have hy : (rowRect j).toLoadRect.idx (ix2 q w) = ix2 ⟨72 * j.val + q.val, by omega⟩ w := by
    funext a
    apply Fin.ext
    fin_cases a
    · show 72 * j.val + 1 * q.val = 72 * j.val + q.val
      omega
    · show 0 + 1 * w.val = w.val
      omega
  dsimp only
  rw [hy]
  refine (View.canon_apply_of_pieces (Val := Elt Ideal) (fun y : S4608x128.Idx =>
    p ⟨(y 0).val % 72 % 64, by omega⟩ (ix2 ⟨(y 0).val / 72, by have : (y 0).val < 4608 := (y 0).isLt; omega⟩ ⟨(y 1).val, (y 1).isLt⟩)) _
    (fun P hP x => ?_) (ix2 ⟨72 * j.val + q.val, by omega⟩ w) ⟨_, List.mem_map.mpr ⟨q, mem_columns q, rfl⟩, ?_⟩).trans ?_
  · obtain ⟨s, -, rfl⟩ := List.mem_map.mp hP
    have h0 : (x 0).val < 64 := (x 0).isLt
    have h1 : (x 1).val < 128 := (x 1).isLt
    have e0 : ((columnRect s).emb x 0).val = s.val + 72 * (x 0).val := rfl
    have e1 : ((columnRect s).emb x 1).val = (x 1).val := (show 0 + 1 * (x 1).val = (x 1).val by omega)
    refine (congr (congrArg p ?_) ?_).symm
    · exact Fin.ext (show ((columnRect s).emb x 0).val % 72 % 64 = s.val by rw [e0]; omega)
    · funext a
      fin_cases a
      · exact Fin.ext (show ((columnRect s).emb x 0).val / 72 = (x 0).val by rw [e0]; omega)
      · exact Fin.ext (show ((columnRect s).emb x 1).val = (x 1).val by rw [e1])
  · refine (columnRect q).toLoadRect.mem_set.mpr fun a => ?_
    fin_cases a
    · exact ⟨j.val, j.isLt, (show 72 * j.val + q.val = q.val + 72 * j.val by omega)⟩
    · exact ⟨w.val, w.isLt, (show w.val = 0 + 1 * w.val by omega)⟩
  · have e0 : (⟨(72 * j.val + q.val) % 72 % 64, by omega⟩ : Fin 64) = q := Fin.ext (show (72 * j.val + q.val) % 72 % 64 = q.val by omega)
    have e1 : (⟨(72 * j.val + q.val) / 72, by omega⟩ : Fin 64) = j := Fin.ext (show (72 * j.val + q.val) / 72 = j.val by omega)
    exact congrArg₂ (fun (x y : Fin 64) => p x (ix2 y w)) e0 e1

/-! ## The first step -/

/-- Column `w` of two halves side by side. -/
def half (a b : Fin 128 → EReal) (w : Fin 256) : EReal := if h : w.val < 128 then a ⟨w.val, h⟩ else b ⟨w.val - 128, by omega⟩

theorem halves_apply (a b : Vec Ideal S64x128 .f32) (r : Fin 64) (w : Fin 256) :
    (concatenate S64x256 1 [⟨S64x128, a⟩, ⟨S64x128, b⟩] concatenates_S64x128_S64x128_S64x256_d1 : FVec Ideal S64x256 .f32) (ix2 r w)
      = half (fun v => a (ix2 r v)) (fun v => b (ix2 r v)) w := by
  unfold half
  pointwise

theorem two_apply (a b : FVec Ideal S64x256 .f32) (s : Fin 128) (w : Fin 256) :
    (concatenate S128x256 0 [⟨S64x256, a⟩, ⟨S64x256, b⟩] concatenates_S64x256_S64x256_S128x256_d0 : FVec Ideal S128x256 .f32) (ix2 s w)
      = if h : s.val < 64 then a (ix2 ⟨s.val, h⟩ w) else b (ix2 ⟨s.val - 64, by omega⟩ w) := by
  pointwise

theorem sum_two (f g : Fin 64 → EReal) (v : Fin 128 → EReal) :
    (∑ s : Fin 128, v s * (if h : s.val < 64 then f ⟨s.val, h⟩ else g ⟨s.val - 64, by omega⟩))
      = (∑ r : Fin 64, v ⟨r.val, by omega⟩ * f r) + ∑ r : Fin 64, v ⟨64 + r.val, by omega⟩ * g r := by
  rw [Fin.sum_univ_add (a := 64) (b := 64) (fun s : Fin (64 + 64) => v s * (if h : s.val < 64 then f ⟨s.val, h⟩ else g ⟨s.val - 64, by omega⟩))]
  refine congrArg₂ (· + ·) (Finset.sum_congr rfl fun r _ => ?_) (Finset.sum_congr rfl fun r _ => ?_)
  · rw [dif_pos (show (Fin.castAdd 64 r).val < 64 from r.isLt)]
    rfl
  · rw [dif_neg (show ¬ (Fin.natAdd 64 r).val < 64 by simp)]
    exact congrArg₂ (fun x y => v x * g y) (Fin.ext (by simp [Nat.add_comm])) (Fin.ext (by simp))

theorem first_apply (v0 : Vec Ideal S128x128 .bf16) (v2 v3 v5 v6 : Vec Ideal S64x128 .f32) (r : Fin 128) (w : Fin 256) :
    k0_pay3 v0 v2 v3 v5 v6 (ix2 r w)
      = (∑ s : Fin 64, v0 (ix2 r ⟨s.val, by omega⟩) * half (fun v => v2 (ix2 s v)) (fun v => v3 (ix2 s v)) w)
        + ∑ s : Fin 64, v0 (ix2 r ⟨64 + s.val, by omega⟩) * half (fun v => v5 (ix2 s v)) (fun v => v6 (ix2 s v)) w := by
  simp only [← halves_apply]
  unfold k0_pay3 k0_pay2
  generalize (concatenate S64x256 1 [⟨S64x128, v2⟩, ⟨S64x128, v3⟩] concatenates_S64x128_S64x128_S64x256_d1 : FVec Ideal S64x256 .f32) = a
  generalize (concatenate S64x256 1 [⟨S64x128, v5⟩, ⟨S64x128, v6⟩] concatenates_S64x128_S64x128_S64x256_d1 : FVec Ideal S64x256 .f32) = b
  have h (s : Fin 128) := two_apply a b s w
  generalize (concatenate S128x256 0 [⟨S64x256, a⟩, ⟨S64x256, b⟩] concatenates_S64x256_S64x256_S128x256_d0 : FVec Ideal S128x256 .f32) = y at h ⊢
  dsimp only
  pointwise
  simp only [h]
  exact sum_two (fun s => a (ix2 s w)) (fun s => b (ix2 s w)) (fun s => v0 (ix2 r s))

section Step
variable (v0 : Vec Ideal S128x128 .bf16) (v2 v3 v5 v6 : Vec Ideal S64x128 .f32) (j : Fin 64) (w : Fin 128)

theorem pay6_apply : k0_pay6 v0 v2 v3 v5 v6 (ix2 j w) = k0_pay3 v0 v2 v3 v5 v6 (ix2 ⟨j.val, by omega⟩ ⟨w.val, by omega⟩) := by
  unfold k0_pay6 k0_pay4
  generalize k0_pay3 v0 v2 v3 v5 v6 = y
  dsimp only
  pointwise

theorem pay7_apply : k0_pay7 v0 v2 v3 v5 v6 (ix2 j w) = k0_pay3 v0 v2 v3 v5 v6 (ix2 ⟨j.val, by omega⟩ ⟨128 + w.val, by omega⟩) := by
  unfold k0_pay7 k0_pay4
  generalize k0_pay3 v0 v2 v3 v5 v6 = y
  dsimp only
  pointwise

theorem pay8_apply : k0_pay8 v0 v2 v3 v5 v6 (ix2 j w) = k0_pay3 v0 v2 v3 v5 v6 (ix2 ⟨64 + j.val, by omega⟩ ⟨w.val, by omega⟩) := by
  unfold k0_pay8 k0_pay5
  generalize k0_pay3 v0 v2 v3 v5 v6 = y
  dsimp only
  pointwise

theorem pay9_apply : k0_pay9 v0 v2 v3 v5 v6 (ix2 j w) = k0_pay3 v0 v2 v3 v5 v6 (ix2 ⟨64 + j.val, by omega⟩ ⟨128 + w.val, by omega⟩) := by
  unfold k0_pay9 k0_pay5
  generalize k0_pay3 v0 v2 v3 v5 v6 = y
  dsimp only
  pointwise

end Step

/-! ## The second step -/

theorem group_apply (p : Fin 8 → FVec Ideal S64x256 .f32) (u : Fin 512) (w : Fin 256) :
    group p (ix2 u w) = p ⟨u.val / 64, by omega⟩ (ix2 ⟨u.val % 64, by omega⟩ w) := by
  unfold group
  pointwise
  have e (a b : Fin 8) (r q : Fin 64) (h : a = b) (h' : r = q) : p a (ix2 r w) = p b (ix2 q w) := by rw [h, h']
  repeat' split
  all_goals first
    | exact e 0 _ _ _ (Fin.ext (show 0 = u.val / 64 by omega)) (Fin.ext (show u.val = u.val % 64 by omega))
    | exact e 1 _ _ _ (Fin.ext (show 1 = u.val / 64 by omega)) (Fin.ext (show u.val - 64 = u.val % 64 by omega))
    | exact e 2 _ _ _ (Fin.ext (show 2 = u.val / 64 by omega)) (Fin.ext (show u.val - 64 - 64 = u.val % 64 by omega))
    | exact e 3 _ _ _ (Fin.ext (show 3 = u.val / 64 by omega)) (Fin.ext (show u.val - 64 - 64 - 64 = u.val % 64 by omega))
    | exact e 4 _ _ _ (Fin.ext (show 4 = u.val / 64 by omega)) (Fin.ext (show u.val - 64 - 64 - 64 - 64 = u.val % 64 by omega))
    | exact e 5 _ _ _ (Fin.ext (show 5 = u.val / 64 by omega)) (Fin.ext (show u.val - 64 - 64 - 64 - 64 - 64 = u.val % 64 by omega))
    | exact e 6 _ _ _ (Fin.ext (show 6 = u.val / 64 by omega)) (Fin.ext (show u.val - 64 - 64 - 64 - 64 - 64 - 64 = u.val % 64 by omega))
    | exact e 7 _ _ _ (Fin.ext (show 7 = u.val / 64 by omega)) (Fin.ext (show u.val - 64 - 64 - 64 - 64 - 64 - 64 - 64 = u.val % 64 by omega))

theorem turned_apply (t : Vec Ideal S1x512x512 .bf16) (p : FVec Ideal S512x256 .f32) (s : Fin 512) (w : Fin 256) :
    turned t p (ix2 s w) = ∑ u : Fin 512, t (ix3 0 s u) * p (ix2 u w) := by
  unfold turned
  pointwise

theorem shaped_apply (v : FVec Ideal S512x256 .f32) (j : Fin 64) (g : Fin 8) (w : Fin 256) :
    shaped v (ix4 j 0 g w) = v (ix2 ⟨8 * j.val + g.val, by omega⟩ w) := by
  unfold shaped
  pointwise
  exact congrArg (fun x => v (ix2 x w)) (Fin.ext (show j.val * 8 + g.val = 8 * j.val + g.val by omega))

end Cert.FourierIdeal.Rows

end
-- ==== Proof.FourierTables.lean ====
/- The tables that the host gives the latent Fourier transform, entry by entry. -/
module

public import proofs.«01_k».proof.Proof.FourierBody

@[expose] public section

noncomputable section

namespace Cert.FourierIdeal.Rows

open Cert.FourierIdeal Cert.FourierIdeal.Gen Idealize.ShloMosaic Idealize.ShloMosaic.TcCoe Idealize.SL.Sem

section Def
variable {F : FTy → Type} [FloatOps F]

/-- A full turn. -/
def turn : FVec F S_ .f32 :=
  mulf (constant S_ .f32 0x40000000#32) (Host.atan2 (constant S_ .f32 0x00000000#32) (constant S_ .f32 0xBF800000#32))

/-- The angles of the first step. -/
def rowAngles : FVec F S64x64 .f32 :=
  Host.divf (mulf (broadcastInDim S64x64 ![] bcast_S_S64x64 (id turn))
    (sitofp .f32 (muli (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0))))))
    (broadcastInDim S64x64 ![] bcast_S_S64x64 (constant S_ .f32 0x42800000#32))

/-- The rotation of the first step from its angles. -/
def turns (e : FVec F S64x64 .f32) : FVec F S128x128 .bf16 :=
  truncf .bf16 (concatenate S128x128 0
    [⟨S64x128, (concatenate S64x128 1 [⟨S64x64, Host.cos e⟩, ⟨S64x64, Host.sin e⟩] concatenates_S64x64_S64x64_S64x128_d1 : FVec F S64x128 .f32)⟩,
      ⟨S64x128, (concatenate S64x128 1 [⟨S64x64, Host.negf (Host.sin e)⟩, ⟨S64x64, Host.cos e⟩] concatenates_S64x64_S64x64_S64x128_d1 : FVec F S64x128 .f32)⟩]
    concatenates_S64x128_S64x128_S128x128_d0 : FVec F S128x128 .f32) bitsLt_bf16_f32

/-- The number of the step of the transform: `8 n + g + 64 j`. -/
def number : IVec S8x64x8x1 32 :=
  addi (broadcastInDim S8x64x8x1 ![0, 1, 2, 3] bcast_S8x1x8x1_S8x64x8x1_0_1_2_3
      (addi (broadcastInDim S8x1x8x1 ![0, 1, 2, 3] bcast_S8x1x1x1_S8x1x8x1_0_1_2_3
          (muli (broadcastInDim S8x1x1x1 ![] bcast_S_S8x1x1x1 (constantI S_ 32 8#32)) (broadcastInDim S8x1x1x1 ![0] bcast_S8_S8x1x1x1_0 (iotaInDim S8 32 0))))
        (broadcastInDim S8x1x8x1 ![0, 1, 2, 3] bcast_S1x1x8x1_S8x1x8x1_0_1_2_3 (broadcastInDim S1x1x8x1 ![2] bcast_S8_S1x1x8x1_2 (iotaInDim S8 32 0)))))
    (broadcastInDim S8x64x8x1 ![0, 1, 2, 3] bcast_S1x64x1x1_S8x64x8x1_0_1_2_3
      (muli (broadcastInDim S1x64x1x1 ![] bcast_S_S1x64x1x1 (constantI S_ 32 64#32)) (broadcastInDim S1x64x1x1 ![1] bcast_S64_S1x64x1x1_1 (iotaInDim S64 32 0))))

/-- The angles of the second step, in 4096 parts of a turn. -/
def parts : IVec S8x64x8x64 32 :=
  Host.remsi (muli (broadcastInDim S8x64x8x64 ![0, 1, 2, 3] bcast_S8x64x8x1_S8x64x8x64_0_1_2_3 number)
      (broadcastInDim S8x64x8x64 ![0, 1, 2, 3] bcast_S1x1x1x64_S8x64x8x64_0_1_2_3 (broadcastInDim S1x1x1x64 ![3] bcast_S64_S1x1x1x64_3 (iotaInDim S64 32 0))))
    (broadcastInDim S8x64x8x64 ![] bcast_S_S8x64x8x64 (constantI S_ 32 4096#32))

/-- The angles of the second step. -/
def stepAngles : FVec F S8x64x8x64 .f32 :=
  Host.divf (mulf (broadcastInDim S8x64x8x64 ![] bcast_S_S8x64x8x64 (id turn)) (sitofp .f32 parts))
    (broadcastInDim S8x64x8x64 ![] bcast_S_S8x64x8x64 (constant S_ .f32 0x45800000#32))

/-- One where the two groups are the same, zero elsewhere. -/
def same : FVec F S8x8 .f32 :=
  uitofp .f32 (cmpi .eq (broadcastInDim S8x8 ![0, 1] bcast_S8x1_S8x8_0_1 (broadcastInDim S8x1 ![0] bcast_S8_S8x1_0 (iotaInDim S8 32 0)))
    (broadcastInDim S8x8 ![0, 1] bcast_S1x8_S8x8_0_1 (broadcastInDim S1x8 ![1] bcast_S8_S1x8_1 (iotaInDim S8 32 0))))

/-- A table of the second step: `e` spread over the groups that are the same, a sixty-fourth. -/
def spread (e : FVec F S8x64x8x64 .f32) (d : FVec F S8x8 .f32) : FVec F S8x512x512 .bf16 :=
  truncf .bf16 (shapeCast S8x512x512 (mulf (mulf
      (broadcastInDim S8x64x8x8x64 ![0, 1, 2, 3, 4] bcast_S8x64x8x1x64_S8x64x8x8x64_0_1_2_3_4
        (broadcastInDim S8x64x8x1x64 ![0, 1, 2, 4] bcast_S8x64x8x64_S8x64x8x1x64_0_1_2_4 e))
      (broadcastInDim S8x64x8x8x64 ![0, 1, 2, 3, 4] bcast_S1x1x8x8x1_S8x64x8x8x64_0_1_2_3_4
        (broadcastInDim S1x1x8x8x1 ![2, 3] bcast_S8x8_S1x1x8x8x1_2_3 d)))
      (broadcastInDim S8x64x8x8x64 ![] bcast_S_S8x64x8x8x64 (constant S_ .f32 0x3C800000#32))) rfl : FVec F S8x512x512 .f32) bitsLt_bf16_f32

variable (m : (ℓ : Loc nD τ sig) → Buf (Elt F) ℓ) (c : Dev nD)

theorem turns_entry : V m c main_v75 = turns rowAngles := by
  show StableHlo.after hostOps0 (fun b => m (c, b)) main_v75 = _
  simp only [hostOps0]
  after_results <;> rfl

theorem cos_entry : V m c main_v76 = spread (Host.cos stepAngles) same := by
  show StableHlo.after hostOps0 (fun b => m (c, b)) main_v76 = _
  simp only [hostOps0]
  after_results <;> rfl

theorem sin_entry : V m c main_v77 = spread (Host.sin stepAngles) same := by
  show StableHlo.after hostOps0 (fun b => m (c, b)) main_v77 = _
  simp only [hostOps0]
  after_results <;> rfl

end Def

theorem turn_apply (i : S_.Idx) : turn (F := Ideal) i = ((2 * Real.pi : ℝ) : EReal) := by
  show Ideal.ofBits .f32 0x40000000#32 * Ideal.atan2 (Ideal.ofBits .f32 0x00000000#32) (Ideal.ofBits .f32 0xBF800000#32) = _
  exact Turns.full_turn

theorem rowAngles_apply (j r : Fin 64) : rowAngles (F := Ideal) (ix2 j r) = ((Turns.angle 64 (j.val * r.val) : ℝ) : EReal) := by
  unfold rowAngles
  generalize ht : turn (F := Ideal) = t
  pointwise
  subst ht
  have hjr : j.val * r.val < 2 ^ 31 := lt_of_le_of_lt (Nat.mul_le_mul (by omega : j.val ≤ 63) (by omega : r.val ≤ 63)) (by norm_num)
  show Ideal.div (turn (F := Ideal) _ * ((((BitVec.ofNat 32 j.val * BitVec.ofNat 32 r.val : BitVec 32)).toInt : ℝ) : EReal)) (Ideal.ofBits .f32 0x42800000#32) = _
  rw [turn_apply, ← BitVec.ofNat_mul, Turns.toInt_ofNat _ hjr, Int.cast_natCast, Turns.bits_64]
  exact_mod_cast Turns.angle_eq 64 (j.val * r.val) (by norm_num)

theorem number_apply (n : Fin 8) (j : Fin 64) (g : Fin 8) : number (ix4 n j g 0) = BitVec.ofNat 32 (64 * j.val + 8 * n.val + g.val) := by
  unfold number
  pointwise
  show BitVec.ofNat 32 8 * BitVec.ofNat 32 n.val + BitVec.ofNat 32 g.val + BitVec.ofNat 32 64 * BitVec.ofNat 32 j.val = _
  rw [← BitVec.ofNat_mul, ← BitVec.ofNat_mul, ← BitVec.ofNat_add, ← BitVec.ofNat_add]
  congr 1
  omega

theorem stepAngles_apply (n : Fin 8) (j : Fin 64) (g : Fin 8) (q : Fin 64) :
    stepAngles (F := Ideal) (ix4 n j g q) = ((Turns.angle 4096 ((64 * j.val + 8 * n.val + g.val) * q.val % 4096) : ℝ) : EReal) := by
  unfold stepAngles
  generalize hs : parts = s
  generalize ht : turn (F := Ideal) = t
  pointwise
  subst ht
  have h : s (ix4 n j g q) = IntOp.remsi .host (BitVec.ofNat 32 (64 * j.val + 8 * n.val + g.val) * BitVec.ofNat 32 q.val) (BitVec.ofNat 32 4096) := by
    subst hs
    rw [← number_apply]
    unfold parts
    generalize number = k
    pointwise
    rfl
  have hkt : (64 * j.val + 8 * n.val + g.val) * q.val < 2 ^ 31 :=
    lt_of_le_of_lt (Nat.mul_le_mul (by omega : 64 * j.val + 8 * n.val + g.val ≤ 4095) (by omega : q.val ≤ 63)) (by norm_num)
  show Ideal.div (turn (F := Ideal) _ * (((s (ix4 n j g q)).toInt : ℝ) : EReal)) (Ideal.ofBits .f32 0x45800000#32) = _
  rw [h, Turns.rem_toInt _ _ _ hkt (by norm_num) (by norm_num), Int.cast_natCast, turn_apply, Turns.bits_4096]
  exact_mod_cast Turns.angle_eq 4096 _ (by norm_num)

theorem same_apply : ∀ g h : Fin 8, same (F := Ideal) (ix2 g h) = (((if g = h then 1 else 0 : ℝ)) : EReal) := by
  intro g h
  unfold same
  pointwise
  show ((((IntOp.cmpi .eq (BitVec.ofNat 32 g.val) (BitVec.ofNat 32 h.val)).toNat : ℕ) : ℝ) : EReal) = _
  have e : IntOp.cmpi .eq (BitVec.ofNat 32 g.val) (BitVec.ofNat 32 h.val) = if g = h then 1#1 else 0#1 := by
    revert g h
    decide
  rw [e]
  split <;> simp

theorem spread_apply (e : FVec Ideal S8x64x8x64 .f32) (d : FVec Ideal S8x8 .f32) (n : Fin 8) (j : Fin 64) (g h : Fin 8) (q : Fin 64) :
    spread e d (ix3 n ⟨8 * j.val + g.val, by omega⟩ ⟨64 * h.val + q.val, by omega⟩) = e (ix4 n j g q) * d (ix2 g h) * ((1 / 64 : ℝ) : EReal) := by
  rw [← Turns.bits_sixty_fourth]
  unfold spread
  pointwise

/-! ## The rotation -/

section Turns
variable (j r : Fin 64)

theorem turns_apply (e : FVec Ideal S64x64 .f32) :
    turns e (ix2 ⟨j.val, by omega⟩ ⟨r.val, by omega⟩) = Ideal.cos (e (ix2 j r))
    ∧ turns e (ix2 ⟨j.val, by omega⟩ ⟨64 + r.val, by omega⟩) = Ideal.sin (e (ix2 j r))
    ∧ turns e (ix2 ⟨64 + j.val, by omega⟩ ⟨r.val, by omega⟩) = -Ideal.sin (e (ix2 j r))
    ∧ turns e (ix2 ⟨64 + j.val, by omega⟩ ⟨64 + r.val, by omega⟩) = Ideal.cos (e (ix2 j r)) := by
  have hj := j.isLt
  have hr := r.isLt
  refine ⟨?_, ?_, ?_, ?_⟩ <;> unfold turns <;> pointwise

end Turns

end Cert.FourierIdeal.Rows

end
-- ==== Proof.FourierSums.lean ====
/- The transform of 4096 numbers in two steps of 64. -/
module

public import proofs.«01_k».proof.Proof.FourierAngle

@[expose] public section

noncomputable section

namespace Cert.Turns

/-- Position `64 r + q`. -/
def spot (r q : Fin 64) : Fin 4096 := ⟨64 * r.val + q.val, by omega⟩

theorem sum_spots {M : Type} [AddCommMonoid M] (f : Fin 4096 → M) : ∑ t, f t = ∑ q : Fin 64, ∑ r : Fin 64, f (spot r q) := by
  rw [Finset.sum_comm, ← Fintype.sum_prod_type', ← Equiv.sum_comp (finProdFinEquiv (m := 64) (n := 64))]
  refine Finset.sum_congr rfl fun x _ => congrArg f (Fin.ext ?_)
  show x.2.val + 64 * x.1.val = 64 * x.1.val + x.2.val
  omega

theorem sum_groups {M : Type} [AddCommMonoid M] (f : Fin 512 → M) :
    ∑ u, f u = ∑ h : Fin 8, ∑ q : Fin 64, f ⟨64 * h.val + q.val, by omega⟩ := by
  rw [← Fintype.sum_prod_type', ← Equiv.sum_comp (finProdFinEquiv (m := 8) (n := 64))]
  refine Finset.sum_congr rfl fun x _ => congrArg f (Fin.ext ?_)
  show x.2.val + 64 * x.1.val = 64 * x.1.val + x.2.val
  omega

theorem angle_split (k r q : ℕ) : angle 4096 (k * (64 * r + q)) = angle 64 (k * r) + angle 4096 (k * q) := by
  unfold angle
  push_cast
  ring

theorem mod_row (i j r : ℕ) : (64 * i + j) * r % 64 = j * r % 64 := by
  rw [Nat.mul_mod, Nat.mul_add_mod, ← Nat.mul_mod]

theorem cos_row (i j r : ℕ) : Real.cos (angle 64 ((64 * i + j) * r)) = Real.cos (angle 64 (j * r)) := by
  rw [← cos_mod 64 ((64 * i + j) * r) (by norm_num), mod_row, cos_mod 64 _ (by norm_num)]

theorem sin_row (i j r : ℕ) : Real.sin (angle 64 ((64 * i + j) * r)) = Real.sin (angle 64 (j * r)) := by
  rw [← sin_mod 64 ((64 * i + j) * r) (by norm_num), mod_row, sin_mod 64 _ (by norm_num)]

/-- The first step's two parts at row `j` of column `q`. -/
def firstRe (z y : Fin 4096 → ℝ) (q : Fin 64) (j : ℕ) : ℝ :=
  (∑ r : Fin 64, Real.cos (angle 64 (j * r.val)) * z (spot r q)) + ∑ r : Fin 64, Real.sin (angle 64 (j * r.val)) * y (spot r q)
def firstIm (z y : Fin 4096 → ℝ) (q : Fin 64) (j : ℕ) : ℝ :=
  (∑ r : Fin 64, -Real.sin (angle 64 (j * r.val)) * z (spot r q)) + ∑ r : Fin 64, Real.cos (angle 64 (j * r.val)) * y (spot r q)

/-- The two steps give the transform. -/
theorem two_steps (z y : Fin 4096 → ℝ) (i j : ℕ) :
    (∑ q : Fin 64, Real.cos (angle 4096 ((64 * i + j) * q.val)) * (1 / 64) * firstRe z y q j)
      + ∑ q : Fin 64, Real.sin (angle 4096 ((64 * i + j) * q.val)) * (1 / 64) * firstIm z y q j
    = (∑ t : Fin 4096, z t * (Real.cos (angle 4096 ((64 * i + j) * t.val)) * (1 / 64)))
      + ∑ t : Fin 4096, y t * (Real.sin (angle 4096 ((64 * i + j) * t.val)) * (1 / 64)) := by
  rw [sum_spots, sum_spots, ← Finset.sum_add_distrib, ← Finset.sum_add_distrib]
  refine Finset.sum_congr rfl fun q _ => ?_
  unfold firstRe firstIm
  simp only [mul_add, Finset.mul_sum, ← Finset.sum_add_distrib]
  refine Finset.sum_congr rfl fun r _ => ?_
  have e : angle 4096 ((64 * i + j) * (spot r q).val) = angle 64 ((64 * i + j) * r.val) + angle 4096 ((64 * i + j) * q.val) := angle_split _ _ _
  simp only [e, Real.cos_add, Real.sin_add, cos_row, sin_row]
  ring

/-- The groups that are not the row's own add nothing. -/
theorem own_group (v : ℕ → ℝ) (a : Fin 64 → ℕ → ℝ) (n g : Fin 8) :
    (∑ h : Fin 8, ∑ q : Fin 64, v q.val * (if g = h then 1 else 0) * (1 / 64) * a q (8 * n.val + h.val))
      = ∑ q : Fin 64, v q.val * (1 / 64) * a q (8 * n.val + g.val) := by
  rw [Finset.sum_eq_single g (fun h _ hg => ?_) (fun hg => absurd (Finset.mem_univ g) hg)]
  · simp
  · simp [Ne.symm hg]

end Cert.Turns

end
-- ==== Proof.FourierReference.lean ====
/- The reference's Fourier transform of the latent rows, element by element. -/
module

public import proofs.«01_k».proof.Proof.Gen.FourierReferenceIdeal.Run
public import proofs.«01_k».proof.Proof.FourierAngle

@[expose] public section

noncomputable section

namespace Cert.FourierReferenceIdeal.Rows

open Cert.FourierReferenceIdeal Cert.FourierReferenceIdeal.Gen Idealize.ShloMosaic Idealize.ShloMosaic.TcCoe Idealize.SL.Sem

section Def
variable {F : FTy → Type} [FloatOps F]

/-- The samples: 64 of each 72 rows hold numbers. -/
def samples (z : FVec F S19584x256 .f32) : FVec F S4x4096x256 .f32 :=
  shapeCast S4x4096x256 (extractStridedSlice S256x64x256 ![0, 0, 0] (shapeCast S272x72x256 z shapeCasts_S19584x256_S272x72x256)
    slices_S272x72x256_S256x64x256_0_0_0) shapeCasts_S256x64x256_S4x4096x256

/-- The positions. -/
def positions : FVec F S4096 .f32 := sitofp .f32 (iotaInDim S4096 32 0)

/-- The angles of the transform. -/
def angles : FVec F S4096x4096 .f32 :=
  Host.divf (mulf (broadcastInDim S4096x4096 ![] bcast_S_S4096x4096 (id (mulf (constant S_ .f32 0x40000000#32)
      (Host.atan2 (constant S_ .f32 0x00000000#32) (constant S_ .f32 0xBF800000#32)))))
    (mulf (broadcastInDim S4096x4096 ![0, 1] bcast_S4096x1_S4096x4096_0_1 (broadcastInDim S4096x1 ![0] bcast_S4096_S4096x1_0 positions))
      (broadcastInDim S4096x4096 ![0, 1] bcast_S1x4096_S4096x4096_0_1 (broadcastInDim S1x4096 ![1] bcast_S4096_S1x4096_1 positions))))
    (broadcastInDim S4096x4096 ![] bcast_S_S4096x4096 (constant S_ .f32 0x45800000#32))

/-- A table, a sixty-fourth of its entries. -/
def scaled (t : FVec F S4096x4096 .f32) : FVec F S4096x4096 .f32 :=
  mulf t (broadcastInDim S4096x4096 ![] bcast_S_S4096x4096 (constant S_ .f32 0x3C800000#32))

/-- A table's product with the samples. -/
def product (z : FVec F S4x4096x256 .f32) (t : FVec F S4096x4096 .f32) : FVec F S4x4096x256 .f32 :=
  transpose S4x4096x256 [0, 2, 1] (Host.dotGeneral dot_S4x4096x256_S4096x4096_S4x256x4096_1_1_02_0_n_n none z t) transposes_S4x256x4096_S4x4096x256_0_2_1

/-- The samples' transforms, in eights of rows, over zeros. -/
def stack (o : FVec F S4x4096x256 .f32) : FVec F S272x8x8x256 .f32 :=
  concatenate S272x8x8x256 0 [⟨S256x8x8x256, (shapeCast S256x8x8x256 o shapeCasts_S4x4096x256_S256x8x8x256)⟩,
    ⟨S16x8x8x256, (broadcastInDim S16x8x8x256 ![] bcast_S_S16x8x8x256 (constant S_ .f32 0x00000000#32) : FVec F S16x8x8x256 .f32)⟩]
    concatenates_S256x8x8x256_S16x8x8x256_S272x8x8x256_d0

/-- The reference's transform. -/
def transform (re im : FVec F S19584x256 .f32) : FVec F S272x8x8x256 .f32 :=
  stack (addf (product (samples re) (scaled (Host.cos angles))) (product (samples im) (scaled (Host.sin angles))))

end Def

/-- The row of the padded array that holds position `t` of sample `b`. -/
def paddedRow (b : Fin 4) (t : Fin 4096) : Fin 19584 := ⟨72 * (64 * b.val + t.val / 64) + t.val % 64, by omega⟩

theorem samples_apply (z : FVec Ideal S19584x256 .f32) (b : Fin 4) (t : Fin 4096) (w : Fin 256) : samples z (ix3 b t w) = z (ix2 (paddedRow b t) w) := by
  unfold samples
  pointwise
  refine congrArg (fun r => z (ix2 r w)) (Fin.ext ?_)
  show (b.val * 64 + t.val / 64) * 72 + t.val % 64 = 72 * (64 * b.val + t.val / 64) + t.val % 64
  omega

theorem positions_apply (t : Fin 4096) : positions (F := Ideal) (ix1 t) = ((t.val : ℝ) : EReal) := by
  unfold positions
  pointwise
  show (((BitVec.ofNat 32 t.val).toInt : ℝ) : EReal) = _
  rw [Turns.toInt_ofNat _ (by omega), Int.cast_natCast]

theorem angles_apply (k t : Fin 4096) : angles (F := Ideal) (ix2 k t) = ((Turns.angle 4096 (k.val * t.val) : ℝ) : EReal) := by
  have hk := positions_apply k
  have ht := positions_apply t
  unfold angles
  generalize positions (F := Ideal) = p at hk ht ⊢
  pointwise
  show Ideal.div (Ideal.ofBits .f32 0x40000000#32 * Ideal.atan2 (Ideal.ofBits .f32 0x00000000#32) (Ideal.ofBits .f32 0xBF800000#32)
    * (p (ix1 k) * p (ix1 t))) (Ideal.ofBits .f32 0x45800000#32) = _
  rw [Turns.full_turn, hk, ht, Turns.bits_4096, ← EReal.coe_mul, ← Nat.cast_mul]
  exact_mod_cast Turns.angle_eq 4096 (k.val * t.val) (by norm_num)

/-- A table's entry, over sixty-four. -/
theorem scaled_apply (e : FVec Ideal S4096x4096 .f32) (i : S4096x4096.Idx) : scaled e i = e i * ((1 / 64 : ℝ) : EReal) := by
  rw [← Turns.bits_sixty_fourth]
  rfl

theorem product_apply (z : FVec Ideal S4x4096x256 .f32) (e : FVec Ideal S4096x4096 .f32) (b : Fin 4) (k : Fin 4096) (w : Fin 256) :
    product z e (ix3 b k w) = ∑ t, z (ix3 b t w) * e (ix2 k t) := by
  unfold product
  pointwise

theorem stack_apply (o : FVec Ideal S4x4096x256 .f32) (b : Fin 4) (j : Fin 64) (g h : Fin 8) (w : Fin 256) :
    stack o (ix4 ⟨64 * b.val + j.val, by omega⟩ g h w) = o (ix3 b ⟨64 * j.val + 8 * g.val + h.val, by omega⟩ w) := by
  unfold stack
  pointwise
  rw [dif_pos (by omega)]
  exact congrArg (fun q => o (ix3 b q w))
    (Fin.ext (by show (64 * b.val + j.val) % 64 * 64 + g.val * 8 + h.val = 64 * j.val + 8 * g.val + h.val; omega))

/-- A latent position's row is a filled row of the latent samples. -/
theorem paddedRow_latent (b : Fin 4) (t : Fin 4096) : (paddedRow b t).val < 18432 ∧ (paddedRow b t).val % 72 < 64 := by
  unfold paddedRow
  constructor
  · show 72 * (64 * b.val + t.val / 64) + t.val % 64 < 18432
    omega
  · show (72 * (64 * b.val + t.val / 64) + t.val % 64) % 72 < 64
    omega

/-- One element of the transform of a sample, from the numbers of its positions. -/
def element (re im : Fin 4096 → EReal) (k : Fin 4096) : EReal :=
  (∑ t : Fin 4096, re t * ((Real.cos (Turns.angle 4096 (k.val * t.val)) * (1 / 64) : ℝ) : EReal))
    + ∑ t : Fin 4096, im t * ((Real.sin (Turns.angle 4096 (k.val * t.val)) * (1 / 64) : ℝ) : EReal)

theorem transform_apply (re im : FVec Ideal S19584x256 .f32) (b : Fin 4) (j : Fin 64) (g h : Fin 8) (w : Fin 256) :
    transform re im (ix4 ⟨64 * b.val + j.val, by omega⟩ g h w)
      = element (fun t => re (ix2 (paddedRow b t) w)) (fun t => im (ix2 (paddedRow b t) w)) ⟨64 * j.val + 8 * g.val + h.val, by omega⟩ := by
  have hc (k t : Fin 4096) : Host.cos (angles (F := Ideal)) (ix2 k t) = ((Real.cos (Turns.angle 4096 (k.val * t.val)) : ℝ) : EReal) :=
    congrArg Ideal.cos (angles_apply k t)
  have hs (k t : Fin 4096) : Host.sin (angles (F := Ideal)) (ix2 k t) = ((Real.sin (Turns.angle 4096 (k.val * t.val)) : ℝ) : EReal) :=
    congrArg Ideal.sin (angles_apply k t)
  rw [transform, stack_apply]
  show product _ _ _ + product _ _ _ = _
  rw [product_apply, product_apply]
  simp only [samples_apply, scaled_apply, hc, hs, ← EReal.coe_mul]
  rfl

end Cert.FourierReferenceIdeal.Rows

end
-- ==== Proof.FourierFinal.lean ====
/- The array that the latent Fourier transform leaves: on the latent rows, the reference's. -/
module

public import proofs.«01_k».proof.Proof.FourierValue
public import proofs.«01_k».proof.Proof.FourierTables
public import proofs.«01_k».proof.Proof.FourierSums
public import proofs.«01_k».proof.Proof.FourierReference
public import proofs.«01_k».proof.Proof.Softmax

@[expose] public section

noncomputable section

namespace Cert.FourierIdeal.Rows

open Cert.FourierIdeal Cert.FourierIdeal.Gen Idealize.ShloMosaic Idealize.ShloMosaic.TcCoe Idealize.SL.Sem
open Cert.FourierReferenceIdeal.Rows (paddedRow element transform transform_apply)
open Cert.Turns (spot firstRe firstIm angle)

variable (m : (ℓ : Loc nD τ sig) → Buf (Elt Ideal) ℓ) (c : Dev nD)

/-- The real and imaginary parts given. -/
abbrev Re : FVec Ideal S19584x256 .f32 := m ((c : Thread nD τ).loc main_arg0)
abbrev Im : FVec Ideal S19584x256 .f32 := m ((c : Thread nD τ).loc main_arg1)

/-- The sample of a grid point. -/
def sampleOf (t : Fin cfg0.N) : Fin 4 := ⟨t.val, t.isLt⟩

theorem idx (t : Fin cfg0.N) : win0_0.index t = ![t.val, 0] ∧ win0_1.index t = ![t.val, 1] ∧ win0_2.index t = ![t.val, 0] ∧ win0_3.index t = ![t.val, 1]
    ∧ win0_4.index t = ![0, 0] ∧ win0_5.index t = ![0, 0, 0] ∧ win0_6.index t = ![0, 0, 0] ∧ win0_7.index t = ![t.val, 0, 0, 0] := by
  revert t; decide +kernel

/-! ## The blocks -/

theorem re_low (t : Fin cfg0.N) (r q : Fin 64) (w : Fin 128) :
    X0_0 m c t (ix2 ⟨72 * r.val + q.val, by omega⟩ w) = Re m c (ix2 (paddedRow (sampleOf t) (spot r q)) ⟨w.val, by omega⟩) := by
  unfold X0_0 Pipeline.Window.fill
  rw [dif_pos (moved0_0 t _)]
  blk_simp [iblk]
  entry_read
  unfold sampleOf paddedRow spot
  blk_ext [idx t]

theorem re_high (t : Fin cfg0.N) (r q : Fin 64) (w : Fin 128) :
    X0_1 m c t (ix2 ⟨72 * r.val + q.val, by omega⟩ w) = Re m c (ix2 (paddedRow (sampleOf t) (spot r q)) ⟨128 + w.val, by omega⟩) := by
  unfold X0_1 Pipeline.Window.fill
  rw [dif_pos (moved0_1 t _)]
  blk_simp [iblk]
  entry_read
  unfold sampleOf paddedRow spot
  blk_ext [idx t]

theorem im_low (t : Fin cfg0.N) (r q : Fin 64) (w : Fin 128) :
    X0_2 m c t (ix2 ⟨72 * r.val + q.val, by omega⟩ w) = Im m c (ix2 (paddedRow (sampleOf t) (spot r q)) ⟨w.val, by omega⟩) := by
  unfold X0_2 Pipeline.Window.fill
  rw [dif_pos (moved0_2 t _)]
  blk_simp [iblk]
  entry_read
  unfold sampleOf paddedRow spot
  blk_ext [idx t]

theorem im_high (t : Fin cfg0.N) (r q : Fin 64) (w : Fin 128) :
    X0_3 m c t (ix2 ⟨72 * r.val + q.val, by omega⟩ w) = Im m c (ix2 (paddedRow (sampleOf t) (spot r q)) ⟨128 + w.val, by omega⟩) := by
  unfold X0_3 Pipeline.Window.fill
  rw [dif_pos (moved0_3 t _)]
  blk_simp [iblk]
  entry_read
  unfold sampleOf paddedRow spot
  blk_ext [idx t]

theorem turns_block (t : Fin cfg0.N) (j r : Fin 128) : iblk m c 4 t (ix2 j r) = turns (rowAngles (F := Ideal)) (ix2 j r) := by
  rw [← turns_entry m c]
  blk_simp [iblk]
  blk_ext [idx t]

theorem cos_block (t : Fin cfg0.N) (n : Fin 8) (s u : Fin 512) :
    iblk m c 5 t (ix3 n s u) = spread (Host.cos (stepAngles (F := Ideal))) same (ix3 n s u) := by
  rw [← cos_entry m c]
  blk_simp [iblk]
  blk_ext [idx t]

theorem sin_block (t : Fin cfg0.N) (n : Fin 8) (s u : Fin 512) :
    iblk m c 6 t (ix3 n s u) = spread (Host.sin (stepAngles (F := Ideal))) same (ix3 n s u) := by
  rw [← sin_entry m c]
  blk_simp [iblk]
  blk_ext [idx t]

/-- A pair of halves of a row is the row. -/
theorem half_row (f : Fin 256 → EReal) (w : Fin 256) : half (fun v => f ⟨v.val, by omega⟩) (fun v => f ⟨128 + v.val, by omega⟩) w = f w := by
  unfold half
  split
  · rfl
  · exact congrArg f (Fin.ext (show 128 + (w.val - 128) = w.val by omega))

/-! ## The first step, on real numbers -/

/-- The numbers of a sample's column, as real numbers. -/
def realRe (b : Fin 4) (w : Fin 256) (t : Fin 4096) : ℝ := (Re m c (ix2 (paddedRow b t) w)).toReal
def realIm (b : Fin 4) (w : Fin 256) (t : Fin 4096) : ℝ := (Im m c (ix2 (paddedRow b t) w)).toReal

/-- The latent positions hold real numbers. -/
def Finite : Prop := ∀ (b : Fin 4) (t : Fin 4096) (w : Fin 256),
  Re m c (ix2 (paddedRow b t) w) = ((realRe m c b w t : ℝ) : EReal) ∧ Im m c (ix2 (paddedRow b t) w) = ((realIm m c b w t : ℝ) : EReal)

/-- The first step of a grid point on column `q`. -/
abbrev firstOf (t : Fin cfg0.N) (q : Fin 64) : FVec Ideal S128x256 .f32 :=
  k0_pay3 (rotation (ms0_4 t) (hs0_4 t) (iblk m c 4 t)) (column (ms0_0 t) (hs0_0 t) (X0_0 m c t) q) (column (ms0_1 t) (hs0_1 t) (X0_1 m c t) q)
    (column (ms0_2 t) (hs0_2 t) (X0_2 m c t) q) (column (ms0_3 t) (hs0_3 t) (X0_3 m c t) q)

theorem firstOf_sums (t : Fin cfg0.N) (q : Fin 64) (j : Fin 128) (w : Fin 256) :
    firstOf m c t q (ix2 j w)
      = (∑ r : Fin 64, turns (rowAngles (F := Ideal)) (ix2 j ⟨r.val, by omega⟩) * Re m c (ix2 (paddedRow (sampleOf t) (spot r q)) w))
        + ∑ r : Fin 64, turns (rowAngles (F := Ideal)) (ix2 j ⟨64 + r.val, by omega⟩) * Im m c (ix2 (paddedRow (sampleOf t) (spot r q)) w) := by
  unfold firstOf
  rw [first_apply]
  simp only [column_apply, rotation_apply, re_low, re_high, im_low, im_high, turns_block]
  have e1 (r : Fin 64) := half_row (fun v => Re m c (ix2 (paddedRow (sampleOf t) (spot r q)) v)) w
  have e2 (r : Fin 64) := half_row (fun v => Im m c (ix2 (paddedRow (sampleOf t) (spot r q)) v)) w
  simp only [e1, e2]

variable {m c} (hf : Finite m c)
include hf

theorem firstOf_re (t : Fin cfg0.N) (q j : Fin 64) (w : Fin 256) : firstOf m c t q (ix2 ⟨j.val, by omega⟩ w)
    = ((firstRe (realRe m c (sampleOf t) w) (realIm m c (sampleOf t) w) q j.val : ℝ) : EReal) := by
  have h1 (r : Fin 64) : turns (rowAngles (F := Ideal)) (ix2 ⟨j.val, by omega⟩ ⟨r.val, by omega⟩) = ((Real.cos (angle 64 (j.val * r.val)) : ℝ) : EReal) :=
    (turns_apply j r _).1.trans (congrArg Ideal.cos (rowAngles_apply j r))
  have h2 (r : Fin 64) : turns (rowAngles (F := Ideal)) (ix2 ⟨j.val, by omega⟩ ⟨64 + r.val, by omega⟩) = ((Real.sin (angle 64 (j.val * r.val)) : ℝ) : EReal) :=
    (turns_apply j r _).2.1.trans (congrArg Ideal.sin (rowAngles_apply j r))
  rw [firstOf_sums]
  simp only [h1, h2, (hf _ _ _).1, (hf _ _ _).2, ← EReal.coe_mul, Softmax.coe_sum, ← EReal.coe_add]
  rfl

theorem firstOf_im (t : Fin cfg0.N) (q j : Fin 64) (w : Fin 256) : firstOf m c t q (ix2 ⟨64 + j.val, by omega⟩ w)
    = ((firstIm (realRe m c (sampleOf t) w) (realIm m c (sampleOf t) w) q j.val : ℝ) : EReal) := by
  have h1 (r : Fin 64) : turns (rowAngles (F := Ideal)) (ix2 ⟨64 + j.val, by omega⟩ ⟨r.val, by omega⟩) = ((-Real.sin (angle 64 (j.val * r.val)) : ℝ) : EReal) :=
    (turns_apply j r _).2.2.1.trans (congrArg (fun x => -Ideal.sin x) (rowAngles_apply j r))
  have h2 (r : Fin 64) : turns (rowAngles (F := Ideal)) (ix2 ⟨64 + j.val, by omega⟩ ⟨64 + r.val, by omega⟩) = ((Real.cos (angle 64 (j.val * r.val)) : ℝ) : EReal) :=
    (turns_apply j r _).2.2.2.trans (congrArg Ideal.cos (rowAngles_apply j r))
  rw [firstOf_sums]
  simp only [h1, h2, (hf _ _ _).1, (hf _ _ _).2, ← EReal.coe_mul, Softmax.coe_sum, ← EReal.coe_add]
  rfl

omit hf in
theorem wide_apply (a b : Fin 64 → Vec Ideal S64x128 .f32) (n h : Fin 8) (q : Fin 64) (w : Fin 256) :
    wide a b n h (ix2 q w) = half (fun v => a ⟨8 * n.val + h.val, by omega⟩ (ix2 q v)) (fun v => b ⟨8 * n.val + h.val, by omega⟩ (ix2 q v)) w :=
  halves_apply _ _ _ _

theorem reRow_apply (t : Fin cfg0.N) (arg9 arg10 : Memref sig .tc .vmem S4608x128 .f32) (n h : Fin 8) (q : Fin 64) (w : Fin 256) :
    reRow (ms0_0 t) (hs0_0 t) (ms0_1 t) (hs0_1 t) (ms0_2 t) (hs0_2 t) (ms0_3 t) (hs0_3 t) (ms0_4 t) (hs0_4 t) arg9 arg10
      (X0_0 m c t) (X0_1 m c t) (X0_2 m c t) (X0_3 m c t) (iblk m c 4 t) n h (ix2 q w)
    = ((firstRe (realRe m c (sampleOf t) w) (realIm m c (sampleOf t) w) q (8 * n.val + h.val) : ℝ) : EReal) := by
  unfold reRow
  rw [wide_apply]
  simp only [back_apply]
  unfold reLo reHi
  simp only [pay6_apply, pay7_apply]
  exact (half_row (fun v => firstOf m c t q (ix2 ⟨8 * n.val + h.val, by omega⟩ v)) w).trans (firstOf_re hf t q ⟨8 * n.val + h.val, by omega⟩ w)

theorem imRow_apply (t : Fin cfg0.N) (arg11 arg12 : Memref sig .tc .vmem S4608x128 .f32) (n h : Fin 8) (q : Fin 64) (w : Fin 256) :
    imRow (ms0_0 t) (hs0_0 t) (ms0_1 t) (hs0_1 t) (ms0_2 t) (hs0_2 t) (ms0_3 t) (hs0_3 t) (ms0_4 t) (hs0_4 t) arg11 arg12
      (X0_0 m c t) (X0_1 m c t) (X0_2 m c t) (X0_3 m c t) (iblk m c 4 t) n h (ix2 q w)
    = ((firstIm (realRe m c (sampleOf t) w) (realIm m c (sampleOf t) w) q (8 * n.val + h.val) : ℝ) : EReal) := by
  unfold imRow
  rw [wide_apply]
  simp only [back_apply]
  unfold imLo imHi
  simp only [pay8_apply, pay9_apply]
  exact (half_row (fun v => firstOf m c t q (ix2 ⟨64 + (8 * n.val + h.val), by omega⟩ v)) w).trans (firstOf_im hf t q ⟨8 * n.val + h.val, by omega⟩ w)

/-! ## The second step -/

omit hf in
/-- A plane of a spread table times eight rows of real numbers. -/
theorem turned_real (x : Vec Ideal S8x512x512 .bf16) (arg : Memref sig .tc .vmem S8x512x512 .bf16) (harg : arg.IsWhole) (n g : Fin 8) (j : Fin 64) (w : Fin 256)
    (v : ℕ → ℝ) (a : Fin 64 → ℕ → ℝ) (p : Fin 8 → FVec Ideal S64x256 .f32)
    (hx : ∀ (h : Fin 8) (q : Fin 64), x (ix3 n ⟨8 * j.val + g.val, by omega⟩ ⟨64 * h.val + q.val, by omega⟩)
      = ((v q.val * (if g = h then 1 else 0) * (1 / 64) : ℝ) : EReal))
    (hp : ∀ (h : Fin 8) (q : Fin 64), p h (ix2 q w) = ((a q (8 * n.val + h.val) : ℝ) : EReal)) :
    turned (plane arg harg x n) (group p) (ix2 ⟨8 * j.val + g.val, by omega⟩ w)
      = ((∑ q : Fin 64, v q.val * (1 / 64) * a q (8 * n.val + g.val) : ℝ) : EReal) := by
  rw [turned_apply, Turns.sum_groups, ← Turns.own_group]
  simp only [plane_apply, hx, group_apply]
  have e (h : Fin 8) (q : Fin 64) : p ⟨(64 * h.val + q.val) / 64, by omega⟩ (ix2 ⟨(64 * h.val + q.val) % 64, by omega⟩ w)
      = ((a q (8 * n.val + h.val) : ℝ) : EReal) := by
    rw [← hp h q]
    exact congrArg₂ (fun (x : Fin 8) (y : Fin 64) => p x (ix2 y w)) (Fin.ext (show (64 * h.val + q.val) / 64 = h.val by omega))
      (Fin.ext (show (64 * h.val + q.val) % 64 = q.val by omega))
  simp only [e, ← EReal.coe_mul, Softmax.coe_sum]

omit hf in
theorem cos_table (t : Fin cfg0.N) (n g h : Fin 8) (j q : Fin 64) :
    iblk m c 5 t (ix3 n ⟨8 * j.val + g.val, by omega⟩ ⟨64 * h.val + q.val, by omega⟩)
      = ((Real.cos (angle 4096 ((64 * j.val + (8 * n.val + g.val)) * q.val)) * (if g = h then 1 else 0) * (1 / 64) : ℝ) : EReal) := by
  have e : Host.cos (stepAngles (F := Ideal)) (ix4 n j g q) = ((Real.cos (angle 4096 ((64 * j.val + 8 * n.val + g.val) * q.val % 4096)) : ℝ) : EReal) :=
    congrArg Ideal.cos (stepAngles_apply n j g q)
  rw [cos_block, spread_apply, e, same_apply, Turns.cos_mod _ _ (by norm_num), ← EReal.coe_mul, ← EReal.coe_mul, Nat.add_assoc]

omit hf in
theorem sin_table (t : Fin cfg0.N) (n g h : Fin 8) (j q : Fin 64) :
    iblk m c 6 t (ix3 n ⟨8 * j.val + g.val, by omega⟩ ⟨64 * h.val + q.val, by omega⟩)
      = ((Real.sin (angle 4096 ((64 * j.val + (8 * n.val + g.val)) * q.val)) * (if g = h then 1 else 0) * (1 / 64) : ℝ) : EReal) := by
  have e : Host.sin (stepAngles (F := Ideal)) (ix4 n j g q) = ((Real.sin (angle 4096 ((64 * j.val + 8 * n.val + g.val) * q.val % 4096)) : ℝ) : EReal) :=
    congrArg Ideal.sin (stepAngles_apply n j g q)
  rw [sin_block, spread_apply, e, same_apply, Turns.sin_mod _ _ (by norm_num), ← EReal.coe_mul, ← EReal.coe_mul, Nat.add_assoc]

variable (m c) in
omit hf in
/-- The transform of sample `b` at step `k`, column `w`. -/
def transformed (b : Fin 4) (k : Fin 4096) (w : Fin 256) : EReal :=
  element (fun t => Re m c (ix2 (paddedRow b t) w)) (fun t => Im m c (ix2 (paddedRow b t) w)) k

variable (m c) in
/-- What a grid point computes for the steps with second index `n`. -/
abbrev stepsOf (t : Fin cfg0.N) (n : Fin 8) : FVec Ideal S512x256 .f32 :=
  steps (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 scM0_1 scM0_2 scM0_3 (X0_0 m c t) (X0_1 m c t) (X0_2 m c t) (X0_3 m c t) (iblk m c 4 t) (iblk m c 5 t) (iblk m c 6 t) n

theorem steps_apply (t : Fin cfg0.N) (n g : Fin 8) (j : Fin 64) (w : Fin 256) :
    stepsOf m c t n (ix2 ⟨8 * j.val + g.val, by omega⟩ w) = transformed m c (sampleOf t) ⟨64 * j.val + 8 * n.val + g.val, by omega⟩ w := by
  have h1 := turned_real (iblk m c 5 t) (ms0_5 t) (hs0_5 t) n g j w
    (fun q => Real.cos (angle 4096 ((64 * j.val + (8 * n.val + g.val)) * q))) (firstRe (realRe m c (sampleOf t) w) (realIm m c (sampleOf t) w))
    (reRow (ms0_0 t) (hs0_0 t) (ms0_1 t) (hs0_1 t) (ms0_2 t) (hs0_2 t) (ms0_3 t) (hs0_3 t) (ms0_4 t) (hs0_4 t) scM0_0 scM0_1
      (X0_0 m c t) (X0_1 m c t) (X0_2 m c t) (X0_3 m c t) (iblk m c 4 t) n)
    (fun h q => cos_table t n g h j q) (fun h q => reRow_apply hf t scM0_0 scM0_1 n h q w)
  have h2 := turned_real (iblk m c 6 t) (ms0_6 t) (hs0_6 t) n g j w
    (fun q => Real.sin (angle 4096 ((64 * j.val + (8 * n.val + g.val)) * q))) (firstIm (realRe m c (sampleOf t) w) (realIm m c (sampleOf t) w))
    (imRow (ms0_0 t) (hs0_0 t) (ms0_1 t) (hs0_1 t) (ms0_2 t) (hs0_2 t) (ms0_3 t) (hs0_3 t) (ms0_4 t) (hs0_4 t) scM0_2 scM0_3
      (X0_0 m c t) (X0_1 m c t) (X0_2 m c t) (X0_3 m c t) (iblk m c 4 t) n)
    (fun h q => sin_table t n g h j q) (fun h q => imRow_apply hf t scM0_2 scM0_3 n h q w)
  refine (congrArg₂ (fun x y : EReal => x + y) h1 h2).trans ?_
  unfold transformed element
  simp only [(hf _ _ _).1, (hf _ _ _).2, ← EReal.coe_mul, Softmax.coe_sum, ← EReal.coe_add]
  refine congrArg _ ((Turns.two_steps _ _ j.val (8 * n.val + g.val)).trans ?_)
  simp only [Nat.add_assoc]

/-! ## The output -/

variable (m c) in
omit hf in
theorem block_steps (t : Fin cfg0.N) (j : Fin 64) (n g : Fin 8) (w : Fin 256) :
    outsAt0 m c t (ix4 j n g w) = stepsOf m c t n (ix2 ⟨8 * j.val + g.val, by omega⟩ w) := by
  unfold outsAt0 out0_A_7
  rw [View.read_writes_junk_eq_canon, pieces]
  have hm : ∀ n : Fin 8, n ∈ [7, 6, 5, 4, 3, 2, 1, (0 : Fin 8)] := by decide
  refine (View.canon_apply_of_pieces (Val := Elt Ideal) (fun y : S64x8x8x256.Idx =>
    stepsOf m c t ⟨(y 1).val, (y 1).isLt⟩ (ix2 ⟨8 * (y 0).val + (y 2).val, by
      have h0 : (y 0).val < 64 := (y 0).isLt
      have h2 : (y 2).val < 8 := (y 2).isLt
      omega⟩ ⟨(y 3).val, (y 3).isLt⟩)) _
    (fun p hp x => ?_) (ix4 j n g w) ⟨_, List.mem_map.mpr ⟨n, hm n, rfl⟩, ?_⟩).trans rfl
  · obtain ⟨k, -, rfl⟩ := List.mem_map.mp hp
    have h0 : (x 0).val < 64 := (x 0).isLt
    have h1 : (x 1).val < 1 := (x 1).isLt
    have h2 : (x 2).val < 8 := (x 2).isLt
    have h3 : (x 3).val < 256 := (x 3).isLt
    have hx : x = ix4 ⟨(x 0).val, h0⟩ 0 ⟨(x 2).val, h2⟩ ⟨(x 3).val, h3⟩ := by
      funext a
      fin_cases a
      · rfl
      · exact Fin.ext (show (x 1).val = 0 by omega)
      · rfl
      · rfl
    have e0 : ((stepRect k).emb x 0).val = (x 0).val := (show 0 + 1 * (x 0).val = (x 0).val by omega)
    have e1 : ((stepRect k).emb x 1).val = k.val := (show k.val + 1 * (x 1).val = k.val by omega)
    have e2 : ((stepRect k).emb x 2).val = (x 2).val := (show 0 + 1 * (x 2).val = (x 2).val by omega)
    have e3 : ((stepRect k).emb x 3).val = (x 3).val := (show 0 + 1 * (x 3).val = (x 3).val by omega)
    refine (congrArg (shaped (stepsOf m c t k)) hx).trans ((shaped_apply (stepsOf m c t k) _ _ _).trans ?_)
    refine (congr (congrArg (stepsOf m c t) ?_) ?_).symm
    · exact Fin.ext (show ((stepRect k).emb x 1).val = k.val from e1)
    · funext a
      fin_cases a
      · exact Fin.ext (show 8 * ((stepRect k).emb x 0).val + ((stepRect k).emb x 2).val = 8 * (x 0).val + (x 2).val by rw [e0, e2])
      · exact Fin.ext (show ((stepRect k).emb x 3).val = (x 3).val from e3)
  · refine (stepRect n).toLoadRect.mem_set.mpr fun a => ?_
    fin_cases a
    · exact ⟨j.val, j.isLt, (show j.val = 0 + 1 * j.val by omega)⟩
    · exact ⟨0, Nat.one_pos, (show n.val = n.val + 1 * 0 by omega)⟩
    · exact ⟨g.val, g.isLt, (show g.val = 0 + 1 * g.val by omega)⟩
    · exact ⟨w.val, w.isLt, (show w.val = 0 + 1 * w.val by omega)⟩

variable (m c) in
omit hf in
/-- The same, of the array's index: the row names the sample and the first part of the step. -/
def transformedAt (r n g : ℕ) (w : Fin 256) : EReal :=
  transformed m c ⟨r / 64 % 4, by omega⟩ ⟨(64 * (r % 64) + 8 * n + g) % 4096, by omega⟩ w

theorem block_at (t : Fin cfg0.N) (j : Fin 64) (n g : Fin 8) (w : Fin 256) :
    outsAt0 m c t (ix4 j n g w) = transformedAt m c (64 * t.val + j.val) n.val g.val w := by
  have ht : t.val < 4 := t.isLt
  rw [block_steps, steps_apply hf]
  unfold transformedAt sampleOf
  congr 1
  · exact Fin.ext (show t.val = (64 * t.val + j.val) / 64 % 4 by omega)
  · exact Fin.ext (show 64 * j.val + 8 * n.val + g.val = (64 * ((64 * t.val + j.val) % 64) + 8 * n.val + g.val) % 4096 by omega)

variable (m c) in
omit hf in
/-- The array's latent rows, over its indices. -/
def latentArray (i : S272x8x8x256.Idx) : EReal := transformedAt m c (i 0).val (i 1).val (i 2).val (i 3)

omit hf in
theorem cell0 (t : Fin cfg0.N) (y : ((cfg0.win 7).xblock (cfg0.grid.coords t)).Idx) : ((win0_7.blk t).view.emb y 0).val = 64 * t.val + (y 0).val := by
  blk_simp [idx t]
  try omega

omit hf in
theorem cell1 (t : Fin cfg0.N) (y : ((cfg0.win 7).xblock (cfg0.grid.coords t)).Idx) : ((win0_7.blk t).view.emb y 1).val = (y 1).val := by
  blk_simp [idx t]

omit hf in
theorem cell2 (t : Fin cfg0.N) (y : ((cfg0.win 7).xblock (cfg0.grid.coords t)).Idx) : ((win0_7.blk t).view.emb y 2).val = (y 2).val := by
  blk_simp [idx t]

omit hf in
theorem cell3 (t : Fin cfg0.N) (y : ((cfg0.win 7).xblock (cfg0.grid.coords t)).Idx) : ((win0_7.blk t).view.emb y 3).val = (y 3).val := by
  have h := (idx t).2.2.2.2.2.2.2
  have h3 : win0_7.index t 3 = 0 := congrFun h 3
  show win0_7.index t 3 * 256 + 1 * (y 3).val = (y 3).val
  rw [h3]
  omega

theorem four_array (i : S272x8x8x256.Idx) (hi : (i 0).val < 256) : (dats m 0 c).arrAt 7 cfg0.N i = latentArray m c i := by
  refine ((dats m 0 c).arrAt_apply_of_coversWhere 7 (latentArray m c) (P := fun i => (i 0).val / 64 < 4)
    (fun i => i 0 < 4) (by decide +kernel) (fun t _ y => ?_) (fun j => Iff.rfl) i).trans (if_pos (by omega))
  blk_simp
  rw [after0_7]
  have hz (z : S64x8x8x256.Idx) : z = ix4 (⟨(z 0).val, (z 0).isLt⟩ : Fin 64) (⟨(z 1).val, (z 1).isLt⟩ : Fin 8) (⟨(z 2).val, (z 2).isLt⟩ : Fin 8)
      (⟨(z 3).val, (z 3).isLt⟩ : Fin 256) := by
    funext a
    fin_cases a <;> rfl
  refine (congrArg (outsAt0 m c t) (hz _)).trans ((block_at hf t _ _ _ _).trans ?_)
  unfold latentArray
  have key (r r' n n' g g' : ℕ) (w w' : Fin 256) (hr : r = r') (hn : n = n') (hg : g = g') (hw : w.val = w'.val) :
      transformedAt m c r n g w = transformedAt m c r' n' g' w' := by
    obtain rfl := Fin.ext hw
    rw [hr, hn, hg]
  exact key _ _ _ _ _ _ _ _ (cell0 t y).symm (cell1 t y).symm (cell2 t y).symm (cell3 t y).symm

/-- On the latent rows the kernel's array is the reference's. -/
theorem four_same (re im : FVec Ideal S19584x256 .f32) (er : re = Re m c) (ei : im = Im m c) (i : S272x8x8x256.Idx) (hi : (i 0).val < 256) :
    (dats m 0 c).arrAt 7 cfg0.N i = transform re im i := by
  subst er ei
  rw [four_array hf i hi]
  obtain ⟨b, j, n, g, w, hw⟩ : ∃ (b : Fin 4) (j : Fin 64) (n g : Fin 8) (w : Fin 256), i = ix4 ⟨64 * b.val + j.val, by omega⟩ n g w :=
    ⟨⟨(i 0).val / 64, by omega⟩, ⟨(i 0).val % 64, by omega⟩, ⟨(i 1).val, (i 1).isLt⟩, ⟨(i 2).val, (i 2).isLt⟩, ⟨(i 3).val, (i 3).isLt⟩, by
      funext a
      fin_cases a
      · exact Fin.ext (show (i 0).val = 64 * ((i 0).val / 64) + (i 0).val % 64 by omega)
      · rfl
      · rfl
      · rfl⟩
  rw [hw]
  refine Eq.trans ?_ (transform_apply (Re m c) (Im m c) b j n g w).symm
  show transformed m c ⟨(64 * b.val + j.val) / 64 % 4, _⟩ ⟨(64 * ((64 * b.val + j.val) % 64) + 8 * n.val + g.val) % 4096, _⟩ w = transformed m c b _ w
  congr 1
  · exact Fin.ext (show (64 * b.val + j.val) / 64 % 4 = b.val by omega)
  · exact Fin.ext (show (64 * ((64 * b.val + j.val) % 64) + 8 * n.val + g.val) % 4096 = 64 * j.val + 8 * n.val + g.val by omega)

end Cert.FourierIdeal.Rows

end
-- ==== Proof.FourierContextBody.lean ====
/- What one grid point of the context's Fourier transform computes, and the tables that the host gives it. -/
module

public import proofs.«01_k».proof.Proof.Gen.FourierContextIdeal.Value
public import proofs.«01_k».proof.Proof.FourierAngle
public import Idealize.ShloMosaic.Lib.Pipeline.ValueKit

@[expose] public section

noncomputable section

namespace Cert.FourierContextIdeal.Rows

open Cert.FourierContextIdeal Cert.FourierContextIdeal.Gen Idealize.ShloMosaic Idealize.ShloMosaic.TcCoe Idealize.SL.Sem

section Def
variable {F : FTy → Type} [FloatOps F]

/-- The steps of the transform, in 256 parts of a turn. -/
def steps : IVec S256x256 32 :=
  Host.remsi (muli (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0))))
    (broadcastInDim S256x256 ![] bcast_S_S256x256 (constantI S_ 32 256#32))

/-- The angles of the transform. -/
def angles : FVec F S256x256 .f32 :=
  Host.divf (mulf (broadcastInDim S256x256 ![] bcast_S_S256x256 (id (mulf (constant S_ .f32 0x40000000#32)
      (Host.atan2 (constant S_ .f32 0x00000000#32) (constant S_ .f32 0xBF800000#32))))) (sitofp .f32 steps))
    (broadcastInDim S256x256 ![] bcast_S_S256x256 (constant S_ .f32 0x43800000#32))

/-- A table as the call takes it: a sixteenth of its entries. -/
def scaled (t : FVec F S256x256 .f32) : FVec F S256x256 .bf16 :=
  truncf .bf16 (mulf t (broadcastInDim S256x256 ![] bcast_S_S256x256 (constant S_ .f32 0x3D800000#32))) bitsLt_bf16_f32

variable (m : (ℓ : Loc nD τ sig) → Buf (Elt F) ℓ) (c : Dev nD)

theorem cos_entry : V m c main_v22 = scaled (Host.cos angles) := by
  show StableHlo.after hostOps0 (fun b => m (c, b)) main_v22 = _
  simp only [hostOps0]
  after_results <;> rfl

theorem sin_entry : V m c main_v23 = scaled (Host.sin angles) := by
  show StableHlo.after hostOps0 (fun b => m (c, b)) main_v23 = _
  simp only [hostOps0]
  after_results <;> rfl

end Def

theorem angles_apply (k t : Fin 256) : angles (F := Ideal) (ix2 k t) = ((Turns.angle 256 (k.val * t.val % 256) : ℝ) : EReal) := by
  unfold angles
  generalize hs : steps = s
  pointwise
  have h : s (ix2 k t) = IntOp.remsi .host (BitVec.ofNat 32 k.val * BitVec.ofNat 32 t.val) (BitVec.ofNat 32 256) := by
    subst hs
    unfold steps
    pointwise
    rfl
  have hkt : k.val * t.val < 2 ^ 31 := lt_of_le_of_lt (Nat.mul_le_mul (by omega : k.val ≤ 255) (by omega : t.val ≤ 255)) (by norm_num)
  show Ideal.div (Ideal.ofBits .f32 0x40000000#32 * Ideal.atan2 (Ideal.ofBits .f32 0x00000000#32) (Ideal.ofBits .f32 0xBF800000#32)
    * (((s (ix2 k t)).toInt : ℝ) : EReal)) (Ideal.ofBits .f32 0x43800000#32) = _
  rw [h, Turns.rem_toInt _ _ _ hkt (by norm_num) (by norm_num), Int.cast_natCast, Turns.full_turn, Turns.bits_256]
  exact_mod_cast Turns.angle_eq 256 (k.val * t.val % 256) (by norm_num)

theorem scaled_apply (e : FVec Ideal S256x256 .f32) (i : S256x256.Idx) : scaled e i = e i * ((1 / 16 : ℝ) : EReal) := by
  rw [← Turns.bits_sixteenth]
  rfl

theorem cos_apply (k t : Fin 256) : scaled (Host.cos (angles (F := Ideal))) (ix2 k t) = ((Real.cos (Turns.angle 256 (k.val * t.val)) * (1 / 16) : ℝ) : EReal) := by
  have h : Host.cos (angles (F := Ideal)) (ix2 k t) = ((Real.cos (Turns.angle 256 (k.val * t.val % 256)) : ℝ) : EReal) :=
    congrArg Ideal.cos (angles_apply k t)
  rw [scaled_apply, h, Turns.cos_mod _ _ (by norm_num), EReal.coe_mul]

theorem sin_apply (k t : Fin 256) : scaled (Host.sin (angles (F := Ideal))) (ix2 k t) = ((Real.sin (Turns.angle 256 (k.val * t.val)) * (1 / 16) : ℝ) : EReal) := by
  have h : Host.sin (angles (F := Ideal)) (ix2 k t) = ((Real.sin (Turns.angle 256 (k.val * t.val % 256)) : ℝ) : EReal) :=
    congrArg Ideal.sin (angles_apply k t)
  rw [scaled_apply, h, Turns.sin_mod _ _ (by norm_num), EReal.coe_mul]

/-! ## The body -/

/-- Row `t` of the block's 256 filled rows. -/
def filledRow (t : Fin 256) : Fin 288 := ⟨72 * (t.val / 64) + t.val % 64, by omega⟩

section Run
variable {F : FTy → Type} [FloatOps F]

/-- Sixty-four filled rows, as the body loads them. -/
def part (arg : Memref sig .tc .vmem S288x256 .f32) (harg : arg.IsWhole) (x : Vec F S288x256 .f32) (g : Fin 4) : Vec F S64x256 .f32 :=
  View.readAt (Elt F) arg.view (Rect.unit (s := S288x256) ![72 * g.val, 0] S64x256.size
    (by intro a; fin_cases a <;> simp [S288x256, S64x256] <;> omega)).toLoadRect (harg.unread x)

/-- A table, as the body loads it. -/
def table (arg : Memref sig .tc .vmem S256x256 .bf16) (harg : arg.IsWhole) (x : Vec F S256x256 .bf16) : Vec F S256x256 .bf16 :=
  View.readAt (Elt F) arg.view (Rect.unit (s := S256x256) ![0, 0] S256x256.size inb_S256x256_S256x256_0_0).toLoadRect (harg.unread x)

variable (arg1 : Memref sig .tc .vmem S288x256 .f32) (harg1 : arg1.IsWhole) (arg2 : Memref sig .tc .vmem S288x256 .f32) (harg2 : arg2.IsWhole)
  (arg3 : Memref sig .tc .vmem S256x256 .bf16) (harg3 : arg3.IsWhole) (arg4 : Memref sig .tc .vmem S256x256 .bf16) (harg4 : arg4.IsWhole)
  (x0 x1 : Vec F S288x256 .f32) (x2 x3 : Vec F S256x256 .bf16)

/-- What a grid point stores. -/
def stored : FVec F S256x256 .f32 :=
  k0_pay1 (table arg3 harg3 x2) (part arg1 harg1 x0 0) (part arg1 harg1 x0 1) (part arg1 harg1 x0 2) (part arg1 harg1 x0 3)
    (table arg4 harg4 x3) (part arg2 harg2 x1 0) (part arg2 harg2 x1 1) (part arg2 harg2 x1 2) (part arg2 harg2 x1 3)

theorem pieces (c : Dev nD) (i : grid0.Coords) (arg6 : Memref sig .tc .vmem S256x256 .f32) (harg6 : arg6.IsWhole) :
    (kernelRun0_A c i arg1 harg1 arg2 harg2 arg3 harg3 arg4 harg4 arg6 harg6 x0 x1 x2 x3).1
    = [⟨Rect.unit (s := S256x256) ![0, 0] S256x256.size inb_S256x256_S256x256_0_0, stored arg1 harg1 arg2 harg2 arg3 harg3 arg4 harg4 x0 x1 x2 x3⟩] := by
  sl_kernel_rfl

end Run

theorem part_apply (arg : Memref sig .tc .vmem S288x256 .f32) (harg : arg.IsWhole) (x : Vec Ideal S288x256 .f32) (g : Fin 4) (r : Fin 64) (w : Fin 256) :
    part arg harg x g (ix2 r w) = x (ix2 ⟨72 * g.val + r.val, by omega⟩ w) := by
  unfold part
  rw [View.readAt_eq_ld, harg.read_unread]
  refine congrArg x (funext fun a => Fin.ext ?_)
  fin_cases a
  · show 72 * g.val + 1 * r.val = 72 * g.val + r.val
    omega
  · show 0 + 1 * w.val = w.val
    omega

theorem table_eq (arg : Memref sig .tc .vmem S256x256 .bf16) (harg : arg.IsWhole) (x : Vec Ideal S256x256 .bf16) (k t : Fin 256) :
    table arg harg x (ix2 k t) = x (ix2 k t) := by
  unfold table
  rw [View.readAt_eq_ld, harg.read_unread]
  refine congrArg x (funext fun a => Fin.ext ?_)
  fin_cases a
  · show 0 + 1 * k.val = k.val
    omega
  · show 0 + 1 * t.val = t.val
    omega

/-- Four parts, one under the other. -/
theorem stack_apply (p : Fin 4 → Vec Ideal S64x256 .f32) (t w : Fin 256) :
    (concatenate S256x256 0 [⟨S64x256, p 0⟩, ⟨S64x256, p 1⟩, ⟨S64x256, p 2⟩, ⟨S64x256, p 3⟩]
      concatenates_S64x256_S64x256_S64x256_S64x256_S256x256_d0 : FVec Ideal S256x256 .f32) (ix2 t w)
    = p ⟨t.val / 64, by omega⟩ (ix2 ⟨t.val % 64, by omega⟩ w) := by
  pointwise
  have e (a b : Fin 4) (r q : Fin 64) (h : a = b) (h' : r = q) : p a (ix2 r w) = p b (ix2 q w) := by rw [h, h']
  split
  · exact e _ _ _ _ (Fin.ext (show 0 = t.val / 64 by omega)) (Fin.ext (show t.val = t.val % 64 by omega))
  · split
    · exact e _ _ _ _ (Fin.ext (show 1 = t.val / 64 by omega)) (Fin.ext (show t.val - 64 = t.val % 64 by omega))
    · split
      · exact e _ _ _ _ (Fin.ext (show 2 = t.val / 64 by omega)) (Fin.ext (show t.val - 64 - 64 = t.val % 64 by omega))
      · exact e _ _ _ _ (Fin.ext (show 3 = t.val / 64 by omega)) (Fin.ext (show t.val - 64 - 64 - 64 = t.val % 64 by omega))

variable (arg1 : Memref sig .tc .vmem S288x256 .f32) (harg1 : arg1.IsWhole) (arg2 : Memref sig .tc .vmem S288x256 .f32) (harg2 : arg2.IsWhole)
  (arg3 : Memref sig .tc .vmem S256x256 .bf16) (harg3 : arg3.IsWhole) (arg4 : Memref sig .tc .vmem S256x256 .bf16) (harg4 : arg4.IsWhole)
  (x0 x1 : Vec Ideal S288x256 .f32) (x2 x3 : Vec Ideal S256x256 .bf16)

theorem stored_apply (k w : Fin 256) : stored arg1 harg1 arg2 harg2 arg3 harg3 arg4 harg4 x0 x1 x2 x3 (ix2 k w)
    = (∑ t : Fin 256, x2 (ix2 k t) * x0 (ix2 (filledRow t) w)) + ∑ t : Fin 256, x3 (ix2 k t) * x1 (ix2 (filledRow t) w) := by
  have h0 (t : Fin 256) := stack_apply (part arg1 harg1 x0) t w
  have h1 (t : Fin 256) := stack_apply (part arg2 harg2 x1) t w
  have h2 := table_eq arg3 harg3 x2 k
  have h3 := table_eq arg4 harg4 x3 k
  simp only [part_apply] at h0 h1
  unfold stored k0_pay1
  generalize (concatenate S256x256 0 [⟨S64x256, part arg1 harg1 x0 0⟩, ⟨S64x256, part arg1 harg1 x0 1⟩, ⟨S64x256, part arg1 harg1 x0 2⟩, ⟨S64x256, part arg1 harg1 x0 3⟩]
      concatenates_S64x256_S64x256_S64x256_S64x256_S256x256_d0 : FVec Ideal S256x256 .f32) = y0 at h0 ⊢
  generalize (concatenate S256x256 0 [⟨S64x256, part arg2 harg2 x1 0⟩, ⟨S64x256, part arg2 harg2 x1 1⟩, ⟨S64x256, part arg2 harg2 x1 2⟩, ⟨S64x256, part arg2 harg2 x1 3⟩]
      concatenates_S64x256_S64x256_S64x256_S64x256_S256x256_d0 : FVec Ideal S256x256 .f32) = y1 at h1 ⊢
  generalize table arg3 harg3 x2 = t2 at h2 ⊢
  generalize table arg4 harg4 x3 = t3 at h3 ⊢
  pointwise
  simp only [h0, h1, h2, h3]
  rfl

end Cert.FourierContextIdeal.Rows

end
-- ==== Proof.FourierContextReference.lean ====
/- The reference's Fourier transform of the context rows, one named step at a time, and its elements over the extended reals. -/
module

public import proofs.«01_k».proof.Proof.Gen.FourierContextReferenceIdeal.Run
public import proofs.«01_k».proof.Proof.FourierAngle

@[expose] public section

noncomputable section

namespace Cert.FourierContextReferenceIdeal.Rows

open Cert.FourierContextReferenceIdeal Cert.FourierContextReferenceIdeal.Gen Idealize.ShloMosaic Idealize.ShloMosaic.TcCoe Idealize.SL.Sem

section Def
variable {F : FTy → Type} [FloatOps F]

/-- The context's samples: 64 of each 72 rows hold numbers. -/
def samples (z : FVec F S19584x256 .f32) : FVec F S4x256x256 .f32 :=
  shapeCast S4x256x256 (extractStridedSlice S16x64x256 ![256, 0, 0] (shapeCast S272x72x256 z shapeCasts_S19584x256_S272x72x256)
    slices_S272x72x256_S16x64x256_256_0_0) shapeCasts_S16x64x256_S4x256x256

/-- The positions. -/
def positions : FVec F S256 .f32 := sitofp .f32 (iotaInDim S256 32 0)

/-- The angles of the transform. -/
def angles : FVec F S256x256 .f32 :=
  Host.divf (mulf (broadcastInDim S256x256 ![] bcast_S_S256x256 (id (mulf (constant S_ .f32 0x40000000#32)
      (Host.atan2 (constant S_ .f32 0x00000000#32) (constant S_ .f32 0xBF800000#32)))))
    (mulf (broadcastInDim S256x256 ![0, 1] bcast_S256x1_S256x256_0_1 (broadcastInDim S256x1 ![0] bcast_S256_S256x1_0 positions))
      (broadcastInDim S256x256 ![0, 1] bcast_S1x256_S256x256_0_1 (broadcastInDim S1x256 ![1] bcast_S256_S1x256_1 positions))))
    (broadcastInDim S256x256 ![] bcast_S_S256x256 (constant S_ .f32 0x43800000#32))

/-- A table, a sixteenth of its entries. -/
def scaled (t : FVec F S256x256 .f32) : FVec F S256x256 .f32 :=
  mulf t (broadcastInDim S256x256 ![] bcast_S_S256x256 (constant S_ .f32 0x3D800000#32))

/-- A table's product with the samples. -/
def product (z : FVec F S4x256x256 .f32) (t : FVec F S256x256 .f32) : FVec F S4x256x256 .f32 :=
  transpose S4x256x256 [0, 2, 1] (Host.dotGeneral dot_S4x256x256_S256x256_S4x256x256_1_1_02_0_n_n none z t) transposes_S4x256x256_S4x256x256_0_2_1

/-- The latent rows of an array over the context's. -/
def stack (y : FVec F S17408x256 .f32) (o : FVec F S4x256x256 .f32) : FVec F S17408x256 .f32 :=
  concatenate S17408x256 0 [⟨S16384x256, (extractStridedSlice S16384x256 ![0, 0] y slices_S17408x256_S16384x256_0_0)⟩,
    ⟨S1024x256, (shapeCast S1024x256 o shapeCasts_S4x256x256_S1024x256)⟩] concatenates_S16384x256_S1024x256_S17408x256_d0

/-- The reference's transform. -/
def transform (re im : FVec F S19584x256 .f32) (y : FVec F S17408x256 .f32) : FVec F S17408x256 .f32 :=
  stack y (addf (product (samples re) (scaled (Host.cos angles))) (product (samples im) (scaled (Host.sin angles))))

end Def

/-- The row of the padded array that holds position `t` of sample `b`'s context. -/
def paddedRow (b : Fin 4) (t : Fin 256) : Fin 19584 := ⟨72 * (256 + 4 * b.val + t.val / 64) + t.val % 64, by omega⟩

theorem samples_apply (z : FVec Ideal S19584x256 .f32) (b : Fin 4) (t w : Fin 256) : samples z (ix3 b t w) = z (ix2 (paddedRow b t) w) := by
  unfold samples
  pointwise
  refine congrArg (fun r => z (ix2 r w)) (Fin.ext ?_)
  show (256 + (b.val * 4 + t.val / 64)) * 72 + t.val % 64 = 72 * (256 + 4 * b.val + t.val / 64) + t.val % 64
  omega

theorem positions_apply (t : Fin 256) : positions (F := Ideal) (ix1 t) = ((t.val : ℝ) : EReal) := by
  unfold positions
  pointwise
  show (((BitVec.ofNat 32 t.val).toInt : ℝ) : EReal) = _
  rw [Turns.toInt_ofNat _ (by omega), Int.cast_natCast]

theorem angles_apply (k t : Fin 256) : angles (F := Ideal) (ix2 k t) = ((Turns.angle 256 (k.val * t.val) : ℝ) : EReal) := by
  have hk := positions_apply k
  have ht := positions_apply t
  unfold angles
  generalize positions (F := Ideal) = p at hk ht ⊢
  pointwise
  show Ideal.div (Ideal.ofBits .f32 0x40000000#32 * Ideal.atan2 (Ideal.ofBits .f32 0x00000000#32) (Ideal.ofBits .f32 0xBF800000#32)
    * (p (ix1 k) * p (ix1 t))) (Ideal.ofBits .f32 0x43800000#32) = _
  rw [Turns.full_turn, hk, ht, Turns.bits_256, ← EReal.coe_mul, ← Nat.cast_mul]
  exact_mod_cast Turns.angle_eq 256 (k.val * t.val) (by norm_num)

/-- A table's entry, over sixteen. -/
theorem scaled_apply (e : FVec Ideal S256x256 .f32) (i : S256x256.Idx) : scaled e i = e i * ((1 / 16 : ℝ) : EReal) := by
  rw [← Turns.bits_sixteenth]
  rfl

theorem product_apply (z : FVec Ideal S4x256x256 .f32) (e : FVec Ideal S256x256 .f32) (b : Fin 4) (k w : Fin 256) :
    product z e (ix3 b k w) = ∑ t : Fin 256, z (ix3 b t w) * e (ix2 k t) := by
  unfold product
  pointwise

theorem stack_latent (y : FVec Ideal S17408x256 .f32) (o : FVec Ideal S4x256x256 .f32) (r : Fin 17408) (w : Fin 256) (h : r.val < 16384) :
    stack y o (ix2 r w) = y (ix2 r w) := by
  unfold stack
  pointwise
  rw [dif_pos h]

theorem stack_context (y : FVec Ideal S17408x256 .f32) (o : FVec Ideal S4x256x256 .f32) (b : Fin 4) (k w : Fin 256) :
    stack y o (ix2 ⟨16384 + 256 * b.val + k.val, by omega⟩ w) = o (ix3 b k w) := by
  unfold stack
  pointwise
  rw [dif_neg (by omega)]
  exact congrArg₂ (fun x y => o (ix3 x y w)) (Fin.ext (by show (16384 + 256 * b.val + k.val - 16384) / 256 = b.val; omega))
    (Fin.ext (by show (16384 + 256 * b.val + k.val - 16384) % 256 = k.val; omega))

/-- One element of the transform of the context, from the numbers of its positions. -/
def element (re im : Fin 256 → EReal) (k : Fin 256) : EReal :=
  (∑ t : Fin 256, re t * ((Real.cos (Turns.angle 256 (k.val * t.val)) * (1 / 16) : ℝ) : EReal))
    + ∑ t : Fin 256, im t * ((Real.sin (Turns.angle 256 (k.val * t.val)) * (1 / 16) : ℝ) : EReal)

theorem transform_context (re im : FVec Ideal S19584x256 .f32) (y : FVec Ideal S17408x256 .f32) (b : Fin 4) (k w : Fin 256) :
    transform re im y (ix2 ⟨16384 + 256 * b.val + k.val, by omega⟩ w)
      = element (fun t => re (ix2 (paddedRow b t) w)) (fun t => im (ix2 (paddedRow b t) w)) k := by
  have hc (t : Fin 256) : Host.cos (angles (F := Ideal)) (ix2 k t) = ((Real.cos (Turns.angle 256 (k.val * t.val)) : ℝ) : EReal) :=
    congrArg Ideal.cos (angles_apply k t)
  have hs (t : Fin 256) : Host.sin (angles (F := Ideal)) (ix2 k t) = ((Real.sin (Turns.angle 256 (k.val * t.val)) : ℝ) : EReal) :=
    congrArg Ideal.sin (angles_apply k t)
  rw [transform, stack_context]
  show product _ _ _ + product _ _ _ = _
  rw [product_apply, product_apply]
  simp only [samples_apply, scaled_apply, hc, hs, ← EReal.coe_mul]
  rfl

theorem transform_latent (re im : FVec Ideal S19584x256 .f32) (y : FVec Ideal S17408x256 .f32) (r : Fin 17408) (w : Fin 256) (h : r.val < 16384) :
    transform re im y (ix2 r w) = y (ix2 r w) :=
  stack_latent _ _ r w h

end Cert.FourierContextReferenceIdeal.Rows

end
-- ==== Proof.FourierContextFinal.lean ====
/- The array that the context's Fourier transform leaves: the reference's. -/
module

public import proofs.«01_k».proof.Proof.FourierContextBody
public import proofs.«01_k».proof.Proof.FourierContextReference

@[expose] public section

noncomputable section

namespace Cert.FourierContextIdeal.Rows

open Cert.FourierContextIdeal Cert.FourierContextIdeal.Gen Idealize.ShloMosaic Idealize.ShloMosaic.TcCoe Idealize.SL.Sem
open Cert.FourierContextReferenceIdeal.Rows (paddedRow element transform transform_context transform_latent)

variable (m : (ℓ : Loc nD τ sig) → Buf (Elt Ideal) ℓ) (c : Dev nD)

/-- The real and imaginary parts and the latent rows given. -/
abbrev Re : FVec Ideal S19584x256 .f32 := m ((c : Thread nD τ).loc main_arg0)
abbrev Im : FVec Ideal S19584x256 .f32 := m ((c : Thread nD τ).loc main_arg1)
abbrev Y : FVec Ideal S17408x256 .f32 := m ((c : Thread nD τ).loc main_arg2)

/-- The sample of a grid point. -/
def sampleOf (t : Fin cfg0.N) : Fin 4 := ⟨t.val, t.isLt⟩

theorem idx (t : Fin cfg0.N) : win0_0.index t = ![64 + t.val, 0] ∧ win0_1.index t = ![64 + t.val, 0]
    ∧ win0_2.index t = ![0, 0] ∧ win0_3.index t = ![0, 0] ∧ win0_4.index t = ![64 + t.val, 0] := by
  revert t; decide +kernel

theorem re_block (t : Fin cfg0.N) (r w : Fin 256) : iblk m c 0 t (ix2 (filledRow r) w) = Re m c (ix2 (paddedRow (sampleOf t) r) w) := by
  blk_simp [iblk]
  entry_read
  unfold sampleOf paddedRow filledRow
  blk_ext [idx t]

theorem im_block (t : Fin cfg0.N) (r w : Fin 256) : iblk m c 1 t (ix2 (filledRow r) w) = Im m c (ix2 (paddedRow (sampleOf t) r) w) := by
  blk_simp [iblk]
  entry_read
  unfold sampleOf paddedRow filledRow
  blk_ext [idx t]

theorem cos_block (t : Fin cfg0.N) (k s : Fin 256) :
    iblk m c 2 t (ix2 k s) = ((Real.cos (Turns.angle 256 (k.val * s.val)) * (1 / 16) : ℝ) : EReal) := by
  rw [← cos_apply, ← cos_entry m c]
  blk_simp [iblk]
  blk_ext [idx t]

theorem sin_block (t : Fin cfg0.N) (k s : Fin 256) :
    iblk m c 3 t (ix2 k s) = ((Real.sin (Turns.angle 256 (k.val * s.val)) * (1 / 16) : ℝ) : EReal) := by
  rw [← sin_apply, ← sin_entry m c]
  blk_simp [iblk]
  blk_ext [idx t]

/-- The transform of sample `b`'s context at step `k`, column `w`. -/
def transformed (b : Fin 4) (k w : Fin 256) : EReal :=
  element (fun t => Re m c (ix2 (paddedRow b t) w)) (fun t => Im m c (ix2 (paddedRow b t) w)) k

theorem block_transforms (t : Fin cfg0.N) (k w : Fin 256) : outsAt0 m c t (ix2 k w) = transformed m c (sampleOf t) k w := by
  unfold outsAt0 out0_A_4
  rw [View.read_writes_junk_eq_canon, pieces]
  have h := stored_apply (ms0_0 t) (hs0_0 t) (ms0_1 t) (hs0_1 t) (ms0_2 t) (hs0_2 t) (ms0_3 t) (hs0_3 t)
    (iblk m c 0 t) (iblk m c 1 t) (iblk m c 2 t) (iblk m c 3 t) k w
  generalize stored (ms0_0 t) (hs0_0 t) (ms0_1 t) (hs0_1 t) (ms0_2 t) (hs0_2 t) (ms0_3 t) (hs0_3 t)
    (iblk m c 0 t) (iblk m c 1 t) (iblk m c 2 t) (iblk m c 3 t) = o at h ⊢
  refine (View.canon_apply_of_pieces (Val := Elt Ideal) o _ (fun p hp x => ?_) (ix2 k w) ⟨_, List.mem_singleton.mpr rfl, ?_⟩).trans (h.trans ?_)
  · obtain rfl := List.mem_singleton.mp hp
    refine congrArg o (funext fun a => Fin.ext ?_)
    refine Eq.symm ((ValueKit.rect_emb_unit_val (s := S256x256) ![0, 0] S256x256.size inb_S256x256_S256x256_0_0 x a).trans ?_)
    fin_cases a <;> exact zero_add _
  · rw [Rect.mem_set_unit]
    intro a
    fin_cases a <;> simp [S256x256]
  · unfold transformed element
    simp only [re_block, im_block, cos_block, sin_block]
    exact congrArg₂ (· + ·) (Finset.sum_congr rfl fun _ _ => mul_comm _ _) (Finset.sum_congr rfl fun _ _ => mul_comm _ _)

/-- The same, of row `16384 + r` of the array. -/
def transformedAt (r : ℕ) (w : Fin 256) : EReal := transformed m c ⟨r / 256 % 4, by omega⟩ ⟨r % 256, by omega⟩ w

theorem block_at (t : Fin cfg0.N) (k w : Fin 256) : outsAt0 m c t (ix2 k w) = transformedAt m c (256 * t.val + k.val) w := by
  have ht : t.val < 4 := t.isLt
  rw [block_transforms]
  unfold transformedAt sampleOf
  congr 1
  · exact Fin.ext (show t.val = (256 * t.val + k.val) / 256 % 4 by omega)
  · exact Fin.ext (show k.val = (256 * t.val + k.val) % 256 by omega)

/-- The array's context rows, over its indices. -/
def contextArray (i : S17408x256.Idx) : EReal := transformedAt m c ((i 0).val - 16384) (i 1)

/-- The kernel's array: the context rows are transformed, the latent rows are those given. -/
theorem four_array (r : Fin 17408) (w : Fin 256) :
    (dats m 0 c).arrAt 4 cfg0.N (ix2 r w) = if 64 ≤ r.val / 256 then contextArray m c (ix2 r w) else Y m c (ix2 r w) := by
  refine ((dats m 0 c).arrAt_apply_of_coversWhere 4 (contextArray m c) (P := fun i => 64 ≤ (i 0).val / 256)
    (fun i => 64 ≤ i 0) (by decide +kernel) (fun t _ y => ?_) (fun j => Iff.rfl) (ix2 r w)).trans (if_congr Iff.rfl rfl ?_)
  · blk_simp
    rw [after0_4]
    have hy : y = ix2 (⟨(y 0).val, (y 0).isLt⟩ : Fin 256) (⟨(y 1).val, (y 1).isLt⟩ : Fin 256) := by
      funext a
      fin_cases a <;> rfl
    refine (congrArg (outsAt0 m c t) hy).trans ((block_at m c t _ _).trans ?_)
    show transformedAt m c _ _ = transformedAt m c _ _
    refine congr (congrArg (transformedAt m c) ?_) (Fin.ext ?_)
    · blk_simp [idx t]
      show 256 * t.val + (y 0).val = (64 + t.val) * 256 + (y 0).val - 16384
      omega
    · blk_simp [idx t]
  · rw [A_eq]
    entry_read
    rfl

/-- The kernel's array is the reference's. -/
theorem four_same (re im : FVec Ideal S19584x256 .f32) (y : FVec Ideal S17408x256 .f32) (er : re = Re m c) (ei : im = Im m c) (ey : y = Y m c) :
    (dats m 0 c).arrAt 4 cfg0.N = transform re im y := by
  subst er ei ey
  funext i
  obtain ⟨r, w, rfl⟩ : ∃ (r : Fin 17408) (w : Fin 256), i = ix2 r w := ⟨⟨(i 0).val, (i 0).isLt⟩, ⟨(i 1).val, (i 1).isLt⟩, by
    funext a
    fin_cases a <;> rfl⟩
  rw [four_array]
  by_cases hr : r.val < 16384
  · rw [if_neg (by omega), transform_latent _ _ _ r w hr]
  · rw [if_pos (by omega)]
    have h := transform_context (Re m c) (Im m c) (Y m c) ⟨(r.val - 16384) / 256, by omega⟩ ⟨(r.val - 16384) % 256, by omega⟩ w
    have hrow : r = ⟨16384 + 256 * ((r.val - 16384) / 256) + (r.val - 16384) % 256, by omega⟩ := Fin.ext (by
      show r.val = 16384 + 256 * ((r.val - 16384) / 256) + (r.val - 16384) % 256
      omega)
    refine Eq.trans ?_ ((congrArg (fun q => transform (Re m c) (Im m c) (Y m c) (ix2 q w)) hrow).trans h).symm
    show transformed m c ⟨(r.val - 16384) / 256 % 4, _⟩ ⟨(r.val - 16384) % 256, _⟩ w = _
    unfold transformed
    have e : (⟨(r.val - 16384) / 256 % 4, by omega⟩ : Fin 4) = ⟨(r.val - 16384) / 256, by omega⟩ :=
      Fin.ext (show (r.val - 16384) / 256 % 4 = (r.val - 16384) / 256 by omega)
    rw [e]

end Cert.FourierContextIdeal.Rows

end
-- ==== Proof.lean ====
/- The proof of the certificate's claim: the frames of the kernel, of its ideal form and of the ideal reference, and
   the equality of what the last two compute. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.FeedForward
public import proofs.«01_k».proof.Proof.Gen.FeedForward.Skeleton
public import proofs.«01_k».proof.Proof.Gen.FeedForward.Launch
public import proofs.«01_k».proof.Proof.Gen.FeedForward.Points
public import proofs.«01_k».proof.Proof.Gen.FeedForward.Frame
public import proofs.«01_k».proof.Proof.Gen.FeedForwardIdeal
public import proofs.«01_k».proof.Proof.Gen.FeedForwardIdeal.Skeleton
public import proofs.«01_k».proof.Proof.Gen.FeedForwardIdeal.Launch
public import proofs.«01_k».proof.Proof.Gen.FeedForwardIdeal.Points
public import proofs.«01_k».proof.Proof.Gen.FeedForwardIdeal.Frame
public import proofs.«01_k».proof.Proof.Gen.FeedForwardIdeal.Value
public import proofs.«01_k».proof.Proof.Gen.FeedForwardReferenceIdeal
public import proofs.«01_k».proof.Proof.Gen.FeedForwardReferenceIdeal.Run
public import proofs.«01_k».proof.Proof.Gen.OutProjection
public import proofs.«01_k».proof.Proof.Gen.OutProjection.Skeleton
public import proofs.«01_k».proof.Proof.Gen.OutProjection.Launch
public import proofs.«01_k».proof.Proof.Gen.OutProjection.Points
public import proofs.«01_k».proof.Proof.Gen.OutProjection.Frame
public import proofs.«01_k».proof.Proof.Gen.OutProjectionIdeal
public import proofs.«01_k».proof.Proof.Gen.OutProjectionIdeal.Skeleton
public import proofs.«01_k».proof.Proof.Gen.OutProjectionIdeal.Launch
public import proofs.«01_k».proof.Proof.Gen.OutProjectionIdeal.Points
public import proofs.«01_k».proof.Proof.Gen.OutProjectionIdeal.Frame
public import proofs.«01_k».proof.Proof.Gen.OutProjectionIdeal.Value
public import proofs.«01_k».proof.Proof.Gen.OutProjectionReferenceIdeal
public import proofs.«01_k».proof.Proof.Gen.OutProjectionReferenceIdeal.Run
public import proofs.«01_k».proof.Proof.Gen.Context
public import proofs.«01_k».proof.Proof.Gen.Context.Skeleton
public import proofs.«01_k».proof.Proof.Gen.Context.Launch
public import proofs.«01_k».proof.Proof.Gen.Context.Points
public import proofs.«01_k».proof.Proof.Gen.Context.Frame
public import proofs.«01_k».proof.Proof.Gen.ContextIdeal
public import proofs.«01_k».proof.Proof.Gen.ContextIdeal.Skeleton
public import proofs.«01_k».proof.Proof.Gen.ContextIdeal.Launch
public import proofs.«01_k».proof.Proof.Gen.ContextIdeal.Points
public import proofs.«01_k».proof.Proof.Gen.ContextIdeal.Frame
public import proofs.«01_k».proof.Proof.Gen.ContextIdeal.Value
public import proofs.«01_k».proof.Proof.Gen.ContextReferenceIdeal
public import proofs.«01_k».proof.Proof.Gen.ContextReferenceIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.Fourier
public import proofs.«01_k».proof.Proof.Gen.Fourier.Skeleton
public import proofs.«01_k».proof.Proof.Gen.Fourier.Launch
public import proofs.«01_k».proof.Proof.Gen.Fourier.Points
public import proofs.«01_k».proof.Proof.Gen.Fourier.Frame
public import proofs.«01_k».proof.Proof.Gen.FourierIdeal
public import proofs.«01_k».proof.Proof.Gen.FourierIdeal.Skeleton
public import proofs.«01_k».proof.Proof.Gen.FourierIdeal.Launch
public import proofs.«01_k».proof.Proof.Gen.FourierIdeal.Points
public import proofs.«01_k».proof.Proof.Gen.FourierIdeal.Frame
public import proofs.«01_k».proof.Proof.Gen.FourierIdeal.Value
public import proofs.«01_k».proof.Proof.Gen.FourierReferenceIdeal
public import proofs.«01_k».proof.Proof.Gen.FourierReferenceIdeal.Run
public import proofs.«01_k».proof.Proof.Gen.FourierContext
public import proofs.«01_k».proof.Proof.Gen.FourierContext.Skeleton
public import proofs.«01_k».proof.Proof.Gen.FourierContext.Launch
public import proofs.«01_k».proof.Proof.Gen.FourierContext.Points
public import proofs.«01_k».proof.Proof.Gen.FourierContext.Frame
public import proofs.«01_k».proof.Proof.Gen.FourierContextIdeal
public import proofs.«01_k».proof.Proof.Gen.FourierContextIdeal.Skeleton
public import proofs.«01_k».proof.Proof.Gen.FourierContextIdeal.Launch
public import proofs.«01_k».proof.Proof.Gen.FourierContextIdeal.Points
public import proofs.«01_k».proof.Proof.Gen.FourierContextIdeal.Frame
public import proofs.«01_k».proof.Proof.Gen.FourierContextIdeal.Value
public import proofs.«01_k».proof.Proof.Gen.FourierContextReferenceIdeal
public import proofs.«01_k».proof.Proof.Gen.FourierContextReferenceIdeal.Run
public import proofs.«01_k».proof.Proof.Domain
public import proofs.«01_k».proof.Proof.Weights
public import proofs.«01_k».proof.Proof.Final
public import proofs.«01_k».proof.Proof.FeedFinal
public import proofs.«01_k».proof.Proof.FeedReference
public import proofs.«01_k».proof.Proof.OutFinal
public import proofs.«01_k».proof.Proof.OutReference
public import proofs.«01_k».proof.Proof.ContextFinal
public import proofs.«01_k».proof.Proof.ContextReference
public import proofs.«01_k».proof.Proof.ModulationFinal
public import proofs.«01_k».proof.Proof.FourierFinal
public import proofs.«01_k».proof.Proof.FourierContextFinal
public import Idealize.ShloMosaic.Adequacy
public import Idealize.ShloMosaic.Init

@[expose] public section

noncomputable section

namespace Cert.Proof

open Idealize.ShloMosaic Idealize.SL.Sem

/-- The reference leaves its arguments and ends with its counters at zero. -/
theorem frame_reference : Cert.quiescent_ReferenceIdeal := by
  intro m ρ _
  exact (θ_run Cert.ReferenceIdeal.defs _ _).mono (fun r h => ⟨fun c => (h c).2.2.2.2.2,
    Idealize.ShloMosaic.sem_eq_zero_of_no_sems (by decide) r.2⟩) (Cert.ReferenceIdeal.Value.run (F := Ideal) m ρ)

open Cert.ReferenceIdeal.Attn in
/-- The kernel and the reference compute the same attention, and pass the same weights through. -/
theorem same_values : Cert.algebraic_KernelIdeal_ReferenceIdeal_on_latent_rows_pre_finite_qk
    (hPre_finite_qk := preFacts) (hOn_latent_rows := onFacts) := by
  intro m g m' g' hpre hagree
  refine ⟨fun c => attention (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => outLayer (m ((c.tc : Thread Cert.KernelIdeal.nD Cert.KernelIdeal.τ).loc Cert.KernelIdeal.main_arg3)),
    fun c => upLayer (m ((c.tc : Thread Cert.KernelIdeal.nD Cert.KernelIdeal.τ).loc Cert.KernelIdeal.main_arg4)),
    fun c => downLayer (m ((c.tc : Thread Cert.KernelIdeal.nD Cert.KernelIdeal.τ).loc Cert.KernelIdeal.main_arg5)),
    fun c => inLayer (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Value.run_blocks (F := Ideal) m g)
    obtain ⟨h0, h1, h2, h3, h4, ha⟩ := h c
    refine ⟨fun i hi => ?_, fun i _ => ?_, fun i _ => ?_, fun i _ => ?_, fun i _ => ?_, ha⟩
    · have hr := @latent_row onFacts _ _ _ _ _ _ _ i hi
      have hq := fun (r : Fin 17408) (f : Fin 512) => @queries_real preFacts _ _ _ _ _ _ _ (hpre c).1 (ix2 r f)
      have hk := fun (r : Fin 17408) (f : Fin 128) => @keys_real preFacts _ _ _ _ _ _ _ (hpre c).2 (ix2 r f)
      have hi2 : i = ix2 (⟨(i 0).val, (i 0).isLt⟩ : Fin 17408) (⟨(i 1).val, (i 1).isLt⟩ : Fin 512) := by
        funext a
        fin_cases a <;> rfl
      rw [h0, hi2]
      exact (Cert.KernelIdeal.Attn.att_array m c _ _ hq hk _ hr _).trans
        (Cert.KernelIdeal.Attn.att_reference m c _ _ _ _ _ hq hk rfl _ hr _).symm
    · rw [h1, Cert.KernelIdeal.Attn.out_weight]
    · rw [h2, Cert.KernelIdeal.Attn.up_weight]
    · rw [h3, Cert.KernelIdeal.Attn.down_weight]
    · rw [h4, Cert.KernelIdeal.Attn.in_weight]
  · refine (θ_run Cert.ReferenceIdeal.defs _ _).mono (fun r h c => ?_) (Cert.ReferenceIdeal.Value.run (F := Ideal) m' g')
    obtain ⟨h0, h1, h2, h3, h4, ha⟩ := h c
    obtain ⟨a0, a1, a2, a3, a4, a5, a6⟩ := hagree c
    refine ⟨fun i _ => ?_, fun i _ => ?_, fun i _ => ?_, fun i _ => ?_, fun i _ => ?_, ha⟩
    · rw [h0, res_eq, a0, a1, a2]
    · rw [h1, a3]; rfl
    · rw [h2, a4]; rfl
    · rw [h3, a5]; rfl
    · rw [h4, a6]; rfl

/-- The feed-forward part's reference leaves its arguments and ends with its counters at zero. -/
theorem frame_feed_reference : Cert.quiescent_FeedForwardReferenceIdeal := by
  intro m ρ _
  exact (θ_run Cert.FeedForwardReferenceIdeal.defs _ _).mono (fun r h => ⟨fun c => (h c).2,
    Idealize.ShloMosaic.sem_eq_zero_of_no_sems (by decide) r.2⟩) (Cert.FeedForwardReferenceIdeal.Value.run (F := Ideal) m ρ)

open Cert.FeedForwardReferenceIdeal.Rows in
/-- The kernel and the reference compute the same feed-forward part of every row. -/
theorem same_feed : Cert.algebraic_FeedForwardIdeal_FeedForwardReferenceIdeal := by
  intro m g m' g' _ hagree
  refine ⟨fun c => feedForward (F := Ideal) (m ((c.tc : Thread Cert.FeedForwardIdeal.nD Cert.FeedForwardIdeal.τ).loc Cert.FeedForwardIdeal.main_arg0))
      (m ((c.tc : Thread Cert.FeedForwardIdeal.nD Cert.FeedForwardIdeal.τ).loc Cert.FeedForwardIdeal.main_arg1))
      (m ((c.tc : Thread Cert.FeedForwardIdeal.nD Cert.FeedForwardIdeal.τ).loc Cert.FeedForwardIdeal.main_arg2))
      (m ((c.tc : Thread Cert.FeedForwardIdeal.nD Cert.FeedForwardIdeal.τ).loc Cert.FeedForwardIdeal.main_arg3))
      (m ((c.tc : Thread Cert.FeedForwardIdeal.nD Cert.FeedForwardIdeal.τ).loc Cert.FeedForwardIdeal.main_arg4))
      (m ((c.tc : Thread Cert.FeedForwardIdeal.nD Cert.FeedForwardIdeal.τ).loc Cert.FeedForwardIdeal.main_arg5)), ?_, ?_⟩
  · refine (θ_run Cert.FeedForwardIdeal.defs _ _).mono (fun r h c => ?_) (Cert.FeedForwardIdeal.Value.run_blocks (F := Ideal) m g)
    obtain ⟨h0, ha⟩ := h c
    refine ⟨?_, ha⟩
    rw [h0, Cert.FeedForwardIdeal.Rows.feed_array]
    funext i
    have hi : i = ix2 (⟨(i 0).val, (i 0).isLt⟩ : Fin 17408) (⟨(i 1).val, (i 1).isLt⟩ : Fin 1024) := by
      funext a
      fin_cases a <;> rfl
    rw [hi]
    exact (feedForward_apply _ _ _ _ _ _ _ _).symm
  · refine (θ_run Cert.FeedForwardReferenceIdeal.defs _ _).mono (fun r h c => ?_) (Cert.FeedForwardReferenceIdeal.Value.run (F := Ideal) m' g')
    obtain ⟨h0, ha⟩ := h c
    obtain ⟨a0, a1, a2, a3, a4, a5⟩ := hagree c
    refine ⟨?_, ha⟩
    rw [h0, res_eq, a0, a1, a2, a3, a4, a5]

/-- The output projection's reference leaves its arguments and ends with its counters at zero. -/
theorem frame_out_reference : Cert.quiescent_OutProjectionReferenceIdeal := by
  intro m ρ _
  exact (θ_run Cert.OutProjectionReferenceIdeal.defs _ _).mono (fun r h => ⟨fun c => (h c).2,
    Idealize.ShloMosaic.sem_eq_zero_of_no_sems (by decide) r.2⟩) (Cert.OutProjectionReferenceIdeal.Value.run (F := Ideal) m ρ)

open Cert.OutProjectionReferenceIdeal.Rows in
/-- The kernel and the reference compute the same output projection of every row. -/
theorem same_out : Cert.algebraic_OutProjectionIdeal_OutProjectionReferenceIdeal := by
  intro m g m' g' _ hagree
  refine ⟨fun c => outProjection (F := Ideal) (m ((c.tc : Thread Cert.OutProjectionIdeal.nD Cert.OutProjectionIdeal.τ).loc Cert.OutProjectionIdeal.main_arg0))
      (m ((c.tc : Thread Cert.OutProjectionIdeal.nD Cert.OutProjectionIdeal.τ).loc Cert.OutProjectionIdeal.main_arg1))
      (m ((c.tc : Thread Cert.OutProjectionIdeal.nD Cert.OutProjectionIdeal.τ).loc Cert.OutProjectionIdeal.main_arg2))
      (m ((c.tc : Thread Cert.OutProjectionIdeal.nD Cert.OutProjectionIdeal.τ).loc Cert.OutProjectionIdeal.main_arg3))
      (m ((c.tc : Thread Cert.OutProjectionIdeal.nD Cert.OutProjectionIdeal.τ).loc Cert.OutProjectionIdeal.main_arg4))
      (m ((c.tc : Thread Cert.OutProjectionIdeal.nD Cert.OutProjectionIdeal.τ).loc Cert.OutProjectionIdeal.main_arg5))
      (m ((c.tc : Thread Cert.OutProjectionIdeal.nD Cert.OutProjectionIdeal.τ).loc Cert.OutProjectionIdeal.main_arg6))
      (m ((c.tc : Thread Cert.OutProjectionIdeal.nD Cert.OutProjectionIdeal.τ).loc Cert.OutProjectionIdeal.main_arg7)), ?_, ?_⟩
  · refine (θ_run Cert.OutProjectionIdeal.defs _ _).mono (fun r h c => ?_) (Cert.OutProjectionIdeal.Value.run_blocks (F := Ideal) m g)
    obtain ⟨h0, ha⟩ := h c
    refine ⟨?_, ha⟩
    rw [h0, Cert.OutProjectionIdeal.Rows.out_array]
    funext i
    have hi : i = ix2 (⟨(i 0).val, (i 0).isLt⟩ : Fin 17408) (⟨(i 1).val, (i 1).isLt⟩ : Fin 1024) := by
      funext a
      fin_cases a <;> rfl
    rw [hi]
    exact (outProjection_apply _ _ _ _ _ _ _ _ _ _).symm
  · refine (θ_run Cert.OutProjectionReferenceIdeal.defs _ _).mono (fun r h c => ?_) (Cert.OutProjectionReferenceIdeal.Value.run (F := Ideal) m' g')
    obtain ⟨h0, ha⟩ := h c
    obtain ⟨a0, a1, a2, a3, a4, a5, a6, a7⟩ := hagree c
    refine ⟨?_, ha⟩
    rw [h0, res_eq, a0, a1, a2, a3, a4, a5, a6, a7]

/-- The context attention's reference leaves its arguments and ends with its counters at zero. -/
theorem frame_context_reference : Cert.quiescent_ContextReferenceIdeal := by
  intro m ρ _
  exact (θ_run Cert.ContextReferenceIdeal.defs _ _).mono (fun r h => ⟨fun c => (h c).2,
    Idealize.ShloMosaic.sem_eq_zero_of_no_sems (by decide) r.2⟩) (Cert.ContextReferenceIdeal.Value.run (F := Ideal) m ρ)

open Cert.ContextReferenceIdeal.Attn in
/-- The kernel and the reference compute the same attention of the context rows and keep the latent rows given. -/
theorem same_context : Cert.algebraic_ContextIdeal_ContextReferenceIdeal_pre_finite_context_qk (hPre_finite_context_qk := contextFacts) := by
  intro m g m' g' hpre hagree
  refine ⟨fun c => attention (F := Ideal) (m ((c.tc : Thread Cert.ContextIdeal.nD Cert.ContextIdeal.τ).loc Cert.ContextIdeal.main_arg0))
      (m ((c.tc : Thread Cert.ContextIdeal.nD Cert.ContextIdeal.τ).loc Cert.ContextIdeal.main_arg1))
      (m ((c.tc : Thread Cert.ContextIdeal.nD Cert.ContextIdeal.τ).loc Cert.ContextIdeal.main_arg2))
      (m ((c.tc : Thread Cert.ContextIdeal.nD Cert.ContextIdeal.τ).loc Cert.ContextIdeal.main_arg3)), ?_, ?_⟩
  · refine (θ_run Cert.ContextIdeal.defs _ _).mono (fun r h c => ?_) (Cert.ContextIdeal.Value.run_blocks (F := Ideal) m g)
    obtain ⟨h0, ha⟩ := h c
    have hq := fun (r : Fin 17408) (f : Fin 512) => @context_queries_real contextFacts _ _ _ _ (hpre c).1 (ix2 r f)
    have hk := fun (r : Fin 17408) (f : Fin 128) => @context_keys_real contextFacts _ _ _ _ (hpre c).2 (ix2 r f)
    exact ⟨h0.trans (Cert.ContextIdeal.Attn.att_same m c _ _ hq hk _ _ _ _ rfl rfl rfl rfl), ha⟩
  · refine (θ_run Cert.ContextReferenceIdeal.defs _ _).mono (fun r h c => ?_) (Cert.ContextReferenceIdeal.Value.run (F := Ideal) m' g')
    obtain ⟨h0, ha⟩ := h c
    obtain ⟨a0, a1, a2, a3⟩ := hagree c
    refine ⟨?_, ha⟩
    rw [h0, res_eq, a0, a1, a2, a3]

/-- The modulation's reference leaves its arguments and ends with its counters at zero. -/
theorem frame_modulation_reference : Cert.quiescent_ModulationReferenceIdeal := by
  intro m ρ _
  exact (θ_run Cert.ModulationReferenceIdeal.defs _ _).mono (fun r h => ⟨fun c => (h c).2,
    Idealize.ShloMosaic.sem_eq_zero_of_no_sems (by decide) r.2⟩) (Cert.ModulationReferenceIdeal.Value.run (F := Ideal) m ρ)

open Cert.ModulationReferenceIdeal.Rows in
/-- The kernel and the reference compute the same modulation of the samples and of the context. -/
theorem same_modulation : Cert.algebraic_ModulationIdeal_ModulationReferenceIdeal_on_modulation_rows_pre_finite_modulation
    (hPre_finite_modulation := modulationFacts) (hOn_modulation_rows := rowFacts) := by
  intro m g m' g' hpre hagree
  refine ⟨fun c => modulation (F := Ideal) (m ((c.tc : Thread Cert.ModulationIdeal.nD Cert.ModulationIdeal.τ).loc Cert.ModulationIdeal.main_arg0))
      (m ((c.tc : Thread Cert.ModulationIdeal.nD Cert.ModulationIdeal.τ).loc Cert.ModulationIdeal.main_arg1))
      (m ((c.tc : Thread Cert.ModulationIdeal.nD Cert.ModulationIdeal.τ).loc Cert.ModulationIdeal.main_arg2))
      (m ((c.tc : Thread Cert.ModulationIdeal.nD Cert.ModulationIdeal.τ).loc Cert.ModulationIdeal.main_arg3)), ?_, ?_⟩
  · refine (θ_run Cert.ModulationIdeal.defs _ _).mono (fun r h c => ?_) (Cert.ModulationIdeal.Value.run_blocks (F := Ideal) m g)
    obtain ⟨h0, ha⟩ := h c
    refine ⟨fun i hi => ?_, ha⟩
    have hx := fun (r : Fin 4) (i : Fin 1024) => @samples_real modulationFacts _ _ _ _ (hpre c).1 (ix2 r i)
    have he := fun (i : Fin 1024) => @context_real modulationFacts _ _ _ _ (hpre c).2.1 (ix1 i)
    have hw := fun (l : Fin 4) (i : Fin 1024) (k : Fin 6144) => @weights_real modulationFacts _ _ _ _ (hpre c).2.2 (ix3 l i k)
    rw [h0]
    exact Cert.ModulationIdeal.Rows.mod_same m c _ _ _ hx he hw _ _ _ _ rfl rfl rfl rfl i (@modulation_row rowFacts _ _ _ _ i hi)
  · refine (θ_run Cert.ModulationReferenceIdeal.defs _ _).mono (fun r h c => ?_) (Cert.ModulationReferenceIdeal.Value.run (F := Ideal) m' g')
    obtain ⟨h0, ha⟩ := h c
    obtain ⟨a0, a1, a2, a3⟩ := hagree c
    refine ⟨fun i _ => ?_, ha⟩
    rw [h0, a0, a1, a2, a3]
    rfl

/-- The reference of the latent rows' transform leaves its arguments and ends with its counters at zero. -/
theorem frame_fourier_reference : Cert.quiescent_FourierReferenceIdeal := by
  intro m ρ _
  exact (θ_run Cert.FourierReferenceIdeal.defs _ _).mono (fun r h => ⟨fun c => (h c).2,
    Idealize.ShloMosaic.sem_eq_zero_of_no_sems (by decide) r.2⟩) (Cert.FourierReferenceIdeal.Value.run (F := Ideal) m ρ)

open Cert.FourierReferenceIdeal.Rows in
/-- The kernel and the reference compute the same transform of the latent positions. -/
theorem same_fourier : Cert.algebraic_FourierIdeal_FourierReferenceIdeal_on_fourier_latent_rows_pre_finite_spectrum
    (hPre_finite_spectrum := spectrumFacts) (hOn_fourier_latent_rows := fourierFacts) := by
  intro m g m' g' hpre hagree
  refine ⟨fun c => transform (F := Ideal) (m ((c.tc : Thread Cert.FourierIdeal.nD Cert.FourierIdeal.τ).loc Cert.FourierIdeal.main_arg0))
      (m ((c.tc : Thread Cert.FourierIdeal.nD Cert.FourierIdeal.τ).loc Cert.FourierIdeal.main_arg1)), ?_, ?_⟩
  · refine (θ_run Cert.FourierIdeal.defs _ _).mono (fun r h c => ?_) (Cert.FourierIdeal.Value.run_blocks (F := Ideal) m g)
    obtain ⟨h0, ha⟩ := h c
    refine ⟨fun i hi => ?_, ha⟩
    have hf : Cert.FourierIdeal.Rows.Finite m c := fun b t w =>
      ⟨@re_real spectrumFacts _ _ (hpre c).1 (paddedRow b t) w (paddedRow_latent b t).1 (paddedRow_latent b t).2,
        @im_real spectrumFacts _ _ (hpre c).2 (paddedRow b t) w (paddedRow_latent b t).1 (paddedRow_latent b t).2⟩
    rw [h0]
    exact Cert.FourierIdeal.Rows.four_same hf _ _ rfl rfl i (@fourier_row fourierFacts _ _ i hi)
  · refine (θ_run Cert.FourierReferenceIdeal.defs _ _).mono (fun r h c => ?_) (Cert.FourierReferenceIdeal.Value.run (F := Ideal) m' g')
    obtain ⟨h0, ha⟩ := h c
    obtain ⟨a0, a1⟩ := hagree c
    refine ⟨fun i _ => ?_, ha⟩
    rw [h0, a0, a1]
    rfl

/-- The reference of the context's transform leaves its arguments and ends with its counters at zero. -/
theorem frame_fourier_context_reference : Cert.quiescent_FourierContextReferenceIdeal := by
  intro m ρ _
  exact (θ_run Cert.FourierContextReferenceIdeal.defs _ _).mono (fun r h => ⟨fun c => (h c).2,
    Idealize.ShloMosaic.sem_eq_zero_of_no_sems (by decide) r.2⟩) (Cert.FourierContextReferenceIdeal.Value.run (F := Ideal) m ρ)

open Cert.FourierContextReferenceIdeal.Rows in
/-- The kernel and the reference compute the same transform of the context, and keep the latent rows. -/
theorem same_fourier_context : Cert.algebraic_FourierContextIdeal_FourierContextReferenceIdeal := by
  intro m g m' g' hpre hagree
  refine ⟨fun c => transform (F := Ideal) (m ((c.tc : Thread Cert.FourierContextIdeal.nD Cert.FourierContextIdeal.τ).loc Cert.FourierContextIdeal.main_arg0))
      (m ((c.tc : Thread Cert.FourierContextIdeal.nD Cert.FourierContextIdeal.τ).loc Cert.FourierContextIdeal.main_arg1))
      (m ((c.tc : Thread Cert.FourierContextIdeal.nD Cert.FourierContextIdeal.τ).loc Cert.FourierContextIdeal.main_arg2)), ?_, ?_⟩
  · refine (θ_run Cert.FourierContextIdeal.defs _ _).mono (fun r h c => ?_) (Cert.FourierContextIdeal.Value.run_blocks (F := Ideal) m g)
    obtain ⟨h0, ha⟩ := h c
    exact ⟨h0.trans (Cert.FourierContextIdeal.Rows.four_same m c _ _ _ rfl rfl rfl), ha⟩
  · refine (θ_run Cert.FourierContextReferenceIdeal.defs _ _).mono (fun r h c => ?_) (Cert.FourierContextReferenceIdeal.Value.run (F := Ideal) m' g')
    obtain ⟨h0, ha⟩ := h c
    obtain ⟨a0, a1, a2⟩ := hagree c
    refine ⟨?_, ha⟩
    rw [h0, a0, a1, a2]
    rfl

theorem claim : Cert.Claim :=
  ⟨Cert.Kernel.Gen.facts, Cert.KernelIdeal.Gen.facts, Cert.ReferenceIdeal.Gen.facts, Cert.FeedForward.Gen.facts,
    Cert.FeedForwardIdeal.Gen.facts, Cert.FeedForwardReferenceIdeal.Gen.facts, Cert.OutProjection.Gen.facts,
    Cert.OutProjectionIdeal.Gen.facts, Cert.OutProjectionReferenceIdeal.Gen.facts,
    Cert.Context.Gen.facts, Cert.ContextIdeal.Gen.facts, Cert.ContextReferenceIdeal.Gen.facts,
    Cert.Modulation.Gen.facts, Cert.ModulationIdeal.Gen.facts, Cert.ModulationReferenceIdeal.Gen.facts,
    Cert.Fourier.Gen.facts, Cert.FourierIdeal.Gen.facts, Cert.FourierReferenceIdeal.Gen.facts,
    Cert.FourierContext.Gen.facts, Cert.FourierContextIdeal.Gen.facts, Cert.FourierContextReferenceIdeal.Gen.facts,
    preFacts, contextFacts, modulationFacts, spectrumFacts, onFacts, rowFacts, fourierFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.FeedForward.Gen.frame m ρ, fun m ρ _ => Cert.FeedForwardIdeal.Gen.frame m ρ, frame_feed_reference,
    fun m ρ _ => Cert.OutProjection.Gen.frame m ρ, fun m ρ _ => Cert.OutProjectionIdeal.Gen.frame m ρ, frame_out_reference,
    fun m ρ _ => Cert.Context.Gen.frame m ρ, fun m ρ _ => Cert.ContextIdeal.Gen.frame m ρ, fun m ρ _ => Cert.ContextIdeal.Gen.frame m ρ,
    frame_context_reference, fun m ρ _ => frame_context_reference m ρ trivial,
    fun m ρ _ => Cert.Modulation.Gen.frame m ρ, fun m ρ _ => Cert.ModulationIdeal.Gen.frame m ρ, fun m ρ _ => Cert.ModulationIdeal.Gen.frame m ρ,
    frame_modulation_reference, fun m ρ _ => frame_modulation_reference m ρ trivial,
    fun m ρ _ => Cert.Fourier.Gen.frame m ρ, fun m ρ _ => Cert.FourierIdeal.Gen.frame m ρ, fun m ρ _ => Cert.FourierIdeal.Gen.frame m ρ,
    frame_fourier_reference, fun m ρ _ => frame_fourier_reference m ρ trivial,
    fun m ρ _ => Cert.FourierContext.Gen.frame m ρ, fun m ρ _ => Cert.FourierContextIdeal.Gen.frame m ρ, frame_fourier_context_reference,
    trivial, same_values, trivial, same_feed, trivial, same_out, trivial, same_context, trivial, same_modulation,
    trivial, same_fourier, trivial, same_fourier_context⟩

end Cert.Proof

end
